-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutRefIdeal (m : (ℓ : Loc Cert.AbOutRefIdeal.nD Cert.AbOutRefIdeal.τ Cert.AbOutRefIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_CdIn (m : (ℓ : Loc Cert.CdIn.nD Cert.CdIn.τ Cert.CdIn.sig) → Buf (Elt Bits) ℓ) : Prop :=
  True

def Pre_CdInIdeal (m : (ℓ : Loc Cert.CdInIdeal.nD Cert.CdInIdeal.τ Cert.CdInIdeal.sig) → Buf (Elt Ideal) ℓ) : Prop :=
  True

def Pre_CdInIdeal_inputs_finite [hPre_inputs_finite : Cert.Pre_inputs_finite.Facts] (m : (ℓ : Loc Cert.CdInIdeal.nD Cert.CdInIdeal.τ Cert.CdInIdeal.sig) → Buf (Elt Ideal) ℓ) : Prop :=
  ∀ c : Dev Cert.CdInIdeal.nD,
    (Cert.Pre_inputs_finite.fn (F := Ideal) (m ((c.tc : Thread Cert.CdInIdeal.nD Cert.CdInIdeal.τ).loc Cert.CdInIdeal.main_arg0)) (m ((c.tc : Thread Cert.CdInIdeal.nD Cert.CdInIdeal.τ).loc Cert.CdInIdeal.main_arg1)) (m ((c.tc : Thread Cert.CdInIdeal.nD Cert.CdInIdeal.τ).loc Cert.CdInIdeal.main_arg2)) (m ((c.tc : Thread Cert.CdInIdeal.nD Cert.CdInIdeal.τ).loc Cert.CdInIdeal.main_arg3)) (m ((c.tc : Thread Cert.CdInIdeal.nD Cert.CdInIdeal.τ).loc Cert.CdInIdeal.main_arg4)) (m ((c.tc : Thread Cert.CdInIdeal.nD Cert.CdInIdeal.τ).loc Cert.CdInIdeal.main_arg5)) (m ((c.tc : Thread Cert.CdInIdeal.nD Cert.CdInIdeal.τ).loc Cert.CdInIdeal.main_arg6)) (m ((c.tc : Thread Cert.CdInIdeal.nD Cert.CdInIdeal.τ).loc Cert.CdInIdeal.main_arg7)) (m ((c.tc : Thread Cert.CdInIdeal.nD Cert.CdInIdeal.τ).loc Cert.CdInIdeal.main_arg8)) (m ((c.tc : Thread Cert.CdInIdeal.nD Cert.CdInIdeal.τ).loc Cert.CdInIdeal.main_arg9)) (m ((c.tc : Thread Cert.CdInIdeal.nD Cert.CdInIdeal.τ).loc Cert.CdInIdeal.main_arg10)) (m ((c.tc : Thread Cert.CdInIdeal.nD Cert.CdInIdeal.τ).loc Cert.CdInIdeal.main_arg11)) (m ((c.tc : Thread Cert.CdInIdeal.nD Cert.CdInIdeal.τ).loc Cert.CdInIdeal.main_arg12)) (m ((c.tc : Thread Cert.CdInIdeal.nD Cert.CdInIdeal.τ).loc Cert.CdInIdeal.main_arg13)) (m ((c.tc : Thread Cert.CdInIdeal.nD Cert.CdInIdeal.τ).loc Cert.CdInIdeal.main_arg14))).1 = (fun _ => 1#1)
    ∧ (Cert.Pre_inputs_finite.fn (F := Ideal) (m ((c.tc : Thread Cert.CdInIdeal.nD Cert.CdInIdeal.τ).loc Cert.CdInIdeal.main_arg0)) (m ((c.tc : Thread Cert.CdInIdeal.nD Cert.CdInIdeal.τ).loc Cert.CdInIdeal.main_arg1)) (m ((c.tc : Thread Cert.CdInIdeal.nD Cert.CdInIdeal.τ).loc Cert.CdInIdeal.main_arg2)) (m ((c.tc : Thread Cert.CdInIdeal.nD Cert.CdInIdeal.τ).loc Cert.CdInIdeal.main_arg3)) (m ((c.tc : Thread Cert.CdInIdeal.nD Cert.CdInIdeal.τ).loc Cert.CdInIdeal.main_arg4)) (m ((c.tc : Thread Cert.CdInIdeal.nD Cert.CdInIdeal.τ).loc Cert.CdInIdeal.main_arg5)) (m ((c.tc : Thread Cert.CdInIdeal.nD Cert.CdInIdeal.τ).loc Cert.CdInIdeal.main_arg6)) (m ((c.tc : Thread Cert.CdInIdeal.nD Cert.CdInIdeal.τ).loc Cert.CdInIdeal.main_arg7)) (m ((c.tc : Thread Cert.CdInIdeal.nD Cert.CdInIdeal.τ).loc Cert.CdInIdeal.main_arg8)) (m ((c.tc : Thread Cert.CdInIdeal.nD Cert.CdInIdeal.τ).loc Cert.CdInIdeal.main_arg9)) (m ((c.tc : Thread Cert.CdInIdeal.nD Cert.CdInIdeal.τ).loc Cert.CdInIdeal.main_arg10)) (m ((c.tc : Thread Cert.CdInIdeal.nD Cert.CdInIdeal.τ).loc Cert.CdInIdeal.main_arg11)) (m ((c.tc : Thread Cert.CdInIdeal.nD Cert.CdInIdeal.τ).loc Cert.CdInIdeal.main_arg12)) (m ((c.tc : Thread Cert.CdInIdeal.nD Cert.CdInIdeal.τ).loc Cert.CdInIdeal.main_arg13)) (m ((c.tc : Thread Cert.CdInIdeal.nD Cert.CdInIdeal.τ).loc Cert.CdInIdeal.main_arg14))).2.1 = (fun _ => 1#1)
    ∧ (Cert.Pre_inputs_finite.fn (F := Ideal) (m ((c.tc : Thread Cert.CdInIdeal.nD Cert.CdInIdeal.τ).loc Cert.CdInIdeal.main_arg0)) (m ((c.tc : Thread Cert.CdInIdeal.nD Cert.CdInIdeal.τ).loc Cert.CdInIdeal.main_arg1)) (m ((c.tc : Thread Cert.CdInIdeal.nD Cert.CdInIdeal.τ).loc Cert.CdInIdeal.main_arg2)) (m ((c.tc : Thread Cert.CdInIdeal.nD Cert.CdInIdeal.τ).loc Cert.CdInIdeal.main_arg3)) (m ((c.tc : Thread Cert.CdInIdeal.nD Cert.CdInIdeal.τ).loc Cert.CdInIdeal.main_arg4)) (m ((c.tc : Thread Cert.CdInIdeal.nD Cert.CdInIdeal.τ).loc Cert.CdInIdeal.main_arg5)) (m ((c.tc : Thread Cert.CdInIdeal.nD Cert.CdInIdeal.τ).loc Cert.CdInIdeal.main_arg6)) (m ((c.tc : Thread Cert.CdInIdeal.nD Cert.CdInIdeal.τ).loc Cert.CdInIdeal.main_arg7)) (m ((c.tc : Thread Cert.CdInIdeal.nD Cert.CdInIdeal.τ).loc Cert.CdInIdeal.main_arg8)) (m ((c.tc : Thread Cert.CdInIdeal.nD Cert.CdInIdeal.τ).loc Cert.CdInIdeal.main_arg9)) (m ((c.tc : Thread Cert.CdInIdeal.nD Cert.CdInIdeal.τ).loc Cert.CdInIdeal.main_arg10)) (m ((c.tc : Thread Cert.CdInIdeal.nD Cert.CdInIdeal.τ).loc Cert.CdInIdeal.main_arg11)) (m ((c.tc : Thread Cert.CdInIdeal.nD Cert.CdInIdeal.τ).loc Cert.CdInIdeal.main_arg12)) (m ((c.tc : Thread Cert.CdInIdeal.nD Cert.CdInIdeal.τ).loc Cert.CdInIdeal.main_arg13)) (m ((c.tc : Thread Cert.CdInIdeal.nD Cert.CdInIdeal.τ).loc Cert.CdInIdeal.main_arg14))).2.2.1 = (fun _ => 1#1)
    ∧ (Cert.Pre_inputs_finite.fn (F := Ideal) (m ((c.tc : Thread Cert.CdInIdeal.nD Cert.CdInIdeal.τ).loc Cert.CdInIdeal.main_arg0)) (m ((c.tc : Thread Cert.CdInIdeal.nD Cert.CdInIdeal.τ).loc Cert.CdInIdeal.main_arg1)) (m ((c.tc : Thread Cert.CdInIdeal.nD Cert.CdInIdeal.τ).loc Cert.CdInIdeal.main_arg2)) (m ((c.tc : Thread Cert.CdInIdeal.nD Cert.CdInIdeal.τ).loc Cert.CdInIdeal.main_arg3)) (m ((c.tc : Thread Cert.CdInIdeal.nD Cert.CdInIdeal.τ).loc Cert.CdInIdeal.main_arg4)) (m ((c.tc : Thread Cert.CdInIdeal.nD Cert.CdInIdeal.τ).loc Cert.CdInIdeal.main_arg5)) (m ((c.tc : Thread Cert.CdInIdeal.nD Cert.CdInIdeal.τ).loc Cert.CdInIdeal.main_arg6)) (m ((c.tc : Thread Cert.CdInIdeal.nD Cert.CdInIdeal.τ).loc Cert.CdInIdeal.main_arg7)) (m ((c.tc : Thread Cert.CdInIdeal.nD Cert.CdInIdeal.τ).loc Cert.CdInIdeal.main_arg8)) (m ((c.tc : Thread Cert.CdInIdeal.nD Cert.CdInIdeal.τ).loc Cert.CdInIdeal.main_arg9)) (m ((c.tc : Thread Cert.CdInIdeal.nD Cert.CdInIdeal.τ).loc Cert.CdInIdeal.main_arg10)) (m ((c.tc : Thread Cert.CdInIdeal.nD Cert.CdInIdeal.τ).loc Cert.CdInIdeal.main_arg11)) (m ((c.tc : Thread Cert.CdInIdeal.nD Cert.CdInIdeal.τ).loc Cert.CdInIdeal.main_arg12)) (m ((c.tc : Thread Cert.CdInIdeal.nD Cert.CdInIdeal.τ).loc Cert.CdInIdeal.main_arg13)) (m ((c.tc : Thread Cert.CdInIdeal.nD Cert.CdInIdeal.τ).loc Cert.CdInIdeal.main_arg14))).2.2.2.1 = (fun _ => 1#1)
    ∧ (Cert.Pre_inputs_finite.fn (F := Ideal) (m ((c.tc : Thread Cert.CdInIdeal.nD Cert.CdInIdeal.τ).loc Cert.CdInIdeal.main_arg0)) (m ((c.tc : Thread Cert.CdInIdeal.nD Cert.CdInIdeal.τ).loc Cert.CdInIdeal.main_arg1)) (m ((c.tc : Thread Cert.CdInIdeal.nD Cert.CdInIdeal.τ).loc Cert.CdInIdeal.main_arg2)) (m ((c.tc : Thread Cert.CdInIdeal.nD Cert.CdInIdeal.τ).loc Cert.CdInIdeal.main_arg3)) (m ((c.tc : Thread Cert.CdInIdeal.nD Cert.CdInIdeal.τ).loc Cert.CdInIdeal.main_arg4)) (m ((c.tc : Thread Cert.CdInIdeal.nD Cert.CdInIdeal.τ).loc Cert.CdInIdeal.main_arg5)) (m ((c.tc : Thread Cert.CdInIdeal.nD Cert.CdInIdeal.τ).loc Cert.CdInIdeal.main_arg6)) (m ((c.tc : Thread Cert.CdInIdeal.nD Cert.CdInIdeal.τ).loc Cert.CdInIdeal.main_arg7)) (m ((c.tc : Thread Cert.CdInIdeal.nD Cert.CdInIdeal.τ).loc Cert.CdInIdeal.main_arg8)) (m ((c.tc : Thread Cert.CdInIdeal.nD Cert.CdInIdeal.τ).loc Cert.CdInIdeal.main_arg9)) (m ((c.tc : Thread Cert.CdInIdeal.nD Cert.CdInIdeal.τ).loc Cert.CdInIdeal.main_arg10)) (m ((c.tc : Thread Cert.CdInIdeal.nD Cert.CdInIdeal.τ).loc Cert.CdInIdeal.main_arg11)) (m ((c.tc : Thread Cert.CdInIdeal.nD Cert.CdInIdeal.τ).loc Cert.CdInIdeal.main_arg12)) (m ((c.tc : Thread Cert.CdInIdeal.nD Cert.CdInIdeal.τ).loc Cert.CdInIdeal.main_arg13)) (m ((c.tc : Thread Cert.CdInIdeal.nD Cert.CdInIdeal.τ).loc Cert.CdInIdeal.main_arg14))).2.2.2.2.1 = (fun _ => 1#1)
    ∧ (Cert.Pre_inputs_finite.fn (F := Ideal) (m ((c.tc : Thread Cert.CdInIdeal.nD Cert.CdInIdeal.τ).loc Cert.CdInIdeal.main_arg0)) (m ((c.tc : Thread Cert.CdInIdeal.nD Cert.CdInIdeal.τ).loc Cert.CdInIdeal.main_arg1)) (m ((c.tc : Thread Cert.CdInIdeal.nD Cert.CdInIdeal.τ).loc Cert.CdInIdeal.main_arg2)) (m ((c.tc : Thread Cert.CdInIdeal.nD Cert.CdInIdeal.τ).loc Cert.CdInIdeal.main_arg3)) (m ((c.tc : Thread Cert.CdInIdeal.nD Cert.CdInIdeal.τ).loc Cert.CdInIdeal.main_arg4)) (m ((c.tc : Thread Cert.CdInIdeal.nD Cert.CdInIdeal.τ).loc Cert.CdInIdeal.main_arg5)) (m ((c.tc : Thread Cert.CdInIdeal.nD Cert.CdInIdeal.τ).loc Cert.CdInIdeal.main_arg6)) (m ((c.tc : Thread Cert.CdInIdeal.nD Cert.CdInIdeal.τ).loc Cert.CdInIdeal.main_arg7)) (m ((c.tc : Thread Cert.CdInIdeal.nD Cert.CdInIdeal.τ).loc Cert.CdInIdeal.main_arg8)) (m ((c.tc : Thread Cert.CdInIdeal.nD Cert.CdInIdeal.τ).loc Cert.CdInIdeal.main_arg9)) (m ((c.tc : Thread Cert.CdInIdeal.nD Cert.CdInIdeal.τ).loc Cert.CdInIdeal.main_arg10)) (m ((c.tc : Thread Cert.CdInIdeal.nD Cert.CdInIdeal.τ).loc Cert.CdInIdeal.main_arg11)) (m ((c.tc : Thread Cert.CdInIdeal.nD Cert.CdInIdeal.τ).loc Cert.CdInIdeal.main_arg12)) (m ((c.tc : Thread Cert.CdInIdeal.nD Cert.CdInIdeal.τ).loc Cert.CdInIdeal.main_arg13)) (m ((c.tc : Thread Cert.CdInIdeal.nD Cert.CdInIdeal.τ).loc Cert.CdInIdeal.main_arg14))).2.2.2.2.2.1 = (fun _ => 1#1)
    ∧ (Cert.Pre_inputs_finite.fn (F := Ideal) (m ((c.tc : Thread Cert.CdInIdeal.nD Cert.CdInIdeal.τ).loc Cert.CdInIdeal.main_arg0)) (m ((c.tc : Thread Cert.CdInIdeal.nD Cert.CdInIdeal.τ).loc Cert.CdInIdeal.main_arg1)) (m ((c.tc : Thread Cert.CdInIdeal.nD Cert.CdInIdeal.τ).loc Cert.CdInIdeal.main_arg2)) (m ((c.tc : Thread Cert.CdInIdeal.nD Cert.CdInIdeal.τ).loc Cert.CdInIdeal.main_arg3)) (m ((c.tc : Thread Cert.CdInIdeal.nD Cert.CdInIdeal.τ).loc Cert.CdInIdeal.main_arg4)) (m ((c.tc : Thread Cert.CdInIdeal.nD Cert.CdInIdeal.τ).loc Cert.CdInIdeal.main_arg5)) (m ((c.tc : Thread Cert.CdInIdeal.nD Cert.CdInIdeal.τ).loc Cert.CdInIdeal.main_arg6)) (m ((c.tc : Thread Cert.CdInIdeal.nD Cert.CdInIdeal.τ).loc Cert.CdInIdeal.main_arg7)) (m ((c.tc : Thread Cert.CdInIdeal.nD Cert.CdInIdeal.τ).loc Cert.CdInIdeal.main_arg8)) (m ((c.tc : Thread Cert.CdInIdeal.nD Cert.CdInIdeal.τ).loc Cert.CdInIdeal.main_arg9)) (m ((c.tc : Thread Cert.CdInIdeal.nD Cert.CdInIdeal.τ).loc Cert.CdInIdeal.main_arg10)) (m ((c.tc : Thread Cert.CdInIdeal.nD Cert.CdInIdeal.τ).loc Cert.CdInIdeal.main_arg11)) (m ((c.tc : Thread Cert.CdInIdeal.nD Cert.CdInIdeal.τ).loc Cert.CdInIdeal.main_arg12)) (m ((c.tc : Thread Cert.CdInIdeal.nD Cert.CdInIdeal.τ).loc Cert.CdInIdeal.main_arg13)) (m ((c.tc : Thread Cert.CdInIdeal.nD Cert.CdInIdeal.τ).loc Cert.CdInIdeal.main_arg14))).2.2.2.2.2.2 = (fun _ => 1#1)

def Pre_CdInRefIdeal (m : (ℓ : Loc Cert.CdInRefIdeal.nD Cert.CdInRefIdeal.τ Cert.CdInRefIdeal.sig) → Buf (Elt Ideal) ℓ) : Prop :=
  True

def Pre_CdInRefIdeal_inputs_finite [hPre_inputs_finite : Cert.Pre_inputs_finite.Facts] (m : (ℓ : Loc Cert.CdInRefIdeal.nD Cert.CdInRefIdeal.τ Cert.CdInRefIdeal.sig) → Buf (Elt Ideal) ℓ) : Prop :=
  ∀ c : Dev Cert.CdInRefIdeal.nD,
    (Cert.Pre_inputs_finite.fn (F := Ideal) (m ((c.tc : Thread Cert.CdInRefIdeal.nD Cert.CdInRefIdeal.τ).loc Cert.CdInRefIdeal.main_arg0)) (m ((c.tc : Thread Cert.CdInRefIdeal.nD Cert.CdInRefIdeal.τ).loc Cert.CdInRefIdeal.main_arg1)) (m ((c.tc : Thread Cert.CdInRefIdeal.nD Cert.CdInRefIdeal.τ).loc Cert.CdInRefIdeal.main_arg2)) (m ((c.tc : Thread Cert.CdInRefIdeal.nD Cert.CdInRefIdeal.τ).loc Cert.CdInRefIdeal.main_arg3)) (m ((c.tc : Thread Cert.CdInRefIdeal.nD Cert.CdInRefIdeal.τ).loc Cert.CdInRefIdeal.main_arg4)) (m ((c.tc : Thread Cert.CdInRefIdeal.nD Cert.CdInRefIdeal.τ).loc Cert.CdInRefIdeal.main_arg5)) (m ((c.tc : Thread Cert.CdInRefIdeal.nD Cert.CdInRefIdeal.τ).loc Cert.CdInRefIdeal.main_arg6)) (m ((c.tc : Thread Cert.CdInRefIdeal.nD Cert.CdInRefIdeal.τ).loc Cert.CdInRefIdeal.main_arg7)) (m ((c.tc : Thread Cert.CdInRefIdeal.nD Cert.CdInRefIdeal.τ).loc Cert.CdInRefIdeal.main_arg8)) (m ((c.tc : Thread Cert.CdInRefIdeal.nD Cert.CdInRefIdeal.τ).loc Cert.CdInRefIdeal.main_arg9)) (m ((c.tc : Thread Cert.CdInRefIdeal.nD Cert.CdInRefIdeal.τ).loc Cert.CdInRefIdeal.main_arg10)) (m ((c.tc : Thread Cert.CdInRefIdeal.nD Cert.CdInRefIdeal.τ).loc Cert.CdInRefIdeal.main_arg11)) (m ((c.tc : Thread Cert.CdInRefIdeal.nD Cert.CdInRefIdeal.τ).loc Cert.CdInRefIdeal.main_arg12)) (m ((c.tc : Thread Cert.CdInRefIdeal.nD Cert.CdInRefIdeal.τ).loc Cert.CdInRefIdeal.main_arg13)) (m ((c.tc : Thread Cert.CdInRefIdeal.nD Cert.CdInRefIdeal.τ).loc Cert.CdInRefIdeal.main_arg14))).1 = (fun _ => 1#1)
    ∧ (Cert.Pre_inputs_finite.fn (F := Ideal) (m ((c.tc : Thread Cert.CdInRefIdeal.nD Cert.CdInRefIdeal.τ).loc Cert.CdInRefIdeal.main_arg0)) (m ((c.tc : Thread Cert.CdInRefIdeal.nD Cert.CdInRefIdeal.τ).loc Cert.CdInRefIdeal.main_arg1)) (m ((c.tc : Thread Cert.CdInRefIdeal.nD Cert.CdInRefIdeal.τ).loc Cert.CdInRefIdeal.main_arg2)) (m ((c.tc : Thread Cert.CdInRefIdeal.nD Cert.CdInRefIdeal.τ).loc Cert.CdInRefIdeal.main_arg3)) (m ((c.tc : Thread Cert.CdInRefIdeal.nD Cert.CdInRefIdeal.τ).loc Cert.CdInRefIdeal.main_arg4)) (m ((c.tc : Thread Cert.CdInRefIdeal.nD Cert.CdInRefIdeal.τ).loc Cert.CdInRefIdeal.main_arg5)) (m ((c.tc : Thread Cert.CdInRefIdeal.nD Cert.CdInRefIdeal.τ).loc Cert.CdInRefIdeal.main_arg6)) (m ((c.tc : Thread Cert.CdInRefIdeal.nD Cert.CdInRefIdeal.τ).loc Cert.CdInRefIdeal.main_arg7)) (m ((c.tc : Thread Cert.CdInRefIdeal.nD Cert.CdInRefIdeal.τ).loc Cert.CdInRefIdeal.main_arg8)) (m ((c.tc : Thread Cert.CdInRefIdeal.nD Cert.CdInRefIdeal.τ).loc Cert.CdInRefIdeal.main_arg9)) (m ((c.tc : Thread Cert.CdInRefIdeal.nD Cert.CdInRefIdeal.τ).loc Cert.CdInRefIdeal.main_arg10)) (m ((c.tc : Thread Cert.CdInRefIdeal.nD Cert.CdInRefIdeal.τ).loc Cert.CdInRefIdeal.main_arg11)) (m ((c.tc : Thread Cert.CdInRefIdeal.nD Cert.CdInRefIdeal.τ).loc Cert.CdInRefIdeal.main_arg12)) (m ((c.tc : Thread Cert.CdInRefIdeal.nD Cert.CdInRefIdeal.τ).loc Cert.CdInRefIdeal.main_arg13)) (m ((c.tc : Thread Cert.CdInRefIdeal.nD Cert.CdInRefIdeal.τ).loc Cert.CdInRefIdeal.main_arg14))).2.1 = (fun _ => 1#1)
    ∧ (Cert.Pre_inputs_finite.fn (F := Ideal) (m ((c.tc : Thread Cert.CdInRefIdeal.nD Cert.CdInRefIdeal.τ).loc Cert.CdInRefIdeal.main_arg0)) (m ((c.tc : Thread Cert.CdInRefIdeal.nD Cert.CdInRefIdeal.τ).loc Cert.CdInRefIdeal.main_arg1)) (m ((c.tc : Thread Cert.CdInRefIdeal.nD Cert.CdInRefIdeal.τ).loc Cert.CdInRefIdeal.main_arg2)) (m ((c.tc : Thread Cert.CdInRefIdeal.nD Cert.CdInRefIdeal.τ).loc Cert.CdInRefIdeal.main_arg3)) (m ((c.tc : Thread Cert.CdInRefIdeal.nD Cert.CdInRefIdeal.τ).loc Cert.CdInRefIdeal.main_arg4)) (m ((c.tc : Thread Cert.CdInRefIdeal.nD Cert.CdInRefIdeal.τ).loc Cert.CdInRefIdeal.main_arg5)) (m ((c.tc : Thread Cert.CdInRefIdeal.nD Cert.CdInRefIdeal.τ).loc Cert.CdInRefIdeal.main_arg6)) (m ((c.tc : Thread Cert.CdInRefIdeal.nD Cert.CdInRefIdeal.τ).loc Cert.CdInRefIdeal.main_arg7)) (m ((c.tc : Thread Cert.CdInRefIdeal.nD Cert.CdInRefIdeal.τ).loc Cert.CdInRefIdeal.main_arg8)) (m ((c.tc : Thread Cert.CdInRefIdeal.nD Cert.CdInRefIdeal.τ).loc Cert.CdInRefIdeal.main_arg9)) (m ((c.tc : Thread Cert.CdInRefIdeal.nD Cert.CdInRefIdeal.τ).loc Cert.CdInRefIdeal.main_arg10)) (m ((c.tc : Thread Cert.CdInRefIdeal.nD Cert.CdInRefIdeal.τ).loc Cert.CdInRefIdeal.main_arg11)) (m ((c.tc : Thread Cert.CdInRefIdeal.nD Cert.CdInRefIdeal.τ).loc Cert.CdInRefIdeal.main_arg12)) (m ((c.tc : Thread Cert.CdInRefIdeal.nD Cert.CdInRefIdeal.τ).loc Cert.CdInRefIdeal.main_arg13)) (m ((c.tc : Thread Cert.CdInRefIdeal.nD Cert.CdInRefIdeal.τ).loc Cert.CdInRefIdeal.main_arg14))).2.2.1 = (fun _ => 1#1)
    ∧ (Cert.Pre_inputs_finite.fn (F := Ideal) (m ((c.tc : Thread Cert.CdInRefIdeal.nD Cert.CdInRefIdeal.τ).loc Cert.CdInRefIdeal.main_arg0)) (m ((c.tc : Thread Cert.CdInRefIdeal.nD Cert.CdInRefIdeal.τ).loc Cert.CdInRefIdeal.main_arg1)) (m ((c.tc : Thread Cert.CdInRefIdeal.nD Cert.CdInRefIdeal.τ).loc Cert.CdInRefIdeal.main_arg2)) (m ((c.tc : Thread Cert.CdInRefIdeal.nD Cert.CdInRefIdeal.τ).loc Cert.CdInRefIdeal.main_arg3)) (m ((c.tc : Thread Cert.CdInRefIdeal.nD Cert.CdInRefIdeal.τ).loc Cert.CdInRefIdeal.main_arg4)) (m ((c.tc : Thread Cert.CdInRefIdeal.nD Cert.CdInRefIdeal.τ).loc Cert.CdInRefIdeal.main_arg5)) (m ((c.tc : Thread Cert.CdInRefIdeal.nD Cert.CdInRefIdeal.τ).loc Cert.CdInRefIdeal.main_arg6)) (m ((c.tc : Thread Cert.CdInRefIdeal.nD Cert.CdInRefIdeal.τ).loc Cert.CdInRefIdeal.main_arg7)) (m ((c.tc : Thread Cert.CdInRefIdeal.nD Cert.CdInRefIdeal.τ).loc Cert.CdInRefIdeal.main_arg8)) (m ((c.tc : Thread Cert.CdInRefIdeal.nD Cert.CdInRefIdeal.τ).loc Cert.CdInRefIdeal.main_arg9)) (m ((c.tc : Thread Cert.CdInRefIdeal.nD Cert.CdInRefIdeal.τ).loc Cert.CdInRefIdeal.main_arg10)) (m ((c.tc : Thread Cert.CdInRefIdeal.nD Cert.CdInRefIdeal.τ).loc Cert.CdInRefIdeal.main_arg11)) (m ((c.tc : Thread Cert.CdInRefIdeal.nD Cert.CdInRefIdeal.τ).loc Cert.CdInRefIdeal.main_arg12)) (m ((c.tc : Thread Cert.CdInRefIdeal.nD Cert.CdInRefIdeal.τ).loc Cert.CdInRefIdeal.main_arg13)) (m ((c.tc : Thread Cert.CdInRefIdeal.nD Cert.CdInRefIdeal.τ).loc Cert.CdInRefIdeal.main_arg14))).2.2.2.1 = (fun _ => 1#1)
    ∧ (Cert.Pre_inputs_finite.fn (F := Ideal) (m ((c.tc : Thread Cert.CdInRefIdeal.nD Cert.CdInRefIdeal.τ).loc Cert.CdInRefIdeal.main_arg0)) (m ((c.tc : Thread Cert.CdInRefIdeal.nD Cert.CdInRefIdeal.τ).loc Cert.CdInRefIdeal.main_arg1)) (m ((c.tc : Thread Cert.CdInRefIdeal.nD Cert.CdInRefIdeal.τ).loc Cert.CdInRefIdeal.main_arg2)) (m ((c.tc : Thread Cert.CdInRefIdeal.nD Cert.CdInRefIdeal.τ).loc Cert.CdInRefIdeal.main_arg3)) (m ((c.tc : Thread Cert.CdInRefIdeal.nD Cert.CdInRefIdeal.τ).loc Cert.CdInRefIdeal.main_arg4)) (m ((c.tc : Thread Cert.CdInRefIdeal.nD Cert.CdInRefIdeal.τ).loc Cert.CdInRefIdeal.main_arg5)) (m ((c.tc : Thread Cert.CdInRefIdeal.nD Cert.CdInRefIdeal.τ).loc Cert.CdInRefIdeal.main_arg6)) (m ((c.tc : Thread Cert.CdInRefIdeal.nD Cert.CdInRefIdeal.τ).loc Cert.CdInRefIdeal.main_arg7)) (m ((c.tc : Thread Cert.CdInRefIdeal.nD Cert.CdInRefIdeal.τ).loc Cert.CdInRefIdeal.main_arg8)) (m ((c.tc : Thread Cert.CdInRefIdeal.nD Cert.CdInRefIdeal.τ).loc Cert.CdInRefIdeal.main_arg9)) (m ((c.tc : Thread Cert.CdInRefIdeal.nD Cert.CdInRefIdeal.τ).loc Cert.CdInRefIdeal.main_arg10)) (m ((c.tc : Thread Cert.CdInRefIdeal.nD Cert.CdInRefIdeal.τ).loc Cert.CdInRefIdeal.main_arg11)) (m ((c.tc : Thread Cert.CdInRefIdeal.nD Cert.CdInRefIdeal.τ).loc Cert.CdInRefIdeal.main_arg12)) (m ((c.tc : Thread Cert.CdInRefIdeal.nD Cert.CdInRefIdeal.τ).loc Cert.CdInRefIdeal.main_arg13)) (m ((c.tc : Thread Cert.CdInRefIdeal.nD Cert.CdInRefIdeal.τ).loc Cert.CdInRefIdeal.main_arg14))).2.2.2.2.1 = (fun _ => 1#1)
    ∧ (Cert.Pre_inputs_finite.fn (F := Ideal) (m ((c.tc : Thread Cert.CdInRefIdeal.nD Cert.CdInRefIdeal.τ).loc Cert.CdInRefIdeal.main_arg0)) (m ((c.tc : Thread Cert.CdInRefIdeal.nD Cert.CdInRefIdeal.τ).loc Cert.CdInRefIdeal.main_arg1)) (m ((c.tc : Thread Cert.CdInRefIdeal.nD Cert.CdInRefIdeal.τ).loc Cert.CdInRefIdeal.main_arg2)) (m ((c.tc : Thread Cert.CdInRefIdeal.nD Cert.CdInRefIdeal.τ).loc Cert.CdInRefIdeal.main_arg3)) (m ((c.tc : Thread Cert.CdInRefIdeal.nD Cert.CdInRefIdeal.τ).loc Cert.CdInRefIdeal.main_arg4)) (m ((c.tc : Thread Cert.CdInRefIdeal.nD Cert.CdInRefIdeal.τ).loc Cert.CdInRefIdeal.main_arg5)) (m ((c.tc : Thread Cert.CdInRefIdeal.nD Cert.CdInRefIdeal.τ).loc Cert.CdInRefIdeal.main_arg6)) (m ((c.tc : Thread Cert.CdInRefIdeal.nD Cert.CdInRefIdeal.τ).loc Cert.CdInRefIdeal.main_arg7)) (m ((c.tc : Thread Cert.CdInRefIdeal.nD Cert.CdInRefIdeal.τ).loc Cert.CdInRefIdeal.main_arg8)) (m ((c.tc : Thread Cert.CdInRefIdeal.nD Cert.CdInRefIdeal.τ).loc Cert.CdInRefIdeal.main_arg9)) (m ((c.tc : Thread Cert.CdInRefIdeal.nD Cert.CdInRefIdeal.τ).loc Cert.CdInRefIdeal.main_arg10)) (m ((c.tc : Thread Cert.CdInRefIdeal.nD Cert.CdInRefIdeal.τ).loc Cert.CdInRefIdeal.main_arg11)) (m ((c.tc : Thread Cert.CdInRefIdeal.nD Cert.CdInRefIdeal.τ).loc Cert.CdInRefIdeal.main_arg12)) (m ((c.tc : Thread Cert.CdInRefIdeal.nD Cert.CdInRefIdeal.τ).loc Cert.CdInRefIdeal.main_arg13)) (m ((c.tc : Thread Cert.CdInRefIdeal.nD Cert.CdInRefIdeal.τ).loc Cert.CdInRefIdeal.main_arg14))).2.2.2.2.2.1 = (fun _ => 1#1)
    ∧ (Cert.Pre_inputs_finite.fn (F := Ideal) (m ((c.tc : Thread Cert.CdInRefIdeal.nD Cert.CdInRefIdeal.τ).loc Cert.CdInRefIdeal.main_arg0)) (m ((c.tc : Thread Cert.CdInRefIdeal.nD Cert.CdInRefIdeal.τ).loc Cert.CdInRefIdeal.main_arg1)) (m ((c.tc : Thread Cert.CdInRefIdeal.nD Cert.CdInRefIdeal.τ).loc Cert.CdInRefIdeal.main_arg2)) (m ((c.tc : Thread Cert.CdInRefIdeal.nD Cert.CdInRefIdeal.τ).loc Cert.CdInRefIdeal.main_arg3)) (m ((c.tc : Thread Cert.CdInRefIdeal.nD Cert.CdInRefIdeal.τ).loc Cert.CdInRefIdeal.main_arg4)) (m ((c.tc : Thread Cert.CdInRefIdeal.nD Cert.CdInRefIdeal.τ).loc Cert.CdInRefIdeal.main_arg5)) (m ((c.tc : Thread Cert.CdInRefIdeal.nD Cert.CdInRefIdeal.τ).loc Cert.CdInRefIdeal.main_arg6)) (m ((c.tc : Thread Cert.CdInRefIdeal.nD Cert.CdInRefIdeal.τ).loc Cert.CdInRefIdeal.main_arg7)) (m ((c.tc : Thread Cert.CdInRefIdeal.nD Cert.CdInRefIdeal.τ).loc Cert.CdInRefIdeal.main_arg8)) (m ((c.tc : Thread Cert.CdInRefIdeal.nD Cert.CdInRefIdeal.τ).loc Cert.CdInRefIdeal.main_arg9)) (m ((c.tc : Thread Cert.CdInRefIdeal.nD Cert.CdInRefIdeal.τ).loc Cert.CdInRefIdeal.main_arg10)) (m ((c.tc : Thread Cert.CdInRefIdeal.nD Cert.CdInRefIdeal.τ).loc Cert.CdInRefIdeal.main_arg11)) (m ((c.tc : Thread Cert.CdInRefIdeal.nD Cert.CdInRefIdeal.τ).loc Cert.CdInRefIdeal.main_arg12)) (m ((c.tc : Thread Cert.CdInRefIdeal.nD Cert.CdInRefIdeal.τ).loc Cert.CdInRefIdeal.main_arg13)) (m ((c.tc : Thread Cert.CdInRefIdeal.nD Cert.CdInRefIdeal.τ).loc Cert.CdInRefIdeal.main_arg14))).2.2.2.2.2.2 = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1)
      ∧ r.2.mem ((c.tc : Thread Cert.AbOut.nD Cert.AbOut.τ).loc Cert.AbOut.main_arg2) = m ((c.tc : Thread Cert.AbOut.nD Cert.AbOut.τ).loc Cert.AbOut.main_arg2)
      ∧ r.2.mem ((c.tc : Thread Cert.AbOut.nD Cert.AbOut.τ).loc Cert.AbOut.main_arg3) = m ((c.tc : Thread Cert.AbOut.nD Cert.AbOut.τ).loc Cert.AbOut.main_arg3)
      ∧ r.2.mem ((c.tc : Thread Cert.AbOut.nD Cert.AbOut.τ).loc Cert.AbOut.main_arg4) = m ((c.tc : Thread Cert.AbOut.nD Cert.AbOut.τ).loc Cert.AbOut.main_arg4)
      ∧ r.2.mem ((c.tc : Thread Cert.AbOut.nD Cert.AbOut.τ).loc Cert.AbOut.main_arg5) = m ((c.tc : Thread Cert.AbOut.nD Cert.AbOut.τ).loc Cert.AbOut.main_arg5)
      ∧ r.2.mem ((c.tc : Thread Cert.AbOut.nD Cert.AbOut.τ).loc Cert.AbOut.main_arg6) = m ((c.tc : Thread Cert.AbOut.nD Cert.AbOut.τ).loc Cert.AbOut.main_arg6)
      ∧ r.2.mem ((c.tc : Thread Cert.AbOut.nD Cert.AbOut.τ).loc Cert.AbOut.main_arg7) = m ((c.tc : Thread Cert.AbOut.nD Cert.AbOut.τ).loc Cert.AbOut.main_arg7)
      ∧ r.2.mem ((c.tc : Thread Cert.AbOut.nD Cert.AbOut.τ).loc Cert.AbOut.main_arg8) = m ((c.tc : Thread Cert.AbOut.nD Cert.AbOut.τ).loc Cert.AbOut.main_arg8))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
      ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
      ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
      ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4)
      ∧ r.2.mem ((c.tc : Thread Cert.AbOutIdeal.nD Cert.AbOutIdeal.τ).loc Cert.AbOutIdeal.main_arg5) = m ((c.tc : Thread Cert.AbOutIdeal.nD Cert.AbOutIdeal.τ).loc Cert.AbOutIdeal.main_arg5)
      ∧ r.2.mem ((c.tc : Thread Cert.AbOutIdeal.nD Cert.AbOutIdeal.τ).loc Cert.AbOutIdeal.main_arg6) = m ((c.tc : Thread Cert.AbOutIdeal.nD Cert.AbOutIdeal.τ).loc Cert.AbOutIdeal.main_arg6)
      ∧ r.2.mem ((c.tc : Thread Cert.AbOutIdeal.nD Cert.AbOutIdeal.τ).loc Cert.AbOutIdeal.main_arg7) = m ((c.tc : Thread Cert.AbOutIdeal.nD Cert.AbOutIdeal.τ).loc Cert.AbOutIdeal.main_arg7)
      ∧ r.2.mem ((c.tc : Thread Cert.AbOutIdeal.nD Cert.AbOutIdeal.τ).loc Cert.AbOutIdeal.main_arg8) = m ((c.tc : Thread Cert.AbOutIdeal.nD Cert.AbOutIdeal.τ).loc Cert.AbOutIdeal.main_arg8))
      ∧ r.2.sem = fun _ => 0)

def quiescent_AbOutRefIdeal [hAbOutRefIdeal : Cert.AbOutRefIdeal.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1)
      ∧ r.2.mem ((c.tc : Thread Cert.AbOutRefIdeal.nD Cert.AbOutRefIdeal.τ).loc Cert.AbOutRefIdeal.main_arg2) = m ((c.tc : Thread Cert.AbOutRefIdeal.nD Cert.AbOutRefIdeal.τ).loc Cert.AbOutRefIdeal.main_arg2)
      ∧ r.2.mem ((c.tc : Thread Cert.AbOutRefIdeal.nD Cert.AbOutRefIdeal.τ).loc Cert.AbOutRefIdeal.main_arg3) = m ((c.tc : Thread Cert.AbOutRefIdeal.nD Cert.AbOutRefIdeal.τ).loc Cert.AbOutRefIdeal.main_arg3)
      ∧ r.2.mem ((c.tc : Thread Cert.AbOutRefIdeal.nD Cert.AbOutRefIdeal.τ).loc Cert.AbOutRefIdeal.main_arg4) = m ((c.tc : Thread Cert.AbOutRefIdeal.nD Cert.AbOutRefIdeal.τ).loc Cert.AbOutRefIdeal.main_arg4)
      ∧ r.2.mem ((c.tc : Thread Cert.AbOutRefIdeal.nD Cert.AbOutRefIdeal.τ).loc Cert.AbOutRefIdeal.main_arg5) = m ((c.tc : Thread Cert.AbOutRefIdeal.nD Cert.AbOutRefIdeal.τ).loc Cert.AbOutRefIdeal.main_arg5)
      ∧ r.2.mem ((c.tc : Thread Cert.AbOutRefIdeal.nD Cert.AbOutRefIdeal.τ).loc Cert.AbOutRefIdeal.main_arg6) = m ((c.tc : Thread Cert.AbOutRefIdeal.nD Cert.AbOutRefIdeal.τ).loc Cert.AbOutRefIdeal.main_arg6)
      ∧ r.2.mem ((c.tc : Thread Cert.AbOutRefIdeal.nD Cert.AbOutRefIdeal.τ).loc Cert.AbOutRefIdeal.main_arg7) = m ((c.tc : Thread Cert.AbOutRefIdeal.nD Cert.AbOutRefIdeal.τ).loc Cert.AbOutRefIdeal.main_arg7)
      ∧ r.2.mem ((c.tc : Thread Cert.AbOutRefIdeal.nD Cert.AbOutRefIdeal.τ).loc Cert.AbOutRefIdeal.main_arg8) = m ((c.tc : Thread Cert.AbOutRefIdeal.nD Cert.AbOutRefIdeal.τ).loc Cert.AbOutRefIdeal.main_arg8))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1)
      ∧ r.2.mem ((c.tc : Thread Cert.AbIn.nD Cert.AbIn.τ).loc Cert.AbIn.main_arg2) = m ((c.tc : Thread Cert.AbIn.nD Cert.AbIn.τ).loc Cert.AbIn.main_arg2)
      ∧ r.2.mem ((c.tc : Thread Cert.AbIn.nD Cert.AbIn.τ).loc Cert.AbIn.main_arg3) = m ((c.tc : Thread Cert.AbIn.nD Cert.AbIn.τ).loc Cert.AbIn.main_arg3)
      ∧ r.2.mem ((c.tc : Thread Cert.AbIn.nD Cert.AbIn.τ).loc Cert.AbIn.main_arg4) = m ((c.tc : Thread Cert.AbIn.nD Cert.AbIn.τ).loc Cert.AbIn.main_arg4)
      ∧ r.2.mem ((c.tc : Thread Cert.AbIn.nD Cert.AbIn.τ).loc Cert.AbIn.main_arg5) = m ((c.tc : Thread Cert.AbIn.nD Cert.AbIn.τ).loc Cert.AbIn.main_arg5)
      ∧ r.2.mem ((c.tc : Thread Cert.AbIn.nD Cert.AbIn.τ).loc Cert.AbIn.main_arg6) = m ((c.tc : Thread Cert.AbIn.nD Cert.AbIn.τ).loc Cert.AbIn.main_arg6)
      ∧ r.2.mem ((c.tc : Thread Cert.AbIn.nD Cert.AbIn.τ).loc Cert.AbIn.main_arg7) = m ((c.tc : Thread Cert.AbIn.nD Cert.AbIn.τ).loc Cert.AbIn.main_arg7)
      ∧ r.2.mem ((c.tc : Thread Cert.AbIn.nD Cert.AbIn.τ).loc Cert.AbIn.main_arg8) = m ((c.tc : Thread Cert.AbIn.nD Cert.AbIn.τ).loc Cert.AbIn.main_arg8)
      ∧ r.2.mem ((c.tc : Thread Cert.AbIn.nD Cert.AbIn.τ).loc Cert.AbIn.main_arg9) = m ((c.tc : Thread Cert.AbIn.nD Cert.AbIn.τ).loc Cert.AbIn.main_arg9)
      ∧ r.2.mem ((c.tc : Thread Cert.AbIn.nD Cert.AbIn.τ).loc Cert.AbIn.main_arg10) = m ((c.tc : Thread Cert.AbIn.nD Cert.AbIn.τ).loc Cert.AbIn.main_arg10))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
      ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2)
      ∧ r.2.mem ((c.tc : Thread Cert.AbInIdeal.nD Cert.AbInIdeal.τ).loc Cert.AbInIdeal.main_arg3) = m ((c.tc : Thread Cert.AbInIdeal.nD Cert.AbInIdeal.τ).loc Cert.AbInIdeal.main_arg3)
      ∧ r.2.mem ((c.tc : Thread Cert.AbInIdeal.nD Cert.AbInIdeal.τ).loc Cert.AbInIdeal.main_arg4) = m ((c.tc : Thread Cert.AbInIdeal.nD Cert.AbInIdeal.τ).loc Cert.AbInIdeal.main_arg4)
      ∧ r.2.mem ((c.tc : Thread Cert.AbInIdeal.nD Cert.AbInIdeal.τ).loc Cert.AbInIdeal.main_arg5) = m ((c.tc : Thread Cert.AbInIdeal.nD Cert.AbInIdeal.τ).loc Cert.AbInIdeal.main_arg5)
      ∧ r.2.mem ((c.tc : Thread Cert.AbInIdeal.nD Cert.AbInIdeal.τ).loc Cert.AbInIdeal.main_arg6) = m ((c.tc : Thread Cert.AbInIdeal.nD Cert.AbInIdeal.τ).loc Cert.AbInIdeal.main_arg6)
      ∧ r.2.mem ((c.tc : Thread Cert.AbInIdeal.nD Cert.AbInIdeal.τ).loc Cert.AbInIdeal.main_arg7) = m ((c.tc : Thread Cert.AbInIdeal.nD Cert.AbInIdeal.τ).loc Cert.AbInIdeal.main_arg7)
      ∧ r.2.mem ((c.tc : Thread Cert.AbInIdeal.nD Cert.AbInIdeal.τ).loc Cert.AbInIdeal.main_arg8) = m ((c.tc : Thread Cert.AbInIdeal.nD Cert.AbInIdeal.τ).loc Cert.AbInIdeal.main_arg8)
      ∧ r.2.mem ((c.tc : Thread Cert.AbInIdeal.nD Cert.AbInIdeal.τ).loc Cert.AbInIdeal.main_arg9) = m ((c.tc : Thread Cert.AbInIdeal.nD Cert.AbInIdeal.τ).loc Cert.AbInIdeal.main_arg9)
      ∧ r.2.mem ((c.tc : Thread Cert.AbInIdeal.nD Cert.AbInIdeal.τ).loc Cert.AbInIdeal.main_arg10) = m ((c.tc : Thread Cert.AbInIdeal.nD Cert.AbInIdeal.τ).loc Cert.AbInIdeal.main_arg10))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1)
      ∧ r.2.mem ((c.tc : Thread Cert.AbInRefIdeal.nD Cert.AbInRefIdeal.τ).loc Cert.AbInRefIdeal.main_arg2) = m ((c.tc : Thread Cert.AbInRefIdeal.nD Cert.AbInRefIdeal.τ).loc Cert.AbInRefIdeal.main_arg2)
      ∧ r.2.mem ((c.tc : Thread Cert.AbInRefIdeal.nD Cert.AbInRefIdeal.τ).loc Cert.AbInRefIdeal.main_arg3) = m ((c.tc : Thread Cert.AbInRefIdeal.nD Cert.AbInRefIdeal.τ).loc Cert.AbInRefIdeal.main_arg3)
      ∧ r.2.mem ((c.tc : Thread Cert.AbInRefIdeal.nD Cert.AbInRefIdeal.τ).loc Cert.AbInRefIdeal.main_arg4) = m ((c.tc : Thread Cert.AbInRefIdeal.nD Cert.AbInRefIdeal.τ).loc Cert.AbInRefIdeal.main_arg4)
      ∧ r.2.mem ((c.tc : Thread Cert.AbInRefIdeal.nD Cert.AbInRefIdeal.τ).loc Cert.AbInRefIdeal.main_arg5) = m ((c.tc : Thread Cert.AbInRefIdeal.nD Cert.AbInRefIdeal.τ).loc Cert.AbInRefIdeal.main_arg5)
      ∧ r.2.mem ((c.tc : Thread Cert.AbInRefIdeal.nD Cert.AbInRefIdeal.τ).loc Cert.AbInRefIdeal.main_arg6) = m ((c.tc : Thread Cert.AbInRefIdeal.nD Cert.AbInRefIdeal.τ).loc Cert.AbInRefIdeal.main_arg6)
      ∧ r.2.mem ((c.tc : Thread Cert.AbInRefIdeal.nD Cert.AbInRefIdeal.τ).loc Cert.AbInRefIdeal.main_arg7) = m ((c.tc : Thread Cert.AbInRefIdeal.nD Cert.AbInRefIdeal.τ).loc Cert.AbInRefIdeal.main_arg7)
      ∧ r.2.mem ((c.tc : Thread Cert.AbInRefIdeal.nD Cert.AbInRefIdeal.τ).loc Cert.AbInRefIdeal.main_arg8) = m ((c.tc : Thread Cert.AbInRefIdeal.nD Cert.AbInRefIdeal.τ).loc Cert.AbInRefIdeal.main_arg8)
      ∧ r.2.mem ((c.tc : Thread Cert.AbInRefIdeal.nD Cert.AbInRefIdeal.τ).loc Cert.AbInRefIdeal.main_arg9) = m ((c.tc : Thread Cert.AbInRefIdeal.nD Cert.AbInRefIdeal.τ).loc Cert.AbInRefIdeal.main_arg9)
      ∧ r.2.mem ((c.tc : Thread Cert.AbInRefIdeal.nD Cert.AbInRefIdeal.τ).loc Cert.AbInRefIdeal.main_arg10) = m ((c.tc : Thread Cert.AbInRefIdeal.nD Cert.AbInRefIdeal.τ).loc Cert.AbInRefIdeal.main_arg10))
      ∧ r.2.sem = fun _ => 0)

def quiescent_CdIn [hCdIn : Cert.CdIn.Facts] : Prop :=
  ∀ (m : (ℓ : Loc Cert.CdIn.nD Cert.CdIn.τ Cert.CdIn.sig) → Buf (Elt Bits) ℓ) (g : Dev Cert.CdIn.nD → PrngReg), Pre_CdIn m →
    θ_run (Cert.CdIn.defs (F := Bits)) (onTc (τ := Cert.CdIn.τ) (Cert.CdIn.main (F := Bits))) ⟨m, fun _ => 0, g⟩ (fun r => (∀ c : Dev Cert.CdIn.nD,
      r.2.mem ((c.tc : Thread Cert.CdIn.nD Cert.CdIn.τ).loc Cert.CdIn.main_arg0) = m ((c.tc : Thread Cert.CdIn.nD Cert.CdIn.τ).loc Cert.CdIn.main_arg0)
      ∧ r.2.mem ((c.tc : Thread Cert.CdIn.nD Cert.CdIn.τ).loc Cert.CdIn.main_arg1) = m ((c.tc : Thread Cert.CdIn.nD Cert.CdIn.τ).loc Cert.CdIn.main_arg1)
      ∧ r.2.mem ((c.tc : Thread Cert.CdIn.nD Cert.CdIn.τ).loc Cert.CdIn.main_arg2) = m ((c.tc : Thread Cert.CdIn.nD Cert.CdIn.τ).loc Cert.CdIn.main_arg2)
      ∧ r.2.mem ((c.tc : Thread Cert.CdIn.nD Cert.CdIn.τ).loc Cert.CdIn.main_arg3) = m ((c.tc : Thread Cert.CdIn.nD Cert.CdIn.τ).loc Cert.CdIn.main_arg3)
      ∧ r.2.mem ((c.tc : Thread Cert.CdIn.nD Cert.CdIn.τ).loc Cert.CdIn.main_arg4) = m ((c.tc : Thread Cert.CdIn.nD Cert.CdIn.τ).loc Cert.CdIn.main_arg4)
      ∧ r.2.mem ((c.tc : Thread Cert.CdIn.nD Cert.CdIn.τ).loc Cert.CdIn.main_arg5) = m ((c.tc : Thread Cert.CdIn.nD Cert.CdIn.τ).loc Cert.CdIn.main_arg5)
      ∧ r.2.mem ((c.tc : Thread Cert.CdIn.nD Cert.CdIn.τ).loc Cert.CdIn.main_arg6) = m ((c.tc : Thread Cert.CdIn.nD Cert.CdIn.τ).loc Cert.CdIn.main_arg6)
      ∧ r.2.mem ((c.tc : Thread Cert.CdIn.nD Cert.CdIn.τ).loc Cert.CdIn.main_arg7) = m ((c.tc : Thread Cert.CdIn.nD Cert.CdIn.τ).loc Cert.CdIn.main_arg7)
      ∧ r.2.mem ((c.tc : Thread Cert.CdIn.nD Cert.CdIn.τ).loc Cert.CdIn.main_arg8) = m ((c.tc : Thread Cert.CdIn.nD Cert.CdIn.τ).loc Cert.CdIn.main_arg8)
      ∧ r.2.mem ((c.tc : Thread Cert.CdIn.nD Cert.CdIn.τ).loc Cert.CdIn.main_arg9) = m ((c.tc : Thread Cert.CdIn.nD Cert.CdIn.τ).loc Cert.CdIn.main_arg9)
      ∧ r.2.mem ((c.tc : Thread Cert.CdIn.nD Cert.CdIn.τ).loc Cert.CdIn.main_arg10) = m ((c.tc : Thread Cert.CdIn.nD Cert.CdIn.τ).loc Cert.CdIn.main_arg10)
      ∧ r.2.mem ((c.tc : Thread Cert.CdIn.nD Cert.CdIn.τ).loc Cert.CdIn.main_arg11) = m ((c.tc : Thread Cert.CdIn.nD Cert.CdIn.τ).loc Cert.CdIn.main_arg11)
      ∧ r.2.mem ((c.tc : Thread Cert.CdIn.nD Cert.CdIn.τ).loc Cert.CdIn.main_arg12) = m ((c.tc : Thread Cert.CdIn.nD Cert.CdIn.τ).loc Cert.CdIn.main_arg12)
      ∧ r.2.mem ((c.tc : Thread Cert.CdIn.nD Cert.CdIn.τ).loc Cert.CdIn.main_arg13) = m ((c.tc : Thread Cert.CdIn.nD Cert.CdIn.τ).loc Cert.CdIn.main_arg13)
      ∧ r.2.mem ((c.tc : Thread Cert.CdIn.nD Cert.CdIn.τ).loc Cert.CdIn.main_arg14) = m ((c.tc : Thread Cert.CdIn.nD Cert.CdIn.τ).loc Cert.CdIn.main_arg14))
      ∧ r.2.sem = fun _ => 0)

def quiescent_CdInIdeal [hCdInIdeal : Cert.CdInIdeal.Facts] : Prop :=
  ∀ (m : (ℓ : Loc Cert.CdInIdeal.nD Cert.CdInIdeal.τ Cert.CdInIdeal.sig) → Buf (Elt Ideal) ℓ) (g : Dev Cert.CdInIdeal.nD → PrngReg), Pre_CdInIdeal m →
    θ_run (Cert.CdInIdeal.defs (F := Ideal)) (onTc (τ := Cert.CdInIdeal.τ) (Cert.CdInIdeal.main (F := Ideal))) ⟨m, fun _ => 0, g⟩ (fun r => (∀ c : Dev Cert.CdInIdeal.nD,
      r.2.mem ((c.tc : Thread Cert.CdInIdeal.nD Cert.CdInIdeal.τ).loc Cert.CdInIdeal.main_arg0) = m ((c.tc : Thread Cert.CdInIdeal.nD Cert.CdInIdeal.τ).loc Cert.CdInIdeal.main_arg0)
      ∧ r.2.mem ((c.tc : Thread Cert.CdInIdeal.nD Cert.CdInIdeal.τ).loc Cert.CdInIdeal.main_arg1) = m ((c.tc : Thread Cert.CdInIdeal.nD Cert.CdInIdeal.τ).loc Cert.CdInIdeal.main_arg1)
      ∧ r.2.mem ((c.tc : Thread Cert.CdInIdeal.nD Cert.CdInIdeal.τ).loc Cert.CdInIdeal.main_arg2) = m ((c.tc : Thread Cert.CdInIdeal.nD Cert.CdInIdeal.τ).loc Cert.CdInIdeal.main_arg2)
      ∧ r.2.mem ((c.tc : Thread Cert.CdInIdeal.nD Cert.CdInIdeal.τ).loc Cert.CdInIdeal.main_arg3) = m ((c.tc : Thread Cert.CdInIdeal.nD Cert.CdInIdeal.τ).loc Cert.CdInIdeal.main_arg3)
      ∧ r.2.mem ((c.tc : Thread Cert.CdInIdeal.nD Cert.CdInIdeal.τ).loc Cert.CdInIdeal.main_arg4) = m ((c.tc : Thread Cert.CdInIdeal.nD Cert.CdInIdeal.τ).loc Cert.CdInIdeal.main_arg4)
      ∧ r.2.mem ((c.tc : Thread Cert.CdInIdeal.nD Cert.CdInIdeal.τ).loc Cert.CdInIdeal.main_arg5) = m ((c.tc : Thread Cert.CdInIdeal.nD Cert.CdInIdeal.τ).loc Cert.CdInIdeal.main_arg5)
      ∧ r.2.mem ((c.tc : Thread Cert.CdInIdeal.nD Cert.CdInIdeal.τ).loc Cert.CdInIdeal.main_arg6) = m ((c.tc : Thread Cert.CdInIdeal.nD Cert.CdInIdeal.τ).loc Cert.CdInIdeal.main_arg6)
      ∧ r.2.mem ((c.tc : Thread Cert.CdInIdeal.nD Cert.CdInIdeal.τ).loc Cert.CdInIdeal.main_arg7) = m ((c.tc : Thread Cert.CdInIdeal.nD Cert.CdInIdeal.τ).loc Cert.CdInIdeal.main_arg7)
      ∧ r.2.mem ((c.tc : Thread Cert.CdInIdeal.nD Cert.CdInIdeal.τ).loc Cert.CdInIdeal.main_arg8) = m ((c.tc : Thread Cert.CdInIdeal.nD Cert.CdInIdeal.τ).loc Cert.CdInIdeal.main_arg8)
      ∧ r.2.mem ((c.tc : Thread Cert.CdInIdeal.nD Cert.CdInIdeal.τ).loc Cert.CdInIdeal.main_arg9) = m ((c.tc : Thread Cert.CdInIdeal.nD Cert.CdInIdeal.τ).loc Cert.CdInIdeal.main_arg9)
      ∧ r.2.mem ((c.tc : Thread Cert.CdInIdeal.nD Cert.CdInIdeal.τ).loc Cert.CdInIdeal.main_arg10) = m ((c.tc : Thread Cert.CdInIdeal.nD Cert.CdInIdeal.τ).loc Cert.CdInIdeal.main_arg10)
      ∧ r.2.mem ((c.tc : Thread Cert.CdInIdeal.nD Cert.CdInIdeal.τ).loc Cert.CdInIdeal.main_arg11) = m ((c.tc : Thread Cert.CdInIdeal.nD Cert.CdInIdeal.τ).loc Cert.CdInIdeal.main_arg11)
      ∧ r.2.mem ((c.tc : Thread Cert.CdInIdeal.nD Cert.CdInIdeal.τ).loc Cert.CdInIdeal.main_arg12) = m ((c.tc : Thread Cert.CdInIdeal.nD Cert.CdInIdeal.τ).loc Cert.CdInIdeal.main_arg12)
      ∧ r.2.mem ((c.tc : Thread Cert.CdInIdeal.nD Cert.CdInIdeal.τ).loc Cert.CdInIdeal.main_arg13) = m ((c.tc : Thread Cert.CdInIdeal.nD Cert.CdInIdeal.τ).loc Cert.CdInIdeal.main_arg13)
      ∧ r.2.mem ((c.tc : Thread Cert.CdInIdeal.nD Cert.CdInIdeal.τ).loc Cert.CdInIdeal.main_arg14) = m ((c.tc : Thread Cert.CdInIdeal.nD Cert.CdInIdeal.τ).loc Cert.CdInIdeal.main_arg14))
      ∧ r.2.sem = fun _ => 0)

def quiescent_CdInIdeal_pre_inputs_finite [hCdInIdeal : Cert.CdInIdeal.Facts] [hPre_inputs_finite : Cert.Pre_inputs_finite.Facts] : Prop :=
  ∀ (m : (ℓ : Loc Cert.CdInIdeal.nD Cert.CdInIdeal.τ Cert.CdInIdeal.sig) → Buf (Elt Ideal) ℓ) (g : Dev Cert.CdInIdeal.nD → PrngReg), Pre_CdInIdeal_inputs_finite m →
    θ_run (Cert.CdInIdeal.defs (F := Ideal)) (onTc (τ := Cert.CdInIdeal.τ) (Cert.CdInIdeal.main (F := Ideal))) ⟨m, fun _ => 0, g⟩ (fun r => (∀ c : Dev Cert.CdInIdeal.nD,
      r.2.mem ((c.tc : Thread Cert.CdInIdeal.nD Cert.CdInIdeal.τ).loc Cert.CdInIdeal.main_arg0) = m ((c.tc : Thread Cert.CdInIdeal.nD Cert.CdInIdeal.τ).loc Cert.CdInIdeal.main_arg0)
      ∧ r.2.mem ((c.tc : Thread Cert.CdInIdeal.nD Cert.CdInIdeal.τ).loc Cert.CdInIdeal.main_arg1) = m ((c.tc : Thread Cert.CdInIdeal.nD Cert.CdInIdeal.τ).loc Cert.CdInIdeal.main_arg1)
      ∧ r.2.mem ((c.tc : Thread Cert.CdInIdeal.nD Cert.CdInIdeal.τ).loc Cert.CdInIdeal.main_arg2) = m ((c.tc : Thread Cert.CdInIdeal.nD Cert.CdInIdeal.τ).loc Cert.CdInIdeal.main_arg2)
      ∧ r.2.mem ((c.tc : Thread Cert.CdInIdeal.nD Cert.CdInIdeal.τ).loc Cert.CdInIdeal.main_arg3) = m ((c.tc : Thread Cert.CdInIdeal.nD Cert.CdInIdeal.τ).loc Cert.CdInIdeal.main_arg3)
      ∧ r.2.mem ((c.tc : Thread Cert.CdInIdeal.nD Cert.CdInIdeal.τ).loc Cert.CdInIdeal.main_arg4) = m ((c.tc : Thread Cert.CdInIdeal.nD Cert.CdInIdeal.τ).loc Cert.CdInIdeal.main_arg4)
      ∧ r.2.mem ((c.tc : Thread Cert.CdInIdeal.nD Cert.CdInIdeal.τ).loc Cert.CdInIdeal.main_arg5) = m ((c.tc : Thread Cert.CdInIdeal.nD Cert.CdInIdeal.τ).loc Cert.CdInIdeal.main_arg5)
      ∧ r.2.mem ((c.tc : Thread Cert.CdInIdeal.nD Cert.CdInIdeal.τ).loc Cert.CdInIdeal.main_arg6) = m ((c.tc : Thread Cert.CdInIdeal.nD Cert.CdInIdeal.τ).loc Cert.CdInIdeal.main_arg6)
      ∧ r.2.mem ((c.tc : Thread Cert.CdInIdeal.nD Cert.CdInIdeal.τ).loc Cert.CdInIdeal.main_arg7) = m ((c.tc : Thread Cert.CdInIdeal.nD Cert.CdInIdeal.τ).loc Cert.CdInIdeal.main_arg7)
      ∧ r.2.mem ((c.tc : Thread Cert.CdInIdeal.nD Cert.CdInIdeal.τ).loc Cert.CdInIdeal.main_arg8) = m ((c.tc : Thread Cert.CdInIdeal.nD Cert.CdInIdeal.τ).loc Cert.CdInIdeal.main_arg8)
      ∧ r.2.mem ((c.tc : Thread Cert.CdInIdeal.nD Cert.CdInIdeal.τ).loc Cert.CdInIdeal.main_arg9) = m ((c.tc : Thread Cert.CdInIdeal.nD Cert.CdInIdeal.τ).loc Cert.CdInIdeal.main_arg9)
      ∧ r.2.mem ((c.tc : Thread Cert.CdInIdeal.nD Cert.CdInIdeal.τ).loc Cert.CdInIdeal.main_arg10) = m ((c.tc : Thread Cert.CdInIdeal.nD Cert.CdInIdeal.τ).loc Cert.CdInIdeal.main_arg10)
      ∧ r.2.mem ((c.tc : Thread Cert.CdInIdeal.nD Cert.CdInIdeal.τ).loc Cert.CdInIdeal.main_arg11) = m ((c.tc : Thread Cert.CdInIdeal.nD Cert.CdInIdeal.τ).loc Cert.CdInIdeal.main_arg11)
      ∧ r.2.mem ((c.tc : Thread Cert.CdInIdeal.nD Cert.CdInIdeal.τ).loc Cert.CdInIdeal.main_arg12) = m ((c.tc : Thread Cert.CdInIdeal.nD Cert.CdInIdeal.τ).loc Cert.CdInIdeal.main_arg12)
      ∧ r.2.mem ((c.tc : Thread Cert.CdInIdeal.nD Cert.CdInIdeal.τ).loc Cert.CdInIdeal.main_arg13) = m ((c.tc : Thread Cert.CdInIdeal.nD Cert.CdInIdeal.τ).loc Cert.CdInIdeal.main_arg13)
      ∧ r.2.mem ((c.tc : Thread Cert.CdInIdeal.nD Cert.CdInIdeal.τ).loc Cert.CdInIdeal.main_arg14) = m ((c.tc : Thread Cert.CdInIdeal.nD Cert.CdInIdeal.τ).loc Cert.CdInIdeal.main_arg14))
      ∧ r.2.sem = fun _ => 0)

def quiescent_CdInRefIdeal [hCdInRefIdeal : Cert.CdInRefIdeal.Facts] : Prop :=
  ∀ (m : (ℓ : Loc Cert.CdInRefIdeal.nD Cert.CdInRefIdeal.τ Cert.CdInRefIdeal.sig) → Buf (Elt Ideal) ℓ) (g : Dev Cert.CdInRefIdeal.nD → PrngReg), Pre_CdInRefIdeal m →
    θ_run (Cert.CdInRefIdeal.defs (F := Ideal)) (onTc (τ := Cert.CdInRefIdeal.τ) (Cert.CdInRefIdeal.main (F := Ideal))) ⟨m, fun _ => 0, g⟩ (fun r => (∀ c : Dev Cert.CdInRefIdeal.nD,
      r.2.mem ((c.tc : Thread Cert.CdInRefIdeal.nD Cert.CdInRefIdeal.τ).loc Cert.CdInRefIdeal.main_arg0) = m ((c.tc : Thread Cert.CdInRefIdeal.nD Cert.CdInRefIdeal.τ).loc Cert.CdInRefIdeal.main_arg0)
      ∧ r.2.mem ((c.tc : Thread Cert.CdInRefIdeal.nD Cert.CdInRefIdeal.τ).loc Cert.CdInRefIdeal.main_arg1) = m ((c.tc : Thread Cert.CdInRefIdeal.nD Cert.CdInRefIdeal.τ).loc Cert.CdInRefIdeal.main_arg1)
      ∧ r.2.mem ((c.tc : Thread Cert.CdInRefIdeal.nD Cert.CdInRefIdeal.τ).loc Cert.CdInRefIdeal.main_arg2) = m ((c.tc : Thread Cert.CdInRefIdeal.nD Cert.CdInRefIdeal.τ).loc Cert.CdInRefIdeal.main_arg2)
      ∧ r.2.mem ((c.tc : Thread Cert.CdInRefIdeal.nD Cert.CdInRefIdeal.τ).loc Cert.CdInRefIdeal.main_arg3) = m ((c.tc : Thread Cert.CdInRefIdeal.nD Cert.CdInRefIdeal.τ).loc Cert.CdInRefIdeal.main_arg3)
      ∧ r.2.mem ((c.tc : Thread Cert.CdInRefIdeal.nD Cert.CdInRefIdeal.τ).loc Cert.CdInRefIdeal.main_arg4) = m ((c.tc : Thread Cert.CdInRefIdeal.nD Cert.CdInRefIdeal.τ).loc Cert.CdInRefIdeal.main_arg4)
      ∧ r.2.mem ((c.tc : Thread Cert.CdInRefIdeal.nD Cert.CdInRefIdeal.τ).loc Cert.CdInRefIdeal.main_arg5) = m ((c.tc : Thread Cert.CdInRefIdeal.nD Cert.CdInRefIdeal.τ).loc Cert.CdInRefIdeal.main_arg5)
      ∧ r.2.mem ((c.tc : Thread Cert.CdInRefIdeal.nD Cert.CdInRefIdeal.τ).loc Cert.CdInRefIdeal.main_arg6) = m ((c.tc : Thread Cert.CdInRefIdeal.nD Cert.CdInRefIdeal.τ).loc Cert.CdInRefIdeal.main_arg6)
      ∧ r.2.mem ((c.tc : Thread Cert.CdInRefIdeal.nD Cert.CdInRefIdeal.τ).loc Cert.CdInRefIdeal.main_arg7) = m ((c.tc : Thread Cert.CdInRefIdeal.nD Cert.CdInRefIdeal.τ).loc Cert.CdInRefIdeal.main_arg7)
      ∧ r.2.mem ((c.tc : Thread Cert.CdInRefIdeal.nD Cert.CdInRefIdeal.τ).loc Cert.CdInRefIdeal.main_arg8) = m ((c.tc : Thread Cert.CdInRefIdeal.nD Cert.CdInRefIdeal.τ).loc Cert.CdInRefIdeal.main_arg8)
      ∧ r.2.mem ((c.tc : Thread Cert.CdInRefIdeal.nD Cert.CdInRefIdeal.τ).loc Cert.CdInRefIdeal.main_arg9) = m ((c.tc : Thread Cert.CdInRefIdeal.nD Cert.CdInRefIdeal.τ).loc Cert.CdInRefIdeal.main_arg9)
      ∧ r.2.mem ((c.tc : Thread Cert.CdInRefIdeal.nD Cert.CdInRefIdeal.τ).loc Cert.CdInRefIdeal.main_arg10) = m ((c.tc : Thread Cert.CdInRefIdeal.nD Cert.CdInRefIdeal.τ).loc Cert.CdInRefIdeal.main_arg10)
      ∧ r.2.mem ((c.tc : Thread Cert.CdInRefIdeal.nD Cert.CdInRefIdeal.τ).loc Cert.CdInRefIdeal.main_arg11) = m ((c.tc : Thread Cert.CdInRefIdeal.nD Cert.CdInRefIdeal.τ).loc Cert.CdInRefIdeal.main_arg11)
      ∧ r.2.mem ((c.tc : Thread Cert.CdInRefIdeal.nD Cert.CdInRefIdeal.τ).loc Cert.CdInRefIdeal.main_arg12) = m ((c.tc : Thread Cert.CdInRefIdeal.nD Cert.CdInRefIdeal.τ).loc Cert.CdInRefIdeal.main_arg12)
      ∧ r.2.mem ((c.tc : Thread Cert.CdInRefIdeal.nD Cert.CdInRefIdeal.τ).loc Cert.CdInRefIdeal.main_arg13) = m ((c.tc : Thread Cert.CdInRefIdeal.nD Cert.CdInRefIdeal.τ).loc Cert.CdInRefIdeal.main_arg13)
      ∧ r.2.mem ((c.tc : Thread Cert.CdInRefIdeal.nD Cert.CdInRefIdeal.τ).loc Cert.CdInRefIdeal.main_arg14) = m ((c.tc : Thread Cert.CdInRefIdeal.nD Cert.CdInRefIdeal.τ).loc Cert.CdInRefIdeal.main_arg14))
      ∧ r.2.sem = fun _ => 0)

def quiescent_CdInRefIdeal_pre_inputs_finite [hCdInRefIdeal : Cert.CdInRefIdeal.Facts] [hPre_inputs_finite : Cert.Pre_inputs_finite.Facts] : Prop :=
  ∀ (m : (ℓ : Loc Cert.CdInRefIdeal.nD Cert.CdInRefIdeal.τ Cert.CdInRefIdeal.sig) → Buf (Elt Ideal) ℓ) (g : Dev Cert.CdInRefIdeal.nD → PrngReg), Pre_CdInRefIdeal_inputs_finite m →
    θ_run (Cert.CdInRefIdeal.defs (F := Ideal)) (onTc (τ := Cert.CdInRefIdeal.τ) (Cert.CdInRefIdeal.main (F := Ideal))) ⟨m, fun _ => 0, g⟩ (fun r => (∀ c : Dev Cert.CdInRefIdeal.nD,
      r.2.mem ((c.tc : Thread Cert.CdInRefIdeal.nD Cert.CdInRefIdeal.τ).loc Cert.CdInRefIdeal.main_arg0) = m ((c.tc : Thread Cert.CdInRefIdeal.nD Cert.CdInRefIdeal.τ).loc Cert.CdInRefIdeal.main_arg0)
      ∧ r.2.mem ((c.tc : Thread Cert.CdInRefIdeal.nD Cert.CdInRefIdeal.τ).loc Cert.CdInRefIdeal.main_arg1) = m ((c.tc : Thread Cert.CdInRefIdeal.nD Cert.CdInRefIdeal.τ).loc Cert.CdInRefIdeal.main_arg1)
      ∧ r.2.mem ((c.tc : Thread Cert.CdInRefIdeal.nD Cert.CdInRefIdeal.τ).loc Cert.CdInRefIdeal.main_arg2) = m ((c.tc : Thread Cert.CdInRefIdeal.nD Cert.CdInRefIdeal.τ).loc Cert.CdInRefIdeal.main_arg2)
      ∧ r.2.mem ((c.tc : Thread Cert.CdInRefIdeal.nD Cert.CdInRefIdeal.τ).loc Cert.CdInRefIdeal.main_arg3) = m ((c.tc : Thread Cert.CdInRefIdeal.nD Cert.CdInRefIdeal.τ).loc Cert.CdInRefIdeal.main_arg3)
      ∧ r.2.mem ((c.tc : Thread Cert.CdInRefIdeal.nD Cert.CdInRefIdeal.τ).loc Cert.CdInRefIdeal.main_arg4) = m ((c.tc : Thread Cert.CdInRefIdeal.nD Cert.CdInRefIdeal.τ).loc Cert.CdInRefIdeal.main_arg4)
      ∧ r.2.mem ((c.tc : Thread Cert.CdInRefIdeal.nD Cert.CdInRefIdeal.τ).loc Cert.CdInRefIdeal.main_arg5) = m ((c.tc : Thread Cert.CdInRefIdeal.nD Cert.CdInRefIdeal.τ).loc Cert.CdInRefIdeal.main_arg5)
      ∧ r.2.mem ((c.tc : Thread Cert.CdInRefIdeal.nD Cert.CdInRefIdeal.τ).loc Cert.CdInRefIdeal.main_arg6) = m ((c.tc : Thread Cert.CdInRefIdeal.nD Cert.CdInRefIdeal.τ).loc Cert.CdInRefIdeal.main_arg6)
      ∧ r.2.mem ((c.tc : Thread Cert.CdInRefIdeal.nD Cert.CdInRefIdeal.τ).loc Cert.CdInRefIdeal.main_arg7) = m ((c.tc : Thread Cert.CdInRefIdeal.nD Cert.CdInRefIdeal.τ).loc Cert.CdInRefIdeal.main_arg7)
      ∧ r.2.mem ((c.tc : Thread Cert.CdInRefIdeal.nD Cert.CdInRefIdeal.τ).loc Cert.CdInRefIdeal.main_arg8) = m ((c.tc : Thread Cert.CdInRefIdeal.nD Cert.CdInRefIdeal.τ).loc Cert.CdInRefIdeal.main_arg8)
      ∧ r.2.mem ((c.tc : Thread Cert.CdInRefIdeal.nD Cert.CdInRefIdeal.τ).loc Cert.CdInRefIdeal.main_arg9) = m ((c.tc : Thread Cert.CdInRefIdeal.nD Cert.CdInRefIdeal.τ).loc Cert.CdInRefIdeal.main_arg9)
      ∧ r.2.mem ((c.tc : Thread Cert.CdInRefIdeal.nD Cert.CdInRefIdeal.τ).loc Cert.CdInRefIdeal.main_arg10) = m ((c.tc : Thread Cert.CdInRefIdeal.nD Cert.CdInRefIdeal.τ).loc Cert.CdInRefIdeal.main_arg10)
      ∧ r.2.mem ((c.tc : Thread Cert.CdInRefIdeal.nD Cert.CdInRefIdeal.τ).loc Cert.CdInRefIdeal.main_arg11) = m ((c.tc : Thread Cert.CdInRefIdeal.nD Cert.CdInRefIdeal.τ).loc Cert.CdInRefIdeal.main_arg11)
      ∧ r.2.mem ((c.tc : Thread Cert.CdInRefIdeal.nD Cert.CdInRefIdeal.τ).loc Cert.CdInRefIdeal.main_arg12) = m ((c.tc : Thread Cert.CdInRefIdeal.nD Cert.CdInRefIdeal.τ).loc Cert.CdInRefIdeal.main_arg12)
      ∧ r.2.mem ((c.tc : Thread Cert.CdInRefIdeal.nD Cert.CdInRefIdeal.τ).loc Cert.CdInRefIdeal.main_arg13) = m ((c.tc : Thread Cert.CdInRefIdeal.nD Cert.CdInRefIdeal.τ).loc Cert.CdInRefIdeal.main_arg13)
      ∧ r.2.mem ((c.tc : Thread Cert.CdInRefIdeal.nD Cert.CdInRefIdeal.τ).loc Cert.CdInRefIdeal.main_arg14) = m ((c.tc : Thread Cert.CdInRefIdeal.nD Cert.CdInRefIdeal.τ).loc Cert.CdInRefIdeal.main_arg14))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v46) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_AbOut_AbOutIdeal : Prop :=
  True

def algebraic_AbOutIdeal_AbOutRefIdeal [hAbOutIdeal : Cert.AbOutIdeal.Facts] [hAbOutRefIdeal : Cert.AbOutRefIdeal.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutRefIdeal.nD Cert.AbOutRefIdeal.τ Cert.AbOutRefIdeal.sig) → Buf (Elt Ideal) ℓ) (g' : Dev Cert.AbOutRefIdeal.nD → PrngReg), Pre_AbOutIdeal m →
    (∀ c : Dev Cert.AbOutIdeal.nD,
      m' ((c.tc : Thread Cert.AbOutRefIdeal.nD Cert.AbOutRefIdeal.τ).loc Cert.AbOutRefIdeal.main_arg0) = m ((c.tc : Thread Cert.AbOutIdeal.nD Cert.AbOutIdeal.τ).loc Cert.AbOutIdeal.main_arg0)
      ∧ m' ((c.tc : Thread Cert.AbOutRefIdeal.nD Cert.AbOutRefIdeal.τ).loc Cert.AbOutRefIdeal.main_arg1) = m ((c.tc : Thread Cert.AbOutIdeal.nD Cert.AbOutIdeal.τ).loc Cert.AbOutIdeal.main_arg1)
      ∧ m' ((c.tc : Thread Cert.AbOutRefIdeal.nD Cert.AbOutRefIdeal.τ).loc Cert.AbOutRefIdeal.main_arg2) = m ((c.tc : Thread Cert.AbOutIdeal.nD Cert.AbOutIdeal.τ).loc Cert.AbOutIdeal.main_arg2)
      ∧ m' ((c.tc : Thread Cert.AbOutRefIdeal.nD Cert.AbOutRefIdeal.τ).loc Cert.AbOutRefIdeal.main_arg3) = m ((c.tc : Thread Cert.AbOutIdeal.nD Cert.AbOutIdeal.τ).loc Cert.AbOutIdeal.main_arg3)
      ∧ m' ((c.tc : Thread Cert.AbOutRefIdeal.nD Cert.AbOutRefIdeal.τ).loc Cert.AbOutRefIdeal.main_arg4) = m ((c.tc : Thread Cert.AbOutIdeal.nD Cert.AbOutIdeal.τ).loc Cert.AbOutIdeal.main_arg4)
      ∧ m' ((c.tc : Thread Cert.AbOutRefIdeal.nD Cert.AbOutRefIdeal.τ).loc Cert.AbOutRefIdeal.main_arg5) = m ((c.tc : Thread Cert.AbOutIdeal.nD Cert.AbOutIdeal.τ).loc Cert.AbOutIdeal.main_arg5)
      ∧ m' ((c.tc : Thread Cert.AbOutRefIdeal.nD Cert.AbOutRefIdeal.τ).loc Cert.AbOutRefIdeal.main_arg6) = m ((c.tc : Thread Cert.AbOutIdeal.nD Cert.AbOutIdeal.τ).loc Cert.AbOutIdeal.main_arg6)
      ∧ m' ((c.tc : Thread Cert.AbOutRefIdeal.nD Cert.AbOutRefIdeal.τ).loc Cert.AbOutRefIdeal.main_arg7) = m ((c.tc : Thread Cert.AbOutIdeal.nD Cert.AbOutIdeal.τ).loc Cert.AbOutIdeal.main_arg7)
      ∧ m' ((c.tc : Thread Cert.AbOutRefIdeal.nD Cert.AbOutRefIdeal.τ).loc Cert.AbOutRefIdeal.main_arg8) = m ((c.tc : Thread Cert.AbOutIdeal.nD Cert.AbOutIdeal.τ).loc Cert.AbOutIdeal.main_arg8)) →
    ∃ (v0 : (c : Dev Cert.AbOutIdeal.nD) → Buf (Elt Ideal) ((c.tc : Thread Cert.AbOutIdeal.nD Cert.AbOutIdeal.τ).loc Cert.AbOutIdeal.main_v6)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v6) = v0 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
          ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
          ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
          ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4)
          ∧ r.2.mem ((c.tc : Thread Cert.AbOutIdeal.nD Cert.AbOutIdeal.τ).loc Cert.AbOutIdeal.main_arg5) = m ((c.tc : Thread Cert.AbOutIdeal.nD Cert.AbOutIdeal.τ).loc Cert.AbOutIdeal.main_arg5)
          ∧ r.2.mem ((c.tc : Thread Cert.AbOutIdeal.nD Cert.AbOutIdeal.τ).loc Cert.AbOutIdeal.main_arg6) = m ((c.tc : Thread Cert.AbOutIdeal.nD Cert.AbOutIdeal.τ).loc Cert.AbOutIdeal.main_arg6)
          ∧ r.2.mem ((c.tc : Thread Cert.AbOutIdeal.nD Cert.AbOutIdeal.τ).loc Cert.AbOutIdeal.main_arg7) = m ((c.tc : Thread Cert.AbOutIdeal.nD Cert.AbOutIdeal.τ).loc Cert.AbOutIdeal.main_arg7)
          ∧ r.2.mem ((c.tc : Thread Cert.AbOutIdeal.nD Cert.AbOutIdeal.τ).loc Cert.AbOutIdeal.main_arg8) = m ((c.tc : Thread Cert.AbOutIdeal.nD Cert.AbOutIdeal.τ).loc Cert.AbOutIdeal.main_arg8))
      ∧ θ_run (Cert.AbOutRefIdeal.defs (F := Ideal)) (onTc (τ := Cert.AbOutRefIdeal.τ) (Cert.AbOutRefIdeal.main (F := Ideal))) ⟨m', fun _ => 0, g'⟩ (fun r => ∀ c : Dev Cert.AbOutRefIdeal.nD,
          r.2.mem ((c.tc : Thread Cert.AbOutRefIdeal.nD Cert.AbOutRefIdeal.τ).loc Cert.AbOutRefIdeal.main_v36) = v0 c
          ∧ r.2.mem ((c.tc : Thread Cert.AbOutRefIdeal.nD Cert.AbOutRefIdeal.τ).loc Cert.AbOutRefIdeal.main_arg0) = m' ((c.tc : Thread Cert.AbOutRefIdeal.nD Cert.AbOutRefIdeal.τ).loc Cert.AbOutRefIdeal.main_arg0)
          ∧ r.2.mem ((c.tc : Thread Cert.AbOutRefIdeal.nD Cert.AbOutRefIdeal.τ).loc Cert.AbOutRefIdeal.main_arg1) = m' ((c.tc : Thread Cert.AbOutRefIdeal.nD Cert.AbOutRefIdeal.τ).loc Cert.AbOutRefIdeal.main_arg1)
          ∧ r.2.mem ((c.tc : Thread Cert.AbOutRefIdeal.nD Cert.AbOutRefIdeal.τ).loc Cert.AbOutRefIdeal.main_arg2) = m' ((c.tc : Thread Cert.AbOutRefIdeal.nD Cert.AbOutRefIdeal.τ).loc Cert.AbOutRefIdeal.main_arg2)
          ∧ r.2.mem ((c.tc : Thread Cert.AbOutRefIdeal.nD Cert.AbOutRefIdeal.τ).loc Cert.AbOutRefIdeal.main_arg3) = m' ((c.tc : Thread Cert.AbOutRefIdeal.nD Cert.AbOutRefIdeal.τ).loc Cert.AbOutRefIdeal.main_arg3)
          ∧ r.2.mem ((c.tc : Thread Cert.AbOutRefIdeal.nD Cert.AbOutRefIdeal.τ).loc Cert.AbOutRefIdeal.main_arg4) = m' ((c.tc : Thread Cert.AbOutRefIdeal.nD Cert.AbOutRefIdeal.τ).loc Cert.AbOutRefIdeal.main_arg4)
          ∧ r.2.mem ((c.tc : Thread Cert.AbOutRefIdeal.nD Cert.AbOutRefIdeal.τ).loc Cert.AbOutRefIdeal.main_arg5) = m' ((c.tc : Thread Cert.AbOutRefIdeal.nD Cert.AbOutRefIdeal.τ).loc Cert.AbOutRefIdeal.main_arg5)
          ∧ r.2.mem ((c.tc : Thread Cert.AbOutRefIdeal.nD Cert.AbOutRefIdeal.τ).loc Cert.AbOutRefIdeal.main_arg6) = m' ((c.tc : Thread Cert.AbOutRefIdeal.nD Cert.AbOutRefIdeal.τ).loc Cert.AbOutRefIdeal.main_arg6)
          ∧ r.2.mem ((c.tc : Thread Cert.AbOutRefIdeal.nD Cert.AbOutRefIdeal.τ).loc Cert.AbOutRefIdeal.main_arg7) = m' ((c.tc : Thread Cert.AbOutRefIdeal.nD Cert.AbOutRefIdeal.τ).loc Cert.AbOutRefIdeal.main_arg7)
          ∧ r.2.mem ((c.tc : Thread Cert.AbOutRefIdeal.nD Cert.AbOutRefIdeal.τ).loc Cert.AbOutRefIdeal.main_arg8) = m' ((c.tc : Thread Cert.AbOutRefIdeal.nD Cert.AbOutRefIdeal.τ).loc Cert.AbOutRefIdeal.main_arg8))

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)) →
    ∃ (v0 : (c : Dev Cert.LruIdeal.nD) → Buf (Elt Ideal) ((c.tc : Thread Cert.LruIdeal.nD Cert.LruIdeal.τ).loc Cert.LruIdeal.main_v2_0)) (v1 : (c : Dev Cert.LruIdeal.nD) → Buf (Elt Ideal) ((c.tc : Thread Cert.LruIdeal.nD Cert.LruIdeal.τ).loc Cert.LruIdeal.main_v2_1)) (v2 : (c : Dev Cert.LruIdeal.nD) → Buf (Elt Ideal) ((c.tc : Thread Cert.LruIdeal.nD Cert.LruIdeal.τ).loc Cert.LruIdeal.main_v2_2)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v2_0) = v0 c
          ∧ r.2.mem ((c.tc : Thread Cert.LruIdeal.nD Cert.LruIdeal.τ).loc Cert.LruIdeal.main_v2_1) = v1 c
          ∧ r.2.mem ((c.tc : Thread Cert.LruIdeal.nD Cert.LruIdeal.τ).loc Cert.LruIdeal.main_v2_2) = v2 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v25) = v0 c
          ∧ r.2.mem ((c.tc : Thread Cert.LruRefIdeal.nD Cert.LruRefIdeal.τ).loc Cert.LruRefIdeal.main_v28) = v1 c
          ∧ r.2.mem ((c.tc : Thread Cert.LruRefIdeal.nD Cert.LruRefIdeal.τ).loc Cert.LruRefIdeal.main_v29) = v2 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)
      ∧ m' ((c.tc : Thread Cert.AbInRefIdeal.nD Cert.AbInRefIdeal.τ).loc Cert.AbInRefIdeal.main_arg2) = m ((c.tc : Thread Cert.AbInIdeal.nD Cert.AbInIdeal.τ).loc Cert.AbInIdeal.main_arg2)
      ∧ m' ((c.tc : Thread Cert.AbInRefIdeal.nD Cert.AbInRefIdeal.τ).loc Cert.AbInRefIdeal.main_arg3) = m ((c.tc : Thread Cert.AbInIdeal.nD Cert.AbInIdeal.τ).loc Cert.AbInIdeal.main_arg3)
      ∧ m' ((c.tc : Thread Cert.AbInRefIdeal.nD Cert.AbInRefIdeal.τ).loc Cert.AbInRefIdeal.main_arg4) = m ((c.tc : Thread Cert.AbInIdeal.nD Cert.AbInIdeal.τ).loc Cert.AbInIdeal.main_arg4)
      ∧ m' ((c.tc : Thread Cert.AbInRefIdeal.nD Cert.AbInRefIdeal.τ).loc Cert.AbInRefIdeal.main_arg5) = m ((c.tc : Thread Cert.AbInIdeal.nD Cert.AbInIdeal.τ).loc Cert.AbInIdeal.main_arg5)
      ∧ m' ((c.tc : Thread Cert.AbInRefIdeal.nD Cert.AbInRefIdeal.τ).loc Cert.AbInRefIdeal.main_arg6) = m ((c.tc : Thread Cert.AbInIdeal.nD Cert.AbInIdeal.τ).loc Cert.AbInIdeal.main_arg6)
      ∧ m' ((c.tc : Thread Cert.AbInRefIdeal.nD Cert.AbInRefIdeal.τ).loc Cert.AbInRefIdeal.main_arg7) = m ((c.tc : Thread Cert.AbInIdeal.nD Cert.AbInIdeal.τ).loc Cert.AbInIdeal.main_arg7)
      ∧ m' ((c.tc : Thread Cert.AbInRefIdeal.nD Cert.AbInRefIdeal.τ).loc Cert.AbInRefIdeal.main_arg8) = m ((c.tc : Thread Cert.AbInIdeal.nD Cert.AbInIdeal.τ).loc Cert.AbInIdeal.main_arg8)
      ∧ m' ((c.tc : Thread Cert.AbInRefIdeal.nD Cert.AbInRefIdeal.τ).loc Cert.AbInRefIdeal.main_arg9) = m ((c.tc : Thread Cert.AbInIdeal.nD Cert.AbInIdeal.τ).loc Cert.AbInIdeal.main_arg9)
      ∧ m' ((c.tc : Thread Cert.AbInRefIdeal.nD Cert.AbInRefIdeal.τ).loc Cert.AbInRefIdeal.main_arg10) = m ((c.tc : Thread Cert.AbInIdeal.nD Cert.AbInIdeal.τ).loc Cert.AbInIdeal.main_arg10)) →
    ∃ (v0 : (c : Dev Cert.AbInIdeal.nD) → Buf (Elt Ideal) ((c.tc : Thread Cert.AbInIdeal.nD Cert.AbInIdeal.τ).loc Cert.AbInIdeal.main_v73_0)) (v1 : (c : Dev Cert.AbInIdeal.nD) → Buf (Elt Ideal) ((c.tc : Thread Cert.AbInIdeal.nD Cert.AbInIdeal.τ).loc Cert.AbInIdeal.main_v73_1)) (v2 : (c : Dev Cert.AbInIdeal.nD) → Buf (Elt Ideal) ((c.tc : Thread Cert.AbInIdeal.nD Cert.AbInIdeal.τ).loc Cert.AbInIdeal.main_v73_2)) (v3 : (c : Dev Cert.AbInIdeal.nD) → Buf (Elt Ideal) ((c.tc : Thread Cert.AbInIdeal.nD Cert.AbInIdeal.τ).loc Cert.AbInIdeal.main_v73_3)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v73_0) = v0 c
          ∧ r.2.mem ((c.tc : Thread Cert.AbInIdeal.nD Cert.AbInIdeal.τ).loc Cert.AbInIdeal.main_v73_1) = v1 c
          ∧ r.2.mem ((c.tc : Thread Cert.AbInIdeal.nD Cert.AbInIdeal.τ).loc Cert.AbInIdeal.main_v73_2) = v2 c
          ∧ r.2.mem ((c.tc : Thread Cert.AbInIdeal.nD Cert.AbInIdeal.τ).loc Cert.AbInIdeal.main_v73_3) = v3 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
          ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2)
          ∧ r.2.mem ((c.tc : Thread Cert.AbInIdeal.nD Cert.AbInIdeal.τ).loc Cert.AbInIdeal.main_arg3) = m ((c.tc : Thread Cert.AbInIdeal.nD Cert.AbInIdeal.τ).loc Cert.AbInIdeal.main_arg3)
          ∧ r.2.mem ((c.tc : Thread Cert.AbInIdeal.nD Cert.AbInIdeal.τ).loc Cert.AbInIdeal.main_arg4) = m ((c.tc : Thread Cert.AbInIdeal.nD Cert.AbInIdeal.τ).loc Cert.AbInIdeal.main_arg4)
          ∧ r.2.mem ((c.tc : Thread Cert.AbInIdeal.nD Cert.AbInIdeal.τ).loc Cert.AbInIdeal.main_arg5) = m ((c.tc : Thread Cert.AbInIdeal.nD Cert.AbInIdeal.τ).loc Cert.AbInIdeal.main_arg5)
          ∧ r.2.mem ((c.tc : Thread Cert.AbInIdeal.nD Cert.AbInIdeal.τ).loc Cert.AbInIdeal.main_arg6) = m ((c.tc : Thread Cert.AbInIdeal.nD Cert.AbInIdeal.τ).loc Cert.AbInIdeal.main_arg6)
          ∧ r.2.mem ((c.tc : Thread Cert.AbInIdeal.nD Cert.AbInIdeal.τ).loc Cert.AbInIdeal.main_arg7) = m ((c.tc : Thread Cert.AbInIdeal.nD Cert.AbInIdeal.τ).loc Cert.AbInIdeal.main_arg7)
          ∧ r.2.mem ((c.tc : Thread Cert.AbInIdeal.nD Cert.AbInIdeal.τ).loc Cert.AbInIdeal.main_arg8) = m ((c.tc : Thread Cert.AbInIdeal.nD Cert.AbInIdeal.τ).loc Cert.AbInIdeal.main_arg8)
          ∧ r.2.mem ((c.tc : Thread Cert.AbInIdeal.nD Cert.AbInIdeal.τ).loc Cert.AbInIdeal.main_arg9) = m ((c.tc : Thread Cert.AbInIdeal.nD Cert.AbInIdeal.τ).loc Cert.AbInIdeal.main_arg9)
          ∧ r.2.mem ((c.tc : Thread Cert.AbInIdeal.nD Cert.AbInIdeal.τ).loc Cert.AbInIdeal.main_arg10) = m ((c.tc : Thread Cert.AbInIdeal.nD Cert.AbInIdeal.τ).loc Cert.AbInIdeal.main_arg10))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v241) = v0 c
          ∧ r.2.mem ((c.tc : Thread Cert.AbInRefIdeal.nD Cert.AbInRefIdeal.τ).loc Cert.AbInRefIdeal.main_v255) = v1 c
          ∧ r.2.mem ((c.tc : Thread Cert.AbInRefIdeal.nD Cert.AbInRefIdeal.τ).loc Cert.AbInRefIdeal.main_v259) = v2 c
          ∧ r.2.mem ((c.tc : Thread Cert.AbInRefIdeal.nD Cert.AbInRefIdeal.τ).loc Cert.AbInRefIdeal.main_v263) = v3 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1)
          ∧ r.2.mem ((c.tc : Thread Cert.AbInRefIdeal.nD Cert.AbInRefIdeal.τ).loc Cert.AbInRefIdeal.main_arg2) = m' ((c.tc : Thread Cert.AbInRefIdeal.nD Cert.AbInRefIdeal.τ).loc Cert.AbInRefIdeal.main_arg2)
          ∧ r.2.mem ((c.tc : Thread Cert.AbInRefIdeal.nD Cert.AbInRefIdeal.τ).loc Cert.AbInRefIdeal.main_arg3) = m' ((c.tc : Thread Cert.AbInRefIdeal.nD Cert.AbInRefIdeal.τ).loc Cert.AbInRefIdeal.main_arg3)
          ∧ r.2.mem ((c.tc : Thread Cert.AbInRefIdeal.nD Cert.AbInRefIdeal.τ).loc Cert.AbInRefIdeal.main_arg4) = m' ((c.tc : Thread Cert.AbInRefIdeal.nD Cert.AbInRefIdeal.τ).loc Cert.AbInRefIdeal.main_arg4)
          ∧ r.2.mem ((c.tc : Thread Cert.AbInRefIdeal.nD Cert.AbInRefIdeal.τ).loc Cert.AbInRefIdeal.main_arg5) = m' ((c.tc : Thread Cert.AbInRefIdeal.nD Cert.AbInRefIdeal.τ).loc Cert.AbInRefIdeal.main_arg5)
          ∧ r.2.mem ((c.tc : Thread Cert.AbInRefIdeal.nD Cert.AbInRefIdeal.τ).loc Cert.AbInRefIdeal.main_arg6) = m' ((c.tc : Thread Cert.AbInRefIdeal.nD Cert.AbInRefIdeal.τ).loc Cert.AbInRefIdeal.main_arg6)
          ∧ r.2.mem ((c.tc : Thread Cert.AbInRefIdeal.nD Cert.AbInRefIdeal.τ).loc Cert.AbInRefIdeal.main_arg7) = m' ((c.tc : Thread Cert.AbInRefIdeal.nD Cert.AbInRefIdeal.τ).loc Cert.AbInRefIdeal.main_arg7)
          ∧ r.2.mem ((c.tc : Thread Cert.AbInRefIdeal.nD Cert.AbInRefIdeal.τ).loc Cert.AbInRefIdeal.main_arg8) = m' ((c.tc : Thread Cert.AbInRefIdeal.nD Cert.AbInRefIdeal.τ).loc Cert.AbInRefIdeal.main_arg8)
          ∧ r.2.mem ((c.tc : Thread Cert.AbInRefIdeal.nD Cert.AbInRefIdeal.τ).loc Cert.AbInRefIdeal.main_arg9) = m' ((c.tc : Thread Cert.AbInRefIdeal.nD Cert.AbInRefIdeal.τ).loc Cert.AbInRefIdeal.main_arg9)
          ∧ r.2.mem ((c.tc : Thread Cert.AbInRefIdeal.nD Cert.AbInRefIdeal.τ).loc Cert.AbInRefIdeal.main_arg10) = m' ((c.tc : Thread Cert.AbInRefIdeal.nD Cert.AbInRefIdeal.τ).loc Cert.AbInRefIdeal.main_arg10))

def preserves_CdIn_CdInIdeal : Prop :=
  True

def algebraic_CdInIdeal_CdInRefIdeal_pre_inputs_finite [hCdInIdeal : Cert.CdInIdeal.Facts] [hCdInRefIdeal : Cert.CdInRefIdeal.Facts] [hPre_inputs_finite : Cert.Pre_inputs_finite.Facts] : Prop :=
  ∀ (m : (ℓ : Loc Cert.CdInIdeal.nD Cert.CdInIdeal.τ Cert.CdInIdeal.sig) → Buf (Elt Ideal) ℓ) (g : Dev Cert.CdInIdeal.nD → PrngReg)
    (m' : (ℓ : Loc Cert.CdInRefIdeal.nD Cert.CdInRefIdeal.τ Cert.CdInRefIdeal.sig) → Buf (Elt Ideal) ℓ) (g' : Dev Cert.CdInRefIdeal.nD → PrngReg), Pre_CdInIdeal_inputs_finite m →
    (∀ c : Dev Cert.CdInIdeal.nD,
      m' ((c.tc : Thread Cert.CdInRefIdeal.nD Cert.CdInRefIdeal.τ).loc Cert.CdInRefIdeal.main_arg0) = m ((c.tc : Thread Cert.CdInIdeal.nD Cert.CdInIdeal.τ).loc Cert.CdInIdeal.main_arg0)
      ∧ m' ((c.tc : Thread Cert.CdInRefIdeal.nD Cert.CdInRefIdeal.τ).loc Cert.CdInRefIdeal.main_arg1) = m ((c.tc : Thread Cert.CdInIdeal.nD Cert.CdInIdeal.τ).loc Cert.CdInIdeal.main_arg1)
      ∧ m' ((c.tc : Thread Cert.CdInRefIdeal.nD Cert.CdInRefIdeal.τ).loc Cert.CdInRefIdeal.main_arg2) = m ((c.tc : Thread Cert.CdInIdeal.nD Cert.CdInIdeal.τ).loc Cert.CdInIdeal.main_arg2)
      ∧ m' ((c.tc : Thread Cert.CdInRefIdeal.nD Cert.CdInRefIdeal.τ).loc Cert.CdInRefIdeal.main_arg3) = m ((c.tc : Thread Cert.CdInIdeal.nD Cert.CdInIdeal.τ).loc Cert.CdInIdeal.main_arg3)
      ∧ m' ((c.tc : Thread Cert.CdInRefIdeal.nD Cert.CdInRefIdeal.τ).loc Cert.CdInRefIdeal.main_arg4) = m ((c.tc : Thread Cert.CdInIdeal.nD Cert.CdInIdeal.τ).loc Cert.CdInIdeal.main_arg4)
      ∧ m' ((c.tc : Thread Cert.CdInRefIdeal.nD Cert.CdInRefIdeal.τ).loc Cert.CdInRefIdeal.main_arg5) = m ((c.tc : Thread Cert.CdInIdeal.nD Cert.CdInIdeal.τ).loc Cert.CdInIdeal.main_arg5)
      ∧ m' ((c.tc : Thread Cert.CdInRefIdeal.nD Cert.CdInRefIdeal.τ).loc Cert.CdInRefIdeal.main_arg6) = m ((c.tc : Thread Cert.CdInIdeal.nD Cert.CdInIdeal.τ).loc Cert.CdInIdeal.main_arg6)
      ∧ m' ((c.tc : Thread Cert.CdInRefIdeal.nD Cert.CdInRefIdeal.τ).loc Cert.CdInRefIdeal.main_arg7) = m ((c.tc : Thread Cert.CdInIdeal.nD Cert.CdInIdeal.τ).loc Cert.CdInIdeal.main_arg7)
      ∧ m' ((c.tc : Thread Cert.CdInRefIdeal.nD Cert.CdInRefIdeal.τ).loc Cert.CdInRefIdeal.main_arg8) = m ((c.tc : Thread Cert.CdInIdeal.nD Cert.CdInIdeal.τ).loc Cert.CdInIdeal.main_arg8)
      ∧ m' ((c.tc : Thread Cert.CdInRefIdeal.nD Cert.CdInRefIdeal.τ).loc Cert.CdInRefIdeal.main_arg9) = m ((c.tc : Thread Cert.CdInIdeal.nD Cert.CdInIdeal.τ).loc Cert.CdInIdeal.main_arg9)
      ∧ m' ((c.tc : Thread Cert.CdInRefIdeal.nD Cert.CdInRefIdeal.τ).loc Cert.CdInRefIdeal.main_arg10) = m ((c.tc : Thread Cert.CdInIdeal.nD Cert.CdInIdeal.τ).loc Cert.CdInIdeal.main_arg10)
      ∧ m' ((c.tc : Thread Cert.CdInRefIdeal.nD Cert.CdInRefIdeal.τ).loc Cert.CdInRefIdeal.main_arg11) = m ((c.tc : Thread Cert.CdInIdeal.nD Cert.CdInIdeal.τ).loc Cert.CdInIdeal.main_arg11)
      ∧ m' ((c.tc : Thread Cert.CdInRefIdeal.nD Cert.CdInRefIdeal.τ).loc Cert.CdInRefIdeal.main_arg12) = m ((c.tc : Thread Cert.CdInIdeal.nD Cert.CdInIdeal.τ).loc Cert.CdInIdeal.main_arg12)
      ∧ m' ((c.tc : Thread Cert.CdInRefIdeal.nD Cert.CdInRefIdeal.τ).loc Cert.CdInRefIdeal.main_arg13) = m ((c.tc : Thread Cert.CdInIdeal.nD Cert.CdInIdeal.τ).loc Cert.CdInIdeal.main_arg13)
      ∧ m' ((c.tc : Thread Cert.CdInRefIdeal.nD Cert.CdInRefIdeal.τ).loc Cert.CdInRefIdeal.main_arg14) = m ((c.tc : Thread Cert.CdInIdeal.nD Cert.CdInIdeal.τ).loc Cert.CdInIdeal.main_arg14)) →
    ∃ (v0 : (c : Dev Cert.CdInIdeal.nD) → Buf (Elt Ideal) ((c.tc : Thread Cert.CdInIdeal.nD Cert.CdInIdeal.τ).loc Cert.CdInIdeal.main_v49_0)) (v1 : (c : Dev Cert.CdInIdeal.nD) → Buf (Elt Ideal) ((c.tc : Thread Cert.CdInIdeal.nD Cert.CdInIdeal.τ).loc Cert.CdInIdeal.main_v49_1)) (v2 : (c : Dev Cert.CdInIdeal.nD) → Buf (Elt Ideal) ((c.tc : Thread Cert.CdInIdeal.nD Cert.CdInIdeal.τ).loc Cert.CdInIdeal.main_v49_2)) (v3 : (c : Dev Cert.CdInIdeal.nD) → Buf (Elt Ideal) ((c.tc : Thread Cert.CdInIdeal.nD Cert.CdInIdeal.τ).loc Cert.CdInIdeal.main_v49_3)) (v4 : (c : Dev Cert.CdInIdeal.nD) → Buf (Elt Ideal) ((c.tc : Thread Cert.CdInIdeal.nD Cert.CdInIdeal.τ).loc Cert.CdInIdeal.main_v49_4)) (v5 : (c : Dev Cert.CdInIdeal.nD) → Buf (Elt Ideal) ((c.tc : Thread Cert.CdInIdeal.nD Cert.CdInIdeal.τ).loc Cert.CdInIdeal.main_v49_5)) (v6 : (c : Dev Cert.CdInIdeal.nD) → Buf (Elt Ideal) ((c.tc : Thread Cert.CdInIdeal.nD Cert.CdInIdeal.τ).loc Cert.CdInIdeal.main_v49_6)) (v7 : (c : Dev Cert.CdInIdeal.nD) → Buf (Elt Ideal) ((c.tc : Thread Cert.CdInIdeal.nD Cert.CdInIdeal.τ).loc Cert.CdInIdeal.main_v49_7)) (v8 : (c : Dev Cert.CdInIdeal.nD) → Buf (Elt Ideal) ((c.tc : Thread Cert.CdInIdeal.nD Cert.CdInIdeal.τ).loc Cert.CdInIdeal.main_v49_8)) (v9 : (c : Dev Cert.CdInIdeal.nD) → Buf (Elt Ideal) ((c.tc : Thread Cert.CdInIdeal.nD Cert.CdInIdeal.τ).loc Cert.CdInIdeal.main_v49_9)) (v10 : (c : Dev Cert.CdInIdeal.nD) → Buf (Elt Ideal) ((c.tc : Thread Cert.CdInIdeal.nD Cert.CdInIdeal.τ).loc Cert.CdInIdeal.main_v49_10)),
      θ_run (Cert.CdInIdeal.defs (F := Ideal)) (onTc (τ := Cert.CdInIdeal.τ) (Cert.CdInIdeal.main (F := Ideal))) ⟨m, fun _ => 0, g⟩ (fun r => ∀ c : Dev Cert.CdInIdeal.nD,
          r.2.mem ((c.tc : Thread Cert.CdInIdeal.nD Cert.CdInIdeal.τ).loc Cert.CdInIdeal.main_v49_0) = v0 c
          ∧ r.2.mem ((c.tc : Thread Cert.CdInIdeal.nD Cert.CdInIdeal.τ).loc Cert.CdInIdeal.main_v49_1) = v1 c
          ∧ r.2.mem ((c.tc : Thread Cert.CdInIdeal.nD Cert.CdInIdeal.τ).loc Cert.CdInIdeal.main_v49_2) = v2 c
          ∧ r.2.mem ((c.tc : Thread Cert.CdInIdeal.nD Cert.CdInIdeal.τ).loc Cert.CdInIdeal.main_v49_3) = v3 c
          ∧ r.2.mem ((c.tc : Thread Cert.CdInIdeal.nD Cert.CdInIdeal.τ).loc Cert.CdInIdeal.main_v49_4) = v4 c
          ∧ r.2.mem ((c.tc : Thread Cert.CdInIdeal.nD Cert.CdInIdeal.τ).loc Cert.CdInIdeal.main_v49_5) = v5 c
          ∧ r.2.mem ((c.tc : Thread Cert.CdInIdeal.nD Cert.CdInIdeal.τ).loc Cert.CdInIdeal.main_v49_6) = v6 c
          ∧ r.2.mem ((c.tc : Thread Cert.CdInIdeal.nD Cert.CdInIdeal.τ).loc Cert.CdInIdeal.main_v49_7) = v7 c
          ∧ r.2.mem ((c.tc : Thread Cert.CdInIdeal.nD Cert.CdInIdeal.τ).loc Cert.CdInIdeal.main_v49_8) = v8 c
          ∧ r.2.mem ((c.tc : Thread Cert.CdInIdeal.nD Cert.CdInIdeal.τ).loc Cert.CdInIdeal.main_v49_9) = v9 c
          ∧ r.2.mem ((c.tc : Thread Cert.CdInIdeal.nD Cert.CdInIdeal.τ).loc Cert.CdInIdeal.main_v49_10) = v10 c
          ∧ r.2.mem ((c.tc : Thread Cert.CdInIdeal.nD Cert.CdInIdeal.τ).loc Cert.CdInIdeal.main_arg0) = m ((c.tc : Thread Cert.CdInIdeal.nD Cert.CdInIdeal.τ).loc Cert.CdInIdeal.main_arg0)
          ∧ r.2.mem ((c.tc : Thread Cert.CdInIdeal.nD Cert.CdInIdeal.τ).loc Cert.CdInIdeal.main_arg1) = m ((c.tc : Thread Cert.CdInIdeal.nD Cert.CdInIdeal.τ).loc Cert.CdInIdeal.main_arg1)
          ∧ r.2.mem ((c.tc : Thread Cert.CdInIdeal.nD Cert.CdInIdeal.τ).loc Cert.CdInIdeal.main_arg2) = m ((c.tc : Thread Cert.CdInIdeal.nD Cert.CdInIdeal.τ).loc Cert.CdInIdeal.main_arg2)
          ∧ r.2.mem ((c.tc : Thread Cert.CdInIdeal.nD Cert.CdInIdeal.τ).loc Cert.CdInIdeal.main_arg3) = m ((c.tc : Thread Cert.CdInIdeal.nD Cert.CdInIdeal.τ).loc Cert.CdInIdeal.main_arg3)
          ∧ r.2.mem ((c.tc : Thread Cert.CdInIdeal.nD Cert.CdInIdeal.τ).loc Cert.CdInIdeal.main_arg4) = m ((c.tc : Thread Cert.CdInIdeal.nD Cert.CdInIdeal.τ).loc Cert.CdInIdeal.main_arg4)
          ∧ r.2.mem ((c.tc : Thread Cert.CdInIdeal.nD Cert.CdInIdeal.τ).loc Cert.CdInIdeal.main_arg5) = m ((c.tc : Thread Cert.CdInIdeal.nD Cert.CdInIdeal.τ).loc Cert.CdInIdeal.main_arg5)
          ∧ r.2.mem ((c.tc : Thread Cert.CdInIdeal.nD Cert.CdInIdeal.τ).loc Cert.CdInIdeal.main_arg6) = m ((c.tc : Thread Cert.CdInIdeal.nD Cert.CdInIdeal.τ).loc Cert.CdInIdeal.main_arg6)
          ∧ r.2.mem ((c.tc : Thread Cert.CdInIdeal.nD Cert.CdInIdeal.τ).loc Cert.CdInIdeal.main_arg7) = m ((c.tc : Thread Cert.CdInIdeal.nD Cert.CdInIdeal.τ).loc Cert.CdInIdeal.main_arg7)
          ∧ r.2.mem ((c.tc : Thread Cert.CdInIdeal.nD Cert.CdInIdeal.τ).loc Cert.CdInIdeal.main_arg8) = m ((c.tc : Thread Cert.CdInIdeal.nD Cert.CdInIdeal.τ).loc Cert.CdInIdeal.main_arg8)
          ∧ r.2.mem ((c.tc : Thread Cert.CdInIdeal.nD Cert.CdInIdeal.τ).loc Cert.CdInIdeal.main_arg9) = m ((c.tc : Thread Cert.CdInIdeal.nD Cert.CdInIdeal.τ).loc Cert.CdInIdeal.main_arg9)
          ∧ r.2.mem ((c.tc : Thread Cert.CdInIdeal.nD Cert.CdInIdeal.τ).loc Cert.CdInIdeal.main_arg10) = m ((c.tc : Thread Cert.CdInIdeal.nD Cert.CdInIdeal.τ).loc Cert.CdInIdeal.main_arg10)
          ∧ r.2.mem ((c.tc : Thread Cert.CdInIdeal.nD Cert.CdInIdeal.τ).loc Cert.CdInIdeal.main_arg11) = m ((c.tc : Thread Cert.CdInIdeal.nD Cert.CdInIdeal.τ).loc Cert.CdInIdeal.main_arg11)
          ∧ r.2.mem ((c.tc : Thread Cert.CdInIdeal.nD Cert.CdInIdeal.τ).loc Cert.CdInIdeal.main_arg12) = m ((c.tc : Thread Cert.CdInIdeal.nD Cert.CdInIdeal.τ).loc Cert.CdInIdeal.main_arg12)
          ∧ r.2.mem ((c.tc : Thread Cert.CdInIdeal.nD Cert.CdInIdeal.τ).loc Cert.CdInIdeal.main_arg13) = m ((c.tc : Thread Cert.CdInIdeal.nD Cert.CdInIdeal.τ).loc Cert.CdInIdeal.main_arg13)
          ∧ r.2.mem ((c.tc : Thread Cert.CdInIdeal.nD Cert.CdInIdeal.τ).loc Cert.CdInIdeal.main_arg14) = m ((c.tc : Thread Cert.CdInIdeal.nD Cert.CdInIdeal.τ).loc Cert.CdInIdeal.main_arg14))
      ∧ θ_run (Cert.CdInRefIdeal.defs (F := Ideal)) (onTc (τ := Cert.CdInRefIdeal.τ) (Cert.CdInRefIdeal.main (F := Ideal))) ⟨m', fun _ => 0, g'⟩ (fun r => ∀ c : Dev Cert.CdInRefIdeal.nD,
          r.2.mem ((c.tc : Thread Cert.CdInRefIdeal.nD Cert.CdInRefIdeal.τ).loc Cert.CdInRefIdeal.main_v328) = v0 c
          ∧ r.2.mem ((c.tc : Thread Cert.CdInRefIdeal.nD Cert.CdInRefIdeal.τ).loc Cert.CdInRefIdeal.main_v329) = v1 c
          ∧ r.2.mem ((c.tc : Thread Cert.CdInRefIdeal.nD Cert.CdInRefIdeal.τ).loc Cert.CdInRefIdeal.main_v330) = v2 c
          ∧ r.2.mem ((c.tc : Thread Cert.CdInRefIdeal.nD Cert.CdInRefIdeal.τ).loc Cert.CdInRefIdeal.main_v331) = v3 c
          ∧ r.2.mem ((c.tc : Thread Cert.CdInRefIdeal.nD Cert.CdInRefIdeal.τ).loc Cert.CdInRefIdeal.main_v332) = v4 c
          ∧ r.2.mem ((c.tc : Thread Cert.CdInRefIdeal.nD Cert.CdInRefIdeal.τ).loc Cert.CdInRefIdeal.main_v333) = v5 c
          ∧ r.2.mem ((c.tc : Thread Cert.CdInRefIdeal.nD Cert.CdInRefIdeal.τ).loc Cert.CdInRefIdeal.main_v337) = v6 c
          ∧ r.2.mem ((c.tc : Thread Cert.CdInRefIdeal.nD Cert.CdInRefIdeal.τ).loc Cert.CdInRefIdeal.main_v341) = v7 c
          ∧ r.2.mem ((c.tc : Thread Cert.CdInRefIdeal.nD Cert.CdInRefIdeal.τ).loc Cert.CdInRefIdeal.main_v345) = v8 c
          ∧ r.2.mem ((c.tc : Thread Cert.CdInRefIdeal.nD Cert.CdInRefIdeal.τ).loc Cert.CdInRefIdeal.main_v346) = v9 c
          ∧ r.2.mem ((c.tc : Thread Cert.CdInRefIdeal.nD Cert.CdInRefIdeal.τ).loc Cert.CdInRefIdeal.main_v353) = v10 c
          ∧ r.2.mem ((c.tc : Thread Cert.CdInRefIdeal.nD Cert.CdInRefIdeal.τ).loc Cert.CdInRefIdeal.main_arg0) = m' ((c.tc : Thread Cert.CdInRefIdeal.nD Cert.CdInRefIdeal.τ).loc Cert.CdInRefIdeal.main_arg0)
          ∧ r.2.mem ((c.tc : Thread Cert.CdInRefIdeal.nD Cert.CdInRefIdeal.τ).loc Cert.CdInRefIdeal.main_arg1) = m' ((c.tc : Thread Cert.CdInRefIdeal.nD Cert.CdInRefIdeal.τ).loc Cert.CdInRefIdeal.main_arg1)
          ∧ r.2.mem ((c.tc : Thread Cert.CdInRefIdeal.nD Cert.CdInRefIdeal.τ).loc Cert.CdInRefIdeal.main_arg2) = m' ((c.tc : Thread Cert.CdInRefIdeal.nD Cert.CdInRefIdeal.τ).loc Cert.CdInRefIdeal.main_arg2)
          ∧ r.2.mem ((c.tc : Thread Cert.CdInRefIdeal.nD Cert.CdInRefIdeal.τ).loc Cert.CdInRefIdeal.main_arg3) = m' ((c.tc : Thread Cert.CdInRefIdeal.nD Cert.CdInRefIdeal.τ).loc Cert.CdInRefIdeal.main_arg3)
          ∧ r.2.mem ((c.tc : Thread Cert.CdInRefIdeal.nD Cert.CdInRefIdeal.τ).loc Cert.CdInRefIdeal.main_arg4) = m' ((c.tc : Thread Cert.CdInRefIdeal.nD Cert.CdInRefIdeal.τ).loc Cert.CdInRefIdeal.main_arg4)
          ∧ r.2.mem ((c.tc : Thread Cert.CdInRefIdeal.nD Cert.CdInRefIdeal.τ).loc Cert.CdInRefIdeal.main_arg5) = m' ((c.tc : Thread Cert.CdInRefIdeal.nD Cert.CdInRefIdeal.τ).loc Cert.CdInRefIdeal.main_arg5)
          ∧ r.2.mem ((c.tc : Thread Cert.CdInRefIdeal.nD Cert.CdInRefIdeal.τ).loc Cert.CdInRefIdeal.main_arg6) = m' ((c.tc : Thread Cert.CdInRefIdeal.nD Cert.CdInRefIdeal.τ).loc Cert.CdInRefIdeal.main_arg6)
          ∧ r.2.mem ((c.tc : Thread Cert.CdInRefIdeal.nD Cert.CdInRefIdeal.τ).loc Cert.CdInRefIdeal.main_arg7) = m' ((c.tc : Thread Cert.CdInRefIdeal.nD Cert.CdInRefIdeal.τ).loc Cert.CdInRefIdeal.main_arg7)
          ∧ r.2.mem ((c.tc : Thread Cert.CdInRefIdeal.nD Cert.CdInRefIdeal.τ).loc Cert.CdInRefIdeal.main_arg8) = m' ((c.tc : Thread Cert.CdInRefIdeal.nD Cert.CdInRefIdeal.τ).loc Cert.CdInRefIdeal.main_arg8)
          ∧ r.2.mem ((c.tc : Thread Cert.CdInRefIdeal.nD Cert.CdInRefIdeal.τ).loc Cert.CdInRefIdeal.main_arg9) = m' ((c.tc : Thread Cert.CdInRefIdeal.nD Cert.CdInRefIdeal.τ).loc Cert.CdInRefIdeal.main_arg9)
          ∧ r.2.mem ((c.tc : Thread Cert.CdInRefIdeal.nD Cert.CdInRefIdeal.τ).loc Cert.CdInRefIdeal.main_arg10) = m' ((c.tc : Thread Cert.CdInRefIdeal.nD Cert.CdInRefIdeal.τ).loc Cert.CdInRefIdeal.main_arg10)
          ∧ r.2.mem ((c.tc : Thread Cert.CdInRefIdeal.nD Cert.CdInRefIdeal.τ).loc Cert.CdInRefIdeal.main_arg11) = m' ((c.tc : Thread Cert.CdInRefIdeal.nD Cert.CdInRefIdeal.τ).loc Cert.CdInRefIdeal.main_arg11)
          ∧ r.2.mem ((c.tc : Thread Cert.CdInRefIdeal.nD Cert.CdInRefIdeal.τ).loc Cert.CdInRefIdeal.main_arg12) = m' ((c.tc : Thread Cert.CdInRefIdeal.nD Cert.CdInRefIdeal.τ).loc Cert.CdInRefIdeal.main_arg12)
          ∧ r.2.mem ((c.tc : Thread Cert.CdInRefIdeal.nD Cert.CdInRefIdeal.τ).loc Cert.CdInRefIdeal.main_arg13) = m' ((c.tc : Thread Cert.CdInRefIdeal.nD Cert.CdInRefIdeal.τ).loc Cert.CdInRefIdeal.main_arg13)
          ∧ r.2.mem ((c.tc : Thread Cert.CdInRefIdeal.nD Cert.CdInRefIdeal.τ).loc Cert.CdInRefIdeal.main_arg14) = m' ((c.tc : Thread Cert.CdInRefIdeal.nD Cert.CdInRefIdeal.τ).loc Cert.CdInRefIdeal.main_arg14))

def Claim : Prop :=
  ∃ (hMlp : Cert.Mlp.Facts) (hMlpIdeal : Cert.MlpIdeal.Facts) (hMlpRefIdeal : Cert.MlpRefIdeal.Facts) (hAbOut : Cert.AbOut.Facts) (hAbOutIdeal : Cert.AbOutIdeal.Facts) (hAbOutRefIdeal : Cert.AbOutRefIdeal.Facts) (hLru : Cert.Lru.Facts) (hLruIdeal : Cert.LruIdeal.Facts) (hLruRefIdeal : Cert.LruRefIdeal.Facts) (hAbIn : Cert.AbIn.Facts) (hAbInIdeal : Cert.AbInIdeal.Facts) (hAbInRefIdeal : Cert.AbInRefIdeal.Facts) (hCdIn : Cert.CdIn.Facts) (hCdInIdeal : Cert.CdInIdeal.Facts) (hCdInRefIdeal : Cert.CdInRefIdeal.Facts) (hPre_inputs_finite : Cert.Pre_inputs_finite.Facts),
    quiescent_Mlp (hMlp := hMlp)
    ∧ quiescent_MlpIdeal (hMlpIdeal := hMlpIdeal)
    ∧ quiescent_MlpRefIdeal (hMlpRefIdeal := hMlpRefIdeal)
    ∧ quiescent_AbOut (hAbOut := hAbOut)
    ∧ quiescent_AbOutIdeal (hAbOutIdeal := hAbOutIdeal)
    ∧ quiescent_AbOutRefIdeal (hAbOutRefIdeal := hAbOutRefIdeal)
    ∧ quiescent_Lru (hLru := hLru)
    ∧ quiescent_LruIdeal (hLruIdeal := hLruIdeal)
    ∧ quiescent_LruRefIdeal (hLruRefIdeal := hLruRefIdeal)
    ∧ quiescent_AbIn (hAbIn := hAbIn)
    ∧ quiescent_AbInIdeal (hAbInIdeal := hAbInIdeal)
    ∧ quiescent_AbInRefIdeal (hAbInRefIdeal := hAbInRefIdeal)
    ∧ quiescent_CdIn (hCdIn := hCdIn)
    ∧ quiescent_CdInIdeal (hCdInIdeal := hCdInIdeal)
    ∧ quiescent_CdInIdeal_pre_inputs_finite (hCdInIdeal := hCdInIdeal) (hPre_inputs_finite := hPre_inputs_finite)
    ∧ quiescent_CdInRefIdeal (hCdInRefIdeal := hCdInRefIdeal)
    ∧ quiescent_CdInRefIdeal_pre_inputs_finite (hCdInRefIdeal := hCdInRefIdeal) (hPre_inputs_finite := hPre_inputs_finite)
    ∧ preserves_Mlp_MlpIdeal
    ∧ algebraic_MlpIdeal_MlpRefIdeal (hMlpIdeal := hMlpIdeal) (hMlpRefIdeal := hMlpRefIdeal)
    ∧ preserves_AbOut_AbOutIdeal
    ∧ algebraic_AbOutIdeal_AbOutRefIdeal (hAbOutIdeal := hAbOutIdeal) (hAbOutRefIdeal := hAbOutRefIdeal)
    ∧ preserves_Lru_LruIdeal
    ∧ algebraic_LruIdeal_LruRefIdeal (hLruIdeal := hLruIdeal) (hLruRefIdeal := hLruRefIdeal)
    ∧ preserves_AbIn_AbInIdeal
    ∧ algebraic_AbInIdeal_AbInRefIdeal (hAbInIdeal := hAbInIdeal) (hAbInRefIdeal := hAbInRefIdeal)
    ∧ preserves_CdIn_CdInIdeal
    ∧ algebraic_CdInIdeal_CdInRefIdeal_pre_inputs_finite (hCdInIdeal := hCdInIdeal) (hCdInRefIdeal := hCdInRefIdeal) (hPre_inputs_finite := hPre_inputs_finite)
-- ==== Pre_inputs_finite.lean ====
abbrev S8x4096x1024 : Shape := ⟨3, ![8, 4096, 1024]⟩
abbrev S8x6x1024 : Shape := ⟨3, ![8, 6, 1024]⟩
abbrev S1024x3584 : Shape := ⟨2, ![1024, 3584]⟩
abbrev S3x1536 : Shape := ⟨2, ![3, 1536]⟩
abbrev S4x512 : Shape := ⟨2, ![4, 512]⟩
abbrev S2x1024 : Shape := ⟨2, ![2, 1024]⟩
abbrev S2x512 : Shape := ⟨2, ![2, 512]⟩
abbrev S2x1024x64 : Shape := ⟨3, ![2, 1024, 64]⟩
abbrev S2x64x512 : Shape := ⟨3, ![2, 64, 512]⟩
abbrev S512 : Shape := ⟨1, ![512]⟩
abbrev S8x64 : Shape := ⟨2, ![8, 64]⟩
abbrev S_ : Shape := ⟨0, ![]⟩

class Facts : Prop where
  bcast_S_S8x4096x1024 : S_.BroadcastsInDim S8x4096x1024 (![] : Fin 0 → Fin S8x4096x1024.rank)
  bcast_S_S8x6x1024 : S_.BroadcastsInDim S8x6x1024 (![] : Fin 0 → Fin S8x6x1024.rank)
  bcast_S_S1024x3584 : S_.BroadcastsInDim S1024x3584 (![] : Fin 0 → Fin S1024x3584.rank)
  bcast_S_S4x512 : S_.BroadcastsInDim S4x512 (![] : Fin 0 → Fin S4x512.rank)
  bcast_S_S512 : S_.BroadcastsInDim S512 (![] : Fin 0 → Fin S512.rank)
  bcast_S_S8x64 : S_.BroadcastsInDim S8x64 (![] : Fin 0 → Fin S8x64.rank)

variable [Facts]

def fn_part1 {F : FTy → Type} [FloatOps F] (main_arg14 : FVec F S8x64 .f32) (main_v2 : IVec S8x4096x1024 1) (main_v5 : IVec S8x6x1024 1) (main_v8 : IVec S1024x3584 1) (main_v11 : IVec S4x512 1) (main_v14 : IVec S512 1) (main_v17 : IVec S512 1) : IVec S8x4096x1024 1 × IVec S8x6x1024 1 × IVec S1024x3584 1 × IVec S4x512 1 × IVec S512 1 × IVec S512 1 × IVec S8x64 1 :=
  let main_v18 : FVec F S8x64 .f32 := Host.absf main_arg14
  let main_cst_5 : FVec F S_ .f32 := constant S_ .f32 0x7F800000#32
  let main_v19 : FVec F S8x64 .f32 := broadcastInDim S8x64 ![] bcast_S_S8x64 main_cst_5
  let main_v20 : IVec S8x64 1 := cmpf .olt main_v18 main_v19
  (main_v2, main_v5, main_v8, main_v11, main_v14, main_v17, main_v20)

def fn {F : FTy → Type} [FloatOps F] (main_arg0 : FVec F S8x4096x1024 .f32) (main_arg1 : FVec F S8x6x1024 .f32) (main_arg2 : FVec F S1024x3584 .f32) (main_arg3 : FVec F S3x1536 .f32) (main_arg4 : FVec F S4x512 .f32) (main_arg5 : FVec F S2x1024 .f32) (main_arg6 : FVec F S2x512 .f32) (main_arg7 : FVec F S2x1024x64 .f32) (main_arg8 : FVec F S2x64x512 .f32) (main_arg9 : FVec F S2x512 .f32) (main_arg10 : FVec F S2x1024x64 .f32) (main_arg11 : FVec F S2x64x512 .f32) (main_arg12 : FVec F S512 .f32) (main_arg13 : FVec F S512 .f32) (main_arg14 : FVec F S8x64 .f32) : IVec S8x4096x1024 1 × IVec S8x6x1024 1 × IVec S1024x3584 1 × IVec S4x512 1 × IVec S512 1 × IVec S512 1 × IVec S8x64 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x6x1024 .f32 := Host.absf main_arg1
  let main_cst_0 : FVec F S_ .f32 := constant S_ .f32 0x7F800000#32
  let main_v4 : FVec F S8x6x1024 .f32 := broadcastInDim S8x6x1024 ![] bcast_S_S8x6x1024 main_cst_0
  let main_v5 : IVec S8x6x1024 1 := cmpf .olt main_v3 main_v4
  let main_v6 : FVec F S1024x3584 .f32 := Host.absf main_arg2
  let main_cst_1 : FVec F S_ .f32 := constant S_ .f32 0x7F800000#32
  let main_v7 : FVec F S1024x3584 .f32 := broadcastInDim S1024x3584 ![] bcast_S_S1024x3584 main_cst_1
  let main_v8 : IVec S1024x3584 1 := cmpf .olt main_v6 main_v7
  let main_v9 : FVec F S4x512 .f32 := Host.absf main_arg4
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_v12 : FVec F S512 .f32 := Host.absf main_arg12
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512 .f32 := Host.absf main_arg13
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg14 main_v2 main_v5 main_v8 main_v11 main_v14 main_v17
-- ==== Mlp.lean ====
abbrev S8x4096x1024 : Shape := ⟨3, ![8, 4096, 1024]⟩
abbrev S8x6x1024 : Shape := ⟨3, ![8, 6, 1024]⟩
abbrev S1024x4096 : Shape := ⟨2, ![1024, 4096]⟩
abbrev S4096x1024 : Shape := ⟨2, ![4096, 1024]⟩
abbrev S1024 : Shape := ⟨1, ![1024]⟩
abbrev S32768x1024 : Shape := ⟨2, ![32768, 1024]⟩
abbrev S1x1024 : Shape := ⟨2, ![1, 1024]⟩
abbrev S256x1024 : Shape := ⟨2, ![256, 1024]⟩
abbrev S1x6x1024 : Shape := ⟨3, ![1, 6, 1024]⟩
abbrev S6x1024 : Shape := ⟨2, ![6, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x4096, .bf16⟩
  | .local _ .vmem, ⟨5, _⟩ => ⟨S4096x1024, .bf16⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpRefIdeal.lean ====
abbrev S8x4096x1024 : Shape := ⟨3, ![8, 4096, 1024]⟩
abbrev S8x6x1024 : Shape := ⟨3, ![8, 6, 1024]⟩
abbrev S1024x4096 : Shape := ⟨2, ![1024, 4096]⟩
abbrev S4096x1024 : Shape := ⟨2, ![4096, 1024]⟩
abbrev S1024 : Shape := ⟨1, ![1024]⟩
abbrev S8x1x1024 : Shape := ⟨3, ![8, 1, 1024]⟩
abbrev S8x1024 : Shape := ⟨2, ![8, 1024]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S8x1x1024, .f32⟩
  | .hbm, ⟨7, _⟩ => ⟨S8x1024, .f32⟩
  | .hbm, ⟨8, _⟩ => ⟨S8x1x1024, .f32⟩
  | .hbm, ⟨9, _⟩ => ⟨S8x1x1024, .f32⟩
  | .hbm, ⟨10, _⟩ => ⟨S8x1024, .f32⟩
  | .hbm, ⟨11, _⟩ => ⟨S8x1x1024, .f32⟩
  | .hbm, ⟨12, _⟩ => ⟨S8x1x1024, .f32⟩
  | .hbm, ⟨13, _⟩ => ⟨S8x1024, .f32⟩
  | .hbm, ⟨14, _⟩ => ⟨S8x1x1024, .f32⟩
  | .hbm, ⟨15, _⟩ => ⟨S_, .f32⟩
  | .hbm, ⟨16, _⟩ => ⟨S8x1x1024, .f32⟩
  | .hbm, ⟨17, _⟩ => ⟨S8x1x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x4096, .f32⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x1024, .f32⟩
  | .hbm, ⟨28, _⟩ => ⟨S_, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x1024, .f32⟩
  | .hbm, ⟨54, _⟩ => ⟨S8x4096x1024, .f32⟩
  | .hbm, ⟨55, _⟩ => ⟨S1x1x1024, .f32⟩
  | .hbm, ⟨56, _⟩ => ⟨S8x4096x1024, .f32⟩
  | .hbm, ⟨57, _⟩ => ⟨S8x4096x1024, .f32⟩
  | .hbm, ⟨58, _⟩ => ⟨S1x1x1024, .f32⟩
  | .hbm, ⟨59, _⟩ => ⟨S8x4096x1024, .f32⟩
  | .hbm, ⟨60, _⟩ => ⟨S8x4096x1024, .f32⟩
  | .hbm, ⟨61, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== AbOut.lean ====
abbrev S8x4096x1024 : Shape := ⟨3, ![8, 4096, 1024]⟩
abbrev S8x6x1024 : Shape := ⟨3, ![8, 6, 1024]⟩
abbrev S32768x512 : Shape := ⟨2, ![32768, 512]⟩
abbrev S8x4096x512 : Shape := ⟨3, ![8, 4096, 512]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S256x1024 : Shape := ⟨2, ![256, 1024]⟩
abbrev S1x6x1024 : Shape := ⟨3, ![1, 6, 1024]⟩
abbrev S256x512 : Shape := ⟨2, ![256, 512]⟩
abbrev S6x1024 : Shape := ⟨2, ![6, 1024]⟩
abbrev S512x1024 : Shape := ⟨2, ![512, 1024]⟩
abbrev S256 : Shape := ⟨1, ![256]⟩
abbrev S256x1 : Shape := ⟨2, ![256, 1]⟩

abbrev nBuf : Space → Nat
  | .hbm => 16
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S32768x512, .f32⟩
  | .hbm, ⟨3, _⟩ => ⟨S32768x512, .f32⟩
  | .hbm, ⟨4, _⟩ => ⟨S8x4096x512, .f32⟩
  | .hbm, ⟨5, _⟩ => ⟨S8x4096x512, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S32768x1024, .f32⟩
  | .hbm, ⟨10, _⟩ => ⟨S32768x512, .f32⟩
  | .hbm, ⟨11, _⟩ => ⟨S32768x512, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AbOutRefIdeal.lean ====
abbrev S8x4096x1024 : Shape := ⟨3, ![8, 4096, 1024]⟩
abbrev S8x6x1024 : Shape := ⟨3, ![8, 6, 1024]⟩
abbrev S32768x512 : Shape := ⟨2, ![32768, 512]⟩
abbrev S8x4096x512 : Shape := ⟨3, ![8, 4096, 512]⟩
abbrev S1024x1024 : Shape := ⟨2, ![1024, 1024]⟩
abbrev S1024 : Shape := ⟨1, ![1024]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S32768x512, .f32⟩
  | .hbm, ⟨3, _⟩ => ⟨S32768x512, .f32⟩
  | .hbm, ⟨4, _⟩ => ⟨S8x4096x512, .f32⟩
  | .hbm, ⟨5, _⟩ => ⟨S8x4096x512, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S8x1x1024, .f32⟩
  | .hbm, ⟨10, _⟩ => ⟨S8x1024, .f32⟩
  | .hbm, ⟨11, _⟩ => ⟨S8x1x1024, .f32⟩
  | .hbm, ⟨12, _⟩ => ⟨S8x4096x512, .f32⟩
  | .hbm, ⟨13, _⟩ => ⟨S8x4096x512, .f32⟩
  | .hbm, ⟨14, _⟩ => ⟨S8x4096x512, .f32⟩
  | .hbm, ⟨15, _⟩ => ⟨S8x4096x512, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x1024, .f32⟩
  | .hbm, ⟨44, _⟩ => ⟨S8x4096x1024, .f32⟩
  | .hbm, ⟨45, _⟩ => ⟨S1x1x1024, .f32⟩
  | .hbm, ⟨46, _⟩ => ⟨S8x4096x1024, .f32⟩
  | .hbm, ⟨47, _⟩ => ⟨S8x4096x1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | .hbm, ⟨51, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Lru.lean ====
abbrev S2x32768x512 : Shape := ⟨3, ![2, 32768, 512]⟩
abbrev S8x2x512 : Shape := ⟨3, ![8, 2, 512]⟩
abbrev S2x8x4096x512 : Shape := ⟨4, ![2, 8, 4096, 512]⟩
abbrev S8x4096x512 : Shape := ⟨3, ![8, 4096, 512]⟩
abbrev S1x1x512x512 : Shape := ⟨4, ![1, 1, 512, 512]⟩
abbrev S1x2x512 : Shape := ⟨3, ![1, 2, 512]⟩
abbrev S1x512x512 : Shape := ⟨3, ![1, 512, 512]⟩
abbrev S2x512 : Shape := ⟨2, ![2, 512]⟩
abbrev S1x512 : Shape := ⟨2, ![1, 512]⟩
abbrev S1x1x1x512 : Shape := ⟨4, ![1, 1, 1, 512]⟩
abbrev S1x1x512 : Shape := ⟨3, ![1, 1, 512]⟩

abbrev nBuf : Space → Nat
  | .hbm => 8
  | .vmem => 17
  | .smem => 0
  | _ => 0

abbrev bufTy : (tb : Table) → Fin (tcTables nBuf tb) → BufTy
  | .hbm, ⟨0, _⟩ => ⟨S2x32768x512, .f32⟩
  | .hbm, ⟨1, _⟩ => ⟨S2x32768x512, .f32⟩
  | .hbm, ⟨2, _⟩ => ⟨S8x2x512, .f32⟩
  | .hbm, ⟨3, _⟩ => ⟨S2x8x4096x512, .f32⟩
  | .hbm, ⟨4, _⟩ => ⟨S2x8x4096x512, .f32⟩
  | .hbm, ⟨5, _⟩ => ⟨S8x4096x512, .f32⟩
  | .hbm, ⟨6, _⟩ => ⟨S8x4096x512, .f32⟩
  | .hbm, ⟨7, _⟩ => ⟨S8x2x512, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1x1x512x512, .f32⟩
  | .local _ .vmem, ⟨7, _⟩ => ⟨S1x1x512x512, .f32⟩
  | .local _ .vmem, ⟨8, _⟩ => ⟨S1x2x512, .f32⟩
  | .local _ .vmem, ⟨9, _⟩ => ⟨S1x2x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x2x512, .f32⟩
  | .local _ .vmem, ⟨15, _⟩ => ⟨S1x2x512, .f32⟩
  | .local _ .vmem, ⟨16, _⟩ => ⟨S2x512, .f32⟩
  | _, _ => ⟨S2x32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_3 : BitVec 32 := 0#32
  let c512_i32 : BitVec 32 := 512#32
  let v5 : BitVec 32 := Scalar.addi c0_i32_3 c512_i32
  let c1_i32 : BitVec 32 := 1#32
  ⟨c0_i32_3, v5, c1_i32⟩
def k0_off1 (k0_t1 : Fin k0_t1_loop.trips) : Fin 4 → Nat :=
  let c0_10 : Index := 0#32
  let c0_11 : Index := 0#32
  let c0_i32_3 : BitVec 32 := 0#32
  let c1_i32 : BitVec 32 := 1#32
  let arg11 : BitVec 32 := Scf.iv c0_i32_3 c1_i32 k0_t1
  let v17 : Index := Scalar.indexCast arg11
  let c0_12 : Index := 0#32
  ![0, 0, v17.toNat, 0]
def k0_off2 (k0_t1 : Fin k0_t1_loop.trips) : Fin 4 → Nat :=
  let c0_16 : Index := 0#32
  let c0_17 : Index := 0#32
  let c511_i32 : BitVec 32 := 511#32
  let c0_i32_3 : BitVec 32 := 0#32
  let c1_i32 : BitVec 32 := 1#32
  let arg11 : BitVec 32 := Scf.iv c0_i32_3 c1_i32 k0_t1
  let v16 : BitVec 32 := Scalar.subi c511_i32 arg11
  let v25 : Index := Scalar.indexCast v16
  let c0_18 : Index := 0#32
  ![0, 0, v25.toNat, 0]
def k0_off3 (k0_t1 : Fin k0_t1_loop.trips) : Fin 3 → Nat :=
  let c0_22 : Index := 0#32
  let c0_i32_3 : BitVec 32 := 0#32
  let c1_i32 : BitVec 32 := 1#32
  let arg11 : BitVec 32 := Scf.iv c0_i32_3 c1_i32 k0_t1
  let v33 : Index := Scalar.indexCast arg11
  let c0_23 : Index := 0#32
  ![0, v33.toNat, 0]
def k0_off4 (k0_t1 : Fin k0_t1_loop.trips) : Fin 3 → Nat :=
  let c0_24 : Index := 0#32
  let c511_i32 : BitVec 32 := 511#32
  let c0_i32_3 : BitVec 32 := 0#32
  let c1_i32 : BitVec 32 := 1#32
  let arg11 : BitVec 32 := Scf.iv c0_i32_3 c1_i32 k0_t1
  let v16 : BitVec 32 := Scalar.subi c511_i32 arg11
  let v37 : Index := Scalar.indexCast v16
  let c0_25 : Index := 0#32
  ![0, v37.toNat, 0]
def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_9 : BitVec 32 := 0#32
  let v15 : BitVec 1 := Scalar.cmpi .ne v14 c0_i32_9
  v15

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let c0_i32 : BitVec 32 := 0#32
  let c0_i32_0 : BitVec 32 := 0#32
  ![c1_i32.toNat, arg0.toNat, v0.toNat, c0_i32.toNat]

def cc0_transform_3 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let c0_i32 : BitVec 32 := 0#32
  let c0_i32_0 : BitVec 32 := 0#32
  ![c1_i32.toNat, arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== LruRefIdeal.lean ====
abbrev S2x32768x512 : Shape := ⟨3, ![2, 32768, 512]⟩
abbrev S8x2x512 : Shape := ⟨3, ![8, 2, 512]⟩
abbrev S2x8x4096x512 : Shape := ⟨4, ![2, 8, 4096, 512]⟩
abbrev S1x8x4096x512 : Shape := ⟨4, ![1, 8, 4096, 512]⟩
abbrev S8x4096x512 : Shape := ⟨3, ![8, 4096, 512]⟩
abbrev S2x8x512 : Shape := ⟨3, ![2, 8, 512]⟩
abbrev S4096x2x8x512 : Shape := ⟨4, ![4096, 2, 8, 512]⟩
abbrev S_ : Shape := ⟨0, ![]⟩
abbrev S1x2x8x512 : Shape := ⟨4, ![1, 2, 8, 512]⟩

abbrev nBuf : Space → Nat
  | .hbm => 60
  | .vmem => 0
  | .smem => 0
  | _ => 0

abbrev bufTy : (tb : Table) → Fin (tcTables nBuf tb) → BufTy
  | .hbm, ⟨0, _⟩ => ⟨S2x32768x512, .f32⟩
  | .hbm, ⟨1, _⟩ => ⟨S2x32768x512, .f32⟩
  | .hbm, ⟨2, _⟩ => ⟨S8x2x512, .f32⟩
  | .hbm, ⟨3, _⟩ => ⟨S2x8x4096x512, .f32⟩
  | .hbm, ⟨4, _⟩ => ⟨S2x8x4096x512, .f32⟩
  | .hbm, ⟨5, _⟩ => ⟨S1x8x4096x512, .f32⟩
  | .hbm, ⟨6, _⟩ => ⟨S8x4096x512, .f32⟩
  | .hbm, ⟨7, _⟩ => ⟨S1x8x4096x512, .f32⟩
  | .hbm, ⟨8, _⟩ => ⟨S8x4096x512, .f32⟩
  | .hbm, ⟨9, _⟩ => ⟨S8x4096x512, .f32⟩
  | .hbm, ⟨10, _⟩ => ⟨S1x8x4096x512, .f32⟩
  | .hbm, ⟨11, _⟩ => ⟨S1x8x4096x512, .f32⟩
  | .hbm, ⟨12, _⟩ => ⟨S2x8x4096x512, .f32⟩
  | .hbm, ⟨13, _⟩ => ⟨S1x8x4096x512, .f32⟩
  | .hbm, ⟨14, _⟩ => ⟨S8x4096x512, .f32⟩
  | .hbm, ⟨15, _⟩ => ⟨S1x8x4096x512, .f32⟩
  | .hbm, ⟨16, _⟩ => ⟨S8x4096x512, .f32⟩
  | .hbm, ⟨17, _⟩ => ⟨S8x4096x512, .f32⟩
  | .hbm, ⟨18, _⟩ => ⟨S1x8x4096x512, .f32⟩
  | .hbm, ⟨19, _⟩ => ⟨S1x8x4096x512, .f32⟩
  | .hbm, ⟨20, _⟩ => ⟨S2x8x4096x512, .f32⟩
  | .hbm, ⟨21, _⟩ => ⟨S2x8x512, .f32⟩
  | .hbm, ⟨22, _⟩ => ⟨S4096x2x8x512, .f32⟩
  | .hbm, ⟨23, _⟩ => ⟨S4096x2x8x512, .f32⟩
  | .hbm, ⟨24, _⟩ => ⟨S_, .f32⟩
  | .hbm, ⟨25, _⟩ => ⟨S4096x2x8x512, .f32⟩
  | .hbm, ⟨26, _⟩ => ⟨S_, .i32⟩
  | .hbm, ⟨27, _⟩ => ⟨S4096x2x8x512, .f32⟩
  | .hbm, ⟨28, _⟩ => ⟨S4096x2x8x512, .f32⟩
  | .hbm, ⟨29, _⟩ => ⟨S_, .i32⟩
  | .hbm, ⟨30, _⟩ => ⟨S2x8x512, .f32⟩
  | .hbm, ⟨31, _⟩ => ⟨S4096x2x8x512, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x2x8x512, .f32⟩
  | .hbm, ⟨38, _⟩ => ⟨S2x8x512, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x2x8x512, .f32⟩
  | .hbm, ⟨43, _⟩ => ⟨S2x8x512, .f32⟩
  | .hbm, ⟨44, _⟩ => ⟨S2x8x512, .f32⟩
  | .hbm, ⟨45, _⟩ => ⟨S2x8x512, .f32⟩
  | .hbm, ⟨46, _⟩ => ⟨S1x2x8x512, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S4096x2x8x512, .f32⟩
  | .hbm, ⟨51, _⟩ => ⟨S_, .i32⟩
  | .hbm, ⟨52, _⟩ => ⟨S_, .i32⟩
  | .hbm, ⟨53, _⟩ => ⟨S2x8x4096x512, .f32⟩
  | .hbm, ⟨54, _⟩ => ⟨S1x8x4096x512, .f32⟩
  | .hbm, ⟨55, _⟩ => ⟨S8x4096x512, .f32⟩
  | .hbm, ⟨56, _⟩ => ⟨S1x8x4096x512, .f32⟩
  | .hbm, ⟨57, _⟩ => ⟨S8x4096x512, .f32⟩
  | .hbm, ⟨58, _⟩ => ⟨S8x4096x512, .f32⟩
  | .hbm, ⟨59, _⟩ => ⟨S8x2x512, .f32⟩
  | _, _ => ⟨S2x32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_c : Ref sig .tc := ⟨.hbm, 26, rfl⟩
abbrev main_v22_0 : Ref sig .tc := ⟨.hbm, 27, rfl⟩
abbrev main_v22_1 : Ref sig .tc := ⟨.hbm, 28, rfl⟩
abbrev main_v22_2 : Ref sig .tc := ⟨.hbm, 29, rfl⟩
abbrev main_v22_3 : Ref sig .tc := ⟨.hbm, 30, rfl⟩
abbrev main_v22_4 : Ref sig .tc := ⟨.hbm, 31, rfl⟩
abbrev main_while0c_c_4 : Ref sig .tc := ⟨.hbm, 32, rfl⟩
abbrev main_while0c_v30 : Ref sig .tc := ⟨.hbm, 33, rfl⟩
abbrev main_while0b_call2_c : Ref sig .tc := ⟨.hbm, 34, rfl⟩
abbrev main_while0b_call2_c_0 : Ref sig .tc := ⟨.hbm, 35, rfl⟩
abbrev main_while0b_call2_c_1 : Ref sig .tc := ⟨.hbm, 36, rfl⟩
abbrev main_while0b_call2_v0 : Ref sig .tc := ⟨.hbm, 37, rfl⟩
abbrev main_while0b_v30 : Ref sig .tc := ⟨.hbm, 38, rfl⟩
abbrev main_while0b_call3_c : Ref sig .tc := ⟨.hbm, 39, rfl⟩
abbrev main_while0b_call3_c_0 : Ref sig .tc := ⟨.hbm, 40, rfl⟩
abbrev main_while0b_call3_c_1 : Ref sig .tc := ⟨.hbm, 41, rfl⟩
abbrev main_while0b_call3_v0 : Ref sig .tc := ⟨.hbm, 42, rfl⟩
abbrev main_while0b_v31 : Ref sig .tc := ⟨.hbm, 43, rfl⟩
abbrev main_while0b_v32 : Ref sig .tc := ⟨.hbm, 44, rfl⟩
abbrev main_while0b_v33 : Ref sig .tc := ⟨.hbm, 45, rfl⟩
abbrev main_while0b_call4_v0 : Ref sig .tc := ⟨.hbm, 46, rfl⟩
abbrev main_while0b_call4_c : Ref sig .tc := ⟨.hbm, 47, rfl⟩
abbrev main_while0b_call4_c_0 : Ref sig .tc := ⟨.hbm, 48, rfl⟩
abbrev main_while0b_call4_c_1 : Ref sig .tc := ⟨.hbm, 49, rfl⟩
abbrev main_while0b_v34 : Ref sig .tc := ⟨.hbm, 50, rfl⟩
abbrev main_while0b_c_4 : Ref sig .tc := ⟨.hbm, 51, rfl⟩
abbrev main_while0b_v35 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩

abbrev nD : Nat := 1
abbrev τ : Topo := Topo.v7x

variable {F : FTy → Type} [FloatOps F]

abbrev main_while0_count : Scf.Loop 32 := ⟨0#32, 4096#32, 1#32⟩
-- ==== AbIn.lean ====
abbrev S8x4096x1024 : Shape := ⟨3, ![8, 4096, 1024]⟩
abbrev S8x6x1024 : Shape := ⟨3, ![8, 6, 1024]⟩
abbrev S1024x2560 : Shape := ⟨2, ![1024, 2560]⟩
abbrev S3x512 : Shape := ⟨2, ![3, 512]⟩
abbrev S4x512 : Shape := ⟨2, ![4, 512]⟩
abbrev S512 : Shape := ⟨1, ![512]⟩
abbrev S2x8x64x64 : Shape := ⟨4, ![2, 8, 64, 64]⟩
abbrev S2x512 : Shape := ⟨2, ![2, 512]⟩
abbrev S1x8x64x64 : Shape := ⟨4, ![1, 8, 64, 64]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S1x512 : Shape := ⟨2, ![1, 512]⟩
abbrev S32768x1024 : Shape := ⟨2, ![32768, 1024]⟩
abbrev S512x2048 : Shape := ⟨2, ![512, 2048]⟩
abbrev S2048 : Shape := ⟨1, ![2048]⟩
abbrev S1x2048 : Shape := ⟨2, ![1, 2048]⟩
abbrev S32768x512 : Shape := ⟨2, ![32768, 512]⟩
abbrev S2x32768x512 : Shape := ⟨3, ![2, 32768, 512]⟩
abbrev S256x1024 : Shape := ⟨2, ![256, 1024]⟩
abbrev S1x6x1024 : Shape := ⟨3, ![1, 6, 1024]⟩
abbrev S256x512 : Shape := ⟨2, ![256, 512]⟩
abbrev S2x256x512 : Shape := ⟨3, ![2, 256, 512]⟩
abbrev S6x1024 : Shape := ⟨2, ![6, 1024]⟩
abbrev S1x1024 : Shape := ⟨2, ![1, 1024]⟩
abbrev S256x2560 : Shape := ⟨2, ![256, 2560]⟩
abbrev S256x2048 : Shape := ⟨2, ![256, 2048]⟩
abbrev S1x256x512 : Shape := ⟨3, ![1, 256, 512]⟩

abbrev nBuf : Space → Nat
  | .hbm => 105
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024x2560, .f32⟩
  | .hbm, ⟨3, _⟩ => ⟨S3x512, .f32⟩
  | .hbm, ⟨4, _⟩ => ⟨S4x512, .f32⟩
  | .hbm, ⟨5, _⟩ => ⟨S512, .f32⟩
  | .hbm, ⟨6, _⟩ => ⟨S2x8x64x64, .f32⟩
  | .hbm, ⟨7, _⟩ => ⟨S2x512, .f32⟩
  | .hbm, ⟨8, _⟩ => ⟨S2x8x64x64, .f32⟩
  | .hbm, ⟨9, _⟩ => ⟨S2x512, .f32⟩
  | .hbm, ⟨10, _⟩ => ⟨S2x512, .f32⟩
  | .hbm, ⟨11, _⟩ => ⟨S1x8x64x64, .f32⟩
  | .hbm, ⟨12, _⟩ => ⟨S8x64x64, .f32⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S8x8, .f32⟩
  | .hbm, ⟨20, _⟩ => ⟨S8x64x1x64, .f32⟩
  | .hbm, ⟨21, _⟩ => ⟨S8x1x8x1, .f32⟩
  | .hbm, ⟨22, _⟩ => ⟨S8x64x8x64, .f32⟩
  | .hbm, ⟨23, _⟩ => ⟨S8x64x8x64, .f32⟩
  | .hbm, ⟨24, _⟩ => ⟨S8x64x8x64, .f32⟩
  | .hbm, ⟨25, _⟩ => ⟨S512x512, .f32⟩
  | .hbm, ⟨26, _⟩ => ⟨S1x8x64x64, .f32⟩
  | .hbm, ⟨27, _⟩ => ⟨S8x64x64, .f32⟩
  | .hbm, ⟨28, _⟩ => ⟨S8x8, .i32⟩
  | .hbm, ⟨29, _⟩ => ⟨S8x8, .i32⟩
  | .hbm, ⟨30, _⟩ => ⟨S_, .i32⟩
  | .hbm, ⟨31, _⟩ => ⟨S8x8, .i32⟩
  | .hbm, ⟨32, _⟩ => ⟨S8x8, .i32⟩
  | .hbm, ⟨33, _⟩ => ⟨S8x8, .i1⟩
  | .hbm, ⟨34, _⟩ => ⟨S8x8, .f32⟩
  | .hbm, ⟨35, _⟩ => ⟨S8x64x1x64, .f32⟩
  | .hbm, ⟨36, _⟩ => ⟨S8x1x8x1, .f32⟩
  | .hbm, ⟨37, _⟩ => ⟨S8x64x8x64, .f32⟩
  | .hbm, ⟨38, _⟩ => ⟨S8x64x8x64, .f32⟩
  | .hbm, ⟨39, _⟩ => ⟨S8x64x8x64, .f32⟩
  | .hbm, ⟨40, _⟩ => ⟨S512x512, .f32⟩
  | .hbm, ⟨41, _⟩ => ⟨S1x8x64x64, .f32⟩
  | .hbm, ⟨42, _⟩ => ⟨S8x64x64, .f32⟩
  | .hbm, ⟨43, _⟩ => ⟨S8x8, .i32⟩
  | .hbm, ⟨44, _⟩ => ⟨S8x8, .i32⟩
  | .hbm, ⟨45, _⟩ => ⟨S_, .i32⟩
  | .hbm, ⟨46, _⟩ => ⟨S8x8, .i32⟩
  | .hbm, ⟨47, _⟩ => ⟨S8x8, .i32⟩
  | .hbm, ⟨48, _⟩ => ⟨S8x8, .i1⟩
  | .hbm, ⟨49, _⟩ => ⟨S8x8, .f32⟩
  | .hbm, ⟨50, _⟩ => ⟨S8x64x1x64, .f32⟩
  | .hbm, ⟨51, _⟩ => ⟨S8x1x8x1, .f32⟩
  | .hbm, ⟨52, _⟩ => ⟨S8x64x8x64, .f32⟩
  | .hbm, ⟨53, _⟩ => ⟨S8x64x8x64, .f32⟩
  | .hbm, ⟨54, _⟩ => ⟨S8x64x8x64, .f32⟩
  | .hbm, ⟨55, _⟩ => ⟨S512x512, .f32⟩
  | .hbm, ⟨56, _⟩ => ⟨S1x8x64x64, .f32⟩
  | .hbm, ⟨57, _⟩ => ⟨S8x64x64, .f32⟩
  | .hbm, ⟨58, _⟩ => ⟨S8x8, .i32⟩
  | .hbm, ⟨59, _⟩ => ⟨S8x8, .i32⟩
  | .hbm, ⟨60, _⟩ => ⟨S_, .i32⟩
  | .hbm, ⟨61, _⟩ => ⟨S8x8, .i32⟩
  | .hbm, ⟨62, _⟩ => ⟨S8x8, .i32⟩
  | .hbm, ⟨63, _⟩ => ⟨S8x8, .i1⟩
  | .hbm, ⟨64, _⟩ => ⟨S8x8, .f32⟩
  | .hbm, ⟨65, _⟩ => ⟨S8x64x1x64, .f32⟩
  | .hbm, ⟨66, _⟩ => ⟨S8x1x8x1, .f32⟩
  | .hbm, ⟨67, _⟩ => ⟨S8x64x8x64, .f32⟩
  | .hbm, ⟨68, _⟩ => ⟨S8x64x8x64, .f32⟩
  | .hbm, ⟨69, _⟩ => ⟨S8x64x8x64, .f32⟩
  | .hbm, ⟨70, _⟩ => ⟨S512x512, .f32⟩
  | .hbm, ⟨71, _⟩ => ⟨S1x512, .f32⟩
  | .hbm, ⟨72, _⟩ => ⟨S512, .f32⟩
  | .hbm, ⟨73, _⟩ => ⟨S1x512, .f32⟩
  | .hbm, ⟨74, _⟩ => ⟨S512, .f32⟩
  | .hbm, ⟨75, _⟩ => ⟨S1x512, .f32⟩
  | .hbm, ⟨76, _⟩ => ⟨S512, .f32⟩
  | .hbm, ⟨77, _⟩ => ⟨S1x512, .f32⟩
  | .hbm, ⟨78, _⟩ => ⟨S512, .f32⟩
  | .hbm, ⟨79, _⟩ => ⟨S32768x1024, .f32⟩
  | .hbm, ⟨80, _⟩ => ⟨S1024x2560, .bf16⟩
  | .hbm, ⟨81, _⟩ => ⟨S1x512, .f32⟩
  | .hbm, ⟨82, _⟩ => ⟨S512x2048, .f32⟩
  | .hbm, ⟨83, _⟩ => ⟨S512x2048, .bf16⟩
  | .hbm, ⟨84, _⟩ => ⟨S2048, .f32⟩
  | .hbm, ⟨85, _⟩ => ⟨S1x2048, .f32⟩
  | .hbm, ⟨86, _⟩ => ⟨S2x512, .f32⟩
  | .hbm, ⟨87, _⟩ => ⟨S_, .f32⟩
  | .hbm, ⟨88, _⟩ => ⟨S2x512, .f32⟩
  | .hbm, ⟨89, _⟩ => ⟨S2x512, .f32⟩
  | .hbm, ⟨90, _⟩ => ⟨S2x512, .f32⟩
  | .hbm, ⟨91, _⟩ => ⟨S2x512, .f32⟩
  | .hbm, ⟨92, _⟩ => ⟨S2x512, .i1⟩
  | .hbm, ⟨93, _⟩ => ⟨S2x512, .f32⟩
  | .hbm, ⟨94, _⟩ => ⟨S2x512, .f32⟩
  | .hbm, ⟨95, _⟩ => ⟨S2x512, .f32⟩
  | .hbm, ⟨96, _⟩ => ⟨S2x512, .f32⟩
  | .hbm, ⟨97, _⟩ => ⟨S2x512, .f32⟩
  | .hbm, ⟨98, _⟩ => ⟨S2x512, .f32⟩
  | .hbm, ⟨99, _⟩ => ⟨S2x512, .f32⟩
  | .hbm, ⟨100, _⟩ => ⟨S2x512, .f32⟩
  | .hbm, ⟨101, _⟩ => ⟨S32768x512, .f32⟩
  | .hbm, ⟨102, _⟩ => ⟨S32768x512, .f32⟩
  | .hbm, ⟨103, _⟩ => ⟨S2x32768x512, .f32⟩
  | .hbm, ⟨104, _⟩ => ⟨S2x32768x512, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x2560, .bf16⟩
  | .local _ .vmem, ⟨5, _⟩ => ⟨S3x512, .f32⟩
  | .local _ .vmem, ⟨6, _⟩ => ⟨S4x512, .f32⟩
  | .local _ .vmem, ⟨7, _⟩ => ⟨S1x512, .f32⟩
  | .local _ .vmem, ⟨8, _⟩ => ⟨S512x2048, .bf16⟩
  | .local _ .vmem, ⟨9, _⟩ => ⟨S1x2048, .f32⟩
  | .local _ .vmem, ⟨10, _⟩ => ⟨S2x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S2x256x512, .f32⟩
  | .local _ .vmem, ⟨16, _⟩ => ⟨S2x256x512, .f32⟩
  | .local _ .vmem, ⟨17, _⟩ => ⟨S2x256x512, .f32⟩
  | .local _ .vmem, ⟨18, _⟩ => ⟨S2x256x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_2 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_call0_cst : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_v8 : Ref sig .tc := ⟨.hbm, 96, rfl⟩
abbrev main_call0_v9 : Ref sig .tc := ⟨.hbm, 97, rfl⟩
abbrev main_call0_v10 : Ref sig .tc := ⟨.hbm, 98, rfl⟩
abbrev main_call0_v11 : Ref sig .tc := ⟨.hbm, 99, rfl⟩
abbrev main_v72 : Ref sig .tc := ⟨.hbm, 100, rfl⟩
abbrev main_v73_0 : Ref sig .tc := ⟨.hbm, 101, rfl⟩
abbrev main_v73_1 : Ref sig .tc := ⟨.hbm, 102, rfl⟩
abbrev main_v73_2 : Ref sig .tc := ⟨.hbm, 103, rfl⟩
abbrev main_v73_3 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== AbInRefIdeal.lean ====
abbrev S8x4096x1024 : Shape := ⟨3, ![8, 4096, 1024]⟩
abbrev S8x6x1024 : Shape := ⟨3, ![8, 6, 1024]⟩
abbrev S1024x2560 : Shape := ⟨2, ![1024, 2560]⟩
abbrev S3x512 : Shape := ⟨2, ![3, 512]⟩
abbrev S4x512 : Shape := ⟨2, ![4, 512]⟩
abbrev S512 : Shape := ⟨1, ![512]⟩
abbrev S2x8x64x64 : Shape := ⟨4, ![2, 8, 64, 64]⟩
abbrev S2x512 : Shape := ⟨2, ![2, 512]⟩
abbrev S8x1x1024 : Shape := ⟨3, ![8, 1, 1024]⟩
abbrev S8x1024 : Shape := ⟨2, ![8, 1024]⟩
abbrev S_ : Shape := ⟨0, ![]⟩
abbrev S8x4096x2560 : Shape := ⟨3, ![8, 4096, 2560]⟩
abbrev S8x4096x512 : Shape := ⟨3, ![8, 4096, 512]⟩
abbrev S8x4098x512 : Shape := ⟨3, ![8, 4098, 512]⟩
abbrev S4096 : Shape := ⟨1, ![4096]⟩
abbrev S1x512 : Shape := ⟨2, ![1, 512]⟩
abbrev S1x1x512 : Shape := ⟨3, ![1, 1, 512]⟩
abbrev S1x4096x1 : Shape := ⟨3, ![1, 4096, 1]⟩
abbrev S8x4099x512 : Shape := ⟨3, ![8, 4099, 512]⟩
abbrev S8x4096x8x64 : Shape := ⟨4, ![8, 4096, 8, 64]⟩
abbrev S1x8x64x64 : Shape := ⟨4, ![1, 8, 64, 64]⟩
abbrev S8x64x64 : Shape := ⟨3, ![8, 64, 64]⟩
abbrev S8x64x8x4096 : Shape := ⟨4, ![8, 64, 8, 4096]⟩
abbrev S32768x512 : Shape := ⟨2, ![32768, 512]⟩
abbrev S1x8x4096x512 : Shape := ⟨4, ![1, 8, 4096, 512]⟩
abbrev S2x8x4096x512 : Shape := ⟨4, ![2, 8, 4096, 512]⟩
abbrev S2x32768x512 : Shape := ⟨3, ![2, 32768, 512]⟩

abbrev nBuf : Space → Nat
  | .hbm => 356
  | .vmem => 0
  | .smem => 0
  | _ => 0

abbrev hbmTy0_0 (i : Nat) : BufTy := match i % 128 with
  | 0 => ⟨S8x4096x1024, .f32⟩
  | 1 => ⟨S8x6x1024, .f32⟩
  | 2 => ⟨S1024x2560, .f32⟩
  | 3 => ⟨S3x512, .f32⟩
  | 4 => ⟨S4x512, .f32⟩
  | 5 => ⟨S512, .f32⟩
  | 6 => ⟨S2x8x64x64, .f32⟩
  | 7 => ⟨S2x512, .f32⟩
  | 8 => ⟨S2x8x64x64, .f32⟩
  | 9 => ⟨S2x512, .f32⟩
  | 10 => ⟨S2x512, .f32⟩
  | 11 => ⟨S8x1x1024, .f32⟩
  | 12 => ⟨S8x1024, .f32⟩
  | 13 => ⟨S8x1x1024, .f32⟩
  | 14 => ⟨S8x1x1024, .f32⟩
  | 15 => ⟨S8x1024, .f32⟩
  | 16 => ⟨S8x1x1024, .f32⟩
  | 17 => ⟨S_, .f32⟩
  | 18 => ⟨S8x1x1024, .f32⟩
  | 19 => ⟨S8x1x1024, .f32⟩
  | 20 => ⟨S8x4096x1024, .f32⟩
  | 21 => ⟨S8x4096x1024, .f32⟩
  | 22 => ⟨S8x4096x1024, .f32⟩
  | 23 => ⟨S8x4096x1024, .f32⟩
  | 24 => ⟨S8x4096x2560, .f32⟩
  | 25 => ⟨S8x4096x512, .f32⟩
  | 26 => ⟨S8x4096x512, .f32⟩
  | 27 => ⟨S8x4096x512, .f32⟩
  | 28 => ⟨S8x4096x512, .f32⟩
  | 29 => ⟨S8x4096x512, .f32⟩
  | 30 => ⟨S8x4096x512, .f32⟩
  | 31 => ⟨S_, .i32⟩
  | 32 => ⟨S_, .f32⟩
  | 33 => ⟨S8x4098x512, .f32⟩
  | 34 => ⟨S4096, .i32⟩
  | 35 => ⟨S_, .i32⟩
  | 36 => ⟨S4096, .i32⟩
  | 37 => ⟨S4096, .i32⟩
  | 38 => ⟨S8x4096x512, .f32⟩
  | 39 => ⟨S1x512, .f32⟩
  | 40 => ⟨S512, .f32⟩
  | 41 => ⟨S1x1x512, .f32⟩
  | 42 => ⟨S8x4096x512, .f32⟩
  | 43 => ⟨S8x4096x512, .f32⟩
  | 44 => ⟨S_, .i32⟩
  | 45 => ⟨S4096, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S_, .i32⟩
  | 54 => ⟨S4096, .i32⟩
  | 55 => ⟨S4096, .i1⟩
  | 56 => ⟨S4096, .i1⟩
  | 57 => ⟨S1x4096x1, .i1⟩
  | 58 => ⟨S_, .f32⟩
  | 59 => ⟨S8x4096x512, .f32⟩
  | 60 => ⟨S8x4096x512, .i1⟩
  | 61 => ⟨S8x4096x512, .f32⟩
  | 62 => ⟨S_, .f32⟩
  | 63 => ⟨S8x4096x512, .f32⟩
  | 64 => ⟨S8x4096x512, .f32⟩
  | 65 => ⟨S8x4096x512, .f32⟩
  | 66 => ⟨S1x512, .f32⟩
  | 67 => ⟨S512, .f32⟩
  | 68 => ⟨S1x1x512, .f32⟩
  | 69 => ⟨S8x4096x512, .f32⟩
  | 70 => ⟨S8x4096x512, .f32⟩
  | 71 => ⟨S8x4096x512, .f32⟩
  | 72 => ⟨S8x4096x512, .f32⟩
  | 73 => ⟨S1x512, .f32⟩
  | 74 => ⟨S512, .f32⟩
  | 75 => ⟨S1x1x512, .f32⟩
  | 76 => ⟨S8x4096x512, .f32⟩
  | 77 => ⟨S8x4096x512, .f32⟩
  | 78 => ⟨S_, .i32⟩
  | 79 => ⟨S4096, .i32⟩
  | 80 => ⟨S4096, .i32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S_, .i32⟩
  | 88 => ⟨S4096, .i32⟩
  | 89 => ⟨S4096, .i1⟩
  | 90 => ⟨S4096, .i1⟩
  | 91 => ⟨S1x4096x1, .i1⟩
  | 92 => ⟨S_, .f32⟩
  | 93 => ⟨S8x4096x512, .f32⟩
  | 94 => ⟨S8x4096x512, .i1⟩
  | 95 => ⟨S8x4096x512, .f32⟩
  | 96 => ⟨S8x4096x512, .f32⟩
  | 97 => ⟨S8x4096x512, .f32⟩
  | 98 => ⟨S_, .i32⟩
  | 99 => ⟨S_, .f32⟩
  | 100 => ⟨S8x4099x512, .f32⟩
  | 101 => ⟨S4096, .i32⟩
  | 102 => ⟨S_, .i32⟩
  | 103 => ⟨S4096, .i32⟩
  | 104 => ⟨S4096, .i32⟩
  | 105 => ⟨S8x4096x512, .f32⟩
  | 106 => ⟨S1x512, .f32⟩
  | 107 => ⟨S512, .f32⟩
  | 108 => ⟨S1x1x512, .f32⟩
  | 109 => ⟨S8x4096x512, .f32⟩
  | 110 => ⟨S8x4096x512, .f32⟩
  | 111 => ⟨S_, .i32⟩
  | 112 => ⟨S4096, .i32⟩
  | 113 => ⟨S4096, .i32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S_, .i32⟩
  | 121 => ⟨S4096, .i32⟩
  | 122 => ⟨S4096, .i1⟩
  | 123 => ⟨S4096, .i1⟩
  | 124 => ⟨S1x4096x1, .i1⟩
  | 125 => ⟨S_, .f32⟩
  | 126 => ⟨S8x4096x512, .f32⟩
  | 127 => ⟨S8x4096x512, .i1⟩
  | _ => ⟨S8x4096x1024, .f32⟩

abbrev hbmTy0_1 (i : Nat) : BufTy := match i % 128 with
  | 0 => ⟨S8x4096x512, .f32⟩
  | 1 => ⟨S_, .f32⟩
  | 2 => ⟨S8x4096x512, .f32⟩
  | 3 => ⟨S8x4096x512, .f32⟩
  | 4 => ⟨S8x4096x512, .f32⟩
  | 5 => ⟨S1x512, .f32⟩
  | 6 => ⟨S512, .f32⟩
  | 7 => ⟨S1x1x512, .f32⟩
  | 8 => ⟨S8x4096x512, .f32⟩
  | 9 => ⟨S8x4096x512, .f32⟩
  | 10 => ⟨S_, .i32⟩
  | 11 => ⟨S4096, .i32⟩
  | 12 => ⟨S4096, .i32⟩
  | 13 => ⟨S_, .i32⟩
  | 14 => ⟨S4096, .i32⟩
  | 15 => ⟨S4096, .i1⟩
  | 16 => ⟨S_, .i32⟩
  | 17 => ⟨S4096, .i32⟩
  | 18 => ⟨S4096, .i32⟩
  | 19 => ⟨S_, .i32⟩
  | 20 => ⟨S4096, .i32⟩
  | 21 => ⟨S4096, .i1⟩
  | 22 => ⟨S4096, .i1⟩
  | 23 => ⟨S1x4096x1, .i1⟩
  | 24 => ⟨S_, .f32⟩
  | 25 => ⟨S8x4096x512, .f32⟩
  | 26 => ⟨S8x4096x512, .i1⟩
  | 27 => ⟨S8x4096x512, .f32⟩
  | 28 => ⟨S8x4096x512, .f32⟩
  | 29 => ⟨S8x4096x512, .f32⟩
  | 30 => ⟨S1x512, .f32⟩
  | 31 => ⟨S512, .f32⟩
  | 32 => ⟨S1x1x512, .f32⟩
  | 33 => ⟨S8x4096x512, .f32⟩
  | 34 => ⟨S8x4096x512, .f32⟩
  | 35 => ⟨S8x4096x512, .f32⟩
  | 36 => ⟨S8x4096x512, .f32⟩
  | 37 => ⟨S1x512, .f32⟩
  | 38 => ⟨S512, .f32⟩
  | 39 => ⟨S1x1x512, .f32⟩
  | 40 => ⟨S8x4096x512, .f32⟩
  | 41 => ⟨S8x4096x512, .f32⟩
  | 42 => ⟨S_, .i32⟩
  | 43 => ⟨S4096, .i32⟩
  | 44 => ⟨S4096, .i32⟩
  | 45 => ⟨S_, .i32⟩
  | 46 => ⟨S4096, .i32⟩
  | 47 => ⟨S4096, .i1⟩
  | 48 => ⟨S_, .i32⟩
  | 49 => ⟨S4096, .i32⟩
  | 50 => ⟨S4096, .i32⟩
  | 51 => ⟨S_, .i32⟩
  | 52 => ⟨S4096, .i32⟩
  | 53 => ⟨S4096, .i1⟩
  | 54 => ⟨S4096, .i1⟩
  | 55 => ⟨S1x4096x1, .i1⟩
  | 56 => ⟨S_, .f32⟩
  | 57 => ⟨S8x4096x512, .f32⟩
  | 58 => ⟨S8x4096x512, .i1⟩
  | 59 => ⟨S8x4096x512, .f32⟩
  | 60 => ⟨S8x4096x512, .f32⟩
  | 61 => ⟨S1x1x512, .f32⟩
  | 62 => ⟨S8x4096x512, .f32⟩
  | 63 => ⟨S8x4096x512, .f32⟩
  | 64 => ⟨S8x4096x8x64, .f32⟩
  | 65 => ⟨S1x8x64x64, .f32⟩
  | 66 => ⟨S8x64x64, .f32⟩
  | 67 => ⟨S8x64x8x4096, .f32⟩
  | 68 => ⟨S8x4096x8x64, .f32⟩
  | 69 => ⟨S8x4096x512, .f32⟩
  | 70 => ⟨S1x512, .f32⟩
  | 71 => ⟨S512, .f32⟩
  | 72 => ⟨S1x1x512, .f32⟩
  | 73 => ⟨S8x4096x512, .f32⟩
  | 74 => ⟨S8x4096x512, .f32⟩
  | 75 => ⟨S8x4096x512, .f32⟩
  | 76 => ⟨S8x4096x512, .f32⟩
  | 77 => ⟨S_, .f32⟩
  | 78 => ⟨S8x4096x512, .f32⟩
  | 79 => ⟨S8x4096x512, .f32⟩
  | 80 => ⟨S_, .f32⟩
  | 81 => ⟨S8x4096x512, .f32⟩
  | 82 => ⟨S8x4096x512, .f32⟩
  | 83 => ⟨S1x8x64x64, .f32⟩
  | 84 => ⟨S8x64x64, .f32⟩
  | 85 => ⟨S8x64x8x4096, .f32⟩
  | 86 => ⟨S8x4096x8x64, .f32⟩
  | 87 => ⟨S8x4096x512, .f32⟩
  | 88 => ⟨S1x512, .f32⟩
  | 89 => ⟨S512, .f32⟩
  | 90 => ⟨S1x1x512, .f32⟩
  | 91 => ⟨S8x4096x512, .f32⟩
  | 92 => ⟨S8x4096x512, .f32⟩
  | 93 => ⟨S8x4096x512, .f32⟩
  | 94 => ⟨S8x4096x512, .f32⟩
  | 95 => ⟨S_, .f32⟩
  | 96 => ⟨S8x4096x512, .f32⟩
  | 97 => ⟨S8x4096x512, .f32⟩
  | 98 => ⟨S_, .f32⟩
  | 99 => ⟨S8x4096x512, .f32⟩
  | 100 => ⟨S8x4096x512, .f32⟩
  | 101 => ⟨S_, .f32⟩
  | 102 => ⟨S8x4096x512, .f32⟩
  | 103 => ⟨S8x4096x512, .f32⟩
  | 104 => ⟨S1x512, .f32⟩
  | 105 => ⟨S512, .f32⟩
  | 106 => ⟨S512, .f32⟩
  | 107 => ⟨S_, .f32⟩
  | 108 => ⟨S512, .f32⟩
  | 109 => ⟨S512, .f32⟩
  | 110 => ⟨S512, .f32⟩
  | 111 => ⟨S512, .f32⟩
  | 112 => ⟨S512, .i1⟩
  | 113 => ⟨S512, .f32⟩
  | 114 => ⟨S512, .f32⟩
  | 115 => ⟨S512, .f32⟩
  | 116 => ⟨S512, .f32⟩
  | 117 => ⟨S512, .f32⟩
  | 118 => ⟨S512, .f32⟩
  | 119 => ⟨S512, .f32⟩
  | 120 => ⟨S512, .f32⟩
  | 121 => ⟨S1x1x512, .f32⟩
  | 122 => ⟨S8x4096x512, .f32⟩
  | 123 => ⟨S8x4096x512, .f32⟩
  | 124 => ⟨S8x4096x512, .f32⟩
  | 125 => ⟨S_, .f32⟩
  | 126 => ⟨S8x4096x512, .f32⟩
  | 127 => ⟨S8x4096x512, .f32⟩
  | _ => ⟨S8x4096x1024, .f32⟩

abbrev hbmTy0_2 (i : Nat) : BufTy := match i % 128 with
  | 0 => ⟨S8x4096x512, .f32⟩
  | 1 => ⟨S8x4096x512, .f32⟩
  | 2 => ⟨S8x4096x512, .f32⟩
  | 3 => ⟨S8x4096x512, .f32⟩
  | 4 => ⟨S8x4096x512, .f32⟩
  | 5 => ⟨S1x8x64x64, .f32⟩
  | 6 => ⟨S8x64x64, .f32⟩
  | 7 => ⟨S8x64x8x4096, .f32⟩
  | 8 => ⟨S8x4096x8x64, .f32⟩
  | 9 => ⟨S8x4096x512, .f32⟩
  | 10 => ⟨S1x512, .f32⟩
  | 11 => ⟨S512, .f32⟩
  | 12 => ⟨S1x1x512, .f32⟩
  | 13 => ⟨S8x4096x512, .f32⟩
  | 14 => ⟨S8x4096x512, .f32⟩
  | 15 => ⟨S8x4096x512, .f32⟩
  | 16 => ⟨S8x4096x512, .f32⟩
  | 17 => ⟨S_, .f32⟩
  | 18 => ⟨S8x4096x512, .f32⟩
  | 19 => ⟨S8x4096x512, .f32⟩
  | 20 => ⟨S_, .f32⟩
  | 21 => ⟨S8x4096x512, .f32⟩
  | 22 => ⟨S8x4096x512, .f32⟩
  | 23 => ⟨S1x8x64x64, .f32⟩
  | 24 => ⟨S8x64x64, .f32⟩
  | 25 => ⟨S8x64x8x4096, .f32⟩
  | 26 => ⟨S8x4096x8x64, .f32⟩
  | 27 => ⟨S8x4096x512, .f32⟩
  | 28 => ⟨S1x512, .f32⟩
  | 29 => ⟨S512, .f32⟩
  | 30 => ⟨S1x1x512, .f32⟩
  | 31 => ⟨S8x4096x512, .f32⟩
  | 32 => ⟨S8x4096x512, .f32⟩
  | 33 => ⟨S8x4096x512, .f32⟩
  | 34 => ⟨S8x4096x512, .f32⟩
  | 35 => ⟨S_, .f32⟩
  | 36 => ⟨S8x4096x512, .f32⟩
  | 37 => ⟨S8x4096x512, .f32⟩
  | 38 => ⟨S_, .f32⟩
  | 39 => ⟨S8x4096x512, .f32⟩
  | 40 => ⟨S8x4096x512, .f32⟩
  | 41 => ⟨S_, .f32⟩
  | 42 => ⟨S8x4096x512, .f32⟩
  | 43 => ⟨S8x4096x512, .f32⟩
  | 44 => ⟨S1x512, .f32⟩
  | 45 => ⟨S512, .f32⟩
  | 46 => ⟨S512, .f32⟩
  | 47 => ⟨S_, .f32⟩
  | 48 => ⟨S512, .f32⟩
  | 49 => ⟨S512, .f32⟩
  | 50 => ⟨S512, .f32⟩
  | 51 => ⟨S512, .f32⟩
  | 52 => ⟨S512, .i1⟩
  | 53 => ⟨S512, .f32⟩
  | 54 => ⟨S512, .f32⟩
  | 55 => ⟨S512, .f32⟩
  | 56 => ⟨S512, .f32⟩
  | 57 => ⟨S512, .f32⟩
  | 58 => ⟨S512, .f32⟩
  | 59 => ⟨S512, .f32⟩
  | 60 => ⟨S512, .f32⟩
  | 61 => ⟨S1x1x512, .f32⟩
  | 62 => ⟨S8x4096x512, .f32⟩
  | 63 => ⟨S8x4096x512, .f32⟩
  | 64 => ⟨S8x4096x512, .f32⟩
  | 65 => ⟨S_, .f32⟩
  | 66 => ⟨S8x4096x512, .f32⟩
  | 67 => ⟨S8x4096x512, .f32⟩
  | 68 => ⟨S8x4096x512, .f32⟩
  | 69 => ⟨S8x4096x512, .f32⟩
  | 70 => ⟨S8x4096x512, .f32⟩
  | 71 => ⟨S8x4096x512, .f32⟩
  | 72 => ⟨S8x4096x512, .f32⟩
  | 73 => ⟨S32768x512, .f32⟩
  | 74 => ⟨S8x4096x512, .f32⟩
  | 75 => ⟨S8x4096x512, .f32⟩
  | 76 => ⟨S_, .f32⟩
  | 77 => ⟨S8x4096x512, .f32⟩
  | 78 => ⟨S8x4096x512, .f32⟩
  | 79 => ⟨S8x4096x512, .f32⟩
  | 80 => ⟨S_, .f32⟩
  | 81 => ⟨S8x4096x512, .f32⟩
  | 82 => ⟨S8x4096x512, .f32⟩
  | 83 => ⟨S8x4096x512, .f32⟩
  | 84 => ⟨S_, .f32⟩
  | 85 => ⟨S8x4096x512, .f32⟩
  | 86 => ⟨S8x4096x512, .f32⟩
  | 87 => ⟨S_, .f32⟩
  | 88 => ⟨S8x4096x512, .f32⟩
  | 89 => ⟨S8x4096x512, .f32⟩
  | 90 => ⟨S8x4096x512, .f32⟩
  | 91 => ⟨S32768x512, .f32⟩
  | 92 => ⟨S1x8x4096x512, .f32⟩
  | 93 => ⟨S1x8x4096x512, .f32⟩
  | 94 => ⟨S2x8x4096x512, .f32⟩
  | 95 => ⟨S2x32768x512, .f32⟩
  | 96 => ⟨S1x8x4096x512, .f32⟩
  | 97 => ⟨S1x8x4096x512, .f32⟩
  | 98 => ⟨S2x8x4096x512, .f32⟩
  | 99 => ⟨S2x32768x512, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_c_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_1 : Ref sig .tc := ⟨.hbm, 44, rfl⟩
abbrev main_v29 : Ref sig .tc := ⟨.hbm, 45, rfl⟩
abbrev main_v30 : Ref sig .tc := ⟨.hbm, 46, rfl⟩
abbrev main_c_2 : Ref sig .tc := ⟨.hbm, 47, rfl⟩
abbrev main_v31 : Ref sig .tc := ⟨.hbm, 48, rfl⟩
abbrev main_v32 : Ref sig .tc := ⟨.hbm, 49, rfl⟩
abbrev main_c_3 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_call1_v0 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_7 : Ref sig .tc := ⟨.hbm, 78, rfl⟩
abbrev main_v56 : Ref sig .tc := ⟨.hbm, 79, rfl⟩
abbrev main_v57 : Ref sig .tc := ⟨.hbm, 80, rfl⟩
abbrev main_c_8 : Ref sig .tc := ⟨.hbm, 81, rfl⟩
abbrev main_v58 : Ref sig .tc := ⟨.hbm, 82, rfl⟩
abbrev main_v59 : Ref sig .tc := ⟨.hbm, 83, rfl⟩
abbrev main_c_9 : Ref sig .tc := ⟨.hbm, 84, rfl⟩
abbrev main_v60 : Ref sig .tc := ⟨.hbm, 85, rfl⟩
abbrev main_v61 : Ref sig .tc := ⟨.hbm, 86, rfl⟩
abbrev main_c_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_call2_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_12 : Ref sig .tc := ⟨.hbm, 98, rfl⟩
abbrev main_call3_v0 : Ref sig .tc := ⟨.hbm, 99, rfl⟩
abbrev main_v70 : Ref sig .tc := ⟨.hbm, 100, rfl⟩
abbrev main_v71 : Ref sig .tc := ⟨.hbm, 101, rfl⟩
abbrev main_c_13 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_14 : Ref sig .tc := ⟨.hbm, 111, rfl⟩
abbrev main_v80 : Ref sig .tc := ⟨.hbm, 112, rfl⟩
abbrev main_v81 : Ref sig .tc := ⟨.hbm, 113, rfl⟩
abbrev main_c_15 : Ref sig .tc := ⟨.hbm, 114, rfl⟩
abbrev main_v82 : Ref sig .tc := ⟨.hbm, 115, rfl⟩
abbrev main_v83 : Ref sig .tc := ⟨.hbm, 116, rfl⟩
abbrev main_c_16 : Ref sig .tc := ⟨.hbm, 117, rfl⟩
abbrev main_v84 : Ref sig .tc := ⟨.hbm, 118, rfl⟩
abbrev main_v85 : Ref sig .tc := ⟨.hbm, 119, rfl⟩
abbrev main_c_17 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_18 : Ref sig .tc := ⟨.hbm, 125, rfl⟩
abbrev main_v90 : Ref sig .tc := ⟨.hbm, 126, rfl⟩
abbrev main_call4_v0 : Ref sig .tc := ⟨.hbm, 127, rfl⟩
abbrev main_v91 : Ref sig .tc := ⟨.hbm, 128, rfl⟩
abbrev main_cst_19 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_20 : Ref sig .tc := ⟨.hbm, 138, rfl⟩
abbrev main_v100 : Ref sig .tc := ⟨.hbm, 139, rfl⟩
abbrev main_v101 : Ref sig .tc := ⟨.hbm, 140, rfl⟩
abbrev main_c_21 : Ref sig .tc := ⟨.hbm, 141, rfl⟩
abbrev main_v102 : Ref sig .tc := ⟨.hbm, 142, rfl⟩
abbrev main_v103 : Ref sig .tc := ⟨.hbm, 143, rfl⟩
abbrev main_c_22 : Ref sig .tc := ⟨.hbm, 144, rfl⟩
abbrev main_v104 : Ref sig .tc := ⟨.hbm, 145, rfl⟩
abbrev main_v105 : Ref sig .tc := ⟨.hbm, 146, rfl⟩
abbrev main_c_23 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_24 : Ref sig .tc := ⟨.hbm, 152, rfl⟩
abbrev main_v110 : Ref sig .tc := ⟨.hbm, 153, rfl⟩
abbrev main_call5_v0 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_c_25 : Ref sig .tc := ⟨.hbm, 170, rfl⟩
abbrev main_v126 : Ref sig .tc := ⟨.hbm, 171, rfl⟩
abbrev main_v127 : Ref sig .tc := ⟨.hbm, 172, rfl⟩
abbrev main_c_26 : Ref sig .tc := ⟨.hbm, 173, rfl⟩
abbrev main_v128 : Ref sig .tc := ⟨.hbm, 174, rfl⟩
abbrev main_v129 : Ref sig .tc := ⟨.hbm, 175, rfl⟩
abbrev main_c_27 : Ref sig .tc := ⟨.hbm, 176, rfl⟩
abbrev main_v130 : Ref sig .tc := ⟨.hbm, 177, rfl⟩
abbrev main_v131 : Ref sig .tc := ⟨.hbm, 178, rfl⟩
abbrev main_c_28 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_29 : Ref sig .tc := ⟨.hbm, 184, rfl⟩
abbrev main_v136 : Ref sig .tc := ⟨.hbm, 185, rfl⟩
abbrev main_call6_v0 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_30 : Ref sig .tc := ⟨.hbm, 205, rfl⟩
abbrev main_v155 : Ref sig .tc := ⟨.hbm, 206, rfl⟩
abbrev main_v156 : Ref sig .tc := ⟨.hbm, 207, rfl⟩
abbrev main_cst_31 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_cst_32 : Ref sig .tc := ⟨.hbm, 223, rfl⟩
abbrev main_v171 : Ref sig .tc := ⟨.hbm, 224, rfl⟩
abbrev main_v172 : Ref sig .tc := ⟨.hbm, 225, rfl⟩
abbrev main_cst_33 : Ref sig .tc := ⟨.hbm, 226, rfl⟩
abbrev main_v173 : Ref sig .tc := ⟨.hbm, 227, rfl⟩
abbrev main_v174 : Ref sig .tc := ⟨.hbm, 228, rfl⟩
abbrev main_cst_34 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_call7_cst : Ref sig .tc := ⟨.hbm, 235, rfl⟩
abbrev main_call7_v0 : Ref sig .tc := ⟨.hbm, 236, rfl⟩
abbrev main_call7_v1 : Ref sig .tc := ⟨.hbm, 237, rfl⟩
abbrev main_call7_v2 : Ref sig .tc := ⟨.hbm, 238, rfl⟩
abbrev main_call7_v3 : Ref sig .tc := ⟨.hbm, 239, rfl⟩
abbrev main_call7_v4 : Ref sig .tc := ⟨.hbm, 240, rfl⟩
abbrev main_call7_v5 : Ref sig .tc := ⟨.hbm, 241, rfl⟩
abbrev main_call7_v6 : Ref sig .tc := ⟨.hbm, 242, rfl⟩
abbrev main_call7_v7 : Ref sig .tc := ⟨.hbm, 243, rfl⟩
abbrev main_call7_v8 : Ref sig .tc := ⟨.hbm, 244, rfl⟩
abbrev main_call7_v9 : Ref sig .tc := ⟨.hbm, 245, rfl⟩
abbrev main_call7_v10 : Ref sig .tc := ⟨.hbm, 246, rfl⟩
abbrev main_call7_v11 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_cst_35 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_cst_36 : Ref sig .tc := ⟨.hbm, 273, rfl⟩
abbrev main_v204 : Ref sig .tc := ⟨.hbm, 274, rfl⟩
abbrev main_v205 : Ref sig .tc := ⟨.hbm, 275, rfl⟩
abbrev main_cst_37 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_cst_38 : Ref sig .tc := ⟨.hbm, 291, rfl⟩
abbrev main_v220 : Ref sig .tc := ⟨.hbm, 292, rfl⟩
abbrev main_v221 : Ref sig .tc := ⟨.hbm, 293, rfl⟩
abbrev main_cst_39 : Ref sig .tc := ⟨.hbm, 294, rfl⟩
abbrev main_v222 : Ref sig .tc := ⟨.hbm, 295, rfl⟩
abbrev main_v223 : Ref sig .tc := ⟨.hbm, 296, rfl⟩
abbrev main_cst_40 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_v228 : Ref sig .tc := ⟨.hbm, 302, rfl⟩
abbrev main_call8_cst : Ref sig .tc := ⟨.hbm, 303, rfl⟩
abbrev main_call8_v0 : Ref sig .tc := ⟨.hbm, 304, rfl⟩
abbrev main_call8_v1 : Ref sig .tc := ⟨.hbm, 305, rfl⟩
abbrev main_call8_v2 : Ref sig .tc := ⟨.hbm, 306, rfl⟩
abbrev main_call8_v3 : Ref sig .tc := ⟨.hbm, 307, rfl⟩
abbrev main_call8_v4 : Ref sig .tc := ⟨.hbm, 308, rfl⟩
abbrev main_call8_v5 : Ref sig .tc := ⟨.hbm, 309, rfl⟩
abbrev main_call8_v6 : Ref sig .tc := ⟨.hbm, 310, rfl⟩
abbrev main_call8_v7 : Ref sig .tc := ⟨.hbm, 311, rfl⟩
abbrev main_call8_v8 : Ref sig .tc := ⟨.hbm, 312, rfl⟩
abbrev main_call8_v9 : Ref sig .tc := ⟨.hbm, 313, rfl⟩
abbrev main_call8_v10 : Ref sig .tc := ⟨.hbm, 314, rfl⟩
abbrev main_call8_v11 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_cst_41 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_v238 : Ref sig .tc := ⟨.hbm, 326, rfl⟩
abbrev main_v239 : Ref sig .tc := ⟨.hbm, 327, rfl⟩
abbrev main_v240 : Ref sig .tc := ⟨.hbm, 328, rfl⟩
abbrev main_v241 : Ref sig .tc := ⟨.hbm, 329, rfl⟩
abbrev main_v242 : Ref sig .tc := ⟨.hbm, 330, rfl⟩
abbrev main_v243 : Ref sig .tc := ⟨.hbm, 331, rfl⟩
abbrev main_cst_42 : Ref sig .tc := ⟨.hbm, 332, rfl⟩
abbrev main_v244 : Ref sig .tc := ⟨.hbm, 333, rfl⟩
abbrev main_v245 : Ref sig .tc := ⟨.hbm, 334, rfl⟩
abbrev main_v246 : Ref sig .tc := ⟨.hbm, 335, rfl⟩
abbrev main_cst_43 : Ref sig .tc := ⟨.hbm, 336, rfl⟩
abbrev main_v247 : Ref sig .tc := ⟨.hbm, 337, rfl⟩
abbrev main_v248 : Ref sig .tc := ⟨.hbm, 338, rfl⟩
abbrev main_v249 : Ref sig .tc := ⟨.hbm, 339, rfl⟩
abbrev main_cst_44 : Ref sig .tc := ⟨.hbm, 340, rfl⟩
abbrev main_v250 : Ref sig .tc := ⟨.hbm, 341, rfl⟩
abbrev main_v251 : Ref sig .tc := ⟨.hbm, 342, rfl⟩
abbrev main_cst_45 : Ref sig .tc := ⟨.hbm, 343, rfl⟩
abbrev main_v252 : Ref sig .tc := ⟨.hbm, 344, rfl⟩
abbrev main_v253 : Ref sig .tc := ⟨.hbm, 345, rfl⟩
abbrev main_v254 : Ref sig .tc := ⟨.hbm, 346, rfl⟩
abbrev main_v255 : Ref sig .tc := ⟨.hbm, 347, rfl⟩
abbrev main_v256 : Ref sig .tc := ⟨.hbm, 348, rfl⟩
abbrev main_v257 : Ref sig .tc := ⟨.hbm, 349, rfl⟩
abbrev main_v258 : Ref sig .tc := ⟨.hbm, 350, rfl⟩
abbrev main_v259 : Ref sig .tc := ⟨.hbm, 351, rfl⟩
abbrev main_v260 : Ref sig .tc := ⟨.hbm, 352, rfl⟩
abbrev main_v261 : Ref sig .tc := ⟨.hbm, 353, rfl⟩
abbrev main_v262 : Ref sig .tc := ⟨.hbm, 354, rfl⟩
abbrev main_v263 : Ref sig .tc := ⟨.hbm, 355, rfl⟩

abbrev nD : Nat := 1
abbrev τ : Topo := Topo.v7x

variable {F : FTy → Type} [FloatOps F]
-- ==== CdIn.lean ====
abbrev S8x4096x1024 : Shape := ⟨3, ![8, 4096, 1024]⟩
abbrev S8x6x1024 : Shape := ⟨3, ![8, 6, 1024]⟩
abbrev S1024x3584 : Shape := ⟨2, ![1024, 3584]⟩
abbrev S3x1536 : Shape := ⟨2, ![3, 1536]⟩
abbrev S4x512 : Shape := ⟨2, ![4, 512]⟩
abbrev S2x1024 : Shape := ⟨2, ![2, 1024]⟩
abbrev S2x512 : Shape := ⟨2, ![2, 512]⟩
abbrev S2x1024x64 : Shape := ⟨3, ![2, 1024, 64]⟩
abbrev S2x64x512 : Shape := ⟨3, ![2, 64, 512]⟩
abbrev S512 : Shape := ⟨1, ![512]⟩
abbrev S8x64 : Shape := ⟨2, ![8, 64]⟩
abbrev S_ : Shape := ⟨0, ![]⟩
abbrev S64x512 : Shape := ⟨2, ![64, 512]⟩
abbrev S1x1024x64 : Shape := ⟨3, ![1, 1024, 64]⟩
abbrev S1024x64 : Shape := ⟨2, ![1024, 64]⟩
abbrev S1024x256 : Shape := ⟨2, ![1024, 256]⟩
abbrev S1x64x512 : Shape := ⟨3, ![1, 64, 512]⟩
abbrev S64x1024 : Shape := ⟨2, ![64, 1024]⟩
abbrev S256x1024 : Shape := ⟨2, ![256, 1024]⟩
abbrev S1024 : Shape := ⟨1, ![1024]⟩
abbrev S1x1024 : Shape := ⟨2, ![1, 1024]⟩
abbrev S32768x1024 : Shape := ⟨2, ![32768, 1024]⟩
abbrev S1x512 : Shape := ⟨2, ![1, 512]⟩
abbrev S8x64x64 : Shape := ⟨3, ![8, 64, 64]⟩
abbrev S8x8 : Shape := ⟨2, ![8, 8]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S32768x512 : Shape := ⟨2, ![32768, 512]⟩
abbrev S2x32768x512 : Shape := ⟨3, ![2, 32768, 512]⟩
abbrev S1x6x1024 : Shape := ⟨3, ![1, 6, 1024]⟩
abbrev S256x512 : Shape := ⟨2, ![256, 512]⟩
abbrev S2x256x512 : Shape := ⟨3, ![2, 256, 512]⟩
abbrev S6x1024 : Shape := ⟨2, ![6, 1024]⟩
abbrev S256x3584 : Shape := ⟨2, ![256, 3584]⟩
abbrev S256x1536 : Shape := ⟨2, ![256, 1536]⟩
abbrev S1x1536 : Shape := ⟨2, ![1, 1536]⟩
abbrev S1024x128 : Shape := ⟨2, ![1024, 128]⟩
abbrev S256x128 : Shape := ⟨2, ![256, 128]⟩
abbrev S128x1024 : Shape := ⟨2, ![128, 1024]⟩
abbrev S1x256x512 : Shape := ⟨3, ![1, 256, 512]⟩

abbrev nBuf : Space → Nat
  | .hbm => 78
  | .vmem => 37
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024x3584, .f32⟩
  | .hbm, ⟨3, _⟩ => ⟨S3x1536, .f32⟩
  | .hbm, ⟨4, _⟩ => ⟨S4x512, .f32⟩
  | .hbm, ⟨5, _⟩ => ⟨S2x1024, .f32⟩
  | .hbm, ⟨6, _⟩ => ⟨S2x512, .f32⟩
  | .hbm, ⟨7, _⟩ => ⟨S2x1024x64, .f32⟩
  | .hbm, ⟨8, _⟩ => ⟨S2x64x512, .f32⟩
  | .hbm, ⟨9, _⟩ => ⟨S2x512, .f32⟩
  | .hbm, ⟨10, _⟩ => ⟨S2x1024x64, .f32⟩
  | .hbm, ⟨11, _⟩ => ⟨S2x64x512, .f32⟩
  | .hbm, ⟨12, _⟩ => ⟨S512, .f32⟩
  | .hbm, ⟨13, _⟩ => ⟨S512, .f32⟩
  | .hbm, ⟨14, _⟩ => ⟨S8x64, .f32⟩
  | .hbm, ⟨15, _⟩ => ⟨S_, .f32⟩
  | .hbm, ⟨16, _⟩ => ⟨S64x512, .f32⟩
  | .hbm, ⟨17, _⟩ => ⟨S1x1024x64, .f32⟩
  | .hbm, ⟨18, _⟩ => ⟨S1024x64, .f32⟩
  | .hbm, ⟨19, _⟩ => ⟨S1x1024x64, .f32⟩
  | .hbm, ⟨20, _⟩ => ⟨S1024x64, .f32⟩
  | .hbm, ⟨21, _⟩ => ⟨S1x1024x64, .f32⟩
  | .hbm, ⟨22, _⟩ => ⟨S1024x64, .f32⟩
  | .hbm, ⟨23, _⟩ => ⟨S1x1024x64, .f32⟩
  | .hbm, ⟨24, _⟩ => ⟨S1024x64, .f32⟩
  | .hbm, ⟨25, _⟩ => ⟨S1024x256, .f32⟩
  | .hbm, ⟨26, _⟩ => ⟨S1x64x512, .f32⟩
  | .hbm, ⟨27, _⟩ => ⟨S64x512, .f32⟩
  | .hbm, ⟨28, _⟩ => ⟨S64x1024, .f32⟩
  | .hbm, ⟨29, _⟩ => ⟨S1x64x512, .f32⟩
  | .hbm, ⟨30, _⟩ => ⟨S64x512, .f32⟩
  | .hbm, ⟨31, _⟩ => ⟨S64x1024, .f32⟩
  | .hbm, ⟨32, _⟩ => ⟨S1x64x512, .f32⟩
  | .hbm, ⟨33, _⟩ => ⟨S64x512, .f32⟩
  | .hbm, ⟨34, _⟩ => ⟨S64x1024, .f32⟩
  | .hbm, ⟨35, _⟩ => ⟨S1x64x512, .f32⟩
  | .hbm, ⟨36, _⟩ => ⟨S64x512, .f32⟩
  | .hbm, ⟨37, _⟩ => ⟨S64x1024, .f32⟩
  | .hbm, ⟨38, _⟩ => ⟨S256x1024, .f32⟩
  | .hbm, ⟨39, _⟩ => ⟨S1024, .f32⟩
  | .hbm, ⟨40, _⟩ => ⟨S1024, .f32⟩
  | .hbm, ⟨41, _⟩ => ⟨S1x1024, .f32⟩
  | .hbm, ⟨42, _⟩ => ⟨S1x1024, .f32⟩
  | .hbm, ⟨43, _⟩ => ⟨S2x1024, .f32⟩
  | .hbm, ⟨44, _⟩ => ⟨S32768x1024, .f32⟩
  | .hbm, ⟨45, _⟩ => ⟨S1024x3584, .bf16⟩
  | .hbm, ⟨46, _⟩ => ⟨S1024x256, .bf16⟩
  | .hbm, ⟨47, _⟩ => ⟨S256x1024, .bf16⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S_, .f32⟩
  | .hbm, ⟨52, _⟩ => ⟨S8x64x64, .f32⟩
  | .hbm, ⟨53, _⟩ => ⟨S8x8, .i32⟩
  | .hbm, ⟨54, _⟩ => ⟨S8x8, .i32⟩
  | .hbm, ⟨55, _⟩ => ⟨S_, .i32⟩
  | .hbm, ⟨56, _⟩ => ⟨S8x8, .i32⟩
  | .hbm, ⟨57, _⟩ => ⟨S8x8, .i32⟩
  | .hbm, ⟨58, _⟩ => ⟨S8x8, .i1⟩
  | .hbm, ⟨59, _⟩ => ⟨S8x8, .f32⟩
  | .hbm, ⟨60, _⟩ => ⟨S8x64x1x64, .f32⟩
  | .hbm, ⟨61, _⟩ => ⟨S8x1x8x1, .f32⟩
  | .hbm, ⟨62, _⟩ => ⟨S8x64x8x64, .f32⟩
  | .hbm, ⟨63, _⟩ => ⟨S8x64x8x64, .f32⟩
  | .hbm, ⟨64, _⟩ => ⟨S8x64x8x64, .f32⟩
  | .hbm, ⟨65, _⟩ => ⟨S512x512, .f32⟩
  | .hbm, ⟨66, _⟩ => ⟨S512x512, .bf16⟩
  | .hbm, ⟨67, _⟩ => ⟨S32768x512, .f32⟩
  | .hbm, ⟨68, _⟩ => ⟨S32768x512, .f32⟩
  | .hbm, ⟨69, _⟩ => ⟨S32768x512, .f32⟩
  | .hbm, ⟨70, _⟩ => ⟨S32768x512, .f32⟩
  | .hbm, ⟨71, _⟩ => ⟨S32768x512, .f32⟩
  | .hbm, ⟨72, _⟩ => ⟨S32768x512, .f32⟩
  | .hbm, ⟨73, _⟩ => ⟨S2x32768x512, .f32⟩
  | .hbm, ⟨74, _⟩ => ⟨S2x32768x512, .f32⟩
  | .hbm, ⟨75, _⟩ => ⟨S2x32768x512, .f32⟩
  | .hbm, ⟨76, _⟩ => ⟨S32768x512, .f32⟩
  | .hbm, ⟨77, _⟩ => ⟨S32768x512, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x3584, .bf16⟩
  | .local _ .vmem, ⟨5, _⟩ => ⟨S3x1536, .f32⟩
  | .local _ .vmem, ⟨6, _⟩ => ⟨S4x512, .f32⟩
  | .local _ .vmem, ⟨7, _⟩ => ⟨S2x1024, .f32⟩
  | .local _ .vmem, ⟨8, _⟩ => ⟨S1024x256, .bf16⟩
  | .local _ .vmem, ⟨9, _⟩ => ⟨S256x1024, .bf16⟩
  | .local _ .vmem, ⟨10, _⟩ => ⟨S2x1024, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S2x256x512, .f32⟩
  | .local _ .vmem, ⟨28, _⟩ => ⟨S2x256x512, .f32⟩
  | .local _ .vmem, ⟨29, _⟩ => ⟨S2x256x512, .f32⟩
  | .local _ .vmem, ⟨30, _⟩ => ⟨S2x256x512, .f32⟩
  | .local _ .vmem, ⟨31, _⟩ => ⟨S2x256x512, .f32⟩
  | .local _ .vmem, ⟨32, _⟩ => ⟨S2x256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49_0 : Ref sig .tc := ⟨.hbm, 67, rfl⟩
abbrev main_v49_1 : Ref sig .tc := ⟨.hbm, 68, rfl⟩
abbrev main_v49_2 : Ref sig .tc := ⟨.hbm, 69, rfl⟩
abbrev main_v49_3 : Ref sig .tc := ⟨.hbm, 70, rfl⟩
abbrev main_v49_4 : Ref sig .tc := ⟨.hbm, 71, rfl⟩
abbrev main_v49_5 : Ref sig .tc := ⟨.hbm, 72, rfl⟩
abbrev main_v49_6 : Ref sig .tc := ⟨.hbm, 73, rfl⟩
abbrev main_v49_7 : Ref sig .tc := ⟨.hbm, 74, rfl⟩
abbrev main_v49_8 : Ref sig .tc := ⟨.hbm, 75, rfl⟩
abbrev main_v49_9 : Ref sig .tc := ⟨.hbm, 76, rfl⟩
abbrev main_v49_10 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== CdInRefIdeal.lean ====
abbrev S8x4096x1024 : Shape := ⟨3, ![8, 4096, 1024]⟩
abbrev S8x6x1024 : Shape := ⟨3, ![8, 6, 1024]⟩
abbrev S1024x3584 : Shape := ⟨2, ![1024, 3584]⟩
abbrev S3x1536 : Shape := ⟨2, ![3, 1536]⟩
abbrev S4x512 : Shape := ⟨2, ![4, 512]⟩
abbrev S2x1024 : Shape := ⟨2, ![2, 1024]⟩
abbrev S2x512 : Shape := ⟨2, ![2, 512]⟩
abbrev S2x1024x64 : Shape := ⟨3, ![2, 1024, 64]⟩
abbrev S2x64x512 : Shape := ⟨3, ![2, 64, 512]⟩
abbrev S512 : Shape := ⟨1, ![512]⟩
abbrev S8x64 : Shape := ⟨2, ![8, 64]⟩
abbrev S8x1x1024 : Shape := ⟨3, ![8, 1, 1024]⟩
abbrev S8x1024 : Shape := ⟨2, ![8, 1024]⟩
abbrev S_ : Shape := ⟨0, ![]⟩
abbrev S8x4096x3584 : Shape := ⟨3, ![8, 4096, 3584]⟩
abbrev S8x4096x1536 : Shape := ⟨3, ![8, 4096, 1536]⟩
abbrev S8x4098x1536 : Shape := ⟨3, ![8, 4098, 1536]⟩
abbrev S4096 : Shape := ⟨1, ![4096]⟩
abbrev S1x1536 : Shape := ⟨2, ![1, 1536]⟩
abbrev S1536 : Shape := ⟨1, ![1536]⟩
abbrev S1x1x1536 : Shape := ⟨3, ![1, 1, 1536]⟩
abbrev S1x4096x1 : Shape := ⟨3, ![1, 4096, 1]⟩
abbrev S8x4096x512 : Shape := ⟨3, ![8, 4096, 512]⟩
abbrev S8x4096x2048 : Shape := ⟨3, ![8, 4096, 2048]⟩
abbrev S8x4098x2048 : Shape := ⟨3, ![8, 4098, 2048]⟩
abbrev S1x512 : Shape := ⟨2, ![1, 512]⟩
abbrev S1x1x512 : Shape := ⟨3, ![1, 1, 512]⟩
abbrev S8x4098x1024 : Shape := ⟨3, ![8, 4098, 1024]⟩
abbrev S1x1024 : Shape := ⟨2, ![1, 1024]⟩
abbrev S1024 : Shape := ⟨1, ![1024]⟩
abbrev S1x1x1024 : Shape := ⟨3, ![1, 1, 1024]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1024x64 : Shape := ⟨3, ![1, 1024, 64]⟩
abbrev S1024x64 : Shape := ⟨2, ![1024, 64]⟩
abbrev S8x4096x64 : Shape := ⟨3, ![8, 4096, 64]⟩
abbrev S1x64x512 : Shape := ⟨3, ![1, 64, 512]⟩
abbrev S64x512 : Shape := ⟨2, ![64, 512]⟩
abbrev S1x1x8x64 : Shape := ⟨4, ![1, 1, 8, 64]⟩
abbrev S32768x512 : Shape := ⟨2, ![32768, 512]⟩
abbrev S1x8x4096x512 : Shape := ⟨4, ![1, 8, 4096, 512]⟩
abbrev S2x8x4096x512 : Shape := ⟨4, ![2, 8, 4096, 512]⟩
abbrev S2x32768x512 : Shape := ⟨3, ![2, 32768, 512]⟩
abbrev S1x8x4096x8x64 : Shape := ⟨5, ![1, 8, 4096, 8, 64]⟩
abbrev S2x8x4096x8x64 : Shape := ⟨5, ![2, 8, 4096, 8, 64]⟩

abbrev nBuf : Space → Nat
  | .hbm => 467
  | .vmem => 0
  | .smem => 0
  | _ => 0

abbrev hbmTy0_0 (i : Nat) : BufTy := match i % 128 with
  | 0 => ⟨S8x4096x1024, .f32⟩
  | 1 => ⟨S8x6x1024, .f32⟩
  | 2 => ⟨S1024x3584, .f32⟩
  | 3 => ⟨S3x1536, .f32⟩
  | 4 => ⟨S4x512, .f32⟩
  | 5 => ⟨S2x1024, .f32⟩
  | 6 => ⟨S2x512, .f32⟩
  | 7 => ⟨S2x1024x64, .f32⟩
  | 8 => ⟨S2x64x512, .f32⟩
  | 9 => ⟨S2x512, .f32⟩
  | 10 => ⟨S2x1024x64, .f32⟩
  | 11 => ⟨S2x64x512, .f32⟩
  | 12 => ⟨S512, .f32⟩
  | 13 => ⟨S512, .f32⟩
  | 14 => ⟨S8x64, .f32⟩
  | 15 => ⟨S8x1x1024, .f32⟩
  | 16 => ⟨S8x1024, .f32⟩
  | 17 => ⟨S8x1x1024, .f32⟩
  | 18 => ⟨S8x1x1024, .f32⟩
  | 19 => ⟨S8x1024, .f32⟩
  | 20 => ⟨S8x1x1024, .f32⟩
  | 21 => ⟨S_, .f32⟩
  | 22 => ⟨S8x1x1024, .f32⟩
  | 23 => ⟨S8x1x1024, .f32⟩
  | 24 => ⟨S8x4096x1024, .f32⟩
  | 25 => ⟨S8x4096x1024, .f32⟩
  | 26 => ⟨S8x4096x1024, .f32⟩
  | 27 => ⟨S8x4096x1024, .f32⟩
  | 28 => ⟨S8x4096x3584, .f32⟩
  | 29 => ⟨S8x4096x1536, .f32⟩
  | 30 => ⟨S_, .i32⟩
  | 31 => ⟨S_, .f32⟩
  | 32 => ⟨S8x4098x1536, .f32⟩
  | 33 => ⟨S4096, .i32⟩
  | 34 => ⟨S_, .i32⟩
  | 35 => ⟨S4096, .i32⟩
  | 36 => ⟨S4096, .i32⟩
  | 37 => ⟨S8x4096x1536, .f32⟩
  | 38 => ⟨S1x1536, .f32⟩
  | 39 => ⟨S1536, .f32⟩
  | 40 => ⟨S1x1x1536, .f32⟩
  | 41 => ⟨S8x4096x1536, .f32⟩
  | 42 => ⟨S8x4096x1536, .f32⟩
  | 43 => ⟨S_, .i32⟩
  | 44 => ⟨S4096, .i32⟩
  | 45 => ⟨S4096, .i32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S_, .i32⟩
  | 53 => ⟨S4096, .i32⟩
  | 54 => ⟨S4096, .i1⟩
  | 55 => ⟨S4096, .i1⟩
  | 56 => ⟨S1x4096x1, .i1⟩
  | 57 => ⟨S_, .f32⟩
  | 58 => ⟨S8x4096x1536, .f32⟩
  | 59 => ⟨S8x4096x1536, .i1⟩
  | 60 => ⟨S8x4096x1536, .f32⟩
  | 61 => ⟨S_, .f32⟩
  | 62 => ⟨S8x4096x1536, .f32⟩
  | 63 => ⟨S8x4096x1536, .f32⟩
  | 64 => ⟨S8x4096x1536, .f32⟩
  | 65 => ⟨S1x1536, .f32⟩
  | 66 => ⟨S1536, .f32⟩
  | 67 => ⟨S1x1x1536, .f32⟩
  | 68 => ⟨S8x4096x1536, .f32⟩
  | 69 => ⟨S8x4096x1536, .f32⟩
  | 70 => ⟨S8x4096x1536, .f32⟩
  | 71 => ⟨S8x4096x1536, .f32⟩
  | 72 => ⟨S1x1536, .f32⟩
  | 73 => ⟨S1536, .f32⟩
  | 74 => ⟨S1x1x1536, .f32⟩
  | 75 => ⟨S8x4096x1536, .f32⟩
  | 76 => ⟨S8x4096x1536, .f32⟩
  | 77 => ⟨S_, .i32⟩
  | 78 => ⟨S4096, .i32⟩
  | 79 => ⟨S4096, .i32⟩
  | 80 => ⟨S_, .i32⟩
  | 81 => ⟨S4096, .i32⟩
  | 82 => ⟨S4096, .i1⟩
  | 83 => ⟨S_, .i32⟩
  | 84 => ⟨S4096, .i32⟩
  | 85 => ⟨S4096, .i32⟩
  | 86 => ⟨S_, .i32⟩
  | 87 => ⟨S4096, .i32⟩
  | 88 => ⟨S4096, .i1⟩
  | 89 => ⟨S4096, .i1⟩
  | 90 => ⟨S1x4096x1, .i1⟩
  | 91 => ⟨S_, .f32⟩
  | 92 => ⟨S8x4096x1536, .f32⟩
  | 93 => ⟨S8x4096x1536, .i1⟩
  | 94 => ⟨S8x4096x1536, .f32⟩
  | 95 => ⟨S8x4096x1536, .f32⟩
  | 96 => ⟨S8x4096x512, .f32⟩
  | 97 => ⟨S8x4096x512, .f32⟩
  | 98 => ⟨S8x4096x512, .f32⟩
  | 99 => ⟨S8x4096x2048, .f32⟩
  | 100 => ⟨S8x4096x512, .f32⟩
  | 101 => ⟨S8x4096x512, .f32⟩
  | 102 => ⟨S8x4096x512, .f32⟩
  | 103 => ⟨S8x4096x512, .f32⟩
  | 104 => ⟨S_, .i32⟩
  | 105 => ⟨S_, .f32⟩
  | 106 => ⟨S8x4098x2048, .f32⟩
  | 107 => ⟨S4096, .i32⟩
  | 108 => ⟨S_, .i32⟩
  | 109 => ⟨S4096, .i32⟩
  | 110 => ⟨S4096, .i32⟩
  | 111 => ⟨S8x4096x2048, .f32⟩
  | 112 => ⟨S_, .f32⟩
  | 113 => ⟨S8x4096x2048, .f32⟩
  | 114 => ⟨S8x4096x2048, .f32⟩
  | 115 => ⟨S_, .i32⟩
  | 116 => ⟨S4096, .i32⟩
  | 117 => ⟨S4096, .i32⟩
  | 118 => ⟨S_, .i32⟩
  | 119 => ⟨S4096, .i32⟩
  | 120 => ⟨S4096, .i1⟩
  | 121 => ⟨S_, .i32⟩
  | 122 => ⟨S4096, .i32⟩
  | 123 => ⟨S4096, .i32⟩
  | 124 => ⟨S_, .i32⟩
  | 125 => ⟨S4096, .i32⟩
  | 126 => ⟨S4096, .i1⟩
  | 127 => ⟨S4096, .i1⟩
  | _ => ⟨S8x4096x1024, .f32⟩

abbrev hbmTy0_1 (i : Nat) : BufTy := match i % 128 with
  | 0 => ⟨S1x4096x1, .i1⟩
  | 1 => ⟨S_, .f32⟩
  | 2 => ⟨S8x4096x2048, .f32⟩
  | 3 => ⟨S8x4096x2048, .i1⟩
  | 4 => ⟨S8x4096x2048, .f32⟩
  | 5 => ⟨S_, .f32⟩
  | 6 => ⟨S8x4096x2048, .f32⟩
  | 7 => ⟨S8x4096x2048, .f32⟩
  | 8 => ⟨S8x4096x2048, .f32⟩
  | 9 => ⟨S_, .f32⟩
  | 10 => ⟨S8x4096x2048, .f32⟩
  | 11 => ⟨S8x4096x2048, .f32⟩
  | 12 => ⟨S8x4096x2048, .f32⟩
  | 13 => ⟨S8x4096x2048, .f32⟩
  | 14 => ⟨S_, .f32⟩
  | 15 => ⟨S8x4096x2048, .f32⟩
  | 16 => ⟨S8x4096x2048, .f32⟩
  | 17 => ⟨S_, .i32⟩
  | 18 => ⟨S4096, .i32⟩
  | 19 => ⟨S4096, .i32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S_, .i32⟩
  | 27 => ⟨S4096, .i32⟩
  | 28 => ⟨S4096, .i1⟩
  | 29 => ⟨S4096, .i1⟩
  | 30 => ⟨S1x4096x1, .i1⟩
  | 31 => ⟨S_, .f32⟩
  | 32 => ⟨S8x4096x2048, .f32⟩
  | 33 => ⟨S8x4096x2048, .i1⟩
  | 34 => ⟨S8x4096x2048, .f32⟩
  | 35 => ⟨S8x4096x2048, .f32⟩
  | 36 => ⟨S8x4096x512, .f32⟩
  | 37 => ⟨S8x4096x512, .f32⟩
  | 38 => ⟨S8x4096x512, .f32⟩
  | 39 => ⟨S8x4096x512, .f32⟩
  | 40 => ⟨S8x4096x512, .f32⟩
  | 41 => ⟨S1x512, .f32⟩
  | 42 => ⟨S512, .f32⟩
  | 43 => ⟨S1x1x512, .f32⟩
  | 44 => ⟨S8x4096x512, .f32⟩
  | 45 => ⟨S8x4096x512, .f32⟩
  | 46 => ⟨S8x4096x512, .f32⟩
  | 47 => ⟨S8x4096x512, .f32⟩
  | 48 => ⟨S1x512, .f32⟩
  | 49 => ⟨S512, .f32⟩
  | 50 => ⟨S1x1x512, .f32⟩
  | 51 => ⟨S8x4096x512, .f32⟩
  | 52 => ⟨S8x4096x512, .f32⟩
  | 53 => ⟨S8x4096x512, .f32⟩
  | 54 => ⟨S8x4096x512, .f32⟩
  | 55 => ⟨S1x512, .f32⟩
  | 56 => ⟨S512, .f32⟩
  | 57 => ⟨S1x1x512, .f32⟩
  | 58 => ⟨S8x4096x512, .f32⟩
  | 59 => ⟨S8x4096x512, .f32⟩
  | 60 => ⟨S8x4096x512, .f32⟩
  | 61 => ⟨S8x4096x512, .f32⟩
  | 62 => ⟨S1x512, .f32⟩
  | 63 => ⟨S512, .f32⟩
  | 64 => ⟨S1x1x512, .f32⟩
  | 65 => ⟨S8x4096x512, .f32⟩
  | 66 => ⟨S8x4096x512, .f32⟩
  | 67 => ⟨S8x4096x512, .f32⟩
  | 68 => ⟨S_, .i32⟩
  | 69 => ⟨S_, .f32⟩
  | 70 => ⟨S8x4098x1024, .f32⟩
  | 71 => ⟨S4096, .i32⟩
  | 72 => ⟨S_, .i32⟩
  | 73 => ⟨S4096, .i32⟩
  | 74 => ⟨S4096, .i32⟩
  | 75 => ⟨S8x4096x1024, .f32⟩
  | 76 => ⟨S_, .f32⟩
  | 77 => ⟨S8x4096x1024, .f32⟩
  | 78 => ⟨S8x4096x1024, .f32⟩
  | 79 => ⟨S_, .i32⟩
  | 80 => ⟨S4096, .i32⟩
  | 81 => ⟨S4096, .i32⟩
  | 82 => ⟨S_, .i32⟩
  | 83 => ⟨S4096, .i32⟩
  | 84 => ⟨S4096, .i1⟩
  | 85 => ⟨S_, .i32⟩
  | 86 => ⟨S4096, .i32⟩
  | 87 => ⟨S4096, .i32⟩
  | 88 => ⟨S_, .i32⟩
  | 89 => ⟨S4096, .i32⟩
  | 90 => ⟨S4096, .i1⟩
  | 91 => ⟨S4096, .i1⟩
  | 92 => ⟨S1x4096x1, .i1⟩
  | 93 => ⟨S_, .f32⟩
  | 94 => ⟨S8x4096x1024, .f32⟩
  | 95 => ⟨S8x4096x1024, .i1⟩
  | 96 => ⟨S8x4096x1024, .f32⟩
  | 97 => ⟨S_, .f32⟩
  | 98 => ⟨S8x4096x1024, .f32⟩
  | 99 => ⟨S8x4096x1024, .f32⟩
  | 100 => ⟨S8x4096x1024, .f32⟩
  | 101 => ⟨S_, .f32⟩
  | 102 => ⟨S8x4096x1024, .f32⟩
  | 103 => ⟨S8x4096x1024, .f32⟩
  | 104 => ⟨S8x4096x1024, .f32⟩
  | 105 => ⟨S8x4096x1024, .f32⟩
  | 106 => ⟨S_, .f32⟩
  | 107 => ⟨S8x4096x1024, .f32⟩
  | 108 => ⟨S8x4096x1024, .f32⟩
  | 109 => ⟨S_, .i32⟩
  | 110 => ⟨S4096, .i32⟩
  | 111 => ⟨S4096, .i32⟩
  | 112 => ⟨S_, .i32⟩
  | 113 => ⟨S4096, .i32⟩
  | 114 => ⟨S4096, .i1⟩
  | 115 => ⟨S_, .i32⟩
  | 116 => ⟨S4096, .i32⟩
  | 117 => ⟨S4096, .i32⟩
  | 118 => ⟨S_, .i32⟩
  | 119 => ⟨S4096, .i32⟩
  | 120 => ⟨S4096, .i1⟩
  | 121 => ⟨S4096, .i1⟩
  | 122 => ⟨S1x4096x1, .i1⟩
  | 123 => ⟨S_, .f32⟩
  | 124 => ⟨S8x4096x1024, .f32⟩
  | 125 => ⟨S8x4096x1024, .i1⟩
  | 126 => ⟨S8x4096x1024, .f32⟩
  | 127 => ⟨S8x4096x1024, .f32⟩
  | _ => ⟨S8x4096x1024, .f32⟩

abbrev hbmTy0_2 (i : Nat) : BufTy := match i % 128 with
  | 0 => ⟨S8x4096x1024, .f32⟩
  | 1 => ⟨S1x1024, .f32⟩
  | 2 => ⟨S1024, .f32⟩
  | 3 => ⟨S1x1x1024, .f32⟩
  | 4 => ⟨S8x4096x1024, .f32⟩
  | 5 => ⟨S8x4096x1024, .f32⟩
  | 6 => ⟨S8x4096x1024, .f32⟩
  | 7 => ⟨S1x1024, .f32⟩
  | 8 => ⟨S1024, .f32⟩
  | 9 => ⟨S1x1x1024, .f32⟩
  | 10 => ⟨S8x4096x1024, .f32⟩
  | 11 => ⟨S8x4096x1024, .f32⟩
  | 12 => ⟨S8x4096x1024, .f32⟩
  | 13 => ⟨S8x4096x8x64, .f32⟩
  | 14 => ⟨S8x4096x8x64, .f32⟩
  | 15 => ⟨S1x1x512, .f32⟩
  | 16 => ⟨S8x4096x512, .f32⟩
  | 17 => ⟨S8x4096x512, .f32⟩
  | 18 => ⟨S8x4096x8x64, .f32⟩
  | 19 => ⟨S8x4096x8x64, .f32⟩
  | 20 => ⟨S_, .f32⟩
  | 21 => ⟨S8x4096x8, .f32⟩
  | 22 => ⟨S8x4096x8x1, .f32⟩
  | 23 => ⟨S_, .f32⟩
  | 24 => ⟨S8x4096x8x1, .f32⟩
  | 25 => ⟨S8x4096x8x1, .f32⟩
  | 26 => ⟨S8x4096x8x1, .f32⟩
  | 27 => ⟨S8x4096x8x64, .f32⟩
  | 28 => ⟨S8x4096x8x64, .f32⟩
  | 29 => ⟨S1x512, .f32⟩
  | 30 => ⟨S512, .f32⟩
  | 31 => ⟨S1x1024x64, .f32⟩
  | 32 => ⟨S1024x64, .f32⟩
  | 33 => ⟨S8x4096x64, .f32⟩
  | 34 => ⟨S8x4096x64, .f32⟩
  | 35 => ⟨S1x64x512, .f32⟩
  | 36 => ⟨S64x512, .f32⟩
  | 37 => ⟨S8x4096x512, .f32⟩
  | 38 => ⟨S1x1x512, .f32⟩
  | 39 => ⟨S8x4096x512, .f32⟩
  | 40 => ⟨S8x4096x512, .f32⟩
  | 41 => ⟨S8x4096x512, .f32⟩
  | 42 => ⟨S_, .f32⟩
  | 43 => ⟨S8x4096x512, .f32⟩
  | 44 => ⟨S8x4096x512, .f32⟩
  | 45 => ⟨S8x4096x512, .f32⟩
  | 46 => ⟨S8x4096x512, .f32⟩
  | 47 => ⟨S8x4096x512, .i1⟩
  | 48 => ⟨S8x4096x512, .f32⟩
  | 49 => ⟨S8x4096x512, .f32⟩
  | 50 => ⟨S8x4096x512, .f32⟩
  | 51 => ⟨S8x4096x512, .f32⟩
  | 52 => ⟨S8x4096x512, .f32⟩
  | 53 => ⟨S8x4096x512, .f32⟩
  | 54 => ⟨S8x4096x512, .f32⟩
  | 55 => ⟨S8x4096x512, .f32⟩
  | 56 => ⟨S8x4096x512, .f32⟩
  | 57 => ⟨S_, .f32⟩
  | 58 => ⟨S8x4096x512, .f32⟩
  | 59 => ⟨S8x4096x512, .f32⟩
  | 60 => ⟨S1x512, .f32⟩
  | 61 => ⟨S512, .f32⟩
  | 62 => ⟨S1x1024x64, .f32⟩
  | 63 => ⟨S1024x64, .f32⟩
  | 64 => ⟨S8x4096x64, .f32⟩
  | 65 => ⟨S1x64x512, .f32⟩
  | 66 => ⟨S64x512, .f32⟩
  | 67 => ⟨S8x4096x512, .f32⟩
  | 68 => ⟨S1x1x512, .f32⟩
  | 69 => ⟨S8x4096x512, .f32⟩
  | 70 => ⟨S8x4096x512, .f32⟩
  | 71 => ⟨S8x4096x512, .f32⟩
  | 72 => ⟨S8x4096x512, .f32⟩
  | 73 => ⟨S_, .f32⟩
  | 74 => ⟨S8x4096x512, .f32⟩
  | 75 => ⟨S8x4096x512, .f32⟩
  | 76 => ⟨S_, .f32⟩
  | 77 => ⟨S8x4096x512, .f32⟩
  | 78 => ⟨S8x4096x512, .f32⟩
  | 79 => ⟨S_, .f32⟩
  | 80 => ⟨S8x4096x512, .f32⟩
  | 81 => ⟨S8x4096x512, .f32⟩
  | 82 => ⟨S1x1x512, .f32⟩
  | 83 => ⟨S8x4096x512, .f32⟩
  | 84 => ⟨S8x4096x512, .f32⟩
  | 85 => ⟨S_, .f32⟩
  | 86 => ⟨S8x4096x512, .f32⟩
  | 87 => ⟨S8x4096x512, .f32⟩
  | 88 => ⟨S8x4096x512, .f32⟩
  | 89 => ⟨S8x4096x8x64, .f32⟩
  | 90 => ⟨S8x4096x8x64, .f32⟩
  | 91 => ⟨S1x1x8x64, .f32⟩
  | 92 => ⟨S8x4096x8x64, .f32⟩
  | 93 => ⟨S8x4096x8x64, .f32⟩
  | 94 => ⟨S_, .f32⟩
  | 95 => ⟨S8x4096x8, .f32⟩
  | 96 => ⟨S8x4096x8x1, .f32⟩
  | 97 => ⟨S8x4096x8x64, .f32⟩
  | 98 => ⟨S8x4096x8x64, .f32⟩
  | 99 => ⟨S_, .f32⟩
  | 100 => ⟨S8x4096x8x64, .f32⟩
  | 101 => ⟨S8x4096x8x64, .f32⟩
  | 102 => ⟨S8x4096x512, .f32⟩
  | 103 => ⟨S8x4096x512, .f32⟩
  | 104 => ⟨S8x4096x512, .f32⟩
  | 105 => ⟨S8x4096x8x64, .f32⟩
  | 106 => ⟨S8x4096x8x64, .f32⟩
  | 107 => ⟨S1x512, .f32⟩
  | 108 => ⟨S512, .f32⟩
  | 109 => ⟨S1x1024x64, .f32⟩
  | 110 => ⟨S1024x64, .f32⟩
  | 111 => ⟨S8x4096x64, .f32⟩
  | 112 => ⟨S8x4096x64, .f32⟩
  | 113 => ⟨S1x64x512, .f32⟩
  | 114 => ⟨S64x512, .f32⟩
  | 115 => ⟨S8x4096x512, .f32⟩
  | 116 => ⟨S1x1x512, .f32⟩
  | 117 => ⟨S8x4096x512, .f32⟩
  | 118 => ⟨S8x4096x512, .f32⟩
  | 119 => ⟨S8x4096x512, .f32⟩
  | 120 => ⟨S_, .f32⟩
  | 121 => ⟨S8x4096x512, .f32⟩
  | 122 => ⟨S8x4096x512, .f32⟩
  | 123 => ⟨S8x4096x512, .f32⟩
  | 124 => ⟨S8x4096x512, .f32⟩
  | 125 => ⟨S8x4096x512, .i1⟩
  | 126 => ⟨S8x4096x512, .f32⟩
  | 127 => ⟨S8x4096x512, .f32⟩
  | _ => ⟨S8x4096x1024, .f32⟩

abbrev hbmTy0_3 (i : Nat) : BufTy := match i % 128 with
  | 0 => ⟨S8x4096x512, .f32⟩
  | 1 => ⟨S8x4096x512, .f32⟩
  | 2 => ⟨S8x4096x512, .f32⟩
  | 3 => ⟨S8x4096x512, .f32⟩
  | 4 => ⟨S8x4096x512, .f32⟩
  | 5 => ⟨S8x4096x512, .f32⟩
  | 6 => ⟨S8x4096x512, .f32⟩
  | 7 => ⟨S_, .f32⟩
  | 8 => ⟨S8x4096x512, .f32⟩
  | 9 => ⟨S8x4096x512, .f32⟩
  | 10 => ⟨S1x512, .f32⟩
  | 11 => ⟨S512, .f32⟩
  | 12 => ⟨S1x1024x64, .f32⟩
  | 13 => ⟨S1024x64, .f32⟩
  | 14 => ⟨S8x4096x64, .f32⟩
  | 15 => ⟨S1x64x512, .f32⟩
  | 16 => ⟨S64x512, .f32⟩
  | 17 => ⟨S8x4096x512, .f32⟩
  | 18 => ⟨S1x1x512, .f32⟩
  | 19 => ⟨S8x4096x512, .f32⟩
  | 20 => ⟨S8x4096x512, .f32⟩
  | 21 => ⟨S8x4096x512, .f32⟩
  | 22 => ⟨S8x4096x512, .f32⟩
  | 23 => ⟨S_, .f32⟩
  | 24 => ⟨S8x4096x512, .f32⟩
  | 25 => ⟨S8x4096x512, .f32⟩
  | 26 => ⟨S_, .f32⟩
  | 27 => ⟨S8x4096x512, .f32⟩
  | 28 => ⟨S8x4096x512, .f32⟩
  | 29 => ⟨S_, .f32⟩
  | 30 => ⟨S8x4096x512, .f32⟩
  | 31 => ⟨S8x4096x512, .f32⟩
  | 32 => ⟨S1x1x512, .f32⟩
  | 33 => ⟨S8x4096x512, .f32⟩
  | 34 => ⟨S8x4096x512, .f32⟩
  | 35 => ⟨S_, .f32⟩
  | 36 => ⟨S8x4096x512, .f32⟩
  | 37 => ⟨S8x4096x512, .f32⟩
  | 38 => ⟨S8x4096x512, .f32⟩
  | 39 => ⟨S8x4096x8x64, .f32⟩
  | 40 => ⟨S8x4096x8x64, .f32⟩
  | 41 => ⟨S1x1x8x64, .f32⟩
  | 42 => ⟨S8x4096x8x64, .f32⟩
  | 43 => ⟨S8x4096x8x64, .f32⟩
  | 44 => ⟨S_, .f32⟩
  | 45 => ⟨S8x4096x8, .f32⟩
  | 46 => ⟨S8x4096x8x1, .f32⟩
  | 47 => ⟨S8x4096x8x64, .f32⟩
  | 48 => ⟨S8x4096x8x64, .f32⟩
  | 49 => ⟨S8x4096x8x64, .f32⟩
  | 50 => ⟨S8x4096x512, .f32⟩
  | 51 => ⟨S8x4096x512, .f32⟩
  | 52 => ⟨S8x4096x512, .f32⟩
  | 53 => ⟨S8x4096x8x64, .f32⟩
  | 54 => ⟨S8x4096x8x64, .f32⟩
  | 55 => ⟨S32768x512, .f32⟩
  | 56 => ⟨S32768x512, .f32⟩
  | 57 => ⟨S32768x512, .f32⟩
  | 58 => ⟨S32768x512, .f32⟩
  | 59 => ⟨S32768x512, .f32⟩
  | 60 => ⟨S32768x512, .f32⟩
  | 61 => ⟨S1x8x4096x512, .f32⟩
  | 62 => ⟨S1x8x4096x512, .f32⟩
  | 63 => ⟨S2x8x4096x512, .f32⟩
  | 64 => ⟨S2x32768x512, .f32⟩
  | 65 => ⟨S1x8x4096x512, .f32⟩
  | 66 => ⟨S1x8x4096x512, .f32⟩
  | 67 => ⟨S2x8x4096x512, .f32⟩
  | 68 => ⟨S2x32768x512, .f32⟩
  | 69 => ⟨S1x8x4096x8x64, .f32⟩
  | 70 => ⟨S1x8x4096x8x64, .f32⟩
  | 71 => ⟨S2x8x4096x8x64, .f32⟩
  | 72 => ⟨S2x32768x512, .f32⟩
  | 73 => ⟨S32768x512, .f32⟩
  | 74 => ⟨S8x4096x512, .f32⟩
  | 75 => ⟨S8x4096x512, .f32⟩
  | 76 => ⟨S_, .f32⟩
  | 77 => ⟨S8x4096x512, .f32⟩
  | 78 => ⟨S8x4096x512, .f32⟩
  | 79 => ⟨S_, .f32⟩
  | 80 => ⟨S8x4096x512, .f32⟩
  | 81 => ⟨S8x4096x512, .f32⟩
  | 82 => ⟨S32768x512, .f32⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_call0_v0 : Ref sig .tc := ⟨.hbm, 31, rfl⟩
abbrev main_v14 : Ref sig .tc := ⟨.hbm, 32, rfl⟩
abbrev main_v15 : Ref sig .tc := ⟨.hbm, 33, rfl⟩
abbrev main_c_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_1 : Ref sig .tc := ⟨.hbm, 43, rfl⟩
abbrev main_v24 : Ref sig .tc := ⟨.hbm, 44, rfl⟩
abbrev main_v25 : Ref sig .tc := ⟨.hbm, 45, rfl⟩
abbrev main_c_2 : Ref sig .tc := ⟨.hbm, 46, rfl⟩
abbrev main_v26 : Ref sig .tc := ⟨.hbm, 47, rfl⟩
abbrev main_v27 : Ref sig .tc := ⟨.hbm, 48, rfl⟩
abbrev main_c_3 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_call1_v0 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_7 : Ref sig .tc := ⟨.hbm, 77, rfl⟩
abbrev main_v51 : Ref sig .tc := ⟨.hbm, 78, rfl⟩
abbrev main_v52 : Ref sig .tc := ⟨.hbm, 79, rfl⟩
abbrev main_c_8 : Ref sig .tc := ⟨.hbm, 80, rfl⟩
abbrev main_v53 : Ref sig .tc := ⟨.hbm, 81, rfl⟩
abbrev main_v54 : Ref sig .tc := ⟨.hbm, 82, rfl⟩
abbrev main_c_9 : Ref sig .tc := ⟨.hbm, 83, rfl⟩
abbrev main_v55 : Ref sig .tc := ⟨.hbm, 84, rfl⟩
abbrev main_v56 : Ref sig .tc := ⟨.hbm, 85, rfl⟩
abbrev main_c_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_call2_v0 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_12 : Ref sig .tc := ⟨.hbm, 104, rfl⟩
abbrev main_call3_v0 : Ref sig .tc := ⟨.hbm, 105, rfl⟩
abbrev main_v72 : Ref sig .tc := ⟨.hbm, 106, rfl⟩
abbrev main_v73 : Ref sig .tc := ⟨.hbm, 107, rfl⟩
abbrev main_c_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_c_15 : Ref sig .tc := ⟨.hbm, 115, rfl⟩
abbrev main_v79 : Ref sig .tc := ⟨.hbm, 116, rfl⟩
abbrev main_v80 : Ref sig .tc := ⟨.hbm, 117, rfl⟩
abbrev main_c_16 : Ref sig .tc := ⟨.hbm, 118, rfl⟩
abbrev main_v81 : Ref sig .tc := ⟨.hbm, 119, rfl⟩
abbrev main_v82 : Ref sig .tc := ⟨.hbm, 120, rfl⟩
abbrev main_c_17 : Ref sig .tc := ⟨.hbm, 121, rfl⟩
abbrev main_v83 : Ref sig .tc := ⟨.hbm, 122, rfl⟩
abbrev main_v84 : Ref sig .tc := ⟨.hbm, 123, rfl⟩
abbrev main_c_18 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_19 : Ref sig .tc := ⟨.hbm, 129, rfl⟩
abbrev main_v89 : Ref sig .tc := ⟨.hbm, 130, rfl⟩
abbrev main_call4_v0 : Ref sig .tc := ⟨.hbm, 131, rfl⟩
abbrev main_v90 : Ref sig .tc := ⟨.hbm, 132, rfl⟩
abbrev main_cst_20 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_21 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_22 : Ref sig .tc := ⟨.hbm, 142, rfl⟩
abbrev main_v98 : Ref sig .tc := ⟨.hbm, 143, rfl⟩
abbrev main_v99 : Ref sig .tc := ⟨.hbm, 144, rfl⟩
abbrev main_c_23 : Ref sig .tc := ⟨.hbm, 145, rfl⟩
abbrev main_v100 : Ref sig .tc := ⟨.hbm, 146, rfl⟩
abbrev main_v101 : Ref sig .tc := ⟨.hbm, 147, rfl⟩
abbrev main_c_24 : Ref sig .tc := ⟨.hbm, 148, rfl⟩
abbrev main_v102 : Ref sig .tc := ⟨.hbm, 149, rfl⟩
abbrev main_v103 : Ref sig .tc := ⟨.hbm, 150, rfl⟩
abbrev main_c_25 : Ref sig .tc := ⟨.hbm, 151, rfl⟩
abbrev main_v104 : Ref sig .tc := ⟨.hbm, 152, rfl⟩
abbrev main_v105 : Ref sig .tc := ⟨.hbm, 153, rfl⟩
abbrev main_c_26 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_27 : Ref sig .tc := ⟨.hbm, 159, rfl⟩
abbrev main_v110 : Ref sig .tc := ⟨.hbm, 160, rfl⟩
abbrev main_call5_v0 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_c_28 : Ref sig .tc := ⟨.hbm, 196, rfl⟩
abbrev main_call6_v0 : Ref sig .tc := ⟨.hbm, 197, rfl⟩
abbrev main_v145 : Ref sig .tc := ⟨.hbm, 198, rfl⟩
abbrev main_v146 : Ref sig .tc := ⟨.hbm, 199, rfl⟩
abbrev main_c_29 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_30 : Ref sig .tc := ⟨.hbm, 204, rfl⟩
abbrev main_v150 : Ref sig .tc := ⟨.hbm, 205, rfl⟩
abbrev main_v151 : Ref sig .tc := ⟨.hbm, 206, rfl⟩
abbrev main_c_31 : Ref sig .tc := ⟨.hbm, 207, rfl⟩
abbrev main_v152 : Ref sig .tc := ⟨.hbm, 208, rfl⟩
abbrev main_v153 : Ref sig .tc := ⟨.hbm, 209, rfl⟩
abbrev main_c_32 : Ref sig .tc := ⟨.hbm, 210, rfl⟩
abbrev main_v154 : Ref sig .tc := ⟨.hbm, 211, rfl⟩
abbrev main_v155 : Ref sig .tc := ⟨.hbm, 212, rfl⟩
abbrev main_c_33 : Ref sig .tc := ⟨.hbm, 213, rfl⟩
abbrev main_v156 : Ref sig .tc := ⟨.hbm, 214, rfl⟩
abbrev main_v157 : Ref sig .tc := ⟨.hbm, 215, rfl⟩
abbrev main_c_34 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_cst_35 : Ref sig .tc := ⟨.hbm, 221, rfl⟩
abbrev main_v162 : Ref sig .tc := ⟨.hbm, 222, rfl⟩
abbrev main_call7_v0 : Ref sig .tc := ⟨.hbm, 223, rfl⟩
abbrev main_v163 : Ref sig .tc := ⟨.hbm, 224, rfl⟩
abbrev main_cst_36 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_cst_37 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_cst_38 : Ref sig .tc := ⟨.hbm, 234, rfl⟩
abbrev main_v171 : Ref sig .tc := ⟨.hbm, 235, rfl⟩
abbrev main_v172 : Ref sig .tc := ⟨.hbm, 236, rfl⟩
abbrev main_c_39 : Ref sig .tc := ⟨.hbm, 237, rfl⟩
abbrev main_v173 : Ref sig .tc := ⟨.hbm, 238, rfl⟩
abbrev main_v174 : Ref sig .tc := ⟨.hbm, 239, rfl⟩
abbrev main_c_40 : Ref sig .tc := ⟨.hbm, 240, rfl⟩
abbrev main_v175 : Ref sig .tc := ⟨.hbm, 241, rfl⟩
abbrev main_v176 : Ref sig .tc := ⟨.hbm, 242, rfl⟩
abbrev main_c_41 : Ref sig .tc := ⟨.hbm, 243, rfl⟩
abbrev main_v177 : Ref sig .tc := ⟨.hbm, 244, rfl⟩
abbrev main_v178 : Ref sig .tc := ⟨.hbm, 245, rfl⟩
abbrev main_c_42 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_cst_43 : Ref sig .tc := ⟨.hbm, 251, rfl⟩
abbrev main_v183 : Ref sig .tc := ⟨.hbm, 252, rfl⟩
abbrev main_call8_v0 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_cst_44 : Ref sig .tc := ⟨.hbm, 276, rfl⟩
abbrev main_v206 : Ref sig .tc := ⟨.hbm, 277, rfl⟩
abbrev main_v207 : Ref sig .tc := ⟨.hbm, 278, rfl⟩
abbrev main_cst_45 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_call9_cst : Ref sig .tc := ⟨.hbm, 298, rfl⟩
abbrev main_call9_v0 : Ref sig .tc := ⟨.hbm, 299, rfl⟩
abbrev main_call9_v1 : Ref sig .tc := ⟨.hbm, 300, rfl⟩
abbrev main_call9_v2 : Ref sig .tc := ⟨.hbm, 301, rfl⟩
abbrev main_call9_v3 : Ref sig .tc := ⟨.hbm, 302, rfl⟩
abbrev main_call9_v4 : Ref sig .tc := ⟨.hbm, 303, rfl⟩
abbrev main_call9_v5 : Ref sig .tc := ⟨.hbm, 304, rfl⟩
abbrev main_call9_v6 : Ref sig .tc := ⟨.hbm, 305, rfl⟩
abbrev main_call9_v7 : Ref sig .tc := ⟨.hbm, 306, rfl⟩
abbrev main_call9_v8 : Ref sig .tc := ⟨.hbm, 307, rfl⟩
abbrev main_call9_v9 : Ref sig .tc := ⟨.hbm, 308, rfl⟩
abbrev main_call9_v10 : Ref sig .tc := ⟨.hbm, 309, rfl⟩
abbrev main_call9_v11 : Ref sig .tc := ⟨.hbm, 310, rfl⟩
abbrev main_v226 : Ref sig .tc := ⟨.hbm, 311, rfl⟩
abbrev main_v227 : Ref sig .tc := ⟨.hbm, 312, rfl⟩
abbrev main_cst_46 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_cst_47 : Ref sig .tc := ⟨.hbm, 329, rfl⟩
abbrev main_v243 : Ref sig .tc := ⟨.hbm, 330, rfl⟩
abbrev main_v244 : Ref sig .tc := ⟨.hbm, 331, rfl⟩
abbrev main_cst_48 : Ref sig .tc := ⟨.hbm, 332, rfl⟩
abbrev main_v245 : Ref sig .tc := ⟨.hbm, 333, rfl⟩
abbrev main_v246 : Ref sig .tc := ⟨.hbm, 334, rfl⟩
abbrev main_cst_49 : Ref sig .tc := ⟨.hbm, 335, rfl⟩
abbrev main_v247 : Ref sig .tc := ⟨.hbm, 336, rfl⟩
abbrev main_v248 : Ref sig .tc := ⟨.hbm, 337, rfl⟩
abbrev main_v249 : Ref sig .tc := ⟨.hbm, 338, rfl⟩
abbrev main_v250 : Ref sig .tc := ⟨.hbm, 339, rfl⟩
abbrev main_v251 : Ref sig .tc := ⟨.hbm, 340, rfl⟩
abbrev main_cst_50 : Ref sig .tc := ⟨.hbm, 341, rfl⟩
abbrev main_v252 : Ref sig .tc := ⟨.hbm, 342, rfl⟩
abbrev main_v253 : Ref sig .tc := ⟨.hbm, 343, rfl⟩
abbrev main_v254 : Ref sig .tc := ⟨.hbm, 344, rfl⟩
abbrev main_v255 : Ref sig .tc := ⟨.hbm, 345, rfl⟩
abbrev main_v256 : Ref sig .tc := ⟨.hbm, 346, rfl⟩
abbrev main_v257 : Ref sig .tc := ⟨.hbm, 347, rfl⟩
abbrev main_v258 : Ref sig .tc := ⟨.hbm, 348, rfl⟩
abbrev main_v259 : Ref sig .tc := ⟨.hbm, 349, rfl⟩
abbrev main_cst_51 : Ref sig .tc := ⟨.hbm, 350, rfl⟩
abbrev main_v260 : Ref sig .tc := ⟨.hbm, 351, rfl⟩
abbrev main_v261 : Ref sig .tc := ⟨.hbm, 352, rfl⟩
abbrev main_v262 : Ref sig .tc := ⟨.hbm, 353, rfl⟩
abbrev main_v263 : Ref sig .tc := ⟨.hbm, 354, rfl⟩
abbrev main_cst_52 : Ref sig .tc := ⟨.hbm, 355, rfl⟩
abbrev main_v264 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_call10_cst : Ref sig .tc := ⟨.hbm, 376, rfl⟩
abbrev main_call10_v0 : Ref sig .tc := ⟨.hbm, 377, rfl⟩
abbrev main_call10_v1 : Ref sig .tc := ⟨.hbm, 378, rfl⟩
abbrev main_call10_v2 : Ref sig .tc := ⟨.hbm, 379, rfl⟩
abbrev main_call10_v3 : Ref sig .tc := ⟨.hbm, 380, rfl⟩
abbrev main_call10_v4 : Ref sig .tc := ⟨.hbm, 381, rfl⟩
abbrev main_call10_v5 : Ref sig .tc := ⟨.hbm, 382, rfl⟩
abbrev main_call10_v6 : Ref sig .tc := ⟨.hbm, 383, rfl⟩
abbrev main_call10_v7 : Ref sig .tc := ⟨.hbm, 384, rfl⟩
abbrev main_call10_v8 : Ref sig .tc := ⟨.hbm, 385, rfl⟩
abbrev main_call10_v9 : Ref sig .tc := ⟨.hbm, 386, rfl⟩
abbrev main_call10_v10 : Ref sig .tc := ⟨.hbm, 387, rfl⟩
abbrev main_call10_v11 : Ref sig .tc := ⟨.hbm, 388, rfl⟩
abbrev main_v284 : Ref sig .tc := ⟨.hbm, 389, rfl⟩
abbrev main_v285 : Ref sig .tc := ⟨.hbm, 390, rfl⟩
abbrev main_cst_53 : Ref sig .tc := ⟨.hbm, 391, rfl⟩
abbrev main_v286 : Ref sig .tc := ⟨.hbm, 392, rfl⟩
abbrev main_v287 : Ref sig .tc := ⟨.hbm, 393, rfl⟩
abbrev main_v288 : Ref sig .tc := ⟨.hbm, 394, rfl⟩
abbrev main_v289 : Ref sig .tc := ⟨.hbm, 395, rfl⟩
abbrev main_v290 : Ref sig .tc := ⟨.hbm, 396, rfl⟩
abbrev main_v291 : Ref sig .tc := ⟨.hbm, 397, rfl⟩
abbrev main_v292 : Ref sig .tc := ⟨.hbm, 398, rfl⟩
abbrev main_v293 : Ref sig .tc := ⟨.hbm, 399, rfl⟩
abbrev main_v294 : Ref sig .tc := ⟨.hbm, 400, rfl⟩
abbrev main_v295 : Ref sig .tc := ⟨.hbm, 401, rfl⟩
abbrev main_v296 : Ref sig .tc := ⟨.hbm, 402, rfl⟩
abbrev main_v297 : Ref sig .tc := ⟨.hbm, 403, rfl⟩
abbrev main_v298 : Ref sig .tc := ⟨.hbm, 404, rfl⟩
abbrev main_v299 : Ref sig .tc := ⟨.hbm, 405, rfl⟩
abbrev main_v300 : Ref sig .tc := ⟨.hbm, 406, rfl⟩
abbrev main_cst_54 : Ref sig .tc := ⟨.hbm, 407, rfl⟩
abbrev main_v301 : Ref sig .tc := ⟨.hbm, 408, rfl⟩
abbrev main_v302 : Ref sig .tc := ⟨.hbm, 409, rfl⟩
abbrev main_cst_55 : Ref sig .tc := ⟨.hbm, 410, rfl⟩
abbrev main_v303 : Ref sig .tc := ⟨.hbm, 411, rfl⟩
abbrev main_v304 : Ref sig .tc := ⟨.hbm, 412, rfl⟩
abbrev main_cst_56 : Ref sig .tc := ⟨.hbm, 413, rfl⟩
abbrev main_v305 : Ref sig .tc := ⟨.hbm, 414, rfl⟩
abbrev main_v306 : Ref sig .tc := ⟨.hbm, 415, rfl⟩
abbrev main_v307 : Ref sig .tc := ⟨.hbm, 416, rfl⟩
abbrev main_v308 : Ref sig .tc := ⟨.hbm, 417, rfl⟩
abbrev main_v309 : Ref sig .tc := ⟨.hbm, 418, rfl⟩
abbrev main_cst_57 : Ref sig .tc := ⟨.hbm, 419, rfl⟩
abbrev main_v310 : Ref sig .tc := ⟨.hbm, 420, rfl⟩
abbrev main_v311 : Ref sig .tc := ⟨.hbm, 421, rfl⟩
abbrev main_v312 : Ref sig .tc := ⟨.hbm, 422, rfl⟩
abbrev main_v313 : Ref sig .tc := ⟨.hbm, 423, rfl⟩
abbrev main_v314 : Ref sig .tc := ⟨.hbm, 424, rfl⟩
abbrev main_v315 : Ref sig .tc := ⟨.hbm, 425, rfl⟩
abbrev main_v316 : Ref sig .tc := ⟨.hbm, 426, rfl⟩
abbrev main_v317 : Ref sig .tc := ⟨.hbm, 427, rfl⟩
abbrev main_cst_58 : Ref sig .tc := ⟨.hbm, 428, rfl⟩
abbrev main_v318 : Ref sig .tc := ⟨.hbm, 429, rfl⟩
abbrev main_v319 : Ref sig .tc := ⟨.hbm, 430, rfl⟩
abbrev main_v320 : Ref sig .tc := ⟨.hbm, 431, rfl⟩
abbrev main_v321 : Ref sig .tc := ⟨.hbm, 432, rfl⟩
abbrev main_v322 : Ref sig .tc := ⟨.hbm, 433, rfl⟩
abbrev main_v323 : Ref sig .tc := ⟨.hbm, 434, rfl⟩
abbrev main_v324 : Ref sig .tc := ⟨.hbm, 435, rfl⟩
abbrev main_v325 : Ref sig .tc := ⟨.hbm, 436, rfl⟩
abbrev main_v326 : Ref sig .tc := ⟨.hbm, 437, rfl⟩
abbrev main_v327 : Ref sig .tc := ⟨.hbm, 438, rfl⟩
abbrev main_v328 : Ref sig .tc := ⟨.hbm, 439, rfl⟩
abbrev main_v329 : Ref sig .tc := ⟨.hbm, 440, rfl⟩
abbrev main_v330 : Ref sig .tc := ⟨.hbm, 441, rfl⟩
abbrev main_v331 : Ref sig .tc := ⟨.hbm, 442, rfl⟩
abbrev main_v332 : Ref sig .tc := ⟨.hbm, 443, rfl⟩
abbrev main_v333 : Ref sig .tc := ⟨.hbm, 444, rfl⟩
abbrev main_v334 : Ref sig .tc := ⟨.hbm, 445, rfl⟩
abbrev main_v335 : Ref sig .tc := ⟨.hbm, 446, rfl⟩
abbrev main_v336 : Ref sig .tc := ⟨.hbm, 447, rfl⟩
abbrev main_v337 : Ref sig .tc := ⟨.hbm, 448, rfl⟩
abbrev main_v338 : Ref sig .tc := ⟨.hbm, 449, rfl⟩
abbrev main_v339 : Ref sig .tc := ⟨.hbm, 450, rfl⟩
abbrev main_v340 : Ref sig .tc := ⟨.hbm, 451, rfl⟩
abbrev main_v341 : Ref sig .tc := ⟨.hbm, 452, rfl⟩
abbrev main_v342 : Ref sig .tc := ⟨.hbm, 453, rfl⟩
abbrev main_v343 : Ref sig .tc := ⟨.hbm, 454, rfl⟩
abbrev main_v344 : Ref sig .tc := ⟨.hbm, 455, rfl⟩
abbrev main_v345 : Ref sig .tc := ⟨.hbm, 456, rfl⟩
abbrev main_v346 : Ref sig .tc := ⟨.hbm, 457, rfl⟩
abbrev main_v347 : Ref sig .tc := ⟨.hbm, 458, rfl⟩
abbrev main_v348 : Ref sig .tc := ⟨.hbm, 459, rfl⟩
abbrev main_cst_59 : Ref sig .tc := ⟨.hbm, 460, rfl⟩
abbrev main_v349 : Ref sig .tc := ⟨.hbm, 461, rfl⟩
abbrev main_v350 : Ref sig .tc := ⟨.hbm, 462, rfl⟩
abbrev main_cst_60 : Ref sig .tc := ⟨.hbm, 463, rfl⟩
abbrev main_v351 : Ref sig .tc := ⟨.hbm, 464, rfl⟩
abbrev main_v352 : Ref sig .tc := ⟨.hbm, 465, rfl⟩
abbrev main_v353 : Ref sig .tc := ⟨.hbm, 466, rfl⟩

abbrev nD : Nat := 1
abbrev τ : Topo := Topo.v7x

variable {F : FTy → Type} [FloatOps F]
-- ==== Proof.CdInRun.lean ====
/- The run of the feature kernel of an odd layer (in real arithmetic): its frame. The pipeline has 24 windows; the one step over all of
   them, `body_obligation`, needs a larger budget than the generated module gives it, and this is that module with it. -/
module

public import proofs.«01_k».proof.Proof.Gen.CdInIdeal.Launch
public import proofs.«01_k».proof.Proof.Gen.CdInIdeal.Skeleton
public import proofs.«01_k».proof.Proof.Gen.CdInIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.CdInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1440000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_CdInIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

abbrev r0_0 : Rect S256x1024 := Rect.unit (s := S256x1024) ![0, 0] S256x1024.size inb_S256x1024_S256x1024_0_0
abbrev r0_1 : Rect S1x6x1024 := Rect.unit (s := S1x6x1024) ![0, 0, 0] S1x6x1024.size inb_S1x6x1024_S1x6x1024_0_0_0
abbrev r0_2 : Rect S1024x3584 := Rect.unit (s := S1024x3584) ![0, 0] S1024x3584.size inb_S1024x3584_S1024x3584_0_0
abbrev r0_3 : Rect S3x1536 := Rect.unit (s := S3x1536) ![0, 0] S3x1536.size inb_S3x1536_S3x1536_0_0
abbrev r0_4 : Rect S256x512 := Rect.unit (s := S256x512) ![0, 0] S256x512.size inb_S256x512_S256x512_0_0
abbrev r0_5 : Rect S4x512 := Rect.unit (s := S4x512) ![0, 0] S1x512.size inb_S4x512_S1x512_0_0
abbrev r0_6 : Rect S4x512 := Rect.unit (s := S4x512) ![1, 0] S1x512.size inb_S4x512_S1x512_1_0
abbrev r0_7 : Rect S4x512 := Rect.unit (s := S4x512) ![2, 0] S1x512.size inb_S4x512_S1x512_2_0
abbrev r0_8 : Rect S4x512 := Rect.unit (s := S4x512) ![3, 0] S1x512.size inb_S4x512_S1x512_3_0
abbrev r0_9 : Rect S2x1024 := Rect.unit (s := S2x1024) ![0, 0] S1x1024.size inb_S2x1024_S1x1024_0_0
abbrev r0_10 : Rect S2x1024 := Rect.unit (s := S2x1024) ![1, 0] S1x1024.size inb_S2x1024_S1x1024_1_0
abbrev r0_11 : Rect S1024x256 := Rect.unit (s := S1024x256) ![0, 0] S1024x128.size inb_S1024x256_S1024x128_0_0
abbrev r0_12 : Rect S1024x256 := Rect.unit (s := S1024x256) ![0, 128] S1024x128.size inb_S1024x256_S1024x128_0_128
abbrev r0_13 : Rect S256x1024 := Rect.unit (s := S256x1024) ![0, 0] S128x1024.size inb_S256x1024_S128x1024_0_0
abbrev r0_14 : Rect S256x1024 := Rect.unit (s := S256x1024) ![128, 0] S128x1024.size inb_S256x1024_S128x1024_128_0
abbrev r0_15 : Rect S512x512 := Rect.unit (s := S512x512) ![0, 0] S512x512.size inb_S512x512_S512x512_0_0
abbrev r0_16 : Rect S1x512 := Rect.unit (s := S1x512) ![0, 0] S1x512.size inb_S1x512_S1x512_0_0
abbrev r0_17 : Rect S2x256x512 := Rect.unit (s := S2x256x512) ![0, 0, 0] S1x256x512.size inb_S2x256x512_S1x256x512_0_0_0
abbrev r0_18 : Rect S2x256x512 := Rect.unit (s := S2x256x512) ![1, 0, 0] S1x256x512.size inb_S2x256x512_S1x256x512_1_0_0

/-! ## What the body leaves in each output window's buffer -/

/-! ### Values of the body that the stores' payloads, spelt out, would write more than once

    Each is a vector the body binds (often a part call's result), stated over the input windows' blocks and
    numbered on from the skeleton's payload functions (`k0_pay55` …, after `k0_pay54`), so that
    `out0_W` and the values after it name it instead of spelling it out (unfolding them opens a canon
    with them, `unfold_payloads` opens them with the payloads); the comment after each is the printed function's
    name for the value (a count appended where that name is bound again). -/

def k0_pay55 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x1024 .f32 :=
  k0_pay3 (View.ld x0 r0_0) (View.ld x1 r0_1) -- `v11`
def k0_pay56 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x3584 .f32 :=
  k0_pay4 (View.ld x0 r0_0) (View.ld x1 r0_1) (View.ld x2 r0_2) -- `v15`
def k0_pay57 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x1536 .f32 :=
  k0_pay6 (View.ld x0 r0_0) (View.ld x1 r0_1) (View.ld x2 r0_2) (View.ld x3 r0_3) -- `v34`
def k0_pay58 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x1536 .f32 :=
  k0_pay7 (View.ld x0 r0_0) (View.ld x1 r0_1) (View.ld x2 r0_2) -- `v35`
def k0_pay59 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : IVec S256x1536 32 :=
  k0_pay8 -- `v38`
def k0_pay60 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : IVec S256x1536 32 :=
  k0_pay9 -- `v39`
def k0_pay61 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x512 .f32 :=
  k0_pay17 (k0_pay14 (k0_pay56 x0 x1 x2 x3 x4 x5 x6 x7 x8 x9 x10 x11 x12)) (k0_pay15 (k0_pay56 x0 x1 x2 x3 x4 x5 x6 x7 x8 x9 x10 x11 x12)) (k0_pay16 (F := F)) (View.ld x4 r0_5) -- `v83`
def k0_pay62 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x512 .f32 :=
  k0_pay18 (k0_pay56 x0 x1 x2 x3 x4 x5 x6 x7 x8 x9 x10 x11 x12) (View.ld x4 r0_6) -- `v112`
def k0_pay63 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x512 .f32 :=
  k0_pay22 (k0_pay19 (k0_pay56 x0 x1 x2 x3 x4 x5 x6 x7 x8 x9 x10 x11 x12)) (k0_pay20 (k0_pay56 x0 x1 x2 x3 x4 x5 x6 x7 x8 x9 x10 x11 x12)) k0_pay21 (View.ld x4 r0_7) -- `v141`
def k0_pay64 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x512 .f32 :=
  constant S256x512 .f32 0x00000000#32 -- `cst_103`
def k0_pay65 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x1024 .f32 :=
  k0_pay31 (k0_pay29 (k0_pay55 x0 x1 x2 x3 x4 x5 x6 x7 x8 x9 x10 x11 x12) (View.ld x5 r0_9)) (View.ld x6 r0_11) (View.ld x7 r0_13) (View.ld x8 r0_9) -- `v219`
def k0_pay66 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x1024 .f32 :=
  k0_pay32 (k0_pay55 x0 x1 x2 x3 x4 x5 x6 x7 x8 x9 x10 x11 x12) (k0_pay30 (k0_pay55 x0 x1 x2 x3 x4 x5 x6 x7 x8 x9 x10 x11 x12) (View.ld x5 r0_10)) (View.ld x6 r0_12) (View.ld x7 r0_14) (View.ld x8 r0_10) -- `v227`
def k0_pay67 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S512x512 .bf16 :=
  k0_pay33 (View.ld x12 r0_15) -- `v229`
def k0_pay68 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x512 .f32 :=
  k0_pay34 (k0_pay62 x0 x1 x2 x3 x4 x5 x6 x7 x8 x9 x10 x11 x12) (View.ld x9 r0_16) -- `v233`
def k0_pay69 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x512 .bf16 :=
  k0_pay37 (k0_pay62 x0 x1 x2 x3 x4 x5 x6 x7 x8 x9 x10 x11 x12) (View.ld x9 r0_16) -- `v238`
def k0_pay70 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x512 .f32 :=
  k0_pay38 (k0_pay62 x0 x1 x2 x3 x4 x5 x6 x7 x8 x9 x10 x11 x12) (View.ld x12 r0_15) (View.ld x9 r0_16) -- `v239`
def k0_pay71 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x512 .f32 :=
  k0_pay39 (k0_pay67 x0 x1 x2 x3 x4 x5 x6 x7 x8 x9 x10 x11 x12) (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay64 x0 x1 x2 x3 x4 x5 x6 x7 x8 x9 x10 x11 x12) -- `v245`
def k0_pay72 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x512 .f32 :=
  k0_pay41 (k0_pay66 x0 x1 x2 x3 x4 x5 x6 x7 x8 x9 x10 x11 x12) -- `v276`
def k0_pay73 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : FVec F S256x512 .f32 :=
  k0_pay43 (k0_pay62 x0 x1 x2 x3 x4 x5 x6 x7 x8 x9 x10 x11 x12) (k0_pay72 x0 x1 x2 x3 x4 x5 x6 x7 x8 x9 x10 x11 x12) (Scalar.ofBits .f32 0x3F800000#32) (View.ld x10 r0_16) -- `v289`

/-- Window 13's staging buffer after the body, from the input windows' blocks: its 1 store as pieces, LAST
    FIRST (Lib/Pipeline/FrameBody.lean `View.canon`; the payloads are the skeleton's and the values stated above). -/
def out0_13 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : Vec F S256x512 .f32 :=
  View.canon [⟨r0_4, k0_pay11 (View.ld x3 r0_3) (k0_pay57 x0 x1 x2 x3 x4 x5 x6 x7 x8 x9 x10 x11 x12) (k0_pay58 x0 x1 x2 x3 x4 x5 x6 x7 x8 x9 x10 x11 x12) (k0_pay59 x0 x1 x2 x3 x4 x5 x6 x7 x8 x9 x10 x11 x12) (k0_pay60 x0 x1 x2 x3 x4 x5 x6 x7 x8 x9 x10 x11 x12)⟩]

/-- Its stores tile the buffer (checked by evaluation), so they cover it. -/
theorem cover0_13 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-- Window 14's staging buffer after the body, from the input windows' blocks: its 1 store as pieces, LAST
    FIRST (Lib/Pipeline/FrameBody.lean `View.canon`; the payloads are the skeleton's and the values stated above). -/
def out0_14 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : Vec F S256x512 .f32 :=
  View.canon [⟨r0_4, k0_pay12 (View.ld x3 r0_3) (k0_pay57 x0 x1 x2 x3 x4 x5 x6 x7 x8 x9 x10 x11 x12) (k0_pay58 x0 x1 x2 x3 x4 x5 x6 x7 x8 x9 x10 x11 x12) (k0_pay59 x0 x1 x2 x3 x4 x5 x6 x7 x8 x9 x10 x11 x12) (k0_pay60 x0 x1 x2 x3 x4 x5 x6 x7 x8 x9 x10 x11 x12)⟩]

/-- Its stores tile the buffer (checked by evaluation), so they cover it. -/
theorem cover0_14 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-- Window 15's staging buffer after the body, from the input windows' blocks: its 1 store as pieces, LAST
    FIRST (Lib/Pipeline/FrameBody.lean `View.canon`; the payloads are the skeleton's and the values stated above). -/
def out0_15 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : Vec F S256x512 .f32 :=
  View.canon [⟨r0_4, k0_pay13 (View.ld x3 r0_3) (k0_pay57 x0 x1 x2 x3 x4 x5 x6 x7 x8 x9 x10 x11 x12) (k0_pay58 x0 x1 x2 x3 x4 x5 x6 x7 x8 x9 x10 x11 x12) (k0_pay59 x0 x1 x2 x3 x4 x5 x6 x7 x8 x9 x10 x11 x12) (k0_pay60 x0 x1 x2 x3 x4 x5 x6 x7 x8 x9 x10 x11 x12)⟩]

/-- Its stores tile the buffer (checked by evaluation), so they cover it. -/
theorem cover0_15 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-- Window 16's staging buffer after the body, from the input windows' blocks: its 1 store as pieces, LAST
    FIRST (Lib/Pipeline/FrameBody.lean `View.canon`; the payloads are the skeleton's and the values stated above). -/
def out0_16 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : Vec F S256x512 .f32 :=
  View.canon [⟨r0_4, k0_pay61 x0 x1 x2 x3 x4 x5 x6 x7 x8 x9 x10 x11 x12⟩]

/-- Its stores tile the buffer (checked by evaluation), so they cover it. -/
theorem cover0_16 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-- Window 17's staging buffer after the body, from the input windows' blocks: its 1 store as pieces, LAST
    FIRST (Lib/Pipeline/FrameBody.lean `View.canon`; the payloads are the skeleton's and the values stated above). -/
def out0_17 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : Vec F S256x512 .f32 :=
  View.canon [⟨r0_4, k0_pay63 x0 x1 x2 x3 x4 x5 x6 x7 x8 x9 x10 x11 x12⟩]

/-- Its stores tile the buffer (checked by evaluation), so they cover it. -/
theorem cover0_17 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-- Window 18's staging buffer after the body, from the input windows' blocks: its 1 store as pieces, LAST
    FIRST (Lib/Pipeline/FrameBody.lean `View.canon`; the payloads are the skeleton's and the values stated above). -/
def out0_18 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : Vec F S256x512 .f32 :=
  View.canon [⟨r0_4, k0_pay39 (k0_pay67 x0 x1 x2 x3 x4 x5 x6 x7 x8 x9 x10 x11 x12) (k0_pay68 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay64 x0 x1 x2 x3 x4 x5 x6 x7 x8 x9 x10 x11 x12)⟩]

/-- Its stores tile the buffer (checked by evaluation), so they cover it. -/
theorem cover0_18 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-- Window 19's staging buffer after the body, from the input windows' blocks: its 2 stores as pieces, LAST
    FIRST (Lib/Pipeline/FrameBody.lean `View.canon`; the payloads are the skeleton's and the values stated above). -/
def out0_19 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : Vec F S2x256x512 .f32 :=
  View.canon [⟨r0_18, k0_pay47 (k0_pay46 (k0_pay65 x0 x1 x2 x3 x4 x5 x6 x7 x8 x9 x10 x11 x12))⟩,
    ⟨r0_17, k0_pay40 (k0_pay65 x0 x1 x2 x3 x4 x5 x6 x7 x8 x9 x10 x11 x12)⟩]

/-- Its stores tile the buffer (checked by evaluation), so they cover it. -/
theorem cover0_19 (p0 : Vec F S1x256x512 .f32) (p1 : Vec F S1x256x512 .f32) (y : S2x256x512.Idx) :
    ∃ pc ∈ ([⟨r0_18, p0⟩, ⟨r0_17, p1⟩] : List (View.Piece (Elt F) S2x256x512 .f32)), y ∈ pc.1.set :=
  View.cover_of_tiled [⟨r0_18, p0⟩, ⟨r0_17, p1⟩] S1x256x512.size (by rfl) y

/-- Window 20's staging buffer after the body, from the input windows' blocks: its 2 stores as pieces, LAST
    FIRST (Lib/Pipeline/FrameBody.lean `View.canon`; the payloads are the skeleton's and the values stated above). -/
def out0_20 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : Vec F S2x256x512 .f32 :=
  View.canon [⟨r0_18, k0_pay50 (k0_pay62 x0 x1 x2 x3 x4 x5 x6 x7 x8 x9 x10 x11 x12) (k0_pay66 x0 x1 x2 x3 x4 x5 x6 x7 x8 x9 x10 x11 x12) (View.ld x10 r0_16)⟩,
    ⟨r0_17, k0_pay44 (k0_pay62 x0 x1 x2 x3 x4 x5 x6 x7 x8 x9 x10 x11 x12) (k0_pay72 x0 x1 x2 x3 x4 x5 x6 x7 x8 x9 x10 x11 x12) (Scalar.ofBits .f32 0x3F800000#32) (View.ld x10 r0_16)⟩]

/-- Its stores tile the buffer (checked by evaluation), so they cover it. -/
theorem cover0_20 (p0 : Vec F S1x256x512 .f32) (p1 : Vec F S1x256x512 .f32) (y : S2x256x512.Idx) :
    ∃ pc ∈ ([⟨r0_18, p0⟩, ⟨r0_17, p1⟩] : List (View.Piece (Elt F) S2x256x512 .f32)), y ∈ pc.1.set :=
  View.cover_of_tiled [⟨r0_18, p0⟩, ⟨r0_17, p1⟩] S1x256x512.size (by rfl) y

/-- Window 21's staging buffer after the body, from the input windows' blocks: its 2 stores as pieces, LAST
    FIRST (Lib/Pipeline/FrameBody.lean `View.canon`; the payloads are the skeleton's and the values stated above). -/
def out0_21 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : Vec F S2x256x512 .f32 :=
  View.canon [⟨r0_18, k0_pay51 (k0_pay66 x0 x1 x2 x3 x4 x5 x6 x7 x8 x9 x10 x11 x12) (k0_pay71 x0 x1 x2 x3 x4 x5 x6 x7 x8 x9 x10 x11 x12)⟩,
    ⟨r0_17, k0_pay45 (k0_pay71 x0 x1 x2 x3 x4 x5 x6 x7 x8 x9 x10 x11 x12) (k0_pay72 x0 x1 x2 x3 x4 x5 x6 x7 x8 x9 x10 x11 x12) (Scalar.ofBits .f32 0x3F800000#32)⟩]

/-- Its stores tile the buffer (checked by evaluation), so they cover it. -/
theorem cover0_21 (p0 : Vec F S1x256x512 .f32) (p1 : Vec F S1x256x512 .f32) (y : S2x256x512.Idx) :
    ∃ pc ∈ ([⟨r0_18, p0⟩, ⟨r0_17, p1⟩] : List (View.Piece (Elt F) S2x256x512 .f32)), y ∈ pc.1.set :=
  View.cover_of_tiled [⟨r0_18, p0⟩, ⟨r0_17, p1⟩] S1x256x512.size (by rfl) y

/-- Window 22's staging buffer after the body, from the input windows' blocks: its 1 store as pieces, LAST
    FIRST (Lib/Pipeline/FrameBody.lean `View.canon`; the payloads are the skeleton's and the values stated above). -/
def out0_22 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : Vec F S256x512 .f32 :=
  View.canon [⟨r0_4, k0_pay1 (k0_pay63 x0 x1 x2 x3 x4 x5 x6 x7 x8 x9 x10 x11 x12) (k0_pay67 x0 x1 x2 x3 x4 x5 x6 x7 x8 x9 x10 x11 x12) (k0_pay53 (k0_pay61 x0 x1 x2 x3 x4 x5 x6 x7 x8 x9 x10 x11 x12) (k0_pay62 x0 x1 x2 x3 x4 x5 x6 x7 x8 x9 x10 x11 x12) (k0_pay66 x0 x1 x2 x3 x4 x5 x6 x7 x8 x9 x10 x11 x12) (k0_pay73 x0 x1 x2 x3 x4 x5 x6 x7 x8 x9 x10 x11 x12) (View.ld x10 r0_16) (View.ld x11 r0_16)) (k0_pay54 (k0_pay61 x0 x1 x2 x3 x4 x5 x6 x7 x8 x9 x10 x11 x12) (k0_pay62 x0 x1 x2 x3 x4 x5 x6 x7 x8 x9 x10 x11 x12) (k0_pay66 x0 x1 x2 x3 x4 x5 x6 x7 x8 x9 x10 x11 x12) (k0_pay73 x0 x1 x2 x3 x4 x5 x6 x7 x8 x9 x10 x11 x12) (View.ld x10 r0_16) (View.ld x11 r0_16)) (constant S256x512 .f32 0x00000000#32)⟩]

/-- Its stores tile the buffer (checked by evaluation), so they cover it. -/
theorem cover0_22 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-- Window 23's staging buffer after the body, from the input windows' blocks: its 1 store as pieces, LAST
    FIRST (Lib/Pipeline/FrameBody.lean `View.canon`; the payloads are the skeleton's and the values stated above). -/
def out0_23 (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) : Vec F S256x512 .f32 :=
  View.canon [⟨r0_4, k0_pay2 (k0_pay27 (k0_pay23 (k0_pay56 x0 x1 x2 x3 x4 x5 x6 x7 x8 x9 x10 x11 x12)) (k0_pay24 (k0_pay56 x0 x1 x2 x3 x4 x5 x6 x7 x8 x9 x10 x11 x12)) (k0_pay25 (k0_pay56 x0 x1 x2 x3 x4 x5 x6 x7 x8 x9 x10 x11 x12)) k0_pay26 (View.ld x4 r0_8))⟩]

/-- Its stores tile the buffer (checked by evaluation), so they cover it. -/
theorem cover0_23 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S1x6x1024 .f32) (harg2 : arg2.IsWhole) (arg3 : Memref sig .tc .vmem S1024x3584 .bf16) (harg3 : arg3.IsWhole) (arg4 : Memref sig .tc .vmem S3x1536 .f32) (harg4 : arg4.IsWhole) (arg5 : Memref sig .tc .vmem S4x512 .f32) (harg5 : arg5.IsWhole) (arg6 : Memref sig .tc .vmem S2x1024 .f32) (harg6 : arg6.IsWhole) (arg7 : Memref sig .tc .vmem S1024x256 .bf16) (harg7 : arg7.IsWhole) (arg8 : Memref sig .tc .vmem S256x1024 .bf16) (harg8 : arg8.IsWhole) (arg9 : Memref sig .tc .vmem S2x1024 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (arg20 : Memref sig .tc .vmem S2x256x512 .f32) (harg20 : arg20.IsWhole) (arg21 : Memref sig .tc .vmem S2x256x512 .f32) (harg21 : arg21.IsWhole) (arg22 : Memref sig .tc .vmem S2x256x512 .f32) (harg22 : arg22.IsWhole) (arg23 : Memref sig .tc .vmem S256x512 .f32) (harg23 : arg23.IsWhole) (arg24 : Memref sig .tc .vmem S256x512 .f32) (harg24 : arg24.IsWhole)
    (x0 : Vec F S256x1024 .f32) (x1 : Vec F S1x6x1024 .f32) (x2 : Vec F S1024x3584 .bf16) (x3 : Vec F S3x1536 .f32) (x4 : Vec F S4x512 .f32) (x5 : Vec F S2x1024 .f32) (x6 : Vec F S1024x256 .bf16) (x7 : Vec F S256x1024 .bf16) (x8 : Vec F S2x1024 .f32) (x9 : Vec F S1x512 .f32) (x10 : Vec F S1x512 .f32) (x11 : Vec F S1x512 .f32) (x12 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12) ∗ owns (c : Thread nD τ) arg17 fullShare (out0_16 x0 x1 x2 x3 x4 x5 x6 x7 x8 x9 x10 x11 x12) ∗ owns (c : Thread nD τ) arg18 fullShare (out0_17 x0 x1 x2 x3 x4 x5 x6 x7 x8 x9 x10 x11 x12) ∗ owns (c : Thread nD τ) arg19 fullShare (out0_18 x0 x1 x2 x3 x4 x5 x6 x7 x8 x9 x10 x11 x12) ∗ owns (c : Thread nD τ) arg20 fullShare (out0_19 x0 x1 x2 x3 x4 x5 x6 x7 x8 x9 x10 x11 x12) ∗ owns (c : Thread nD τ) arg21 fullShare (out0_20 x0 x1 x2 x3 x4 x5 x6 x7 x8 x9 x10 x11 x12) ∗ owns (c : Thread nD τ) arg22 fullShare (out0_21 x0 x1 x2 x3 x4 x5 x6 x7 x8 x9 x10 x11 x12) ∗ owns (c : Thread nD τ) arg23 fullShare (out0_22 x0 x1 x2 x3 x4 x5 x6 x7 x8 x9 x10 x11 x12) ∗ owns (c : Thread nD τ) arg24 fullShare (out0_23 x0 x1 x2 x3 x4 x5 x6 x7 x8 x9 x10 x11 x12)) -∗ K ⟨⟩))
      ⊢ wp frame (wpE (defs₀ (F := F)) Variants.none c none) E (cc0_cd_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_cd_in_eq_skeleton]; unfold cc0_cd_in_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _ _)).trans ?_
    rfl
  isplitl [H20]
  · iexists _; isplitr
    swap; · iexact H20
    ipureintro
    refine (View.read_writes_eq_canon _ _ _ (cover0_20 _ _)).trans ?_
    rfl
  isplitl [H21]
  · iexists _; isplitr
    swap; · iexact H21
    ipureintro
    refine (View.read_writes_eq_canon _ _ _ (cover0_21 _ _)).trans ?_
    rfl
  isplitl [H22]
  · iexists _; isplitr
    swap; · iexact H22
    ipureintro
    refine (View.read_writes_eq_canon _ _ _ (cover0_22 _)).trans ?_
    rfl
  iexists _; isplitr
  swap; · iexact H23
  ipureintro
  refine (View.read_writes_eq_canon _ _ _ (cover0_23 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- THE FRAME: `Cert.quiescent_CdInIdeal`'s statement (Defs.lean) at any `F` — Proof.lean cites it at `Bits`:
    `theorem Cert.Proof.claim : Cert.Claim := ⟨Cert.CdInIdeal.Gen.facts, fun m ρ _ => Cert.CdInIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.CdInIdeal.Gen

end
-- ==== Proof.Rows.lean ====
/- What the token-wise calls compute for ONE token, as plain functions of its 1024 features over the extended reals:
   the layer norm that closes a block, and the squared-ReLU network with its modulation and residual.
   A sum over 4096 hidden units is the sum of its four runs of 1024. -/
module

public import Idealize.ShloMosaic.Lib.Pointwise

@[expose] public section

noncomputable section

namespace Cert.Rows

open Idealize.ShloMosaic
open scoped BigOperators

/-- A token's features. -/
abbrev Row := Fin 1024 → EReal

/-- The mean of 1024 features: their sum divided by the constant 1024. -/
def mean (v : Row) : EReal := Ideal.div (∑ k, v k) (Ideal.ofBits .f32 1149239296#32)

/-- The features with their mean taken off. -/
def centred (v : Row) : Row := fun k => v k - mean v

/-- Layer norm with scale `g` and shift `b`. -/
def norm (v g b : Row) : Row := fun k =>
  centred v k * Ideal.rsqrt (mean (fun q => centred v q * centred v q) + Ideal.ofBits .f32 925353388#32) * g k + b k

/-- `x·(1 + sc) + sh`. -/
def modulate (x sh sc : Row) : Row := fun k => x k * (1 + sc k) + sh k

/-- One hidden unit: the squared positive part of `h·w`. -/
def unit (h w : Row) : EReal := max (∑ k, h k * w k) 0 * max (∑ k, h k * w k) 0

/-- The residual sum of a block, before its layer norm: `α·x + g·y`. -/
def residual (x g y : Row) : Row := fun k => Ideal.ofBits .f32 1071072509#32 * x k + g k * y k

/-- The squared-ReLU network with 4096 hidden units. -/
def network (h : Row) (w1 : Fin 1024 → Fin 4096 → EReal) (w2 : Fin 4096 → Fin 1024 → EReal) : Row :=
  fun j => ∑ k, unit h (fun q => w1 q k) * w2 k j

/-- The network block of a layer on one token. -/
def mlp (x sh sc g2 : Row) (w1 : Fin 1024 → Fin 4096 → EReal) (w2 : Fin 4096 → Fin 1024 → EReal) (g b : Row) : Row :=
  norm (residual x g2 (network (modulate x sh sc) w1 w2)) g b

/-- The output projection of a mixer's two halves. -/
def project (p q : Fin 512 → EReal) (w : Fin 1024 → Fin 1024 → EReal) : Row :=
  fun j => (∑ k : Fin 512, p k * w ⟨k.val, by omega⟩ j) + ∑ k : Fin 512, q k * w ⟨512 + k.val, by omega⟩ j

/-- The closing block of an even layer's mixer on one token: the gated sum of the two directions' states beside the
    convolution's half, projected, added to `α·x` and normalised. -/
def mixed (x g1 : Row) (ya gg hf hb : Fin 512 → EReal) (w : Fin 1024 → Fin 1024 → EReal) (g b : Row) : Row :=
  norm (residual x g1 (project ya (fun k => gg k * (hf k + hb k)) w)) g b

/-- A sum over 1024 features in its two halves. -/
theorem sum_halves (f : Fin 1024 → EReal) :
    ∑ k, f k = (∑ k : Fin 512, f ⟨k.val, by omega⟩) + ∑ k : Fin 512, f ⟨512 + k.val, by omega⟩ := by
  rw [show (∑ k, f k) = ∑ k : Fin (512 + 512), f k from rfl, Fin.sum_univ_add]
  rfl

/-- The sum over 4096 units in four runs of 1024, bracketed to the left. -/
theorem sum_runs (f : Fin 4096 → EReal) :
    ∑ k, f k = ((∑ k : Fin 1024, f ⟨k.val, by omega⟩) + (∑ k : Fin 1024, f ⟨1024 + k.val, by omega⟩)
      + ∑ k : Fin 1024, f ⟨2048 + k.val, by omega⟩) + ∑ k : Fin 1024, f ⟨3072 + k.val, by omega⟩ := by
  rw [show (∑ k, f k) = ∑ k : Fin (1024 + 1024 + 1024 + 1024), f k from rfl, Fin.sum_univ_add, Fin.sum_univ_add, Fin.sum_univ_add]
  rfl

end Cert.Rows

end
-- ==== Proof.MlpValue.lean ====
/- What the network kernel leaves in its result array: every token's row is `Rows.mlp` of that token's row. -/
module

public import proofs.«01_k».proof.Proof.Rows
public import proofs.«01_k».proof.Proof.Gen.MlpIdeal.Value
public import Idealize.ShloMosaic.Lib.Pipeline.ValueKit

@[expose] public section

set_option maxRecDepth 16384

noncomputable section

namespace Cert.MlpIdeal.Rowwise

open Cert.MlpIdeal Cert.MlpIdeal.Gen Idealize.ShloMosaic Idealize.ShloMosaic.TcCoe Idealize.SL.Sem
open Idealize.ShloMosaic.Pipeline (Dat)
open scoped BigOperators

/-- The modulated input of the block's row `r`. -/
theorem modulated_at (x : Vec Ideal S256x1024 .f32) (md : Vec Ideal S1x6x1024 .f32) (r : Fin 256) (q : Fin 1024) :
    k0_pay4 x md (ix2 r q) = Rows.modulate (fun k => x (ix2 r k)) (fun k => md (ix3 0 3 k)) (fun k => md (ix3 0 4 k)) q := by
  unfold_payloads
  pointwise
  rfl

/-- The first two runs of hidden units. -/
theorem runs01_at (x : Vec Ideal S256x1024 .f32) (md : Vec Ideal S1x6x1024 .f32) (u0 d0 u1 d1 : Vec Ideal S1024x1024 .bf16)
    (r : Fin 256) (j : Fin 1024) :
    k0_pay5 x md u0 d0 u1 d1 (ix2 r j)
      = (∑ k, Rows.unit (Rows.modulate (fun k => x (ix2 r k)) (fun k => md (ix3 0 3 k)) (fun k => md (ix3 0 4 k))) (fun q => u0 (ix2 q k)) * d0 (ix2 k j))
        + ∑ k, Rows.unit (Rows.modulate (fun k => x (ix2 r k)) (fun k => md (ix3 0 3 k)) (fun k => md (ix3 0 4 k))) (fun q => u1 (ix2 q k)) * d1 (ix2 k j) := by
  unfold k0_pay5
  pointwise [dot_S256x1024_S1024x1024_S256x1024_1_0_0_1_n_n, modulated_at]
  rfl

/-- The centred residual sum. -/
theorem centred_at (v1 : FVec Ideal S256x1024 .f32) (v3 : FVec Ideal S6x1024 .f32) (v12 : FVec Ideal S256x1024 .bf16) (v33 : FVec Ideal S256x1024 .f32)
    (u2 d2 u3 d3 : Vec Ideal S1024x1024 .bf16) (r : Fin 256) (j : Fin 1024) :
    k0_pay9 v1 v3 v12 v33 u2 (constant (F := Ideal) S256x1024 .f32 0x00000000#32) d2 u3 d3 (ix2 r j)
      = Rows.centred (Rows.residual (fun k => v1 (ix2 r k)) (fun k => v3 (ix2 5 k))
          (fun j => v33 (ix2 r j) + (∑ k, Rows.unit (fun k => v12 (ix2 r k)) (fun q => u2 (ix2 q k)) * d2 (ix2 k j))
            + ∑ k, Rows.unit (fun k => v12 (ix2 r k)) (fun q => u3 (ix2 q k)) * d3 (ix2 k j))) j := by
  unfold k0_pay9
  pointwise [dot_S256x1024_S1024x1024_S256x1024_1_0_0_1_n_n]
  rfl

/-- What the body leaves in row `r` of its block. -/
theorem out_at (x0 : Vec Ideal S256x1024 .f32) (x1 : Vec Ideal S1x6x1024 .f32) (x2 : Vec Ideal S1024x4096 .bf16) (x3 : Vec Ideal S4096x1024 .bf16)
    (x4 x5 : Vec Ideal S1x1024 .f32) (r : Fin 256) (j : Fin 1024) :
    out0_6 x0 x1 x2 x3 x4 x5 (ix2 r j)
      = Rows.mlp (fun k => x0 (ix2 r k)) (fun k => x1 (ix3 0 3 k)) (fun k => x1 (ix3 0 4 k)) (fun k => x1 (ix3 0 5 k))
          (fun q k => x2 (ix2 q k)) (fun k j => x3 (ix2 k j)) (fun k => x4 (ix2 0 k)) (fun k => x5 (ix2 0 k)) j := by
  unfold_out out0_6
  rw [View.canon_unit_zero (by decide)]
  unfold k0_pay1 k0_pay10
  pointwise [centred_at, runs01_at, modulated_at, k0_pay11, k0_pay7, k0_pay8, k0_pay2, k0_pay3, k0_pay6]
  have hn : Rows.network (Rows.modulate (fun k => x0 (ix2 r k)) (fun k => x1 (ix3 0 3 k)) (fun k => x1 (ix3 0 4 k)))
      (fun q k => x2 (ix2 q k)) (fun k j => x3 (ix2 k j)) = fun j => _ := funext fun j => Rows.sum_runs _
  unfold Rows.mlp
  rw [hn]
  rfl

/-- The result array from the call's arguments: row `i` is token `i % 4096` of batch entry `i / 4096`. -/
def result (X : Vec Ideal S8x4096x1024 .f32) (M : Vec Ideal S8x6x1024 .f32) (W1 : Vec Ideal S1024x4096 .f32) (W2 : Vec Ideal S4096x1024 .f32)
    (g b : Vec Ideal S1024 .f32) : Vec Ideal S32768x1024 .f32 := fun i =>
  let n : Fin 8 := ⟨(i 0).val / 4096, by have h : (i 0).val < 32768 := (i 0).isLt; omega⟩
  let t : Fin 4096 := ⟨(i 0).val % 4096, by omega⟩
  let j : Fin 1024 := ⟨(i 1).val, (i 1).isLt⟩
  Rows.mlp (fun k => X (ix3 n t k)) (fun k => M (ix3 n 3 k)) (fun k => M (ix3 n 4 k)) (fun k => M (ix3 n 5 k))
    (fun q k => W1 (ix2 q k)) (fun k j => W2 (ix2 k j)) (fun k => g (ix1 k)) (fun k => b (ix1 k)) j

variable (m : (ℓ : Loc nD τ sig) → Buf (Elt Ideal) ℓ)

/-- The windows' block indices at a grid point. -/
theorem idx : ∀ t : Fin cfg0.N, win0_0.index t = ![t.val, 0] ∧ win0_1.index t = ![t.val / 16, 0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The batch entry and the token that row `r` of point `t`'s block is. -/
abbrev entry (t : Fin cfg0.N) : Fin 8 := ⟨t.val / 16, by have h : t.val < 128 := t.isLt; omega⟩
abbrev token (t : Fin cfg0.N) (r : Fin 256) : Fin 4096 := ⟨t.val % 16 * 256 + r.val, by omega⟩

theorem read0 (c : Dev nD) (t : Fin cfg0.N) (r : Fin 256) (k : Fin 1024) :
    iblk m c 0 t (ix2 r k) = m ((c : Thread nD τ).loc main_arg0) (ix3 (entry t) (token t r) k) := by
  blk_ext! [iblk, V, idx t]

theorem read1 (c : Dev nD) (t : Fin cfg0.N) (a : Fin 6) (k : Fin 1024) :
    iblk m c 1 t (ix3 0 a k) = m ((c : Thread nD τ).loc main_arg1) (ix3 (entry t) a k) := by
  blk_ext! [iblk, V, idx t]

theorem read2 (c : Dev nD) (t : Fin cfg0.N) (q : Fin 1024) (k : Fin 4096) :
    iblk m c 2 t (ix2 q k) = m ((c : Thread nD τ).loc main_arg2) (ix2 q k) := by
  blk_ext! [iblk, V, idx t]

theorem read3 (c : Dev nD) (t : Fin cfg0.N) (q : Fin 4096) (k : Fin 1024) :
    iblk m c 3 t (ix2 q k) = m ((c : Thread nD τ).loc main_arg3) (ix2 q k) := by
  blk_ext! [iblk, V, idx t]

theorem read4 (c : Dev nD) (t : Fin cfg0.N) (k : Fin 1024) :
    iblk m c 4 t (ix2 0 k) = m ((c : Thread nD τ).loc main_arg4) (ix1 k) := by
  blk_ext! [iblk, V, idx t]

theorem read5 (c : Dev nD) (t : Fin cfg0.N) (k : Fin 1024) :
    iblk m c 5 t (ix2 0 k) = m ((c : Thread nD τ).loc main_arg5) (ix1 k) := by
  blk_ext! [iblk, V, idx t]

/-- The result array at row `t·256 + r`. -/
theorem result_at (X : Vec Ideal S8x4096x1024 .f32) (M : Vec Ideal S8x6x1024 .f32) (W1 : Vec Ideal S1024x4096 .f32) (W2 : Vec Ideal S4096x1024 .f32)
    (g b : Vec Ideal S1024 .f32) (i : S32768x1024.Idx) (n : Fin 8) (t : Fin 4096) (j : Fin 1024)
    (h0 : (i 0).val = n.val * 4096 + t.val) (h1 : (i 1).val = j.val) :
    result X M W1 W2 g b i
      = Rows.mlp (fun k => X (ix3 n t k)) (fun k => M (ix3 n 3 k)) (fun k => M (ix3 n 4 k)) (fun k => M (ix3 n 5 k))
          (fun q k => W1 (ix2 q k)) (fun k j => W2 (ix2 k j)) (fun k => g (ix1 k)) (fun k => b (ix1 k)) j := by
  unfold result
  have e0 : (⟨(i 0).val / 4096, by have h : (i 0).val < 32768 := (i 0).isLt; omega⟩ : Fin 8) = n := Fin.ext (by show (i 0).val / 4096 = _; omega)
  have e1 : (⟨(i 0).val % 4096, by omega⟩ : Fin 4096) = t := Fin.ext (by show (i 0).val % 4096 = _; omega)
  have e2 : (⟨(i 1).val, (i 1).isLt⟩ : Fin 1024) = j := Fin.ext h1
  simp only [e0, e1, e2]

/-- What point `t` stores at row `r`, column `j` of its block is the result array's element there. -/
theorem point (c : Dev nD) (t : Fin cfg0.N) (r : Fin 256) (j : Fin 1024) :
    out0_6 (iblk m c 0 t) (iblk m c 1 t) (iblk m c 2 t) (iblk m c 3 t) (iblk m c 4 t) (iblk m c 5 t) (ix2 r j)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb (ix2 r j)) := by
  refine (out_at _ _ _ _ _ _ r j).trans ?_
  rw [result_at _ _ _ _ _ _ _ (entry t) (token t r) j (by blk_simp [idx t]; show _ = t.val / 16 * 4096 + (t.val % 16 * 256 + r.val); omega) (by blk_simp [idx t])]
  simp only [read0, read1, read2, read3, read4, read5]

/-- The kernel's result array after the run. -/
theorem final (c : Dev nD) : (dats m 0 c).arrAt 6 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, eq_ix2 y]
  exact point m c t (y 0) (y 1)

end Cert.MlpIdeal.Rowwise

end
-- ==== Proof.MlpRefValue.lean ====
/- What the plainly written network block computes: every token's row is `Rows.mlp` of that token's row. -/
module

public import proofs.«01_k».proof.Proof.Rows
public import proofs.«01_k».proof.Proof.Gen.MlpRefIdeal.Read

@[expose] public section

set_option maxRecDepth 16384

noncomputable section

namespace Cert.MlpRefIdeal.Rowwise

open Cert.MlpRefIdeal Cert.MlpRefIdeal.Gen Cert.MlpRefIdeal.Read Idealize.ShloMosaic
open scoped BigOperators

variable (X : FVec Ideal S8x4096x1024 .f32) (M : FVec Ideal S8x6x1024 .f32) (W1 : FVec Ideal S1024x4096 .f32)
  (W2 : FVec Ideal S4096x1024 .f32) (g b : FVec Ideal S1024 .f32)

/-- The modulated input. -/
theorem modulated_at (n : Fin 8) (t : Fin 4096) (q : Fin 1024) :
    val_main_v14 (F := Ideal) X M (ix3 n t q) = Rows.modulate (fun k => X (ix3 n t k)) (fun k => M (ix3 n 3 k)) (fun k => M (ix3 n 4 k)) q := by
  pointwise [val_main_v14, val_main_v13, val_main_v12, val_main_v11, val_main_v10, val_main_v9, val_main_cst, val_main_v5, val_main_v4, val_main_v3, val_main_v2, val_main_v1, val_main_v0]
  rfl

/-- The sum that the layer norm takes. -/
theorem residual_at (n : Fin 8) (t : Fin 4096) (j : Fin 1024) :
    val_main_v23 (F := Ideal) X M W1 W2 (ix3 n t j)
      = Rows.residual (fun k => X (ix3 n t k)) (fun k => M (ix3 n 5 k))
          (Rows.network (Rows.modulate (fun k => X (ix3 n t k)) (fun k => M (ix3 n 3 k)) (fun k => M (ix3 n 4 k))) (fun q k => W1 (ix2 q k)) (fun k j => W2 (ix2 k j))) j := by
  pointwise [val_main_v23, val_main_v22, val_main_v21, val_main_v20, val_main_v19, val_main_cst_0, val_main_v8, val_main_v7, val_main_v6, val_main_v18, val_main_v17, val_main_v16, val_main_call0_v0, val_main_call0_cst, val_main_v15, modulated_at]
  rfl

/-- The row `n·4096 + t` of the flat result is token `t` of batch entry `n`. -/
theorem row_of (i : Fin 32768) (j : Fin 1024) (n : Fin 8) (t : Fin 4096) (h : i.val = n.val * 4096 + t.val) :
    idx_main_v46 (ix2 i j) = ix3 n t j := by
  funext a
  match a with
  | ⟨0, _⟩ => exact Fin.ext (by show (i.val * 1024 + j.val) / 4194304 = n.val; omega)
  | ⟨1, _⟩ => exact Fin.ext (by show (i.val * 1024 + j.val) / 1024 % 4096 = t.val; omega)
  | ⟨2, _⟩ => exact Fin.ext (by show (i.val * 1024 + j.val) % 1024 = j.val; omega)

/-- The result's row `n·4096 + t`. -/
theorem out_at (i : Fin 32768) (j : Fin 1024) (n : Fin 8) (t : Fin 4096) (h : i.val = n.val * 4096 + t.val) :
    val_main_v46 (F := Ideal) X M W1 W2 g b (ix2 i j)
      = Rows.mlp (fun k => X (ix3 n t k)) (fun k => M (ix3 n 3 k)) (fun k => M (ix3 n 4 k)) (fun k => M (ix3 n 5 k))
          (fun q k => W1 (ix2 q k)) (fun k j => W2 (ix2 k j)) (fun k => g (ix1 k)) (fun k => b (ix1 k)) j := by
  rw [val_main_v46_apply, show idx_main_v46 (ix2 i j) = ix3 n t j from row_of i j n t h]
  pointwise [val_main_v45, val_main_v44, val_main_v43, val_main_v42, val_main_v41, val_main_v40, val_main_v39, val_main_v38, val_main_v37, val_main_v36, val_main_v35, val_main_cst_5, val_main_v34, val_main_v33, val_main_cst_4, val_main_v32, val_main_v31, val_main_cst_3, val_main_v30, val_main_v29, val_main_v28, val_main_v27, val_main_v26, val_main_cst_2, val_main_v25, val_main_v24, val_main_cst_1, residual_at]
  rfl

end Cert.MlpRefIdeal.Rowwise

end
-- ==== Proof.MlpClaim.lean ====
/- The network block's equality of values: the kernel's result array and the plain text's are the same array. -/
module

public import proofs.«01_k».proof.Defs
public import proofs.«01_k».proof.Proof.Rows
public import proofs.«01_k».proof.Proof.MlpValue
public import proofs.«01_k».proof.Proof.MlpRefValue
public import proofs.«01_k».proof.Proof.Gen.MlpRefIdeal.Run
public import Idealize.ShloMosaic.Lib.Claim

@[expose] public section

set_option maxRecDepth 16384

noncomputable section

namespace Cert.MlpClaim

open Idealize.ShloMosaic Idealize.SL.Sem

/-- The plain text's array is the kernel's, element by element. -/
theorem agree (X : FVec Ideal Cert.MlpRefIdeal.S8x4096x1024 .f32) (M : FVec Ideal Cert.MlpRefIdeal.S8x6x1024 .f32)
    (W1 : FVec Ideal Cert.MlpRefIdeal.S1024x4096 .f32) (W2 : FVec Ideal Cert.MlpRefIdeal.S4096x1024 .f32)
    (g b : FVec Ideal Cert.MlpRefIdeal.S1024 .f32) :
    Cert.MlpRefIdeal.Read.val_main_v46 (F := Ideal) X M W1 W2 g b = Cert.MlpIdeal.Rowwise.result X M W1 W2 g b := by
  funext y
  have h : (y 0).val < 32768 := (y 0).isLt
  rw [Cert.MlpIdeal.Rowwise.result_at X M W1 W2 g b y ⟨(y 0).val / 4096, by omega⟩ ⟨(y 0).val % 4096, by omega⟩ (y 1)
    (by show (y 0).val = (y 0).val / 4096 * 4096 + (y 0).val % 4096; omega) rfl]
  refine (congrArg _ (eq_ix2 y)).trans (Cert.MlpRefIdeal.Rowwise.out_at X M W1 W2 g b (y 0) (y 1) _ _ ?_)
  show (y 0).val = (y 0).val / 4096 * 4096 + (y 0).val % 4096
  omega

theorem frame : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

theorem algebraic : Cert.algebraic_MlpIdeal_MlpRefIdeal := by
  intro m g m' g' _ hagree
  refine ⟨_, Cert.MlpIdeal.Value.run_blocks (F := Ideal) m g, ?_⟩
  refine (θ_run Cert.MlpRefIdeal.defs _ _).mono (fun _ h c => ⟨(h c).1.trans ?_, (h c).2⟩) (Cert.MlpRefIdeal.Value.run (F := Ideal) m' g')
  obtain ⟨a0, a1, a2, a3, a4, a5⟩ := hagree c
  rw [Cert.MlpIdeal.Rowwise.final, Cert.MlpRefIdeal.Read.val_main_v46_eq, a0, a1, a2, a3, a4, a5]
  exact agree _ _ _ _ _ _

end Cert.MlpClaim

end
-- ==== Proof.AbOutValue.lean ====
/- What the output-projection kernel leaves in its result array: every token's row is `Rows.mixed` of that token's rows. -/
module

public import proofs.«01_k».proof.Proof.Rows
public import proofs.«01_k».proof.Proof.Gen.AbOutIdeal.Value
public import Idealize.ShloMosaic.Lib.Pipeline.ValueKit

@[expose] public section

set_option maxRecDepth 16384

noncomputable section

namespace Cert.AbOutIdeal.Rowwise

open Cert.AbOutIdeal Cert.AbOutIdeal.Gen Idealize.ShloMosaic Idealize.ShloMosaic.TcCoe Idealize.SL.Sem
open Idealize.ShloMosaic.Pipeline (Dat)
open scoped BigOperators

/-- The residual sum of the block's row `r`. -/
theorem residual_at (x : Vec Ideal S256x1024 .f32) (md : Vec Ideal S1x6x1024 .f32) (gg hf hb ya : Vec Ideal S256x512 .f32)
    (w0 w1 : Vec Ideal S512x1024 .bf16) (r : Fin 256) (j : Fin 1024) :
    k0_pay2 x md gg hf hb ya w0 w1 (ix2 r j)
      = Rows.residual (fun k => x (ix2 r k)) (fun k => md (ix3 0 2 k))
          (fun j => (∑ k : Fin 512, ya (ix2 r k) * w0 (ix2 k j)) + ∑ k : Fin 512, gg (ix2 r k) * (hf (ix2 r k) + hb (ix2 r k)) * w1 (ix2 k j)) j := by
  unfold k0_pay2
  pointwise [dot_S256x512_S512x1024_S256x1024_1_0_0_1_n_n]
  rfl

/-- What the body leaves in row `r` of its block. -/
theorem out_at (x0 : Vec Ideal S256x1024 .f32) (x1 : Vec Ideal S1x6x1024 .f32) (x2 x3 x4 x5 : Vec Ideal S256x512 .f32) (x6 : Vec Ideal S1024x1024 .bf16)
    (x7 x8 : Vec Ideal S1x1024 .f32) (r : Fin 256) (j : Fin 1024) :
    out0_9 x0 x1 x2 x3 x4 x5 x6 x7 x8 (ix2 r j)
      = Rows.mixed (fun k => x0 (ix2 r k)) (fun k => x1 (ix3 0 2 k)) (fun k => x2 (ix2 r k)) (fun k => x3 (ix2 r k)) (fun k => x4 (ix2 r k))
          (fun k => x5 (ix2 r k)) (fun q k => x6 (ix2 q k)) (fun k => x7 (ix2 0 k)) (fun k => x8 (ix2 0 k)) j := by
  unfold out0_9
  rw [View.canon_unit_zero (by decide)]
  unfold k0_pay1 k0_pay5
  pointwise [residual_at, k0_pay3, k0_pay4]
  rfl

/-- The result array from the call's arguments: row `i` is token `i % 4096` of batch entry `i / 4096`. -/
def result (X : Vec Ideal S8x4096x1024 .f32) (M : Vec Ideal S8x6x1024 .f32) (ya gg : Vec Ideal S32768x512 .f32) (hf hb : Vec Ideal S8x4096x512 .f32)
    (W : Vec Ideal S1024x1024 .f32) (g b : Vec Ideal S1024 .f32) : Vec Ideal S32768x1024 .f32 := fun i =>
  let n : Fin 8 := ⟨(i 0).val / 4096, by have h : (i 0).val < 32768 := (i 0).isLt; omega⟩
  let t : Fin 4096 := ⟨(i 0).val % 4096, by omega⟩
  let s : Fin 32768 := ⟨(i 0).val, (i 0).isLt⟩
  let j : Fin 1024 := ⟨(i 1).val, (i 1).isLt⟩
  Rows.mixed (fun k => X (ix3 n t k)) (fun k => M (ix3 n 2 k)) (fun k => ya (ix2 s k)) (fun k => gg (ix2 s k)) (fun k => hf (ix3 n t k))
    (fun k => hb (ix3 n t k)) (fun q k => W (ix2 q k)) (fun k => g (ix1 k)) (fun k => b (ix1 k)) j

/-- The result array at token `t` of batch entry `n`. -/
theorem result_at (X : Vec Ideal S8x4096x1024 .f32) (M : Vec Ideal S8x6x1024 .f32) (ya gg : Vec Ideal S32768x512 .f32) (hf hb : Vec Ideal S8x4096x512 .f32)
    (W : Vec Ideal S1024x1024 .f32) (g b : Vec Ideal S1024 .f32) (i : S32768x1024.Idx) (s : Fin 32768) (n : Fin 8) (t : Fin 4096) (j : Fin 1024)
    (h0 : (i 0).val = s.val) (hs : s.val = n.val * 4096 + t.val) (h1 : (i 1).val = j.val) :
    result X M ya gg hf hb W g b i
      = Rows.mixed (fun k => X (ix3 n t k)) (fun k => M (ix3 n 2 k)) (fun k => ya (ix2 s k)) (fun k => gg (ix2 s k)) (fun k => hf (ix3 n t k))
          (fun k => hb (ix3 n t k)) (fun q k => W (ix2 q k)) (fun k => g (ix1 k)) (fun k => b (ix1 k)) j := by
  unfold result
  have e0 : (⟨(i 0).val / 4096, by have h : (i 0).val < 32768 := (i 0).isLt; omega⟩ : Fin 8) = n := Fin.ext (by show (i 0).val / 4096 = _; omega)
  have e1 : (⟨(i 0).val % 4096, by omega⟩ : Fin 4096) = t := Fin.ext (by show (i 0).val % 4096 = _; omega)
  have e2 : (⟨(i 0).val, (i 0).isLt⟩ : Fin 32768) = s := Fin.ext h0
  have e3 : (⟨(i 1).val, (i 1).isLt⟩ : Fin 1024) = j := Fin.ext h1
  simp only [e0, e1, e2, e3]

variable (m : (ℓ : Loc nD τ sig) → Buf (Elt Ideal) ℓ)

/-- The windows' block indices at a grid point. -/
theorem idx : ∀ t : Fin cfg0.N, win0_0.index t = ![t.val, 0] ∧ win0_1.index t = ![t.val / 16, 0, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![t.val, 0] :=
  (by decide +kernel : ∀ t : Fin grid0.N, _)

/-- The flat row, the batch entry and the token that row `r` of point `t`'s block is. -/
abbrev flat (t : Fin cfg0.N) (r : Fin 256) : Fin 32768 := ⟨t.val * 256 + r.val, by have h : t.val < 128 := t.isLt; omega⟩
abbrev entry (t : Fin cfg0.N) : Fin 8 := ⟨t.val / 16, by have h : t.val < 128 := t.isLt; omega⟩
abbrev token (t : Fin cfg0.N) (r : Fin 256) : Fin 4096 := ⟨t.val % 16 * 256 + r.val, by omega⟩

theorem read0 (c : Dev nD) (t : Fin cfg0.N) (r : Fin 256) (k : Fin 1024) :
    iblk m c 0 t (ix2 r k) = m ((c : Thread nD τ).loc main_arg0) (ix3 (entry t) (token t r) k) := by
  blk_ext! [iblk, V, idx t]

theorem read1 (c : Dev nD) (t : Fin cfg0.N) (a : Fin 6) (k : Fin 1024) :
    iblk m c 1 t (ix3 0 a k) = m ((c : Thread nD τ).loc main_arg1) (ix3 (entry t) a k) := by
  blk_ext! [iblk, V, idx t]

theorem read2 (c : Dev nD) (t : Fin cfg0.N) (r : Fin 256) (k : Fin 512) :
    iblk m c 2 t (ix2 r k) = m ((c : Thread nD τ).loc main_arg2) (ix2 (flat t r) k) := by
  blk_ext! [iblk, V, idx t]

theorem read3 (c : Dev nD) (t : Fin cfg0.N) (r : Fin 256) (k : Fin 512) :
    iblk m c 3 t (ix2 r k) = m ((c : Thread nD τ).loc main_arg3) (ix2 (flat t r) k) := by
  blk_ext! [iblk, V, idx t]

theorem read4 (c : Dev nD) (t : Fin cfg0.N) (r : Fin 256) (k : Fin 512) :
    iblk m c 4 t (ix2 r k) = m ((c : Thread nD τ).loc main_arg4) (ix3 (entry t) (token t r) k) := by
  blk_ext! [iblk, V, idx t]

theorem read5 (c : Dev nD) (t : Fin cfg0.N) (r : Fin 256) (k : Fin 512) :
    iblk m c 5 t (ix2 r k) = m ((c : Thread nD τ).loc main_arg5) (ix3 (entry t) (token t r) k) := by
  blk_ext! [iblk, V, idx t]

theorem read6 (c : Dev nD) (t : Fin cfg0.N) (q k : Fin 1024) :
    iblk m c 6 t (ix2 q k) = m ((c : Thread nD τ).loc main_arg6) (ix2 q k) := by
  blk_ext! [iblk, V, idx t]

theorem read7 (c : Dev nD) (t : Fin cfg0.N) (k : Fin 1024) :
    iblk m c 7 t (ix2 0 k) = m ((c : Thread nD τ).loc main_arg7) (ix1 k) := by
  blk_ext! [iblk, V, idx t]

theorem read8 (c : Dev nD) (t : Fin cfg0.N) (k : Fin 1024) :
    iblk m c 8 t (ix2 0 k) = m ((c : Thread nD τ).loc main_arg8) (ix1 k) := by
  blk_ext! [iblk, V, idx t]

/-- The result array of the launch contents. -/
abbrev target (c : Dev nD) : Vec Ideal S32768x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What point `t` stores at row `r`, column `j` of its block is the result array's element there. -/
theorem point (c : Dev nD) (t : Fin cfg0.N) (r : Fin 256) (j : Fin 1024) :
    out0_9 (iblk m c 0 t) (iblk m c 1 t) (iblk m c 2 t) (iblk m c 3 t) (iblk m c 4 t) (iblk m c 5 t) (iblk m c 6 t) (iblk m c 7 t) (iblk m c 8 t) (ix2 r j)
      = target m c (((cfg0.win 9).blk t).view.emb (ix2 r j)) := by
  refine (out_at _ _ _ _ _ _ _ _ _ r j).trans ?_
  rw [target, result_at _ _ _ _ _ _ _ _ _ _ (flat t r) (entry t) (token t r) j (by blk_simp [idx t])
    (by show t.val * 256 + r.val = t.val / 16 * 4096 + (t.val % 16 * 256 + r.val); omega) (by blk_simp [idx t])]
  simp only [read0, read1, read2, read3, read4, read5, read6, read7, read8]

/-- The kernel's result array after the run. -/
theorem final (c : Dev nD) : (dats m 0 c).arrAt 9 cfg0.N = target m c := by
  refine (dats m 0 c).arrAt_eq_of_covers 9 _ (by decide +kernel) fun t _ y => ?_
  blk_simp
  rw [after0_9, eq_ix2 y]
  exact point m c t (y 0) (y 1)

end Cert.AbOutIdeal.Rowwise

end
-- ==== Proof.AbOutRefValue.lean ====
/- What the plainly written output projection computes: every token's row is `Rows.mixed` of that token's rows. -/
module

public import proofs.«01_k».proof.Proof.Rows
public import proofs.«01_k».proof.Proof.Gen.AbOutRefIdeal.Read

@[expose] public section

set_option maxRecDepth 16384

noncomputable section

namespace Cert.AbOutRefIdeal.Rowwise

open Cert.AbOutRefIdeal Cert.AbOutRefIdeal.Gen Cert.AbOutRefIdeal.Read Idealize.ShloMosaic
open scoped BigOperators

variable (X : FVec Ideal S8x4096x1024 .f32) (M : FVec Ideal S8x6x1024 .f32) (ya gg : FVec Ideal S32768x512 .f32) (hf hb : FVec Ideal S8x4096x512 .f32)
  (W : FVec Ideal S1024x1024 .f32) (g b : FVec Ideal S1024 .f32)

/-- A row of the flat arrays, by batch entry and token. -/
abbrev flat (n : Fin 8) (t : Fin 4096) : Fin 32768 := ⟨n.val * 4096 + t.val, by omega⟩

theorem flat_ya (n : Fin 8) (t : Fin 4096) (k : Fin 512) : val_main_v6 (F := Ideal) ya (ix3 n t k) = ya (ix2 (flat n t) k) := by
  rw [val_main_v6_apply]
  refine congrArg ya (funext fun a => ?_)
  match a with
  | ⟨0, _⟩ => exact Fin.ext (by show ((n.val * 4096 + t.val) * 512 + k.val) / 512 = n.val * 4096 + t.val; omega)
  | ⟨1, _⟩ => exact Fin.ext (by show ((n.val * 4096 + t.val) * 512 + k.val) % 512 = k.val; omega)

theorem flat_gg (n : Fin 8) (t : Fin 4096) (k : Fin 512) : val_main_v3 (F := Ideal) gg (ix3 n t k) = gg (ix2 (flat n t) k) := flat_ya gg n t k

/-- The two halves side by side: the convolution's half first. -/
theorem halves_at (n : Fin 8) (t : Fin 4096) (k : Fin 1024) :
    val_main_v7 (F := Ideal) ya gg hf hb (ix3 n t k)
      = if h : k.val < 512 then ya (ix2 (flat n t) ⟨k.val, h⟩)
        else gg (ix2 (flat n t) ⟨k.val - 512, by omega⟩) * (hf (ix3 n t ⟨k.val - 512, by omega⟩) + hb (ix3 n t ⟨k.val - 512, by omega⟩)) := by
  pointwise [val_main_v7, val_main_v5, val_main_v4, flat_gg, flat_ya]

/-- The projection of the two halves. -/
theorem project_at (n : Fin 8) (t : Fin 4096) (j : Fin 1024) :
    ∑ x : Fin 1024, (val_main_v7 (F := Ideal) ya gg hf hb (ix3 n t x) : EReal) * W (ix2 x j)
      = Rows.project (fun k => ya (ix2 (flat n t) k)) (fun k => gg (ix2 (flat n t) k) * (hf (ix3 n t k) + hb (ix3 n t k))) (fun q k => W (ix2 q k)) j := by
  rw [Rows.sum_halves]
  unfold Rows.project
  congr 1
  · refine Finset.sum_congr rfl fun k _ => ?_
    rw [halves_at, dif_pos k.isLt]
  · refine Finset.sum_congr rfl fun k _ => ?_
    rw [halves_at, dif_neg (by simp)]
    simp only [Nat.add_sub_cancel_left]

/-- The sum that the layer norm takes. -/
theorem residual_at (n : Fin 8) (t : Fin 4096) (j : Fin 1024) :
    val_main_v13 (F := Ideal) X M ya gg hf hb W (ix3 n t j)
      = Rows.residual (fun k => X (ix3 n t k)) (fun k => M (ix3 n 2 k))
          (Rows.project (fun k => ya (ix2 (flat n t) k)) (fun k => gg (ix2 (flat n t) k) * (hf (ix3 n t k) + hb (ix3 n t k))) (fun q k => W (ix2 q k))) j := by
  pointwise [val_main_v13, val_main_v12, val_main_v11, val_main_v10, val_main_v9, val_main_cst, val_main_v8, val_main_v2, val_main_v1, val_main_v0]
  rw [project_at]
  rfl

/-- The row `n·4096 + t` of the flat result is token `t` of batch entry `n`. -/
theorem row_of (i : Fin 32768) (j : Fin 1024) (n : Fin 8) (t : Fin 4096) (h : i.val = n.val * 4096 + t.val) :
    idx_main_v36 (ix2 i j) = ix3 n t j := by
  funext a
  match a with
  | ⟨0, _⟩ => exact Fin.ext (by show (i.val * 1024 + j.val) / 4194304 = n.val; omega)
  | ⟨1, _⟩ => exact Fin.ext (by show (i.val * 1024 + j.val) / 1024 % 4096 = t.val; omega)
  | ⟨2, _⟩ => exact Fin.ext (by show (i.val * 1024 + j.val) % 1024 = j.val; omega)

/-- The result's row `n·4096 + t`. -/
theorem out_at (i : Fin 32768) (j : Fin 1024) (n : Fin 8) (t : Fin 4096) (h : i.val = n.val * 4096 + t.val) :
    val_main_v36 (F := Ideal) X M ya gg hf hb W g b (ix2 i j)
      = Rows.mixed (fun k => X (ix3 n t k)) (fun k => M (ix3 n 2 k)) (fun k => ya (ix2 (flat n t) k)) (fun k => gg (ix2 (flat n t) k))
          (fun k => hf (ix3 n t k)) (fun k => hb (ix3 n t k)) (fun q k => W (ix2 q k)) (fun k => g (ix1 k)) (fun k => b (ix1 k)) j := by
  rw [val_main_v36_apply, show idx_main_v36 (ix2 i j) = ix3 n t j from row_of i j n t h]
  pointwise [val_main_v35, val_main_v34, val_main_v33, val_main_v32, val_main_v31, val_main_v30, val_main_v29, val_main_v28, val_main_v27, val_main_v26, val_main_v25, val_main_cst_4, val_main_v24, val_main_v23, val_main_cst_3, val_main_v22, val_main_v21, val_main_cst_2, val_main_v20, val_main_v19, val_main_v18, val_main_v17, val_main_v16, val_main_cst_1, val_main_v15, val_main_v14, val_main_cst_0, residual_at]
  rfl

end Cert.AbOutRefIdeal.Rowwise

end
-- ==== Proof.AbOutClaim.lean ====
/- The output projection's equality of values: the kernel's result array and the plain text's are the same array. -/
module

public import proofs.«01_k».proof.Defs
public import proofs.«01_k».proof.Proof.Rows
public import proofs.«01_k».proof.Proof.AbOutValue
public import proofs.«01_k».proof.Proof.AbOutRefValue
public import proofs.«01_k».proof.Proof.Gen.AbOutRefIdeal.Run
public import Idealize.ShloMosaic.Lib.Claim

@[expose] public section

set_option maxRecDepth 16384

noncomputable section

namespace Cert.AbOutClaim

open Idealize.ShloMosaic Idealize.SL.Sem

/-- The plain text's array is the kernel's, element by element. -/
theorem agree (X : FVec Ideal Cert.AbOutRefIdeal.S8x4096x1024 .f32) (M : FVec Ideal Cert.AbOutRefIdeal.S8x6x1024 .f32)
    (ya gg : FVec Ideal Cert.AbOutRefIdeal.S32768x512 .f32) (hf hb : FVec Ideal Cert.AbOutRefIdeal.S8x4096x512 .f32)
    (W : FVec Ideal Cert.AbOutRefIdeal.S1024x1024 .f32) (g b : FVec Ideal Cert.AbOutRefIdeal.S1024 .f32) :
    Cert.AbOutRefIdeal.Read.val_main_v36 (F := Ideal) X M ya gg hf hb W g b = Cert.AbOutIdeal.Rowwise.result X M ya gg hf hb W g b := by
  funext y
  have h : (y 0).val < 32768 := (y 0).isLt
  have e : (y 0).val = (y 0).val / 4096 * 4096 + (y 0).val % 4096 := by omega
  rw [Cert.AbOutIdeal.Rowwise.result_at X M ya gg hf hb W g b y ⟨(y 0).val / 4096 * 4096 + (y 0).val % 4096, by omega⟩
    ⟨(y 0).val / 4096, by omega⟩ ⟨(y 0).val % 4096, by omega⟩ (y 1) e rfl rfl]
  exact (congrArg _ (eq_ix2 y)).trans
    (Cert.AbOutRefIdeal.Rowwise.out_at X M ya gg hf hb W g b (y 0) (y 1) ⟨(y 0).val / 4096, by omega⟩ ⟨(y 0).val % 4096, by omega⟩ e)

theorem frame : Cert.quiescent_AbOutRefIdeal := fun m ρ _ =>
  (θ_run Cert.AbOutRefIdeal.defs _ _).mono (fun r h => ⟨fun c => (h c).2, sem_eq_zero_of_no_sems (by decide) r.2⟩)
    (Cert.AbOutRefIdeal.Value.run (F := Ideal) m ρ)

theorem algebraic : Cert.algebraic_AbOutIdeal_AbOutRefIdeal := by
  intro m g m' g' _ hagree
  refine ⟨_, Cert.AbOutIdeal.Value.run_blocks (F := Ideal) m g, ?_⟩
  refine (θ_run Cert.AbOutRefIdeal.defs _ _).mono (fun _ h c => ⟨(h c).1.trans ?_, (h c).2⟩) (Cert.AbOutRefIdeal.Value.run (F := Ideal) m' g')
  obtain ⟨a0, a1, a2, a3, a4, a5, a6, a7, a8⟩ := hagree c
  rw [Cert.AbOutIdeal.Rowwise.final, Cert.AbOutRefIdeal.Read.val_main_v36_eq, a0, a1, a2, a3, a4, a5, a6, a7, a8]
  exact agree _ _ _ _ _ _ _ _ _

end Cert.AbOutClaim

end
-- ==== Proof.LruRows.lean ====
/- The recurrence inside one block of 512 positions: what the kernel's loop carries and stores, trip by trip. -/
module

public import proofs.«01_k».proof.Proof.Gen.LruIdeal.Frame
public import proofs.«01_k».proof.Proof.Gen.LruIdeal.Loops
public import proofs.«01_k».proof.Proof.Gen.LruIdeal.Points
public import Idealize.ShloMosaic.Lib.WordCmp
public import Idealize.ShloMosaic.Lib.ValueIdx
public import Idealize.ShloMosaic.Lib.Pointwise

@[expose] public section

set_option maxRecDepth 16384

noncomputable section

namespace Cert.LruRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LruIdeal Cert.LruIdeal.Gen

variable {F : FTy → Type} [FloatOps F]

/-! ## The recurrence inside one block -/

/-- Row `k` of a block of 512 rows. -/
def rowAt (x : Vec F S1x1x512x512 .f32) (k : ℕ) : Vec F S1x1x1x512 .f32 := fun y =>
  x (ix4 (0 : Fin 1) (0 : Fin 1) (⟨k % 512, Nat.mod_lt _ (by decide)⟩ : Fin 512) (⟨(y 3).val, (y 3).isLt⟩ : Fin 512))

/-- The forward state after `k` rows of the block, from the state `h`. -/
def fwd (x0 x1 : Vec F S1x1x512x512 .f32) (h : Vec F S1x512 .f32) : ℕ → Vec F S1x512 .f32
  | 0 => h
  | k + 1 => k0_pay2 (fwd x0 x1 h k) (rowAt x0 k) (rowAt x1 k)

/-- The backward state after `k` rows of the block, taken from the last row up. -/
def bwd (x2 x3 : Vec F S1x1x512x512 .f32) (h : Vec F S1x512 .f32) : ℕ → Vec F S1x512 .f32
  | 0 => h
  | k + 1 => k0_pay3 (bwd x2 x3 h k) (rowAt x2 (511 - k)) (rowAt x3 (511 - k))

/-- The block of forward states: row `r` holds the state after row `r`. -/
def hfBlk (x0 x1 : Vec F S1x1x512x512 .f32) (h : Vec F S1x512 .f32) : Vec F S1x512x512 .f32 := fun y =>
  fwd x0 x1 h ((y 1).val + 1) (ix2 (0 : Fin 1) (⟨(y 2).val, (y 2).isLt⟩ : Fin 512))

/-- The block of backward states: row `r` holds the state once the rows from the last to `r` are taken. -/
def hbBlk (x2 x3 : Vec F S1x1x512x512 .f32) (h : Vec F S1x512 .f32) : Vec F S1x512x512 .f32 := fun y =>
  bwd x2 x3 h (512 - (y 1).val) (ix2 (0 : Fin 1) (⟨(y 2).val, (y 2).isLt⟩ : Fin 512))

/-! ## The offsets of trip `k` -/

theorem trips_eq : k0_t1_loop.trips = 512 := by decide

theorem off1_eq (k : Fin k0_t1_loop.trips) : k0_off1 k = ![0, 0, k.val, 0] := by
  funext a; exact (by decide +kernel : ∀ (k : Fin k0_t1_loop.trips) (a : Fin 4), k0_off1 k a = ![0, 0, k.val, 0] a) k a

theorem off2_eq (k : Fin k0_t1_loop.trips) : k0_off2 k = ![0, 0, 511 - k.val, 0] := by
  funext a; exact (by decide +kernel : ∀ (k : Fin k0_t1_loop.trips) (a : Fin 4), k0_off2 k a = ![0, 0, 511 - k.val, 0] a) k a

theorem off3_eq (k : Fin k0_t1_loop.trips) : k0_off3 k = ![0, k.val, 0] := by
  funext a; exact (by decide +kernel : ∀ (k : Fin k0_t1_loop.trips) (a : Fin 3), k0_off3 k a = ![0, k.val, 0] a) k a

theorem off4_eq (k : Fin k0_t1_loop.trips) : k0_off4 k = ![0, 511 - k.val, 0] := by
  funext a; exact (by decide +kernel : ∀ (k : Fin k0_t1_loop.trips) (a : Fin 3), k0_off4 k a = ![0, 511 - k.val, 0] a) k a

/-- A row of a block, loaded at an offset whose row is `n`, is `rowAt` of it. -/
theorem ld_row (x : Vec F S1x1x512x512 .f32) {off : Fin 4 → ℕ} (inb) (n : ℕ) (hn : n < 512) (h : off = ![0, 0, n, 0]) :
    View.ld x (Rect.unit (s := S1x1x512x512) off S1x1x1x512.size inb) = rowAt x n := by
  subst h
  funext y
  unfold View.ld rowAt
  refine congrArg x ?_
  funext a
  match a with
  | 0 => exact Fin.ext (by have := (y 0).isLt; simp [Rect.unit, Rect.emb] at *; omega)
  | 1 => exact Fin.ext (by have := (y 1).isLt; simp [Rect.unit, Rect.emb] at *; omega)
  | 2 => exact Fin.ext (by have := (y 2).isLt; simp [Rect.unit, Rect.emb, Nat.mod_eq_of_lt hn] at *; omega)
  | 3 => exact Fin.ext (by simp [Rect.unit, Rect.emb])

theorem tripR_eq (𝒱 : Variants) (c : Dev nD) (bd : Option 𝒱.V) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole)
    (arg6 : Memref sig .tc .vmem S1x2x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x2x512 .f32) (harg9 : arg9.IsWhole) (arg10 : Memref sig .tc .vmem S2x512 .f32) (harg10 : arg10.IsWhole)
    (x0 x1 x2 x3 : Vec F S1x1x512x512 .f32) (k : Fin k0_t1_loop.trips) (acc : Vec F S1x512 .f32 × Vec F S1x512 .f32) :
    tripR_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) k acc
      = (k0_pay2 acc.1 (rowAt x0 k.val) (rowAt x1 k.val), k0_pay3 acc.2 (rowAt x2 (511 - k.val)) (rowAt x3 (511 - k.val))) := by
  unfold tripR_k0_t1 trip_k0_t1
  dsimp only
  simp only [View.readAt_eq_ld, Memref.IsWhole.read_unread]
  have hk : k.val < 512 := trips_eq ▸ k.isLt
  rw [ld_row x0 _ _ hk (off1_eq k), ld_row x1 _ _ hk (off1_eq k), ld_row x2 _ _ (by omega) (off2_eq k), ld_row x3 _ _ (by omega) (off2_eq k)]

theorem tripL_eq (𝒱 : Variants) (c : Dev nD) (bd : Option 𝒱.V) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole)
    (arg6 : Memref sig .tc .vmem S1x2x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x2x512 .f32) (harg9 : arg9.IsWhole) (arg10 : Memref sig .tc .vmem S2x512 .f32) (harg10 : arg10.IsWhole)
    (x0 x1 x2 x3 : Vec F S1x1x512x512 .f32) (k : Fin k0_t1_loop.trips) (acc : Vec F S1x512 .f32 × Vec F S1x512 .f32) :
    tripL_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) k acc
      = ([⟨Rect.unit (k0_off3 k) S1x1x512.size (k0_off3_inb k), k0_pay4 acc.1 (rowAt x0 k.val) (rowAt x1 k.val)⟩],
         [⟨Rect.unit (k0_off4 k) S1x1x512.size (k0_off4_inb k), k0_pay5 acc.2 (rowAt x2 (511 - k.val)) (rowAt x3 (511 - k.val))⟩]) := by
  unfold tripL_k0_t1 trip_k0_t1
  dsimp only
  simp only [View.readAt_eq_ld, Memref.IsWhole.read_unread]
  have hk : k.val < 512 := trips_eq ▸ k.isLt
  rw [ld_row x0 _ _ hk (off1_eq k), ld_row x1 _ _ hk (off1_eq k), ld_row x2 _ _ (by omega) (off2_eq k), ld_row x3 _ _ (by omega) (off2_eq k)]

/-- A row stored into a block is the state itself, under one more axis. -/
theorem pay4_at (h : Vec F S1x512 .f32) (v w : Vec F S1x1x1x512 .f32) (j : Fin 512) :
    k0_pay4 h v w (ix3 (0 : Fin 1) (0 : Fin 1) j) = k0_pay2 h v w (ix2 (0 : Fin 1) j) := by
  unfold k0_pay4
  generalize k0_pay2 h v w = u
  pointwise

theorem pay5_at (h : Vec F S1x512 .f32) (v w : Vec F S1x1x1x512 .f32) (j : Fin 512) :
    k0_pay5 h v w (ix3 (0 : Fin 1) (0 : Fin 1) j) = k0_pay3 h v w (ix2 (0 : Fin 1) j) := by
  unfold k0_pay5
  generalize k0_pay3 h v w = u
  pointwise

/-! ## The loop's state before trip `n` -/

/-- The values a list of row stores writes are those of the block `G`, and the stores reach the rows that satisfy `P`. -/
structure Rows (G : Vec F S1x512x512 .f32) (P : ℕ → Prop) (L : List (View.Piece (Elt F) S1x512x512 .f32)) : Prop where
  value : ∀ p ∈ L, ∀ x : p.1.shape.Idx, p.2 x = G (p.1.emb x)
  reach : ∀ y : S1x512x512.Idx, P (y 1).val → ∃ p ∈ L, y ∈ p.1.set

theorem Rows.nil (G : Vec F S1x512x512 .f32) {P : ℕ → Prop} (h : ∀ r, ¬P r) : Rows G P [] :=
  ⟨fun _ hp => absurd hp List.not_mem_nil, fun y hy => absurd hy (h _)⟩

/-- One more row store in front of the list. -/
theorem Rows.cons {G : Vec F S1x512x512 .f32} {P Q : ℕ → Prop} {L : List (View.Piece (Elt F) S1x512x512 .f32)} (h : Rows G P L)
    {off : Fin 3 → ℕ} (inb) (v : Vec F S1x1x512 .f32) (r : ℕ) (hoff : off = ![0, r, 0])
    (hv : ∀ (y : S1x512x512.Idx), (y 1).val = r → v (ix3 (0 : Fin 1) (0 : Fin 1) (⟨(y 2).val, (y 2).isLt⟩ : Fin 512)) = G y)
    (hQ : ∀ n, Q n → n = r ∨ P n) :
    Rows G Q (⟨Rect.unit (s := S1x512x512) off S1x1x512.size inb, v⟩ :: L) where
  value p hp x := by
    subst hoff
    rcases List.mem_cons.mp hp with rfl | hp
    · refine Eq.trans (congrArg v ?_) (hv _ ?_)
      · funext a
        match a with
        | 0 => exact Fin.ext (by have h0 : (x 0).val < 1 := (x 0).isLt; simp; omega)
        | 1 => exact Fin.ext (by have h0 : (x 1).val < 1 := (x 1).isLt; simp; omega)
        | 2 => exact Fin.ext (by simp [Rect.unit, Rect.emb])
      · have h0 : (x 1).val < 1 := (x 1).isLt
        simp [Rect.unit, Rect.emb]; omega
    · exact h.value p hp x
  reach y hy := by
    subst hoff
    rcases hQ _ hy with hr | hp
    · refine ⟨⟨Rect.unit (s := S1x512x512) ![0, r, 0] S1x1x512.size inb, v⟩, List.mem_cons_self, (Rect.mem_set_unit (inb := inb)).mpr fun a => ?_⟩
      have h0 : (y 0).val < 1 := (y 0).isLt
      have h2 : (y 2).val < 512 := (y 2).isLt
      match a with
      | 0 => simp; omega
      | 1 => simp; omega
      | 2 => simp; omega
    · obtain ⟨p, hp, hy⟩ := h.reach y hp
      exact ⟨p, List.mem_cons_of_mem _ hp, hy⟩

theorem Rows.read {G : Vec F S1x512x512 .f32} {L : List (View.Piece (Elt F) S1x512x512 .f32)} {P : ℕ → Prop} (h : Rows G P L) (hP : ∀ r, r < 512 → P r)
    {κ sp} (v : View sig κ sp S1x512x512 .f32) (f : v.ty.Contents (Elt F)) : v.read (Elt F) (v.writes (Elt F) f L) = G :=
  funext fun y => View.read_writes_apply_of_pieces v f G L h.value y (h.reach y (hP _ (y 1).isLt))

/-- Before trip `n` the carried values are the two states after `n` rows, and the stores have written the first `n` rows of the
    forward block and the last `n` of the backward one. -/
theorem st_eq (𝒱 : Variants) (c : Dev nD) (bd : Option 𝒱.V) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole)
    (arg6 : Memref sig .tc .vmem S1x2x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x2x512 .f32) (harg9 : arg9.IsWhole) (arg10 : Memref sig .tc .vmem S2x512 .f32) (harg10 : arg10.IsWhole)
    (x0 x1 x2 x3 : Vec F S1x1x512x512 .f32) (init : Vec F S1x512 .f32 × Vec F S1x512 .f32) (n : ℕ) (hn : n ≤ 512) :
    (st_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) init n).1 = (fwd x0 x1 init.1 n, bwd x2 x3 init.2 n)
      ∧ Rows (hfBlk x0 x1 init.1) (fun r => r < n) (st_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) init n).2.1
      ∧ Rows (hbBlk x2 x3 init.2) (fun r => 512 - n ≤ r ∧ r < 512) (st_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) init n).2.2 := by
  induction n with
  | zero => exact ⟨rfl, Rows.nil _ fun r h => absurd h (Nat.not_lt_zero r), Rows.nil _ fun r h => by omega⟩
  | succ n ih =>
    obtain ⟨h1, h2, h3⟩ := ih (by omega)
    have hk : n < k0_t1_loop.trips := by rw [trips_eq]; omega
    have e := st_k0_t1_succ (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) init ⟨n, hk⟩
    rw [tripR_eq, tripL_eq, h1] at e
    dsimp only at e
    rw [e]
    refine ⟨rfl, ?_, ?_⟩
    · refine h2.cons _ _ n (off3_eq ⟨n, hk⟩) (fun y hy => ?_) (fun r hr => by omega)
      unfold hfBlk
      rw [hy]
      exact pay4_at _ _ _ _
    · refine h3.cons _ _ (511 - n) (off4_eq ⟨n, hk⟩) (fun y hy => ?_) (fun r hr => by omega)
      unfold hbBlk
      rw [hy, show 512 - (511 - n) = n + 1 by omega]
      exact pay5_at _ _ _ _

end Cert.LruRun
end
-- ==== Proof.LruBody.lean ====
/- One run of the recurrence kernel's body, in each of its three cases: the contents of every buffer it leaves. -/
module

public import proofs.«01_k».proof.Proof.Gen.LruIdeal.Frame
public import proofs.«01_k».proof.Proof.Gen.LruIdeal.Loops
public import proofs.«01_k».proof.Proof.Gen.LruIdeal.Points
public import proofs.«01_k».proof.Proof.LruRows
public import Idealize.ShloMosaic.Lib.WordCmp
public import Idealize.ShloMosaic.Lib.VecWindow
public import Idealize.ShloMosaic.Lib.WritesUnit
public import Idealize.ShloMosaic.Lib.ValueIdx
public import Idealize.ShloMosaic.Lib.Pointwise

@[expose] public section

set_option maxRecDepth 16384

noncomputable section

namespace Cert.LruRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LruIdeal Cert.LruIdeal.Gen

variable {F : FTy → Type} [FloatOps F]

local notation "𝕄" => MT nD τ sig Unit (Elt F) ℕ (UR sig nD τ) ℕ

/-! ## The two carried states as the scratch buffer's rows -/

/-- The two rows of the scratch buffer. -/
def rowsOf (s : Vec F S2x512 .f32) : Vec F S1x512 .f32 × Vec F S1x512 .f32 :=
  (fun y => s (ix2 (0 : Fin 2) (⟨(y 1).val, (y 1).isLt⟩ : Fin 512)), fun y => s (ix2 (1 : Fin 2) (⟨(y 1).val, (y 1).isLt⟩ : Fin 512)))

/-- The scratch buffer holding two rows. -/
def carried (p : Vec F S1x512 .f32 × Vec F S1x512 .f32) : Vec F S2x512 .f32 := fun y =>
  if (y 0).val = 0 then p.1 (ix2 (0 : Fin 1) (⟨(y 1).val, (y 1).isLt⟩ : Fin 512)) else p.2 (ix2 (0 : Fin 1) (⟨(y 1).val, (y 1).isLt⟩ : Fin 512))

/-- The final states' block holding two rows. -/
def finBlk (p : Vec F S1x512 .f32 × Vec F S1x512 .f32) : Vec F S1x2x512 .f32 := fun y =>
  if (y 1).val = 0 then p.1 (ix2 (0 : Fin 1) (⟨(y 2).val, (y 2).isLt⟩ : Fin 512)) else p.2 (ix2 (0 : Fin 1) (⟨(y 2).val, (y 2).isLt⟩ : Fin 512))

/-- The two states once the block's 512 rows are taken. -/
def after (x0 x1 x2 x3 : Vec F S1x1x512x512 .f32) (p : Vec F S1x512 .f32 × Vec F S1x512 .f32) : Vec F S1x512 .f32 × Vec F S1x512 .f32 :=
  (fwd x0 x1 p.1 512, bwd x2 x3 p.2 512)

/-! ## The rows read and written -/

theorem ld_row0 (s : Vec F S2x512 .f32) (inb) : View.ld s (Rect.unit (s := S2x512) ![0, 0] S1x512.size inb) = (rowsOf s).1 := by
  funext y
  unfold View.ld rowsOf
  refine congrArg s ?_
  funext a
  match a with
  | 0 => exact Fin.ext (by have h0 : (y 0).val < 1 := (y 0).isLt; simp [Rect.unit, Rect.emb]; omega)
  | 1 => exact Fin.ext (by simp [Rect.unit, Rect.emb])

theorem ld_row1 (s : Vec F S2x512 .f32) (inb) : View.ld s (Rect.unit (s := S2x512) ![1, 0] S1x512.size inb) = (rowsOf s).2 := by
  funext y
  unfold View.ld rowsOf
  refine congrArg s ?_
  funext a
  match a with
  | 0 => exact Fin.ext (by have h0 : (y 0).val < 1 := (y 0).isLt; simp [Rect.unit, Rect.emb]; omega)
  | 1 => exact Fin.ext (by simp [Rect.unit, Rect.emb])

/-- The two rows loaded from the scratch buffer. -/
theorem init_eq {κ sp} (v : View sig κ sp S2x512 .f32) (f : v.ty.Contents (Elt F)) (s : Vec F S2x512 .f32) (h : v.read (Elt F) f = s) (inb0) (inb1) :
    ((v.readAt (Elt F) (Rect.unit (s := S2x512) ![0, 0] S1x512.size inb0).toLoadRect f, v.readAt (Elt F) (Rect.unit (s := S2x512) ![1, 0] S1x512.size inb1).toLoadRect f) : Vec F S1x512 .f32 × Vec F S1x512 .f32) = rowsOf s := by
  rw [View.readAt_eq_ld, View.readAt_eq_ld, h]
  exact Prod.ext (ld_row0 s _) (ld_row1 s _)

/-- The same where the given states have just been copied into the scratch buffer. -/
theorem init_first {κ sp κ' sp'} (v : View sig κ sp S2x512 .f32) (v' : View sig κ' sp' S1x2x512 .f32) (f : v'.ty.Contents (Elt F)) (x : Vec F S1x2x512 .f32) (h : v'.read (Elt F) f = x) (inb0) (inb1) (inb) (inb') :
    ((v.readCov [⟨Rect.unit (s := S2x512) ![0, 0] S2x512.size inb, k0_pay1 (v'.readAt (Elt F) (Rect.unit (s := S1x2x512) ![0, 0, 0] S1x2x512.size inb').toLoadRect f)⟩] (Rect.unit (s := S2x512) ![0, 0] S1x512.size inb0).toLoadRect,
      v.readCov [⟨Rect.unit (s := S2x512) ![0, 0] S2x512.size inb, k0_pay1 (v'.readAt (Elt F) (Rect.unit (s := S1x2x512) ![0, 0, 0] S1x2x512.size inb').toLoadRect f)⟩] (Rect.unit (s := S2x512) ![1, 0] S1x512.size inb1).toLoadRect) : Vec F S1x512 .f32 × Vec F S1x512 .f32)
      = rowsOf (k0_pay1 x) := by
  refine init_eq v _ _ ((View.read_writes_full v _ inb _ _).trans (congrArg k0_pay1 ?_)) inb0 inb1
  rw [View.readAt_full, h]

theorem read_carried {κ sp} (v : View sig κ sp S2x512 .f32) (f : v.ty.Contents (Elt F)) (L : List (View.Piece (Elt F) S2x512 .f32)) (q p : Vec F S1x512 .f32 × Vec F S1x512 .f32) (hq : q = p) (inb1) (inb0) :
    v.read (Elt F) (v.writes (Elt F) f (⟨Rect.unit (s := S2x512) ![1, 0] S1x512.size inb1, k0_pay7 q.2⟩ :: ⟨Rect.unit (s := S2x512) ![0, 0] S1x512.size inb0, k0_pay6 q.1⟩ :: L)) = carried p := by
  subst hq
  have h7 : k0_pay7 q.2 = q.2 := shapeCast_self _ _
  have h6 : k0_pay6 q.1 = q.1 := shapeCast_self _ _
  rw [h7, h6]
  funext y
  have hy0 : (y 0).val < 2 := (y 0).isLt
  unfold carried
  by_cases h : (y 0).val = 0
  · rw [View.read_writes_cons_unit_of_not_mem v f _ _ _ y rfl 0 (Or.inl (by simp [h]))]
    refine (View.read_writes_cons_unit_of_mem v f _ _ _ y (ix2 (0 : Fin 1) (⟨(y 1).val, (y 1).isLt⟩ : Fin 512)) rfl (fun a => ?_)).trans (if_pos h).symm
    match a with
    | 0 => simpa using h
    | 1 => simp
  · refine (View.read_writes_cons_unit_of_mem v f _ _ _ y (ix2 (0 : Fin 1) (⟨(y 1).val, (y 1).isLt⟩ : Fin 512)) rfl (fun a => ?_)).trans (if_neg h).symm
    match a with
    | 0 => simp; omega
    | 1 => simp

theorem pay8_at (u : Vec F S1x512 .f32) (j : Fin 512) : k0_pay8 u (ix3 (0 : Fin 1) (0 : Fin 1) j) = u (ix2 (0 : Fin 1) j) := by
  unfold k0_pay8
  pointwise

theorem pay9_at (u : Vec F S1x512 .f32) (j : Fin 512) : k0_pay9 u (ix3 (0 : Fin 1) (0 : Fin 1) j) = u (ix2 (0 : Fin 1) j) := by
  unfold k0_pay9
  pointwise

theorem read_fin {κ sp} (v : View sig κ sp S1x2x512 .f32) (f : v.ty.Contents (Elt F)) (q p : Vec F S1x512 .f32 × Vec F S1x512 .f32) (hq : q = p) (inb1) (inb0) :
    v.read (Elt F) (v.writes (Elt F) f [⟨Rect.unit (s := S1x2x512) ![0, 1, 0] S1x1x512.size inb1, k0_pay9 q.2⟩, ⟨Rect.unit (s := S1x2x512) ![0, 0, 0] S1x1x512.size inb0, k0_pay8 q.1⟩]) = finBlk p := by
  subst hq
  funext y
  have hy0 : (y 0).val < 1 := (y 0).isLt
  have hy1 : (y 1).val < 2 := (y 1).isLt
  unfold finBlk
  by_cases h : (y 1).val = 0
  · rw [View.read_writes_cons_unit_of_not_mem v f _ _ _ y rfl 1 (Or.inl (by simp [h]))]
    refine (View.read_writes_cons_unit_of_mem v f _ _ _ y (ix3 (0 : Fin 1) (0 : Fin 1) (⟨(y 2).val, (y 2).isLt⟩ : Fin 512)) rfl (fun a => ?_)).trans ((pay8_at _ _).trans (if_pos h).symm)
    match a with
    | 0 => simp; omega
    | 1 => simpa using h
    | 2 => simp
  · refine (View.read_writes_cons_unit_of_mem v f _ _ _ y (ix3 (0 : Fin 1) (0 : Fin 1) (⟨(y 2).val, (y 2).isLt⟩ : Fin 512)) rfl (fun a => ?_)).trans ((pay9_at _ _).trans (if_neg h).symm)
    match a with
    | 0 => simp; omega
    | 1 => simp; omega
    | 2 => simp

/-- What the loop has carried and stored once its last trip is done. -/
theorem st_end (𝒱 : Variants) (c : Dev nD) (bd : Option 𝒱.V) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole)
    (arg6 : Memref sig .tc .vmem S1x2x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x2x512 .f32) (harg9 : arg9.IsWhole) (arg10 : Memref sig .tc .vmem S2x512 .f32) (harg10 : arg10.IsWhole)
    (x0 x1 x2 x3 : Vec F S1x1x512x512 .f32) (init p : Vec F S1x512 .f32 × Vec F S1x512 .f32) (hp : init = p) (n : ℕ) (hn : n = 512) :
    (st_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) init n).1 = after x0 x1 x2 x3 p
      ∧ Rows (hfBlk x0 x1 p.1) (fun r => r < 512) (st_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) init n).2.1
      ∧ Rows (hbBlk x2 x3 p.2) (fun r => 512 - 512 ≤ r ∧ r < 512) (st_k0_t1 (F := F) 𝒱 c bd i arg2 harg2 arg3 harg3 arg4 harg4 arg5 harg5 arg6 harg6 arg7 harg7 arg8 harg8 arg9 harg9 arg10 harg10 (harg2.unread x0) (harg3.unread x1) (harg4.unread x2) (harg5.unread x3) init n).2.2 := by
  subst hp hn
  exact st_eq 𝒱 c bd i arg2 harg2 arg3 harg3 arg4 harg4 arg5 harg5 arg6 harg6 arg7 harg7 arg8 harg8 arg9 harg9 arg10 harg10 x0 x1 x2 x3 init 512 le_rfl

/-! ## The body's branch conditions -/

/-- The first branch's condition: the block is the first of its lane block. -/
abbrev first (i : grid0.Coords) : Prop := (Scalar.cmpi .ne (Scalar.extui (Scalar.cmpi .eq (BitVec.ofNat 32 (i 1).val) 0#32)) 0#32) = 1#1
/-- The last branch's condition: the block is the last of its lane block. -/
abbrev last (i : grid0.Coords) : Prop := k0_cond2 i = 1#1

/-! ## One run of the body -/

set_option maxHeartbeats 1000000 in
/-- The body at the first block: the states start at the given ones. -/
theorem run_A (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole)
    (arg6 : Memref sig .tc .vmem S1x2x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x2x512 .f32) (harg9 : arg9.IsWhole) (arg10 : Memref sig .tc .vmem S2x512 .f32) (harg10 : arg10.IsWhole) (hc0 : first i) (hc1 : ¬last i)
    (x0 x1 x2 x3 : Vec F S1x1x512x512 .f32) (x4 : Vec F S1x2x512 .f32) (s : Vec F S2x512 .f32) (d9 : Vec F S1x2x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare d9 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (hfBlk x0 x1 (rowsOf (k0_pay1 x4)).1) ∗ owns (c : Thread nD τ) arg8 fullShare (hbBlk x2 x3 (rowsOf (k0_pay1 x4)).2)
              ∗ owns (c : Thread nD τ) arg9 fullShare d9 ∗ owns (c : Thread nD τ) arg10 fullShare (carried (after x0 x1 x2 x3 (rowsOf (k0_pay1 x4))))) -∗ K ⟨⟩))
      ⊢ wp frame (wpE (defs₀ (F := F)) Variants.none c none) E (cc0_lru_scan i arg2 harg2 arg3 harg3 arg4 harg4 arg5 harg5 arg6 harg6 arg7 harg7 arg8 harg8 arg9 harg9 arg10 harg10) K := by
  simp only [cc0_lru_scan_eq_skeleton]; unfold cc0_lru_scan_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4

  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_run_names
    exact (st_end _ _ _ _ _ _ _ _ _ _ _ _ _ _ _ _ _ _ _ _ _ _ x0 x1 x2 x3 _ _ (init_first _ _ _ _ (harg6.read_unread x4) _ _ _ _) _ trips_eq).2.1.read (fun _ h => h) _ _
  isplitl [H6]
  · iexists _; isplitr; swap; · iexact H6
    ipureintro
    sl_unfold_run_names
    exact (st_end _ _ _ _ _ _ _ _ _ _ _ _ _ _ _ _ _ _ _ _ _ _ x0 x1 x2 x3 _ _ (init_first _ _ _ _ (harg6.read_unread x4) _ _ _ _) _ trips_eq).2.2.read (fun _ h => ⟨by omega, h⟩) _ _
  isplitl [H7]
  · iexists _; isplitr; swap; · iexact H7
    ipureintro; exact hf7
  iexists _; isplitr; swap; · iexact HS
  ipureintro
  sl_unfold_run_names
  exact read_carried _ _ _ _ _ (st_end _ _ _ _ _ _ _ _ _ _ _ _ _ _ _ _ _ _ _ _ _ _ x0 x1 x2 x3 _ _ (init_first _ _ _ _ (harg6.read_unread x4) _ _ _ _) _ trips_eq).1 _ _

set_option maxHeartbeats 1000000 in
/-- The body at a middle block: the states start where the block before left them. -/
theorem run_B (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole)
    (arg6 : Memref sig .tc .vmem S1x2x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x2x512 .f32) (harg9 : arg9.IsWhole) (arg10 : Memref sig .tc .vmem S2x512 .f32) (harg10 : arg10.IsWhole) (hc0 : ¬first i) (hc1 : ¬last i)
    (x0 x1 x2 x3 : Vec F S1x1x512x512 .f32) (x4 : Vec F S1x2x512 .f32) (s : Vec F S2x512 .f32) (d9 : Vec F S1x2x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare d9 ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (hfBlk x0 x1 (rowsOf (s)).1) ∗ owns (c : Thread nD τ) arg8 fullShare (hbBlk x2 x3 (rowsOf (s)).2)
              ∗ owns (c : Thread nD τ) arg9 fullShare d9 ∗ owns (c : Thread nD τ) arg10 fullShare (carried (after x0 x1 x2 x3 (rowsOf (s))))) -∗ K ⟨⟩))
      ⊢ wp frame (wpE (defs₀ (F := F)) Variants.none c none) E (cc0_lru_scan i arg2 harg2 arg3 harg3 arg4 harg4 arg5 harg5 arg6 harg6 arg7 harg7 arg8 harg8 arg9 harg9 arg10 harg10) K := by
  simp only [cc0_lru_scan_eq_skeleton]; unfold cc0_lru_scan_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4
  obtain rfl := harg10.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (st_end _ _ _ _ _ _ _ _ _ _ _ _ _ _ _ _ _ _ _ _ _ _ x0 x1 x2 x3 _ _ (init_eq _ _ _ (harg10.read_unread s) _ _) _ trips_eq).2.1.read (fun _ h => h) _ _
  isplitl [H6]
  · iexists _; isplitr; swap; · iexact H6
    ipureintro
    exact (st_end _ _ _ _ _ _ _ _ _ _ _ _ _ _ _ _ _ _ _ _ _ _ x0 x1 x2 x3 _ _ (init_eq _ _ _ (harg10.read_unread s) _ _) _ trips_eq).2.2.read (fun _ h => ⟨by omega, h⟩) _ _
  isplitl [H7]
  · iexists _; isplitr; swap; · iexact H7
    ipureintro; exact hf7
  iexists _; isplitr; swap; · iexact HS
  ipureintro
  exact read_carried _ _ _ _ _ (st_end _ _ _ _ _ _ _ _ _ _ _ _ _ _ _ _ _ _ _ _ _ _ x0 x1 x2 x3 _ _ (init_eq _ _ _ (harg10.read_unread s) _ _) _ trips_eq).1 _ _

set_option maxHeartbeats 1000000 in
/-- The body at the last block: the final states are written too. -/
theorem run_C (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole)
    (arg6 : Memref sig .tc .vmem S1x2x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x2x512 .f32) (harg9 : arg9.IsWhole) (arg10 : Memref sig .tc .vmem S2x512 .f32) (harg10 : arg10.IsWhole) (hc0 : ¬first i) (hc1 : last i)
    (x0 x1 x2 x3 : Vec F S1x1x512x512 .f32) (x4 : Vec F S1x2x512 .f32) (s : Vec F S2x512 .f32) (d9 : Vec F S1x2x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (hfBlk x0 x1 (rowsOf (s)).1) ∗ owns (c : Thread nD τ) arg8 fullShare (hbBlk x2 x3 (rowsOf (s)).2)
              ∗ owns (c : Thread nD τ) arg9 fullShare (finBlk (after x0 x1 x2 x3 (rowsOf s))) ∗ owns (c : Thread nD τ) arg10 fullShare (carried (after x0 x1 x2 x3 (rowsOf (s))))) -∗ K ⟨⟩))
      ⊢ wp frame (wpE (defs₀ (F := F)) Variants.none c none) E (cc0_lru_scan i arg2 harg2 arg3 harg3 arg4 harg4 arg5 harg5 arg6 harg6 arg7 harg7 arg8 harg8 arg9 harg9 arg10 harg10) K := by
  simp only [cc0_lru_scan_eq_skeleton]; unfold cc0_lru_scan_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4
  obtain rfl := harg10.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (st_end _ _ _ _ _ _ _ _ _ _ _ _ _ _ _ _ _ _ _ _ _ _ x0 x1 x2 x3 _ _ (init_eq _ _ _ (harg10.read_unread s) _ _) _ trips_eq).2.1.read (fun _ h => h) _ _
  isplitl [H6]
  · iexists _; isplitr; swap; · iexact H6
    ipureintro
    exact (st_end _ _ _ _ _ _ _ _ _ _ _ _ _ _ _ _ _ _ _ _ _ _ x0 x1 x2 x3 _ _ (init_eq _ _ _ (harg10.read_unread s) _ _) _ trips_eq).2.2.read (fun _ h => ⟨by omega, h⟩) _ _
  isplitl [H7]
  · iexists _; isplitr; swap; · iexact H7
    ipureintro
    exact read_fin _ _ _ _ (st_end _ _ _ _ _ _ _ _ _ _ _ _ _ _ _ _ _ _ _ _ _ _ x0 x1 x2 x3 _ _ (init_eq _ _ _ (harg10.read_unread s) _ _) _ trips_eq).1 _ _
  iexists _; isplitr; swap; · iexact HS
  ipureintro
  exact read_carried _ _ _ _ _ (st_end _ _ _ _ _ _ _ _ _ _ _ _ _ _ _ _ _ _ _ _ _ _ x0 x1 x2 x3 _ _ (init_eq _ _ _ (harg10.read_unread s) _ _) _ trips_eq).1 _ _

end Cert.LruRun
end
-- ==== Proof.LruRun.lean ====
/- The recurrence kernel's launch: the states after every grid point, the blocks written, and the run to them. -/
module

public import proofs.«01_k».proof.Proof.Gen.LruIdeal.Frame
public import proofs.«01_k».proof.Proof.Gen.LruIdeal.Loops
public import proofs.«01_k».proof.Proof.Gen.LruIdeal.Points
public import proofs.«01_k».proof.Proof.LruBody
public import proofs.«01_k».proof.Proof.Gen.LruIdeal.Launch
public import Idealize.ShloMosaic.Lib.Pipeline.FrameBody
public import Idealize.ShloMosaic.Lib.Tactic
public import Idealize.ShloMosaic.Lib.Claim
public import Idealize.ShloMosaic.Lib.WordCmp
public import Idealize.ShloMosaic.Lib.VecWindow
public import Idealize.ShloMosaic.Lib.WritesUnit
public import Idealize.ShloMosaic.Lib.ValueIdx
public import Idealize.ShloMosaic.Lib.Pointwise

@[expose] public section

set_option maxRecDepth 16384

noncomputable section

namespace Cert.LruRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LruIdeal Cert.LruIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branches and the idle window over the grid -/

theorem first_iff (t : Fin cfg0.N) : first (grid0.coords t) ↔ t.val % 8 = 0 := by
  have ht : t.val < 64 := Nat.lt_of_lt_of_eq t.isLt N_0
  have e1 : (grid0.coords t 1).val = t.val / 1 % 8 := Pipeline.Grid.coords_val t 1 (by decide) rfl
  simp only [first, e1]
  word_cmp

theorem last_iff (t : Fin cfg0.N) : last (grid0.coords t) ↔ t.val % 8 = 7 := by
  have ht : t.val < 64 := Nat.lt_of_lt_of_eq t.isLt N_0
  have e1 : (grid0.coords t 1).val = t.val / 1 % 8 := Pipeline.Grid.coords_val t 1 (by decide) rfl
  simp only [last, k0_cond2, e1]
  word_cmp

theorem idle7_of (t : Fin cfg0.N) (h : ¬t.val % 8 = 7) : cfg0.idle 7 (grid0.coords t) = true := by
  show (!(k0_cond2 (grid0.coords t) == 1#1)) = true
  rw [Bool.not_eq_true', beq_eq_false_iff_ne]
  exact fun e => h ((last_iff t).mp e)

theorem live7_of (t : Fin cfg0.N) (h : t.val % 8 = 7) : cfg0.idle 7 (grid0.coords t) = false := by
  show (!(k0_cond2 (grid0.coords t) == 1#1)) = false
  rw [Bool.not_eq_false', beq_iff_eq]
  exact (last_iff t).mpr h

theorem flush7_of (t : Fin cfg0.N) (h : ¬t.val % 8 = 7) : (cfg0.win 7).flush t = false := by
  rw [Bool.eq_false_iff]
  exact fun e => h ((flush0_7 t).mp e)

/-! ## The states along the grid -/

/-- The states after point `n`: the given ones taken through the block at the first block of a lane block, else the point
    before's. -/
def stateAt (c : Dev nD) : (n : ℕ) → n < cfg0.N → Vec F S1x512 .f32 × Vec F S1x512 .f32
  | 0, hn => after (iblk m c 0 ⟨0, hn⟩) (iblk m c 1 ⟨0, hn⟩) (iblk m c 2 ⟨0, hn⟩) (iblk m c 3 ⟨0, hn⟩) (rowsOf (k0_pay1 (iblk m c 4 ⟨0, hn⟩)))
  | n + 1, hn =>
    after (iblk m c 0 ⟨n + 1, hn⟩) (iblk m c 1 ⟨n + 1, hn⟩) (iblk m c 2 ⟨n + 1, hn⟩) (iblk m c 3 ⟨n + 1, hn⟩)
      (if (n + 1) % 8 = 0 then rowsOf (k0_pay1 (iblk m c 4 ⟨n + 1, hn⟩)) else rowsOf (carried (stateAt c n (Nat.lt_of_succ_lt hn))))

/-- The states point `t` starts from. -/
def startAt (c : Dev nD) (t : Fin cfg0.N) : Vec F S1x512 .f32 × Vec F S1x512 .f32 :=
  if t.val % 8 = 0 then rowsOf (k0_pay1 (iblk m c 4 t)) else rowsOf (carried (stateAt m c (t.val - 1) (Nat.lt_of_le_of_lt (Nat.sub_le _ _) t.isLt)))

theorem stateAt_eq (c : Dev nD) (t : Fin cfg0.N) :
    stateAt m c t.val t.isLt = after (iblk m c 0 t) (iblk m c 1 t) (iblk m c 2 t) (iblk m c 3 t) (startAt m c t) := by
  obtain ⟨n, hn⟩ := t
  cases n with
  | zero => rfl
  | succ n => rfl

/-- What the scratch buffer and the generator hold before position `n`. -/
def held (c : Dev nD) : (n : ℕ) → n ≤ cfg0.N → sProp 𝕄
  | 0, _ => Pipeline.ΦA spec0 c
  | n + 1, hn => iprop(owns (c : Thread nD τ) (Memref.whole cc0_scratch0) fullShare (carried (stateAt m c n hn)) ∗ (∃ r, prngReg c r))

theorem held_pos (c : Dev nD) (n : ℕ) (h : n ≤ cfg0.N) (hz : n ≠ 0) :
    held m c n h = iprop(owns (c : Thread nD τ) (Memref.whole cc0_scratch0) fullShare (carried (stateAt m c (n - 1) (by omega))) ∗ (∃ r, prngReg c r)) := by
  cases n with
  | zero => exact absurd rfl hz
  | succ n => rfl

/-- Before the first point the scratch buffer is at anything. -/
theorem any_eq (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

/-- The launch's proof data: the arrays as the region finds them, the blocks the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hfBlk (iblk m c 0 t) (iblk m c 1 t) (startAt m c t).1
    | ⟨6, _⟩ => hbBlk (iblk m c 2 t) (iblk m c 3 t) (startAt m c t).2
    | ⟨7, _⟩ => finBlk (stateAt m c t.val t.isLt)
  Φ t := held m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem held_castSucc (c : Dev nD) (t : Fin cfg0.N) : (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = hfBlk (iblk m c 0 t) (iblk m c 1 t) (startAt m c t).1 := by dsimp only [dats]
theorem after_6 (c : Dev nD) (t : Fin cfg0.N) : (dats m 0 c).after 6 t = hbBlk (iblk m c 2 t) (iblk m c 3 t) (startAt m c t).2 := by dsimp only [dats]
theorem after_7 (c : Dev nD) (t : Fin cfg0.N) : (dats m 0 c).after 7 t = finBlk (stateAt m c t.val t.isLt) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-! ## The body's obligation -/

/-- Each window's staging buffer at point `t`. -/
abbrev st0 (t : Fin cfg0.N) : Memref sig .tc .vmem S1x1x512x512 .f32 := win0_0.stage (cfg0.slots t 0)
abbrev st1 (t : Fin cfg0.N) : Memref sig .tc .vmem S1x1x512x512 .f32 := win0_1.stage (cfg0.slots t 1)
abbrev st2 (t : Fin cfg0.N) : Memref sig .tc .vmem S1x1x512x512 .f32 := win0_2.stage (cfg0.slots t 2)
abbrev st3 (t : Fin cfg0.N) : Memref sig .tc .vmem S1x1x512x512 .f32 := win0_3.stage (cfg0.slots t 3)
abbrev st4 (t : Fin cfg0.N) : Memref sig .tc .vmem S1x2x512 .f32 := win0_4.stage (cfg0.slots t 4)
abbrev st5 (t : Fin cfg0.N) : Memref sig .tc .vmem S1x512x512 .f32 := win0_5.stage (cfg0.slots t 5)
abbrev st6 (t : Fin cfg0.N) : Memref sig .tc .vmem S1x512x512 .f32 := win0_6.stage (cfg0.slots t 6)
abbrev st7 (t : Fin cfg0.N) : Memref sig .tc .vmem S1x2x512 .f32 := win0_7.stage (cfg0.slots t 7)

/-- What the body is called with at point `t`, window by window. -/
def given (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d)))

/-- What it gives back. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_0 (c : Dev nD) (t : Fin cfg0.N) : (dats m 0 c).leavesExact 0 t = owns (c : Thread nD τ) (st0 t) fullShare ((dats m 0 c).after 0 t) := by
  unfold Dat.leavesExact; rw [show cfg0.idle 0 (cfg0.grid.coords t) = false from rfl]
theorem leaves_1 (c : Dev nD) (t : Fin cfg0.N) : (dats m 0 c).leavesExact 1 t = owns (c : Thread nD τ) (st1 t) fullShare ((dats m 0 c).after 1 t) := by
  unfold Dat.leavesExact; rw [show cfg0.idle 1 (cfg0.grid.coords t) = false from rfl]
theorem leaves_2 (c : Dev nD) (t : Fin cfg0.N) : (dats m 0 c).leavesExact 2 t = owns (c : Thread nD τ) (st2 t) fullShare ((dats m 0 c).after 2 t) := by
  unfold Dat.leavesExact; rw [show cfg0.idle 2 (cfg0.grid.coords t) = false from rfl]
theorem leaves_3 (c : Dev nD) (t : Fin cfg0.N) : (dats m 0 c).leavesExact 3 t = owns (c : Thread nD τ) (st3 t) fullShare ((dats m 0 c).after 3 t) := by
  unfold Dat.leavesExact; rw [show cfg0.idle 3 (cfg0.grid.coords t) = false from rfl]
theorem leaves_4 (c : Dev nD) (t : Fin cfg0.N) : (dats m 0 c).leavesExact 4 t = owns (c : Thread nD τ) (st4 t) fullShare ((dats m 0 c).after 4 t) := by
  unfold Dat.leavesExact; rw [show cfg0.idle 4 (cfg0.grid.coords t) = false from rfl]
theorem leaves_5 (c : Dev nD) (t : Fin cfg0.N) : (dats m 0 c).leavesExact 5 t = owns (c : Thread nD τ) (st5 t) fullShare ((dats m 0 c).after 5 t) := by
  unfold Dat.leavesExact; rw [show cfg0.idle 5 (cfg0.grid.coords t) = false from rfl]
theorem leaves_6 (c : Dev nD) (t : Fin cfg0.N) : (dats m 0 c).leavesExact 6 t = owns (c : Thread nD τ) (st6 t) fullShare ((dats m 0 c).after 6 t) := by
  unfold Dat.leavesExact; rw [show cfg0.idle 6 (cfg0.grid.coords t) = false from rfl]
theorem leaves_7_last (c : Dev nD) (t : Fin cfg0.N) (h : t.val % 8 = 7) : (dats m 0 c).leavesExact 7 t = owns (c : Thread nD τ) (st7 t) fullShare ((dats m 0 c).after 7 t) := by
  unfold Dat.leavesExact; rw [live7_of t h]
theorem leaves_7_idle (c : Dev nD) (t : Fin cfg0.N) (h : ¬t.val % 8 = 7) :
    (dats m 0 c).leavesExact 7 t = iprop(∃ d, owns (c : Thread nD τ) (st7 t) fullShare ((dats m 0 c).before 7 t d)) :=
  (dats m 0 c).leavesExact_idle 7 t (idle7_of t h) (flush7_of t h)

set_option maxHeartbeats 9600000 in
/-- The body at any point, by the three cases. -/
theorem body_at (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4]
  rw [show (dats m 0 c).owesAt () t.succ = (dats m 0 c).owesAt () t.castSucc from rfl,
    show (dats m 0 c).Φ t.succ = iprop(owns (c : Thread nD τ) (Memref.whole cc0_scratch0) fullShare (carried (stateAt m c t.val t.isLt)) ∗ (∃ r, prngReg c r)) from rfl]
  rw [leaves_0, leaves_1, leaves_2, leaves_3, leaves_4, leaves_5, leaves_6, after_0, after_1, after_2, after_3, after_4, after_5, after_6]
  by_cases h0 : t.val % 8 = 0
  · have h1 : ¬t.val % 8 = 7 := by omega
    rw [leaves_7_idle m c t h1, stateAt_eq m c t, show startAt m c t = rowsOf (k0_pay1 (iblk m c 4 t)) from if_pos h0, held_castSucc m c t]
    by_cases hz : t.val = 0
    · rw [show held m c t.val (Nat.le_of_lt t.isLt) = Pipeline.ΦA spec0 c from by simp only [hz]; rfl, any_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_A c (grid0.coords t) _ _ _ _ _ _ _ _ _ _ _ _ _ _ _ _ _ _ ((first_iff t).mpr h0) (fun h => h1 ((last_iff t).mp h)) (iblk m c 0 t) (iblk m c 1 t) (iblk m c 2 t) (iblk m c 3 t) (iblk m c 4 t) (k0_pay1 (iblk m c 4 t)) ((dats m 0 c).before 7 t d7) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [held_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_A c (grid0.coords t) _ _ _ _ _ _ _ _ _ _ _ _ _ _ _ _ _ _ ((first_iff t).mpr h0) (fun h => h1 ((last_iff t).mp h)) (iblk m c 0 t) (iblk m c 1 t) (iblk m c 2 t) (iblk m c 3 t) (iblk m c 4 t) (k0_pay1 (iblk m c 4 t)) ((dats m 0 c).before 7 t d7) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS]; · iexists _; iexact HS
      iintro ⟨H0, H1, H2, H3, H4, H5, H6, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    rw [held_castSucc m c t, held_pos m c _ _ hz, show startAt m c t = rowsOf (carried (stateAt m c (t.val - 1) _)) from if_neg h0]
    by_cases h1 : t.val % 8 = 7
    · rw [leaves_7_last m c t h1, after_7, stateAt_eq m c t, show startAt m c t = rowsOf (carried (stateAt m c (t.val - 1) _)) from if_neg h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_C c (grid0.coords t) _ _ _ _ _ _ _ _ _ _ _ _ _ _ _ _ _ _ (fun h => h0 ((first_iff t).mp h)) ((last_iff t).mpr h1) (iblk m c 0 t) (iblk m c 1 t) (iblk m c 2 t) (iblk m c 3 t) (iblk m c 4 t) (carried (stateAt m c (t.val - 1) _)) (finBlk (stateAt m c t.val t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [leaves_7_idle m c t h1, stateAt_eq m c t, show startAt m c t = rowsOf (carried (stateAt m c (t.val - 1) _)) from if_neg h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_B c (grid0.coords t) _ _ _ _ _ _ _ _ _ _ _ _ _ _ _ _ _ _ (fun h => h0 ((first_iff t).mp h)) (fun h => h1 ((last_iff t).mp h)) (iblk m c 0 t) (iblk m c 1 t) (iblk m c 2 t) (iblk m c 3 t) (iblk m c 4 t) (carried (stateAt m c (t.val - 1) _)) ((dats m 0 c).before 7 t d7) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (body_at m c t) rfl .rfl fun _ => .rfl

/-! ## The run -/

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [show (dats m 0 c).Φ (Fin.last cfg0.N) = held m c (Fin.last cfg0.N).val (Nat.le_of_lt_succ (Fin.last cfg0.N).isLt) from rfl,
    held_pos m c _ _ (by rw [Fin.val_last, show cfg0.N = 64 from N_0]; decide), any_eq]
  iintro ⟨HS, Hg⟩
  isplitl [HS]
  · iexists _; iexact HS
  iexact Hg

set_option backward.isDefEq.respectTransparency.types false in
/-- Every execution of the program ends with each array at what the launch's proof data says and the counters at zero. -/
theorem run_blocks : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := A_eq m) (hin := enter m) (hout := leave m)

/-- The arguments end unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_blocks m ρ)))
    ((θ_run defs _ _).mono (fun _ h => h.2) (run_blocks m ρ))

end Cert.LruRun
end
-- ==== Proof.Recur.lean ====
/- The gated linear recurrence of one channel: the state is multiplied by the position's decay and the position's input
   is added. -/
module

public import Idealize.ShloMosaic.Lib.ValueIdx
public import Idealize.ShloMosaic.Lib.Pointwise

@[expose] public section

noncomputable section

namespace Cert.Recur

open Idealize.ShloMosaic

/-- The state after `n` positions, from the state `h`, over the decays `a` and the inputs `u`. -/
def state (a u : ℕ → EReal) (h : EReal) : ℕ → EReal
  | 0 => h
  | n + 1 => a n * state a u h n + u n

/-- The flat row of position `n` of batch entry `b`. -/
def row (b : ℕ) (n : ℕ) : Fin 32768 := ⟨(b * 4096 + n) % 32768, Nat.mod_lt _ (by decide)⟩

variable (A U : (⟨3, ![2, 32768, 512]⟩ : Shape).Idx → EReal) (H : (⟨3, ![8, 2, 512]⟩ : Shape).Idx → EReal)

/-- The forward state of batch entry `b`, channel `l`, after `n` positions. -/
def forth (b : Fin 8) (l : Fin 512) : ℕ → EReal :=
  state (fun n => A (ix3 (0 : Fin 2) (row b.val n) l)) (fun n => U (ix3 (0 : Fin 2) (row b.val n) l)) (H (ix3 b (0 : Fin 2) l))

/-- The backward state of batch entry `b`, channel `l`, after `n` positions counted from the last one. -/
def back (b : Fin 8) (l : Fin 512) : ℕ → EReal :=
  state (fun n => A (ix3 (1 : Fin 2) (row b.val (4095 - n)) l)) (fun n => U (ix3 (1 : Fin 2) (row b.val (4095 - n)) l)) (H (ix3 b (1 : Fin 2) l))

/-- The forward states at every position. -/
def forths : (⟨3, ![8, 4096, 512]⟩ : Shape).Idx → EReal := fun y => forth A U H (y 0) (y 2) ((y 1).val + 1)

/-- The backward states at every position. -/
def backs : (⟨3, ![8, 4096, 512]⟩ : Shape).Idx → EReal := fun y => back A U H (y 0) (y 2) (4096 - (y 1).val)

/-- The states of both directions after the last position. -/
def ends : (⟨3, ![8, 2, 512]⟩ : Shape).Idx → EReal := fun y =>
  if (y 1).val = 0 then forth A U H (y 0) (y 2) 4096 else back A U H (y 0) (y 2) 4096

theorem forth_succ (b : Fin 8) (l : Fin 512) (n : ℕ) :
    forth A U H b l (n + 1) = A (ix3 (0 : Fin 2) (row b.val n) l) * forth A U H b l n + U (ix3 (0 : Fin 2) (row b.val n) l) := rfl

theorem back_succ (b : Fin 8) (l : Fin 512) (n : ℕ) :
    back A U H b l (n + 1) = A (ix3 (1 : Fin 2) (row b.val (4095 - n)) l) * back A U H b l n + U (ix3 (1 : Fin 2) (row b.val (4095 - n)) l) := rfl

theorem ends_fst (b : Fin 8) (l : Fin 512) : ends A U H (ix3 b (0 : Fin 2) l) = forth A U H b l 4096 := if_pos rfl

theorem ends_snd (b : Fin 8) (l : Fin 512) : ends A U H (ix3 b (1 : Fin 2) l) = back A U H b l 4096 := if_neg (by decide : ¬(1 : ℕ) = 0)

end Cert.Recur

end
-- ==== Proof.LruValue.lean ====
/- What the recurrence kernel's result arrays hold: the states of the two recurrences over the whole sequence. -/
module

public import proofs.«01_k».proof.Proof.LruRun
public import proofs.«01_k».proof.Proof.Recur
public import Idealize.ShloMosaic.Lib.Pipeline.ValueKit
public import Idealize.ShloMosaic.Lib.Pointwise

@[expose] public section

set_option maxRecDepth 16384

noncomputable section

namespace Cert.LruRun

open Idealize.ShloMosaic Idealize.ShloMosaic.TcCoe
open Idealize.SL Idealize.SL.Sem
open Cert.LruIdeal Cert.LruIdeal.Gen
open Cert.Recur

variable (m : (ℓ : Loc nD τ sig) → Buf (Elt Ideal) ℓ) (c : Dev nD)

/-- The three argument arrays. -/
abbrev argA : Vec Ideal S2x32768x512 .f32 := m ((c : Thread nD τ).loc main_arg0)
abbrev argU : Vec Ideal S2x32768x512 .f32 := m ((c : Thread nD τ).loc main_arg1)
abbrev argH : Vec Ideal S8x2x512 .f32 := m ((c : Thread nD τ).loc main_arg2)

/-- The windows' block indices at a grid point. -/
theorem idx : ∀ t : Fin cfg0.N, win0_0.index t = ![0, t.val / 8, t.val % 8, 0] ∧ win0_1.index t = ![0, t.val / 8, t.val % 8, 0]
    ∧ win0_2.index t = ![1, t.val / 8, 7 - t.val % 8, 0] ∧ win0_3.index t = ![1, t.val / 8, 7 - t.val % 8, 0]
    ∧ win0_4.index t = ![t.val / 8, 0, 0] ∧ win0_5.index t = ![t.val / 8, t.val % 8, 0] ∧ win0_6.index t = ![t.val / 8, 7 - t.val % 8, 0]
    ∧ win0_7.index t = ![t.val / 8, 0, 0] :=
  (by decide +kernel : ∀ t : Fin grid0.N, _)

/-- The batch entry of a grid point. -/
abbrev entry (t : Fin cfg0.N) : Fin 8 := ⟨t.val / 8, by have h : t.val < 64 := t.isLt; omega⟩

/-- Row `r` of point `t`'s blocks, forward and backward, at its argument's row. -/
theorem read0 (t : Fin cfg0.N) (r l : Fin 512) :
    iblk m c 0 t (ix4 0 0 r l) = argA m c (ix3 0 (row (t.val / 8) (t.val % 8 * 512 + r.val)) l) := by
  have h : t.val < 64 := t.isLt
  blk_ext! [iblk, V, idx t, row]

theorem read1 (t : Fin cfg0.N) (r l : Fin 512) :
    iblk m c 1 t (ix4 0 0 r l) = argU m c (ix3 0 (row (t.val / 8) (t.val % 8 * 512 + r.val)) l) := by
  have h : t.val < 64 := t.isLt
  blk_ext! [iblk, V, idx t, row]

theorem read2 (t : Fin cfg0.N) (r l : Fin 512) :
    iblk m c 2 t (ix4 0 0 r l) = argA m c (ix3 1 (row (t.val / 8) ((7 - t.val % 8) * 512 + r.val)) l) := by
  have h : t.val < 64 := t.isLt
  blk_ext! [iblk, V, idx t, row]

theorem read3 (t : Fin cfg0.N) (r l : Fin 512) :
    iblk m c 3 t (ix4 0 0 r l) = argU m c (ix3 1 (row (t.val / 8) ((7 - t.val % 8) * 512 + r.val)) l) := by
  have h : t.val < 64 := t.isLt
  blk_ext! [iblk, V, idx t, row]

theorem read4 (t : Fin cfg0.N) (d : Fin 2) (l : Fin 512) :
    iblk m c 4 t (ix3 0 d l) = argH m c (ix3 (entry t) d l) := by
  blk_ext! [iblk, V, idx t]

/-! ## One row of the recurrence -/

theorem pay2_at (h : Vec Ideal S1x512 .f32) (x y : Vec Ideal S1x1x1x512 .f32) (l : Fin 512) :
    k0_pay2 h x y (ix2 0 l) = x (ix4 0 0 0 l) * h (ix2 0 l) + y (ix4 0 0 0 l) := by
  pointwise [k0_pay2]

theorem pay3_at (h : Vec Ideal S1x512 .f32) (x y : Vec Ideal S1x1x1x512 .f32) (l : Fin 512) :
    k0_pay3 h x y (ix2 0 l) = x (ix4 0 0 0 l) * h (ix2 0 l) + y (ix4 0 0 0 l) := by
  pointwise [k0_pay3]

theorem pay1_at (x : Vec Ideal S1x2x512 .f32) (d : Fin 2) (l : Fin 512) : k0_pay1 x (ix2 d l) = x (ix3 0 d l) := by
  pointwise [k0_pay1]

/-- A row of a block at a channel. -/
theorem rowAt_at (x : Vec Ideal S1x1x512x512 .f32) (k : ℕ) (hk : k < 512) (l : Fin 512) :
    rowAt x k (ix4 0 0 0 l) = x (ix4 0 0 ⟨k, hk⟩ l) := by
  unfold rowAt
  simp only [Nat.mod_eq_of_lt hk]
  rfl

/-- The block's forward states go on with the sequence's. -/
theorem fwd_at (t : Fin cfg0.N) (h : Vec Ideal S1x512 .f32) (l : Fin 512)
    (h0 : h (ix2 0 l) = forth (argA m c) (argU m c) (argH m c) (entry t) l (t.val % 8 * 512)) (n : ℕ) (hn : n ≤ 512) :
    fwd (iblk m c 0 t) (iblk m c 1 t) h n (ix2 0 l) = forth (argA m c) (argU m c) (argH m c) (entry t) l (t.val % 8 * 512 + n) := by
  induction n with
  | zero => exact h0
  | succ n ih =>
    refine (pay2_at _ _ _ l).trans ?_
    rw [rowAt_at _ n hn, rowAt_at _ n hn, read0, read1, ih (Nat.le_of_succ_le hn)]
    exact (forth_succ _ _ _ (entry t) l _).symm

/-- The block's backward states go on with the sequence's. -/
theorem bwd_at (t : Fin cfg0.N) (h : Vec Ideal S1x512 .f32) (l : Fin 512)
    (h0 : h (ix2 0 l) = back (argA m c) (argU m c) (argH m c) (entry t) l (t.val % 8 * 512)) (n : ℕ) (hn : n ≤ 512) :
    bwd (iblk m c 2 t) (iblk m c 3 t) h n (ix2 0 l) = back (argA m c) (argU m c) (argH m c) (entry t) l (t.val % 8 * 512 + n) := by
  induction n with
  | zero => exact h0
  | succ n ih =>
    refine (pay3_at _ _ _ l).trans ?_
    have e : (7 - t.val % 8) * 512 + (511 - n) = 4095 - (t.val % 8 * 512 + n) := by omega
    rw [rowAt_at _ (511 - n) (by omega), rowAt_at _ (511 - n) (by omega), read2, read3, ih (Nat.le_of_succ_le hn), e]
    exact (back_succ _ _ _ (entry t) l _).symm

/-! ## The states along the grid -/

theorem rowsOf_fst (s : Vec Ideal S2x512 .f32) (l : Fin 512) : (rowsOf s).1 (ix2 0 l) = s (ix2 0 l) := rfl
theorem rowsOf_snd (s : Vec Ideal S2x512 .f32) (l : Fin 512) : (rowsOf s).2 (ix2 0 l) = s (ix2 1 l) := rfl
theorem carried_fst (p : Vec Ideal S1x512 .f32 × Vec Ideal S1x512 .f32) (l : Fin 512) : carried p (ix2 0 l) = p.1 (ix2 0 l) := rfl
theorem carried_snd (p : Vec Ideal S1x512 .f32 × Vec Ideal S1x512 .f32) (l : Fin 512) : carried p (ix2 1 l) = p.2 (ix2 0 l) := rfl

/-- What point `t` starts from, given what the point before left. -/
theorem start_of (t : Fin cfg0.N) (l : Fin 512)
    (ih : ∀ s : Fin cfg0.N, s.val + 1 = t.val →
      (stateAt m c s.val s.isLt).1 (ix2 0 l) = forth (argA m c) (argU m c) (argH m c) (entry s) l (s.val % 8 * 512 + 512)
      ∧ (stateAt m c s.val s.isLt).2 (ix2 0 l) = back (argA m c) (argU m c) (argH m c) (entry s) l (s.val % 8 * 512 + 512)) :
    (startAt m c t).1 (ix2 0 l) = forth (argA m c) (argU m c) (argH m c) (entry t) l (t.val % 8 * 512)
    ∧ (startAt m c t).2 (ix2 0 l) = back (argA m c) (argU m c) (argH m c) (entry t) l (t.val % 8 * 512) := by
  by_cases h : t.val % 8 = 0
  · unfold startAt
    rw [if_pos h, rowsOf_fst, rowsOf_snd, pay1_at, pay1_at, read4, read4, h]
    exact ⟨rfl, rfl⟩
  · have hp : t.val - 1 < cfg0.N := Nat.lt_of_le_of_lt (Nat.sub_le _ _) t.isLt
    obtain ⟨e1, e2⟩ := ih ⟨t.val - 1, hp⟩ (by show t.val - 1 + 1 = t.val; omega)
    unfold startAt
    rw [if_neg h, rowsOf_fst, rowsOf_snd, carried_fst, carried_snd]
    have ee : entry ⟨t.val - 1, hp⟩ = entry t := Fin.ext (by show (t.val - 1) / 8 = t.val / 8; omega)
    have en : (t.val - 1) % 8 * 512 + 512 = t.val % 8 * 512 := by omega
    rw [ee] at e1 e2
    exact ⟨e1.trans (congrArg _ en), e2.trans (congrArg _ en)⟩

/-- What point `t` leaves, given what it starts from. -/
theorem state_of (t : Fin cfg0.N) (l : Fin 512)
    (h : (startAt m c t).1 (ix2 0 l) = forth (argA m c) (argU m c) (argH m c) (entry t) l (t.val % 8 * 512)
      ∧ (startAt m c t).2 (ix2 0 l) = back (argA m c) (argU m c) (argH m c) (entry t) l (t.val % 8 * 512)) :
    (stateAt m c t.val t.isLt).1 (ix2 0 l) = forth (argA m c) (argU m c) (argH m c) (entry t) l (t.val % 8 * 512 + 512)
    ∧ (stateAt m c t.val t.isLt).2 (ix2 0 l) = back (argA m c) (argU m c) (argH m c) (entry t) l (t.val % 8 * 512 + 512) := by
  rw [stateAt_eq]
  exact ⟨fwd_at m c t _ l h.1 512 (Nat.le_refl _), bwd_at m c t _ l h.2 512 (Nat.le_refl _)⟩

/-- Every point starts from the sequence's states before its block. -/
theorem start_at (l : Fin 512) : ∀ (n : ℕ) (t : Fin cfg0.N), t.val = n →
    (startAt m c t).1 (ix2 0 l) = forth (argA m c) (argU m c) (argH m c) (entry t) l (t.val % 8 * 512)
    ∧ (startAt m c t).2 (ix2 0 l) = back (argA m c) (argU m c) (argH m c) (entry t) l (t.val % 8 * 512)
  | 0, t, h => start_of m c t l fun s hs => absurd hs (by omega)
  | n + 1, t, h => start_of m c t l fun s hs => state_of m c s l (start_at l n s (by omega))

/-! ## The result arrays -/

theorem final_hf : (dats m 0 c).arrAt 5 cfg0.N = forths (argA m c) (argU m c) (argH m c) := by
  refine (dats m 0 c).arrAt_eq_of_covers 5 _ (by decide +kernel) fun t _ y => ?_
  have ht : t.val < 64 := t.isLt
  blk_simp
  rw [after_5, eq_ix3 y]
  refine (fwd_at m c t _ (y 2) (start_at m c (y 2) t.val t rfl).1 ((y 1).val + 1) (y 1).isLt).trans ?_
  have e0 : ((cfg0.win 5).blk t).view.emb (ix3 (y 0) (y 1) (y 2)) = ix3 (entry t) (⟨t.val % 8 * 512 + (y 1).val, by have h : (y 1).val < 512 := (y 1).isLt; omega⟩ : Fin 4096) (y 2) := by
    blk_ext! [idx t]
  rw [e0]
  rfl

theorem final_hb : (dats m 0 c).arrAt 6 cfg0.N = backs (argA m c) (argU m c) (argH m c) := by
  refine (dats m 0 c).arrAt_eq_of_covers 6 _ (by decide +kernel) fun t _ y => ?_
  have ht : t.val < 64 := t.isLt
  have hy : (y 1).val < 512 := (y 1).isLt
  blk_simp
  rw [after_6, eq_ix3 y]
  refine (bwd_at m c t _ (y 2) (start_at m c (y 2) t.val t rfl).2 (512 - (y 1).val) (Nat.sub_le _ _)).trans ?_
  have e0 : ((cfg0.win 6).blk t).view.emb (ix3 (y 0) (y 1) (y 2)) = ix3 (entry t) (⟨(7 - t.val % 8) * 512 + (y 1).val, by omega⟩ : Fin 4096) (y 2) := by
    blk_ext! [idx t]
  rw [e0]
  show back _ _ _ _ _ _ = back _ _ _ _ _ (4096 - ((7 - t.val % 8) * 512 + (y 1).val))
  exact congrArg _ (by omega)

theorem final_fin : (dats m 0 c).arrAt 7 cfg0.N = ends (argA m c) (argU m c) (argH m c) := by
  refine (dats m 0 c).arrAt_eq_of_covers 7 _ (by decide +kernel) fun t hf y => ?_
  have ht : t.val < 64 := t.isLt
  have h7 : t.val % 8 = 7 := (flush0_7 t).mp hf
  have e := state_of m c t (y 2) (start_at m c (y 2) t.val t rfl)
  rw [h7] at e
  blk_simp
  rw [after_7, eq_ix3 y]
  have e0 : ((cfg0.win 7).blk t).view.emb (ix3 (y 0) (y 1) (y 2)) = ix3 (entry t) (y 1) (y 2) := by
    blk_ext! [idx t]
  rw [e0]
  show finBlk _ _ = if (y 1).val = 0 then _ else _
  by_cases hy : (y 1).val = 0
  · rw [if_pos hy]
    exact (if_pos hy).trans e.1
  · rw [if_neg hy]
    exact (if_neg hy).trans e.2

end Cert.LruRun

end
-- ==== Proof.LruScan.lean ====
/- The reference's scan: every trip of its loop is one step of the state, so its results are read off the state after the
   last trip. -/
module

public import proofs.«01_k».proof.Proof.Gen.LruRefIdeal.Run
public import proofs.«01_k».proof.Proof.Gen.LruRefIdeal.Step

@[expose] public section

set_option maxRecDepth 16384

noncomputable section

namespace Cert.LruScan

open Idealize.ShloMosaic Idealize.ShloMosaic.TcCoe Idealize.SL.Sem Idealize.ShloMosaic.StableHlo
open Cert.LruRefIdeal Cert.LruRefIdeal.Gen Cert.LruRefIdeal.Value
open Cert.LruRefIdeal.Step (State step init)

variable {F : FTy → Type} [FloatOps F]

/-- The loop's buffers hold the state and the trip's number. -/
structure At (V0 : Valuation τ sig (Elt F)) (s : State F) (j : ℕ) : Prop where
  carry : V0 (Proc.devRef .tc main_v22_3) = s.main_v22_3
  ys : V0 (Proc.devRef .tc main_v22_4) = s.main_v22_4
  decays : V0 (Proc.devRef .tc main_v22_0) = s.main_v22_0
  inputs : V0 (Proc.devRef .tc main_v22_1) = s.main_v22_1
  number : V0 (Proc.devRef .tc main_v22_2) = constantI S_ 32 (BitVec.ofNat 32 j)

variable {V0 : Valuation τ sig (Elt F)} {s : State F} {j : ℕ}

/-- The new carried value of a trip. -/
theorem new_carry (h : At V0 s j) : res_main_while0b_v33 V0 = Step.b11 j s := by
  unfold res_main_while0b_v33
  rw [h.carry, h.decays, h.inputs, h.number]
  rfl

/-- The stacked states after a trip. -/
theorem new_ys (h : At V0 s j) : step_main_v22_4 V0 = Step.b16 j s := by
  unfold step_main_v22_4
  rw [new_carry h, h.ys, h.number]
  rfl

theorem new_number (h : At V0 s j) : step_main_v22_2 V0 = constantI S_ 32 (BitVec.ofNat 32 (j + 1)) := by
  unfold step_main_v22_2
  rw [h.number]
  funext i
  show BitVec.ofNat 32 j + 1#32 = BitVec.ofNat 32 (j + 1)
  simp only [BitVec.ofNat_add]

/-- One trip takes the state by one step. -/
theorem at_step (h : At V0 s j) : At (STEP V0) (step j s) (j + 1) where
  carry := (STEP_main_v22_3 V0).trans (new_carry h)
  ys := (STEP_main_v22_4 V0).trans (new_ys h)
  number := (STEP_main_v22_2 V0).trans (new_number h)
  decays := (STEP_main_v22_0 V0).trans h.decays
  inputs := (STEP_main_v22_1 V0).trans h.inputs

variable (m : (ℓ : Loc nD τ sig) → Buf (Elt F) ℓ) (c : Dev nD)

/-- The state before the first trip. -/
abbrev first : State F :=
  init (m ((c.tc : Thread nD τ).loc main_arg0)) (m ((c.tc : Thread nD τ).loc main_arg1)) (m ((c.tc : Thread nD τ).loc main_arg2))

set_option maxHeartbeats 400000 in
theorem at_first : At (entryContents preI m c) (first m c) 0 := by
  constructor <;> (simp only [entryContents, afterL_cons, afterL_nil]; after_reads_simp) <;> rfl

/-- The state after `n` trips. -/
def stateOf : ℕ → State F
  | 0 => first m c
  | n + 1 => step n (stateOf n)

theorem at_all : ∀ n, At (STEP^[n] (entryContents preI m c)) (stateOf m c n) n
  | 0 => at_first m c
  | n + 1 => by
    rw [Function.iterate_succ_apply']
    exact at_step (at_all n)

/-- The reference's results, of the state after its last trip. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v25) = Step.R_main_v25 (stateOf m c 4096)
      ∧ r.2.mem ((c.tc : Thread nD τ).loc main_v28) = Step.R_main_v28 (stateOf m c 4096)
      ∧ r.2.mem ((c.tc : Thread nD τ).loc main_v29) = Step.R_main_v29 (stateOf m c 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_) (Value.run m ρ)
  have hk := at_all m c 4096
  obtain ⟨h1, h2, h3, h4⟩ := h c
  refine ⟨h1.trans ?_, h2.trans ?_, h3.trans ?_, h4⟩
  · unfold out_main_v25; rw [hk.ys]; rfl
  · unfold out_main_v28; rw [hk.ys]; rfl
  · unfold out_main_v29; rw [hk.carry]; rfl

end Cert.LruScan

end
-- ==== Proof.LruRefValue.lean ====
/- What the reference's scan computes: the states of the two recurrences over the whole sequence. -/
module

public import proofs.«01_k».proof.Proof.LruScan
public import proofs.«01_k».proof.Proof.Recur
public import Idealize.ShloMosaic.Lib.Pointwise
public import Idealize.ShloMosaic.Lib.WordCmp

@[expose] public section

set_option maxRecDepth 16384

noncomputable section

namespace Cert.LruScan

open Idealize.ShloMosaic Idealize.ShloMosaic.TcCoe Idealize.SL.Sem
open Cert.LruRefIdeal Cert.LruRefIdeal.Gen
open Cert.LruRefIdeal.Step (State step init)
open Cert.Recur
open Idealize.ShloMosaic.WordCmp (toInt_ofNat_of_lt dynamicSlice_eq_extract dynamicUpdateSlice_eq_update)

variable (A U : Vec Ideal S2x32768x512 .f32) (H : Vec Ideal S8x2x512 .f32)

/-! ## The arrays the scan runs over -/

theorem decays_fst (n : Fin 4096) (b : Fin 8) (l : Fin 512) :
    Step.A_main_v19 A U H (ix4 n 0 b l) = A (ix3 0 (row b.val n.val) l) := by
  have e : row b.val n.val = ⟨b.val * 4096 + n.val, by omega⟩ := Fin.ext (Nat.mod_eq_of_lt (by omega))
  rw [e]
  pointwise [Step.A_main_v19, Step.A_main_v9, Step.A_main_v8, Step.A_main_v7, Step.A_main_v6, Step.A_main_v5, Step.A_main_v4, Step.A_main_v3, Step.A_main_v2, Step.A_main_v0]

theorem decays_snd (n : Fin 4096) (b : Fin 8) (l : Fin 512) :
    Step.A_main_v19 A U H (ix4 n 1 b l) = A (ix3 1 (row b.val (4095 - n.val)) l) := by
  have e : row b.val (4095 - n.val) = ⟨b.val * 4096 + (4095 - n.val), by omega⟩ := Fin.ext (Nat.mod_eq_of_lt (by omega))
  rw [e]
  pointwise [Step.A_main_v19, Step.A_main_v9, Step.A_main_v8, Step.A_main_v7, Step.A_main_v6, Step.A_main_v5, Step.A_main_v4, Step.A_main_v3, Step.A_main_v2, Step.A_main_v0]
  refine congrArg A (congrArg (fun r => ix3 1 r l) (Fin.ext ?_))
  show b.val * 4096 + (n.rev).val = b.val * 4096 + (4095 - n.val)
  rw [Fin.val_rev]
  omega

theorem inputs_fst (n : Fin 4096) (b : Fin 8) (l : Fin 512) :
    Step.A_main_v20 A U H (ix4 n 0 b l) = U (ix3 0 (row b.val n.val) l) := by
  have e : row b.val n.val = ⟨b.val * 4096 + n.val, by omega⟩ := Fin.ext (Nat.mod_eq_of_lt (by omega))
  rw [e]
  pointwise [Step.A_main_v20, Step.A_main_v17, Step.A_main_v16, Step.A_main_v15, Step.A_main_v14, Step.A_main_v13, Step.A_main_v12, Step.A_main_v11, Step.A_main_v10, Step.A_main_v1]

theorem inputs_snd (n : Fin 4096) (b : Fin 8) (l : Fin 512) :
    Step.A_main_v20 A U H (ix4 n 1 b l) = U (ix3 1 (row b.val (4095 - n.val)) l) := by
  have e : row b.val (4095 - n.val) = ⟨b.val * 4096 + (4095 - n.val), by omega⟩ := Fin.ext (Nat.mod_eq_of_lt (by omega))
  rw [e]
  pointwise [Step.A_main_v20, Step.A_main_v17, Step.A_main_v16, Step.A_main_v15, Step.A_main_v14, Step.A_main_v13, Step.A_main_v12, Step.A_main_v11, Step.A_main_v10, Step.A_main_v1]
  refine congrArg U (congrArg (fun r => ix3 1 r l) (Fin.ext ?_))
  show b.val * 4096 + (n.rev).val = b.val * 4096 + (4095 - n.val)
  rw [Fin.val_rev]
  omega

theorem carry_first (d : Fin 2) (b : Fin 8) (l : Fin 512) : Step.A_main_v18 A U H (ix3 d b l) = H (ix3 b d l) := by
  pointwise [Step.A_main_v18]

/-! ## One trip -/

theorem start_at (n : ℕ) (hn : n < 4096) (s : Fin 4 → (⟨S_, .i32⟩ : BufTy).Contents (Elt Ideal))
    (hs : s = ![constantI S_ 32 (BitVec.ofNat 32 n), constantI S_ 32 0#32, constantI S_ 32 0#32, constantI S_ 32 0#32]) (k : Fin 4) :
    (s k (Shape.Idx.first h_S_)).toInt = (((![n, 0, 0, 0] : Fin 4 → ℕ) k : ℕ) : ℤ) := by
  subst hs
  match k with
  | 0 => exact toInt_ofNat_of_lt (by omega)
  | 1 => rfl
  | 2 => rfl
  | 3 => rfl

theorem fits (n : ℕ) (hn : n < 4096) : S4096x2x8x512.Slices (![n, 0, 0, 0] : Fin 4 → ℕ) S1x2x8x512 := by
  refine ⟨rfl, fun a => ?_⟩
  match a with
  | 0 => show n + 1 ≤ 4096; omega
  | 1 => show 0 + 2 ≤ 2; omega
  | 2 => show 0 + 8 ≤ 8; omega
  | 3 => show 0 + 512 ≤ 512; omega

/-- The decays a trip reads. -/
theorem read_decay (n : ℕ) (hn : n < 4096) (s : State Ideal) (d : Fin 2) (b : Fin 8) (l : Fin 512) :
    Step.b4 n s (ix3 d b l) = s.main_v22_0 (ix4 ⟨n, hn⟩ d b l) := by
  have e : Step.b3 n s = extractStridedSlice S1x2x8x512 ![n, 0, 0, 0] s.main_v22_0 (fits n hn) :=
    dynamicSlice_eq_extract _ _ _ _ _ (fits n hn) (start_at n hn _ rfl)
  unfold Step.b4
  rw [e]
  pointwise

theorem read_input (n : ℕ) (hn : n < 4096) (s : State Ideal) (d : Fin 2) (b : Fin 8) (l : Fin 512) :
    Step.b9 n s (ix3 d b l) = s.main_v22_1 (ix4 ⟨n, hn⟩ d b l) := by
  have e : Step.b8 n s = extractStridedSlice S1x2x8x512 ![n, 0, 0, 0] s.main_v22_1 (fits n hn) :=
    dynamicSlice_eq_extract _ _ _ _ _ (fits n hn) (start_at n hn _ rfl)
  unfold Step.b9
  rw [e]
  pointwise

/-- The state's update. -/
theorem carry_succ (n : ℕ) (hn : n < 4096) (s : State Ideal) (d : Fin 2) (b : Fin 8) (l : Fin 512) :
    (step n s).main_v22_3 (ix3 d b l) = s.main_v22_0 (ix4 ⟨n, hn⟩ d b l) * s.main_v22_3 (ix3 d b l) + s.main_v22_1 (ix4 ⟨n, hn⟩ d b l) := by
  rw [← read_decay n hn, ← read_input n hn]
  rfl

/-- The stack's update: row `n` is the new state, the others stay. -/
theorem ys_succ (n : ℕ) (hn : n < 4096) (s : State Ideal) (k : Fin 4096) (d : Fin 2) (b : Fin 8) (l : Fin 512) :
    (step n s).main_v22_4 (ix4 k d b l) = if k.val = n then (step n s).main_v22_3 (ix3 d b l) else s.main_v22_4 (ix4 k d b l) := by
  have e : (step n s).main_v22_4 = updateSlice s.main_v22_4 (Step.b12 n s) ![n, 0, 0, 0] (fits n hn) :=
    dynamicUpdateSlice_eq_update _ _ _ updateFits_S4096x2x8x512_S1x2x8x512 _ (fits n hn) (start_at n hn _ rfl)
  have e12 : Step.b12 n s (ix4 0 d b l) = (step n s).main_v22_3 (ix3 d b l) := by
    have e' : (step n s).main_v22_3 = Step.b11 n s := rfl
    rw [e']
    unfold Step.b12
    pointwise
  rw [e]
  unfold updateSlice
  by_cases hk : k.val = n
  · rw [if_pos hk, ← e12, dif_pos]
    · refine congrArg _ ?_
      funext a
      match a with
      | 0 => exact Fin.ext (by show k.val - n = 0; omega)
      | 1 => rfl
      | 2 => rfl
      | 3 => rfl
    · intro a
      match a with
      | 0 => exact ⟨by show n ≤ k.val; omega, by show k.val < n + 1; omega⟩
      | 1 => exact ⟨Nat.zero_le _, by show d.val < 0 + 2; omega⟩
      | 2 => exact ⟨Nat.zero_le _, by show b.val < 0 + 8; omega⟩
      | 3 => exact ⟨Nat.zero_le _, by show l.val < 0 + 512; omega⟩
  · rw [if_neg hk, dif_neg]
    intro h
    have h0 := h 0
    have h1 : n ≤ k.val := h0.1
    have h2 : k.val < n + 1 := h0.2
    omega

/-! ## All trips -/

variable (m : (ℓ : Loc nD τ sig) → Buf (Elt Ideal) ℓ) (c : Dev nD)

abbrev argA : Vec Ideal S2x32768x512 .f32 := m ((c.tc : Thread nD τ).loc main_arg0)
abbrev argU : Vec Ideal S2x32768x512 .f32 := m ((c.tc : Thread nD τ).loc main_arg1)
abbrev argH : Vec Ideal S8x2x512 .f32 := m ((c.tc : Thread nD τ).loc main_arg2)

theorem decays_all (n : ℕ) : (stateOf m c n).main_v22_0 = Step.A_main_v19 (argA m c) (argU m c) (argH m c) := by
  induction n with
  | zero => rfl
  | succ n ih => exact ih

theorem inputs_all (n : ℕ) : (stateOf m c n).main_v22_1 = Step.A_main_v20 (argA m c) (argU m c) (argH m c) := by
  induction n with
  | zero => rfl
  | succ n ih => exact ih

theorem carry_fst (b : Fin 8) (l : Fin 512) (n : ℕ) (hn : n ≤ 4096) :
    (stateOf m c n).main_v22_3 (ix3 0 b l) = forth (argA m c) (argU m c) (argH m c) b l n := by
  induction n with
  | zero => exact carry_first (argA m c) (argU m c) (argH m c) 0 b l
  | succ n ih =>
    refine (carry_succ n hn (stateOf m c n) 0 b l).trans ?_
    rw [ih (Nat.le_of_succ_le hn), decays_all, inputs_all, decays_fst, inputs_fst, forth_succ]

theorem carry_snd (b : Fin 8) (l : Fin 512) (n : ℕ) (hn : n ≤ 4096) :
    (stateOf m c n).main_v22_3 (ix3 1 b l) = back (argA m c) (argU m c) (argH m c) b l n := by
  induction n with
  | zero => exact carry_first (argA m c) (argU m c) (argH m c) 1 b l
  | succ n ih =>
    refine (carry_succ n hn (stateOf m c n) 1 b l).trans ?_
    rw [ih (Nat.le_of_succ_le hn), decays_all, inputs_all, decays_snd, inputs_snd, back_succ]

/-- Once trip `k` is done row `k` of the stack is the state after it. -/
theorem ys_all (k : Fin 4096) (d : Fin 2) (b : Fin 8) (l : Fin 512) (n : ℕ) (hn : n ≤ 4096) (hk : k.val < n) :
    (stateOf m c n).main_v22_4 (ix4 k d b l) = (stateOf m c (k.val + 1)).main_v22_3 (ix3 d b l) := by
  induction n with
  | zero => exact absurd hk (Nat.not_lt_zero _)
  | succ n ih =>
    refine (ys_succ n hn (stateOf m c n) k d b l).trans ?_
    by_cases h : k.val = n
    · rw [if_pos h, h]; rfl
    · rw [if_neg h]; exact ih (Nat.le_of_succ_le hn) (by omega)

/-! ## The results -/

theorem result_hf : Step.R_main_v25 (stateOf m c 4096) = forths (argA m c) (argU m c) (argH m c) := by
  funext y
  obtain ⟨b, n, l, rfl⟩ : ∃ (b : Fin 8) (n : Fin 4096) (l : Fin 512), y = ix3 b n l := ⟨y 0, y 1, y 2, eq_ix3 y⟩
  have e : Step.R_main_v25 (stateOf m c 4096) (ix3 b n l) = (stateOf m c 4096).main_v22_4 (ix4 n 0 b l) := by
    pointwise [Step.R_main_v25]
  rw [e, ys_all m c n 0 b l 4096 (Nat.le_refl _) n.isLt, carry_fst m c b l _ n.isLt]
  rfl

theorem result_hb : Step.R_main_v28 (stateOf m c 4096) = backs (argA m c) (argU m c) (argH m c) := by
  funext y
  obtain ⟨b, n, l, rfl⟩ : ∃ (b : Fin 8) (n : Fin 4096) (l : Fin 512), y = ix3 b n l := ⟨y 0, y 1, y 2, eq_ix3 y⟩
  have e : Step.R_main_v28 (stateOf m c 4096) (ix3 b n l) = (stateOf m c 4096).main_v22_4 (ix4 n.rev 1 b l) := by
    pointwise [Step.R_main_v28]
    rfl
  rw [e, ys_all m c n.rev 1 b l 4096 (Nat.le_refl _) n.rev.isLt, carry_snd m c b l _ n.rev.isLt]
  show back _ _ _ _ _ _ = back _ _ _ _ _ (4096 - n.val)
  exact congrArg _ (by rw [Fin.val_rev]; omega)

theorem result_fin : Step.R_main_v29 (stateOf m c 4096) = ends (argA m c) (argU m c) (argH m c) := by
  funext y
  obtain ⟨b, d, l, rfl⟩ : ∃ (b : Fin 8) (d : Fin 2) (l : Fin 512), y = ix3 b d l := ⟨y 0, y 1, y 2, eq_ix3 y⟩
  have e : Step.R_main_v29 (stateOf m c 4096) (ix3 b d l) = (stateOf m c 4096).main_v22_3 (ix3 d b l) := by
    pointwise [Step.R_main_v29]
  rw [e]
  rcases (by omega : d.val = 0 ∨ d.val = 1) with h | h
  · obtain rfl : d = 0 := Fin.ext h
    rw [carry_fst m c b l 4096 (Nat.le_refl _)]
    exact (ends_fst _ _ _ b l).symm
  · obtain rfl : d = 1 := Fin.ext h
    rw [carry_snd m c b l 4096 (Nat.le_refl _)]
    exact (ends_snd _ _ _ b l).symm

end Cert.LruScan

end
-- ==== Proof.LruClaim.lean ====
/- The recurrence's claims: both kernels run and keep their arguments, the reference too, and the three result arrays of
   kernel and reference are the same. -/
module

public import proofs.«01_k».proof.Defs
public import proofs.«01_k».proof.Proof.LruValue
public import proofs.«01_k».proof.Proof.LruRefValue
public import proofs.«01_k».proof.Proof.LruKernelRun
public import Idealize.ShloMosaic.Lib.Claim

@[expose] public section

set_option maxRecDepth 16384

noncomputable section

namespace Cert.LruClaim

open Idealize.ShloMosaic Idealize.SL.Sem

theorem frameKernel : Cert.quiescent_Lru := fun m ρ _ => Cert.LruKernelRun.frame_all m ρ

theorem frameIdeal : Cert.quiescent_LruIdeal := fun m ρ _ => Cert.LruRun.frame_all m ρ

theorem frame : Cert.quiescent_LruRefIdeal := fun m ρ _ =>
  (θ_run Cert.LruRefIdeal.defs _ _).mono (fun r h => ⟨fun c => (h c).2.2.2, sem_eq_zero_of_no_sems (by decide) r.2⟩)
    (Cert.LruScan.run (F := Ideal) m ρ)

theorem algebraic : Cert.algebraic_LruIdeal_LruRefIdeal := by
  intro m g m' g' _ hagree
  refine ⟨fun c => Cert.Recur.forths (Cert.LruRun.argA m c) (Cert.LruRun.argU m c) (Cert.LruRun.argH m c),
    fun c => Cert.Recur.backs (Cert.LruRun.argA m c) (Cert.LruRun.argU m c) (Cert.LruRun.argH m c),
    fun c => Cert.Recur.ends (Cert.LruRun.argA m c) (Cert.LruRun.argU m c) (Cert.LruRun.argH m c), ?_, ?_⟩
  · exact (θ_run Cert.LruIdeal.defs _ _).mono (fun r h c =>
      ⟨((h.1.1 c).1 5).trans (Cert.LruRun.final_hf m c), ((h.1.1 c).1 6).trans (Cert.LruRun.final_hb m c),
        ((h.1.1 c).1 7).trans (Cert.LruRun.final_fin m c), h.2.1 c⟩)
      (θ_run_and (Cert.LruRun.run_blocks (F := Ideal) m g) (Cert.LruRun.frame_all (F := Ideal) m g))
  · refine (θ_run Cert.LruRefIdeal.defs _ _).mono (fun _ h c => ?_) (Cert.LruScan.run (F := Ideal) m' g')
    obtain ⟨a0, a1, a2⟩ := hagree c
    obtain ⟨h1, h2, h3, h4⟩ := h c
    rw [Cert.LruScan.result_hf] at h1
    rw [Cert.LruScan.result_hb] at h2
    rw [Cert.LruScan.result_fin] at h3
    simp only [Cert.LruScan.argA, Cert.LruScan.argU, Cert.LruScan.argH, a0, a1, a2] at h1 h2 h3
    exact ⟨h1, h2, h3, h4⟩

end Cert.LruClaim

end
-- ==== Proof.AbInRows.lean ====
/- What the gate kernel of an even layer computes for one token, as plain functions over the extended reals: the shifts
   inside a line of 64 tokens, the two short convolutions, the head-wise gates, the recurrence's decay and input. -/
module

public import proofs.«01_k».proof.Proof.Rows

@[expose] public section

noncomputable section

namespace Cert.Lines

open Idealize.ShloMosaic
open scoped BigOperators

/-- The value `d` tokens earlier in the token's line of 64, and 0 where the line begins later than that. -/
def before (d : ℕ) (v : ℕ → EReal) (t : ℕ) : EReal := if d ≤ t % 64 then v (t - d) else 0

/-- The value one token later in the token's line, and 0 at the line's end. -/
def after (v : ℕ → EReal) (t : ℕ) : EReal := if t % 64 < 63 then v (t + 1) else 0

/-- The shift into the past reads nothing but the line. -/
theorem before_congr (d : ℕ) (v w : ℕ → EReal) (t s : ℕ) (h : t % 64 = s % 64) (hv : d ≤ t % 64 → v (t - d) = w (s - d)) :
    before d v t = before d w s := by
  unfold before
  rw [← h]
  exact if_ctx_congr Iff.rfl hv fun _ => rfl

/-- The shift into the future reads nothing but the line. -/
theorem after_congr (v w : ℕ → EReal) (t s : ℕ) (h : t % 64 = s % 64) (hv : t % 64 < 63 → v (t + 1) = w (s + 1)) :
    after v t = after w s := by
  unfold after
  rw [← h]
  exact if_ctx_congr Iff.rfl hv fun _ => rfl

/-- The convolution over three neighbours. -/
def short (v : ℕ → EReal) (w : Fin 3 → EReal) (t : ℕ) : EReal := before 1 v t * w 0 + v t * w 1 + after v t * w 2

/-- The convolution over four neighbours, with its bias. -/
def long (v : ℕ → EReal) (w : Fin 4 → EReal) (b : EReal) (t : ℕ) : EReal :=
  before 2 v t * w 0 + before 1 v t * w 1 + v t * w 2 + after v t * w 3 + b

/-- The logistic function. -/
def sigmoid (x : EReal) : EReal := Ideal.div 1 (1 + Ideal.exp (-x))

/-- The head a feature belongs to, its place inside the head, and a head's feature. -/
abbrev head (l : Fin 512) : Fin 8 := ⟨l.val / 64, by omega⟩
abbrev place (l : Fin 512) : Fin 64 := ⟨l.val % 64, by omega⟩
abbrev feature (h : Fin 8) (i : Fin 64) : Fin 512 := ⟨h.val * 64 + i.val, by omega⟩

/-- A gate: the features of the head through the head's own matrix, a bias, the logistic function. -/
def gate (x : Fin 512 → EReal) (w : Fin 8 → Fin 64 → Fin 64 → EReal) (b : Fin 512 → EReal) (l : Fin 512) : EReal :=
  sigmoid ((∑ i : Fin 64, x (feature (head l) i) * w (head l) i (place l)) + b l)

/-- The logarithm of the recurrence's decay from its gate `r` and the softplus `s`. -/
def logDecay (r s : EReal) : EReal := Ideal.ofBits .f32 3238002688#32 * r * s

/-- The recurrence's decay. -/
def decay (r s : EReal) : EReal := Ideal.exp (logDecay r s)

/-- The recurrence's input from the decay `a`, the input gate `i` and the features `x`. -/
def input (a i x : EReal) : EReal := Ideal.sqrt (1 - a * a) * (i * x)

/-- The softplus. -/
def softplus (z : EReal) : EReal := max z 0 + Ideal.log1p (Ideal.exp (-(FloatOps.absf (F := Ideal) (φ := .f32) z : EReal)))

/-- The tanh form of gelu. -/
def gelu (g : EReal) : EReal :=
  Ideal.ofBits .f32 1056964608#32 * g
    * (1 + Ideal.tanh (Ideal.ofBits .f32 1061962282#32 * (g + Ideal.ofBits .f32 1027024659#32 * (g * g * g))))

/-- The projection of the modulated token `x`. -/
def project (x sh sc : Rows.Row) (w : Fin 1024 → Fin 2560 → EReal) (j : Fin 2560) : EReal := ∑ k, Rows.modulate x sh sc k * w k j

/-- The gated short convolution of the projected tokens `p`. -/
def conv (p : ℕ → Fin 2560 → EReal) (w : Fin 3 → Fin 512 → EReal) (t : ℕ) (l : Fin 512) : EReal :=
  p t ⟨l.val, by omega⟩ * short (fun s => p s ⟨512 + l.val, by omega⟩ * p s ⟨1024 + l.val, by omega⟩) (fun k => w k l) t

/-- The recurrence's features: the long convolution of the projected tokens `p`. -/
def features (p : ℕ → Fin 2560 → EReal) (w : Fin 4 → Fin 512 → EReal) (b : Fin 512 → EReal) (t : ℕ) (l : Fin 512) : EReal :=
  long (fun s => p s ⟨2048 + l.val, by omega⟩) (fun k => w k l) (b l) t

/-- The projected tokens of one batch entry. -/
def tokens (x : Fin 4096 → Rows.Row) (sh sc : Rows.Row) (w : Fin 1024 → Fin 2560 → EReal) (s : ℕ) : Fin 2560 → EReal :=
  project (x ⟨s % 4096, Nat.mod_lt _ (by decide)⟩) sh sc w

/-- A direction's decays, from the token's features `x`, the gate's matrices and bias and the parameter `lam`. -/
def rates (x : Fin 512 → EReal) (wa : Fin 8 → Fin 64 → Fin 64 → EReal) (ba lam : Fin 512 → EReal) (l : Fin 512) : EReal :=
  decay (gate x wa ba l) (softplus (-(lam l)))

/-- A direction's inputs. -/
def inputs (x : Fin 512 → EReal) (wa : Fin 8 → Fin 64 → Fin 64 → EReal) (ba : Fin 512 → EReal) (wi : Fin 8 → Fin 64 → Fin 64 → EReal)
    (bi lam : Fin 512 → EReal) (l : Fin 512) : EReal :=
  input (rates x wa ba lam l) (gate x wi bi l) (x l)

/-- A row number of a block of 256 rows. -/
abbrev row (s : ℕ) : Fin 256 := ⟨s % 256, Nat.mod_lt _ (by decide)⟩

/-- A shift into the past inside a block of whole lines is the shift in the sequence the block is cut from. -/
theorem before_block (f : Fin 256 → EReal) (g : ℕ → EReal) (T d : ℕ) (h : ∀ r : Fin 256, f r = g (T * 256 + r.val)) (r : Fin 256) :
    before d (fun s => f (row s)) r.val = before d g (T * 256 + r.val) := by
  refine before_congr d _ _ _ _ (by omega) fun hd => ?_
  show f (row (r.val - d)) = _
  rw [h]
  show g (T * 256 + (r.val - d) % 256) = _
  congr 1
  omega

/-- The same for the shift into the future. -/
theorem after_block (f : Fin 256 → EReal) (g : ℕ → EReal) (T : ℕ) (h : ∀ r : Fin 256, f r = g (T * 256 + r.val)) (r : Fin 256) :
    after (fun s => f (row s)) r.val = after g (T * 256 + r.val) := by
  refine after_congr _ _ _ _ (by omega) fun hd => ?_
  show f (row (r.val + 1)) = _
  rw [h]
  show g (T * 256 + (r.val + 1) % 256) = _
  congr 1
  omega

/-- The row itself. -/
theorem here_block (f : Fin 256 → EReal) (g : ℕ → EReal) (T : ℕ) (h : ∀ r : Fin 256, f r = g (T * 256 + r.val)) (r : Fin 256) :
    f (row r.val) = g (T * 256 + r.val) := by
  rw [h]
  show g (T * 256 + r.val % 256) = _
  congr 1
  omega

/-- The gated short convolution of a block is that of the sequence. -/
theorem conv_block (f : Fin 256 → Fin 2560 → EReal) (p : ℕ → Fin 2560 → EReal) (w : Fin 3 → Fin 512 → EReal) (T : ℕ)
    (h : ∀ (r : Fin 256) (j : Fin 2560), f r j = p (T * 256 + r.val) j) (r : Fin 256) (l : Fin 512) :
    conv (fun s => f (row s)) w r.val l = conv p w (T * 256 + r.val) l := by
  unfold conv short
  have hv : ∀ r : Fin 256, f r ⟨512 + l.val, by omega⟩ * f r ⟨1024 + l.val, by omega⟩
      = p (T * 256 + r.val) ⟨512 + l.val, by omega⟩ * p (T * 256 + r.val) ⟨1024 + l.val, by omega⟩ := fun r => by rw [h, h]
  rw [before_block (fun r => f r ⟨512 + l.val, by omega⟩ * f r ⟨1024 + l.val, by omega⟩)
      (fun s => p s ⟨512 + l.val, by omega⟩ * p s ⟨1024 + l.val, by omega⟩) T 1 hv r,
    after_block (fun r => f r ⟨512 + l.val, by omega⟩ * f r ⟨1024 + l.val, by omega⟩)
      (fun s => p s ⟨512 + l.val, by omega⟩ * p s ⟨1024 + l.val, by omega⟩) T hv r]
  beta_reduce
  rw [here_block (fun r => f r ⟨l.val, by omega⟩) (fun s => p s ⟨l.val, by omega⟩) T (fun r => h r _) r,
    here_block (fun r => f r ⟨512 + l.val, by omega⟩) (fun s => p s ⟨512 + l.val, by omega⟩) T (fun r => h r _) r, here_block (fun r => f r ⟨1024 + l.val, by omega⟩) (fun s => p s ⟨1024 + l.val, by omega⟩) T (fun r => h r _) r]

/-- The features of a block are those of the sequence. -/
theorem features_block (f : Fin 256 → Fin 2560 → EReal) (p : ℕ → Fin 2560 → EReal) (w : Fin 4 → Fin 512 → EReal) (b : Fin 512 → EReal) (T : ℕ)
    (h : ∀ (r : Fin 256) (j : Fin 2560), f r j = p (T * 256 + r.val) j) (r : Fin 256) (l : Fin 512) :
    features (fun s => f (row s)) w b r.val l = features p w b (T * 256 + r.val) l := by
  unfold features long
  rw [before_block (fun r => f r ⟨2048 + l.val, by omega⟩) (fun s => p s ⟨2048 + l.val, by omega⟩) T 2 (fun r => h r _) r, before_block (fun r => f r ⟨2048 + l.val, by omega⟩) (fun s => p s ⟨2048 + l.val, by omega⟩) T 1 (fun r => h r _) r,
    after_block (fun r => f r ⟨2048 + l.val, by omega⟩) (fun s => p s ⟨2048 + l.val, by omega⟩) T (fun r => h r _) r]
  beta_reduce
  rw [here_block (fun r => f r ⟨2048 + l.val, by omega⟩) (fun s => p s ⟨2048 + l.val, by omega⟩) T (fun r => h r _) r]

/-- A sum over all features against a matrix that is zero outside the head's own block is the head's sum. -/
theorem sum_block (x : Fin 512 → EReal) (w : Fin 8 → Fin 64 → Fin 64 → EReal) (l : Fin 512) :
    ∑ p : Fin 512, x p * (w (head p) (place p) (place l) * if (head p).val = (head l).val then (1 : EReal) else 0)
      = ∑ i : Fin 64, x (feature (head l) i) * w (head l) i (place l) := by
  symm
  refine Finset.sum_of_injOn (fun i => feature (head l) i) ?_ (fun _ _ => Finset.mem_coe.2 (Finset.mem_univ _)) ?_ ?_
  · intro a _ b _ hab
    have h : (head l).val * 64 + a.val = (head l).val * 64 + b.val := congrArg Fin.val hab
    exact Fin.ext (by omega)
  · intro p _ hp
    rw [if_neg, mul_zero, mul_zero]
    intro h
    refine hp ⟨place p, Finset.mem_coe.2 (Finset.mem_univ _), Fin.ext ?_⟩
    show (head l).val * 64 + p.val % 64 = p.val
    have h' : p.val / 64 = (head l).val := h
    omega
  · intro i _
    have e1 : head (feature (head l) i) = head l := Fin.ext (by show ((head l).val * 64 + i.val) / 64 = (head l).val; omega)
    have e2 : place (feature (head l) i) = i := Fin.ext (by show ((head l).val * 64 + i.val) % 64 = i.val; omega)
    rw [e1, e2, if_pos rfl, mul_one]

end Cert.Lines

end
-- ==== Proof.AbInResult.lean ====
/- The four arrays the gate kernel of an even layer leaves, as functions of the call's arguments. -/
module

public import proofs.«01_k».proof.Proof.AbInRows
public import Idealize.ShloMosaic.Lib.ValueIdx
public import Idealize.ShloMosaic.Lib.Pointwise

@[expose] public section

noncomputable section

namespace Cert.Lines

open Idealize.ShloMosaic

variable (X : (⟨3, ![8, 4096, 1024]⟩ : Shape).Idx → EReal) (M : (⟨3, ![8, 6, 1024]⟩ : Shape).Idx → EReal) (W : (⟨2, ![1024, 2560]⟩ : Shape).Idx → EReal)
  (w3 : (⟨2, ![3, 512]⟩ : Shape).Idx → EReal) (w4 : (⟨2, ![4, 512]⟩ : Shape).Idx → EReal) (lb : (⟨1, ![512]⟩ : Shape).Idx → EReal)
  (WA : (⟨4, ![2, 8, 64, 64]⟩ : Shape).Idx → EReal) (BA : (⟨2, ![2, 512]⟩ : Shape).Idx → EReal)
  (WI : (⟨4, ![2, 8, 64, 64]⟩ : Shape).Idx → EReal) (BI : (⟨2, ![2, 512]⟩ : Shape).Idx → EReal) (LAM : (⟨2, ![2, 512]⟩ : Shape).Idx → EReal)

/-- The projected tokens of batch entry `n`. -/
def seq (n : Fin 8) : ℕ → Fin 2560 → EReal :=
  tokens (fun t k => X (ix3 n t k)) (fun k => M (ix3 n (0 : Fin 6) k)) (fun k => M (ix3 n (1 : Fin 6) k)) (fun q k => W (ix2 q k))

/-- The recurrence's features of token `t` of batch entry `n`. -/
def feats (n : Fin 8) (t : ℕ) (l : Fin 512) : EReal := features (seq X M W n) (fun k l => w4 (ix2 k l)) (fun l => lb (ix1 l)) t l

/-- The batch entry of a flat row. -/
abbrev part (q : Fin 32768) : Fin 8 := ⟨q.val / 4096, by omega⟩

/-- The gated short convolution at a flat row. -/
def convs : (⟨2, ![32768, 512]⟩ : Shape).Idx → EReal := fun y =>
  conv (seq X M W (part (y 0))) (fun k l => w3 (ix2 k l)) ((y 0).val % 4096) (y 1)

/-- The gelu gate. -/
def gates : (⟨2, ![32768, 512]⟩ : Shape).Idx → EReal := fun y =>
  gelu (seq X M W (part (y 0)) ((y 0).val % 4096) ⟨1536 + (y 1).val, by have h : (y 1).val < 512 := (y 1).isLt; omega⟩)

/-- The decays of the two directions. -/
def decays : (⟨3, ![2, 32768, 512]⟩ : Shape).Idx → EReal := fun y =>
  rates (feats X M W w4 lb (part (y 1)) ((y 1).val % 4096)) (fun h i j => WA (ix4 (y 0) h i j)) (fun l => BA (ix2 (y 0) l)) (fun l => LAM (ix2 (y 0) l)) (y 2)

/-- The inputs of the two directions. -/
def entries : (⟨3, ![2, 32768, 512]⟩ : Shape).Idx → EReal := fun y =>
  inputs (feats X M W w4 lb (part (y 1)) ((y 1).val % 4096)) (fun h i j => WA (ix4 (y 0) h i j)) (fun l => BA (ix2 (y 0) l))
    (fun h i j => WI (ix4 (y 0) h i j)) (fun l => BI (ix2 (y 0) l)) (fun l => LAM (ix2 (y 0) l)) (y 2)

/-- The same at a flat row given by its batch entry and token. -/
theorem convs_at (q : Fin 32768) (n : Fin 8) (t : ℕ) (l : Fin 512) (ht : t < 4096) (h : q.val = n.val * 4096 + t) :
    convs X M W w3 (ix2 q l) = conv (seq X M W n) (fun k l => w3 (ix2 k l)) t l := by
  have e0 : part q = n := Fin.ext (by show q.val / 4096 = n.val; omega)
  have e1 : q.val % 4096 = t := by omega
  show conv (seq X M W (part q)) _ (q.val % 4096) l = _
  rw [e0, e1]

theorem gates_at (q : Fin 32768) (n : Fin 8) (t : ℕ) (l : Fin 512) (ht : t < 4096) (h : q.val = n.val * 4096 + t) :
    gates X M W (ix2 q l) = gelu (seq X M W n t ⟨1536 + l.val, by omega⟩) := by
  have e0 : part q = n := Fin.ext (by show q.val / 4096 = n.val; omega)
  have e1 : q.val % 4096 = t := by omega
  show gelu (seq X M W (part q) (q.val % 4096) ⟨1536 + l.val, _⟩) = _
  rw [e0, e1]

theorem decays_at (d : Fin 2) (q : Fin 32768) (n : Fin 8) (t : ℕ) (l : Fin 512) (ht : t < 4096) (h : q.val = n.val * 4096 + t) :
    decays X M W w4 lb WA BA LAM (ix3 d q l)
      = rates (feats X M W w4 lb n t) (fun h i j => WA (ix4 d h i j)) (fun l => BA (ix2 d l)) (fun l => LAM (ix2 d l)) l := by
  have e0 : part q = n := Fin.ext (by show q.val / 4096 = n.val; omega)
  have e1 : q.val % 4096 = t := by omega
  show rates (feats X M W w4 lb (part q) (q.val % 4096)) _ _ _ l = _
  rw [e0, e1]
  rfl

theorem entries_at (d : Fin 2) (q : Fin 32768) (n : Fin 8) (t : ℕ) (l : Fin 512) (ht : t < 4096) (h : q.val = n.val * 4096 + t) :
    entries X M W w4 lb WA BA WI BI LAM (ix3 d q l)
      = inputs (feats X M W w4 lb n t) (fun h i j => WA (ix4 d h i j)) (fun l => BA (ix2 d l)) (fun h i j => WI (ix4 d h i j)) (fun l => BI (ix2 d l))
          (fun l => LAM (ix2 d l)) l := by
  have e0 : part q = n := Fin.ext (by show q.val / 4096 = n.val; omega)
  have e1 : q.val % 4096 = t := by omega
  show inputs (feats X M W w4 lb (part q) (q.val % 4096)) _ _ _ _ _ l = _
  rw [e0, e1]
  rfl

/-- The tokens' values at a token number below 4096. -/
theorem seq_lt (n : Fin 8) (t : ℕ) (ht : t < 4096) (j : Fin 2560) :
    seq X M W n t j = project (fun k => X (ix3 n (⟨t, ht⟩ : Fin 4096) k)) (fun k => M (ix3 n (0 : Fin 6) k)) (fun k => M (ix3 n (1 : Fin 6) k))
      (fun q k => W (ix2 q k)) j := by
  have e : (⟨t % 4096, Nat.mod_lt _ (by decide)⟩ : Fin 4096) = ⟨t, ht⟩ := Fin.ext (Nat.mod_eq_of_lt ht)
  unfold seq tokens
  rw [e]

end Cert.Lines

end
-- ==== Proof.AbInBody.lean ====
/- What the gate kernel's body computes at a row of its block, one printed value at a time: the projection, the masked
   rotations (which are shifts inside a line of 64 rows), the two convolutions, the gates, the decay and the input. -/
module

public import proofs.«01_k».proof.Proof.AbInRows
public import proofs.«01_k».proof.Proof.Gen.AbInIdeal.Value
public import Idealize.ShloMosaic.Lib.Pipeline.ValueKit
public import Idealize.ShloMosaic.Lib.KernelVsHost

@[expose] public section
set_option maxRecDepth 16384

noncomputable section

namespace Cert.AbInIdeal.Rowwise

open Cert.Lines (row)
open Cert.AbInIdeal Cert.AbInIdeal.Gen Idealize.ShloMosaic Idealize.ShloMosaic.TcCoe Idealize.SL.Sem
open Idealize.ShloMosaic.Pipeline (Dat)
open scoped BigOperators

/-- A row has a row one before it in its line exactly where the masked counter says so. -/
theorem bit_one : ∀ r : Fin 256, IntOp.cmpi .sge (IntOp.addi (IntOp.andi (BitVec.ofNat 32 r.val) 63#32) 4294967295#32) 0#32
    = if 1 ≤ r.val % 64 then 1#1 else 0#1 := by decide +kernel
/-- The same for two rows before. -/
theorem bit_two : ∀ r : Fin 256, IntOp.cmpi .sge (IntOp.addi (IntOp.andi (BitVec.ofNat 32 r.val) 63#32) 4294967294#32) 0#32
    = if 2 ≤ r.val % 64 then 1#1 else 0#1 := by decide +kernel
/-- The same for the row after. -/
theorem bit_next : ∀ r : Fin 256, IntOp.cmpi .slt (IntOp.addi (IntOp.andi (BitVec.ofNat 32 r.val) 63#32) 1#32) 64#32
    = if r.val % 64 < 63 then 1#1 else 0#1 := by decide +kernel

/-- A rotation of the block's 256 rows by `k`. -/
theorem rotated (y : FVec Ideal S256x512 .f32) (b : BitVec 32) (k : ℕ) (hb : b.toNat = k) (hk : k < 256) (r : Fin 256) (l : Fin 512) :
    dynamicRotate 0 b none y rotates_S256x512_d0 (ix2 r l) = y (ix2 (row (r.val + 256 - k)) l) := by
  subst hb
  pointwise []
  have e : (⟨(r.val + 256 - b.toNat % 256) % 256, Nat.mod_lt _ (by decide)⟩ : Fin 256) = row (r.val + 256 - b.toNat) :=
    Fin.ext (by show (r.val + 256 - b.toNat % 256) % 256 = (r.val + 256 - b.toNat) % 256; rw [Nat.mod_eq_of_lt hk])
  rw [← e]

/-- A rotation towards later rows, masked by the place in the line, is the shift into the past. -/
theorem select_before (y : FVec Ideal S256x512 .f32) (mk : IVec S256x512 1) (b : BitVec 32) (d : ℕ) (hb : b.toNat = d) (hd : d < 64)
    (r : Fin 256) (l : Fin 512) (hm : mk (ix2 r l) = if d ≤ r.val % 64 then 1#1 else 0#1) :
    select mk (dynamicRotate 0 b none y rotates_S256x512_d0) (broadcast S256x512 (Scalar.ofBits .f32 0x00000000#32)) (ix2 r l)
      = Lines.before d (fun s => y (ix2 (row s) l)) r.val := by
  show Scalar.select (mk (ix2 r l)) _ _ = _
  rw [hm, rotated y b d hb (by omega)]
  unfold Lines.before
  by_cases h : d ≤ r.val % 64
  · rw [if_pos h, if_pos h]
    show y _ = y _
    have e : row (r.val + 256 - d) = row (r.val - d) := Fin.ext (by show (r.val + 256 - d) % 256 = (r.val - d) % 256; omega)
    rw [e]
  · rw [if_neg h, if_neg h]
    exact Ideal.ofBits_zero_f32
/-- The counter of the rows. -/
theorem iota_at (r : Fin 256) (l : Fin 512) : iota .tc S256x512 32 [0] iota_S256x512_d0_w32 (ix2 r l) = BitVec.ofNat 32 r.val := by
  pointwise []

/-- A rotation towards earlier rows, masked by the place in the line, is the shift into the future. -/
theorem select_after (y : FVec Ideal S256x512 .f32) (mk : IVec S256x512 1) (r : Fin 256) (l : Fin 512)
    (hm : mk (ix2 r l) = if r.val % 64 < 63 then 1#1 else 0#1) :
    select mk (dynamicRotate 0 255#32 none y rotates_S256x512_d0) (broadcast S256x512 (Scalar.ofBits .f32 0x00000000#32)) (ix2 r l)
      = Lines.after (fun s => y (ix2 (row s) l)) r.val := by
  show Scalar.select (mk (ix2 r l)) _ _ = _
  rw [hm, rotated y 255#32 255 (by decide) (by decide)]
  unfold Lines.after
  by_cases h : r.val % 64 < 63
  · rw [if_pos h, if_pos h]
    show y _ = y _
    have e : row (r.val + 256 - 255) = row (r.val + 1) := Fin.ext (by show (r.val + 256 - 255) % 256 = (r.val + 1) % 256; omega)
    rw [e]
  · rw [if_neg h, if_neg h]
    exact Ideal.ofBits_zero_f32

/-- The mask of the rows that lie at least `d` into their line, whatever the constant `c` says `-d` by. -/
theorem mask_before (c : BitVec 32) (d : ℕ)
    (h : ∀ r : Fin 256, IntOp.cmpi .sge (IntOp.addi (IntOp.andi (BitVec.ofNat 32 r.val) 63#32) c) 0#32 = if d ≤ r.val % 64 then 1#1 else 0#1)
    (r : Fin 256) (l : Fin 512) :
    cmpi .sge (addi (andi (iota .tc S256x512 32 [0] iota_S256x512_d0_w32) (broadcast S256x512 63#32)) (broadcast S256x512 c))
      (broadcast S256x512 0#32) (ix2 r l) = if d ≤ r.val % 64 then 1#1 else 0#1 := by
  show IntOp.cmpi .sge (IntOp.addi (IntOp.andi (iota .tc S256x512 32 [0] iota_S256x512_d0_w32 (ix2 r l)) 63#32) c) 0#32 = _
  rw [iota_at, h]

/-- The mask of the rows that are not last in their line. -/
theorem mask_after (r : Fin 256) (l : Fin 512) :
    cmpi .slt (addi (andi (iota .tc S256x512 32 [0] iota_S256x512_d0_w32) (broadcast S256x512 63#32)) (broadcast S256x512 1#32))
      (broadcast S256x512 64#32) (ix2 r l) = if r.val % 64 < 63 then 1#1 else 0#1 := by
  show IntOp.cmpi .slt (IntOp.addi (IntOp.andi (iota .tc S256x512 32 [0] iota_S256x512_d0_w32 (ix2 r l)) 63#32) 1#32) 64#32 = _
  rw [iota_at, bit_next]

/-- A sum of two products, element by element. -/
theorem fused (a b c d : FVec Ideal S256x512 .f32) (i : S256x512.Idx) : addf (mulf a b) (mulf c d) i = a i * b i + c i * d i := rfl
/-- A sum with one product, element by element. -/
theorem fused' (a c d : FVec Ideal S256x512 .f32) (i : S256x512.Idx) : addf a (mulf c d) i = a i + c i * d i := rfl

/-- The projection of the modulated row. -/
theorem pay4_at (x : Vec Ideal S256x1024 .f32) (md : Vec Ideal S1x6x1024 .f32) (w : Vec Ideal S1024x2560 .bf16) (r : Fin 256) (j : Fin 2560) :
    k0_pay4 x md w (ix2 r j)
      = Lines.project (fun k => x (ix2 r k)) (fun k => md (ix3 0 0 k)) (fun k => md (ix3 0 1 k)) (fun q k => w (ix2 q k)) j := by
  unfold k0_pay4
  pointwise [dot_S256x1024_S1024x2560_S256x2560_1_0_0_1_n_n]
  rfl

/-- Two taps, element by element. -/
theorem tail2 (a c : FVec Ideal S256x512 .f32) (b d : FVec Ideal S256x512 .f32) (i : S256x512.Idx) (A B C D : EReal) (ha : a i = A) (hb : b i = B) (hc : c i = C) (hd : d i = D) :
   addf (mulf a b) (mulf c d) i = A * B + C * D := by subst ha hb hc hd; rfl
/-- The first two taps of the short convolution, for any features. -/
theorem pay9_gen (v : FVec Ideal S256x512 .f32) (w3 : Vec Ideal S3x512 .f32) (r : Fin 256) (l : Fin 512) :
   addf (mulf (select (cmpi .sge (addi (andi (iota .tc S256x512 32 [0] iota_S256x512_d0_w32) (broadcast S256x512 63#32)) (broadcast S256x512 4294967295#32))
      (broadcast S256x512 0#32)) (dynamicRotate 0 1#32 none v rotates_S256x512_d0) (broadcast S256x512 (Scalar.ofBits .f32 0x00000000#32)))
      (broadcastTo S256x512 (extractStridedSlice S1x512 ![0, 0] w3 slices_S3x512_o0_0_S1x512) broadcasts_S1x512_S256x512))
      (mulf v (broadcastTo S256x512 (extractStridedSlice S1x512 ![1, 0] w3 slices_S3x512_o1_0_S1x512) broadcasts_S1x512_S256x512)) (ix2 r l)
      = Lines.before 1 (fun s => v (ix2 (row s) l)) r.val * w3 (ix2 0 l) + v (ix2 r l) * w3 (ix2 1 l) := by
  refine tail2 _ _ _ _ _ _ _ _ _ (select_before _ _ _ 1 (by decide) (by decide) r l (mask_before _ 1 bit_one r l)) ?_ rfl ?_
  · pointwise []
  · pointwise []

/-- The first two taps of the short convolution. -/
theorem pay9_at (x : Vec Ideal S256x1024 .f32) (md : Vec Ideal S1x6x1024 .f32) (w : Vec Ideal S1024x2560 .bf16) (w3 : Vec Ideal S3x512 .f32)
    (r : Fin 256) (l : Fin 512) :
    k0_pay9 x md w w3 (ix2 r l)
      = Lines.before 1 (fun s => k0_pay8 x md w (ix2 (row s) l)) r.val * w3 (ix2 0 l) + k0_pay8 x md w (ix2 r l) * w3 (ix2 1 l) :=
  pay9_gen (k0_pay8 x md w) w3 r l

/-- Four taps and a bias, element by element. -/
theorem tail4 (a1 b1 a2 b2 a3 b3 a4 b4 c : FVec Ideal S256x512 .f32) (i : S256x512.Idx) (A1 B1 A2 B2 A3 B3 A4 B4 C : EReal)
    (h1 : a1 i = A1) (g1 : b1 i = B1) (h2 : a2 i = A2) (g2 : b2 i = B2) (h3 : a3 i = A3) (g3 : b3 i = B3) (h4 : a4 i = A4) (g4 : b4 i = B4) (hc : c i = C) :
    addf (addf (addf (addf (mulf a1 b1) (mulf a2 b2)) (mulf a3 b3)) (mulf a4 b4)) c i = A1 * B1 + A2 * B2 + A3 * B3 + A4 * B4 + C := by
  subst h1 g1 h2 g2 h3 g3 h4 g4 hc; rfl

/-- The features two rows before. -/
theorem pay13_at (v : FVec Ideal S256x512 .f32) (r : Fin 256) (l : Fin 512) :
    k0_pay13 v (ix2 r l) = Lines.before 2 (fun s => v (ix2 (row s) l)) r.val :=
  select_before _ _ _ 2 (by decide) (by decide) r l (mask_before _ 2 bit_two r l)

/-- The recurrence's features: four taps and the bias. -/
theorem pay14_at (v : FVec Ideal S256x512 .f32) (w : Vec Ideal S4x512 .f32) (z : FVec Ideal S256x512 .f32) (b : Vec Ideal S1x512 .f32) (r : Fin 256) (l : Fin 512)
    (Z : EReal) (hz : z (ix2 r l) = Z) :
    k0_pay14 v w z b (ix2 r l)
      = Z * w (ix2 0 l) + Lines.before 1 (fun s => v (ix2 (row s) l)) r.val * w (ix2 1 l) + v (ix2 r l) * w (ix2 2 l)
        + Lines.after (fun s => v (ix2 (row s) l)) r.val * w (ix2 3 l) + b (ix2 0 l) := by
  refine tail4 _ _ _ _ _ _ _ _ _ _ _ _ _ _ _ _ _ _ _ hz ?_ (select_before _ _ _ 1 (by decide) (by decide) r l (mask_before _ 1 bit_one r l)) ?_ rfl ?_
    (select_after _ _ r l (mask_after r l)) ?_ ?_
  · pointwise []
  · pointwise []
  · pointwise []
  · pointwise []
  · pointwise []

/-- The gated short convolution: its last tap and its gate. -/
theorem pay11_at (s v : FVec Ideal S256x512 .f32) (w : Vec Ideal S3x512 .f32) (u : FVec Ideal S256x512 .f32) (r : Fin 256) (l : Fin 512) :
    k0_pay11 s w u (dynamicRotate 0 255#32 none v rotates_S256x512_d0) (iota .tc S256x512 32 [0] iota_S256x512_d0_w32) (ix2 r l)
      = s (ix2 r l) * (u (ix2 r l) + Lines.after (fun s => v (ix2 (row s) l)) r.val * w (ix2 2 l)) := by
  refine congrArg₂ (· * ·) rfl ((fused' _ _ _ _).trans (congrArg₂ (· + ·) rfl (congrArg₂ (· * ·) (select_after _ _ r l (mask_after r l)) ?_)))
  pointwise []

/-- The gelu. -/
theorem pay12_at (g : FVec Ideal S256x512 .f32) (r : Fin 256) (l : Fin 512) : k0_pay12 g (ix2 r l) = Lines.gelu (g (ix2 r l)) := by
  unfold k0_pay12
  pointwise []
  rfl

/-- The bias of the gates. -/
theorem pay16_at (x : FVec Ideal S256x2048 .f32) (b : Vec Ideal S1x2048 .f32) (r : Fin 256) (j : Fin 2048) :
    k0_pay16 x b (ix2 r j) = x (ix2 r j) + b (ix2 0 j) := by
  unfold k0_pay16
  pointwise []

/-- The gates before their bias: one product with the wide matrix. -/
theorem pay15_at (v : FVec Ideal S256x512 .f32) (w : Vec Ideal S4x512 .f32) (z : FVec Ideal S256x512 .f32) (b : Vec Ideal S1x512 .f32)
    (wg : Vec Ideal S512x2048 .bf16) (r : Fin 256) (j : Fin 2048) :
    k0_pay15 v w z b wg (ix2 r j) = ∑ p : Fin 512, k0_pay14 v w z b (ix2 r p) * wg (ix2 p j) := by
  unfold k0_pay15
  pointwise [dot_S256x512_S512x2048_S256x2048_1_0_0_1_n_n]

/-- A difference from zero is the negative. -/
theorem zero_sub' (x : EReal) : 0 - x = -x := zero_sub x

/-- The first direction's decay. -/
theorem pay17_at (x : FVec Ideal S256x2048 .f32) (b : Vec Ideal S1x2048 .f32) (s : Vec Ideal S1x512 .f32) (r : Fin 256) (l : Fin 512) :
    k0_pay17 x b s (ix2 r l) = Lines.decay (Lines.sigmoid (k0_pay16 x b (ix2 r ⟨l.val, by omega⟩))) (s (ix2 0 l)) := by
  unfold k0_pay17
  pointwise []
  rw [zero_sub']
  rfl

/-- The first direction's decay as it is stored. -/
theorem pay18_at (x : FVec Ideal S256x2048 .f32) (b : Vec Ideal S1x2048 .f32) (s : Vec Ideal S1x512 .f32) (r : Fin 256) (l : Fin 512) :
    k0_pay18 x b s (ix3 0 r l) = k0_pay17 x b s (ix2 r l) := by
  unfold k0_pay18
  pointwise []

/-- The first direction's input. -/
theorem pay19_at (v : FVec Ideal S256x512 .f32) (x : FVec Ideal S256x2048 .f32) (b : Vec Ideal S1x2048 .f32) (s : Vec Ideal S1x512 .f32) (r : Fin 256) (l : Fin 512) :
    k0_pay19 v x b s (ix3 0 r l)
      = Lines.input (k0_pay17 x b s (ix2 r l)) (Lines.sigmoid (k0_pay16 x b (ix2 r ⟨512 + l.val, by omega⟩))) (v (ix2 r l)) := by
  unfold k0_pay19
  pointwise []
  rw [zero_sub']
  rfl

/-- The second direction's decay. -/
theorem pay1_at (x : FVec Ideal S256x2048 .f32) (b : Vec Ideal S1x2048 .f32) (s : Vec Ideal S1x512 .f32) (r : Fin 256) (l : Fin 512) :
    k0_pay1 (k0_pay20 x b) k0_pay21 s (ix2 r l) = Lines.decay (Lines.sigmoid (k0_pay16 x b (ix2 r ⟨1024 + l.val, by omega⟩))) (s (ix2 0 l)) := by
  unfold k0_pay1 k0_pay20 k0_pay21
  pointwise []
  rw [zero_sub']
  rfl

/-- The second direction's decay as it is stored. -/
theorem pay2_at (x z : FVec Ideal S256x512 .f32) (s : Vec Ideal S1x512 .f32) (r : Fin 256) (l : Fin 512) :
    k0_pay2 x z s (ix3 0 r l) = k0_pay1 x z s (ix2 r l) := by
  unfold k0_pay2
  pointwise []

/-- The second direction's input. -/
theorem pay3_at (v : FVec Ideal S256x512 .f32) (g : FVec Ideal S256x2048 .f32) (x z : FVec Ideal S256x512 .f32) (s : Vec Ideal S1x512 .f32) (r : Fin 256) (l : Fin 512) :
    k0_pay3 v g x z s (ix3 0 r l)
      = Lines.input (k0_pay1 x z s (ix2 r l)) (Lines.sigmoid (g (ix2 r ⟨1536 + l.val, by omega⟩))) (v (ix2 r l)) := by
  unfold k0_pay3
  pointwise []
  rw [zero_sub']
  rfl

section
variable (x0 : Vec Ideal S256x1024 .f32) (x1 : Vec Ideal S1x6x1024 .f32) (x2 : Vec Ideal S1024x2560 .bf16) (x3 : Vec Ideal S3x512 .f32)
  (x4 : Vec Ideal S4x512 .f32) (x5 : Vec Ideal S1x512 .f32) (x6 : Vec Ideal S512x2048 .bf16) (x7 : Vec Ideal S1x2048 .f32) (x8 : Vec Ideal S2x512 .f32)

theorem ld_0 : View.ld x0 r0_0 = x0 := View.ld_unit_lit _ _ (by decide)
theorem ld_1 : View.ld x1 r0_1 = x1 := View.ld_unit_lit _ _ (by decide)
theorem ld_2 : View.ld x2 r0_2 = x2 := View.ld_unit_lit _ _ (by decide)
theorem ld_3 : View.ld x3 r0_3 = x3 := View.ld_unit_lit _ _ (by decide)
theorem ld_4 : View.ld x4 r0_5 = x4 := View.ld_unit_lit _ _ (by decide)
theorem ld_5 : View.ld x5 r0_6 = x5 := View.ld_unit_lit _ _ (by decide)
theorem ld_6 : View.ld x6 r0_7 = x6 := View.ld_unit_lit _ _ (by decide)
theorem ld_7 : View.ld x7 r0_8 = x7 := View.ld_unit_lit _ _ (by decide)

theorem ld_first (l : Fin 512) : View.ld x8 r0_9 (ix2 0 l) = x8 (ix2 0 l) :=
  View.ld_unit_apply_of _ _ _ _ _ _ fun | ⟨0, _⟩ => rfl | ⟨1, _⟩ => (Nat.zero_add _).symm
theorem ld_second (l : Fin 512) : View.ld x8 r0_11 (ix2 0 l) = x8 (ix2 1 l) :=
  View.ld_unit_apply_of _ _ _ _ _ _ fun | ⟨0, _⟩ => rfl | ⟨1, _⟩ => (Nat.zero_add _).symm

/-- The block's projected rows. -/
def rows (r : Fin 256) : Fin 2560 → EReal :=
  Lines.project (fun k => x0 (ix2 r k)) (fun k => x1 (ix3 0 0 k)) (fun k => x1 (ix3 0 1 k)) (fun q k => x2 (ix2 q k))

theorem pay5_at (r : Fin 256) (l : Fin 512) : k0_pay5 x0 x1 x2 (ix2 r l) = rows x0 x1 x2 r ⟨l.val, by omega⟩ := by
  refine Eq.trans ?_ (pay4_at x0 x1 x2 r ⟨l.val, by omega⟩)
  unfold k0_pay5
  pointwise []

theorem pay6_at (r : Fin 256) (l : Fin 512) : k0_pay6 x0 x1 x2 (ix2 r l) = rows x0 x1 x2 r ⟨1536 + l.val, by omega⟩ := by
  refine Eq.trans ?_ (pay4_at x0 x1 x2 r ⟨1536 + l.val, by omega⟩)
  unfold k0_pay6
  pointwise []

theorem pay7_at (r : Fin 256) (l : Fin 512) : k0_pay7 x0 x1 x2 (ix2 r l) = rows x0 x1 x2 r ⟨2048 + l.val, by omega⟩ := by
  refine Eq.trans ?_ (pay4_at x0 x1 x2 r ⟨2048 + l.val, by omega⟩)
  unfold k0_pay7
  pointwise []

theorem pay8_at (r : Fin 256) (l : Fin 512) :
    k0_pay8 x0 x1 x2 (ix2 r l) = rows x0 x1 x2 r ⟨512 + l.val, by omega⟩ * rows x0 x1 x2 r ⟨1024 + l.val, by omega⟩ := by
  refine Eq.trans ?_ (congrArg₂ (· * ·) (pay4_at x0 x1 x2 r ⟨512 + l.val, by omega⟩) (pay4_at x0 x1 x2 r ⟨1024 + l.val, by omega⟩))
  unfold k0_pay8
  pointwise []

theorem row_self (r : Fin 256) : row r.val = r := Fin.ext (Nat.mod_eq_of_lt r.isLt)

/-- The first result: the gated short convolution of the block's projected rows. -/
theorem out9_at (r : Fin 256) (l : Fin 512) :
    out0_9 x0 x1 x2 x3 x4 x5 x6 x7 x8 (ix2 r l)
      = Lines.conv (fun s => rows x0 x1 x2 (row s)) (fun k l => x3 (ix2 k l)) r.val l := by
  unfold out0_9
  rw [View.canon_unit_zero (by decide), ld_0, ld_1, ld_2, ld_3]
  refine (pay11_at _ (k0_pay8 x0 x1 x2) _ _ r l).trans ?_
  rw [pay5_at, pay9_at]
  unfold Lines.conv Lines.short
  simp only [pay8_at, row_self]

/-- The second result: the gelu of the block's gate rows. -/
theorem out10_at (r : Fin 256) (l : Fin 512) :
    out0_10 x0 x1 x2 x3 x4 x5 x6 x7 x8 (ix2 r l) = Lines.gelu (rows x0 x1 x2 r ⟨1536 + l.val, by omega⟩) := by
  unfold out0_10
  rw [View.canon_unit_zero (by decide), ld_0, ld_1, ld_2, pay12_at, pay6_at]

/-- The features of the block's rows. -/
theorem pay24_at (r : Fin 256) (l : Fin 512) :
    k0_pay24 x0 x1 x2 x3 x4 x5 x6 x7 x8 (ix2 r l)
      = Lines.features (fun s => rows x0 x1 x2 (row s)) (fun k l => x4 (ix2 k l)) (fun l => x5 (ix2 0 l)) r.val l := by
  unfold k0_pay24 k0_pay23 k0_pay22
  rw [ld_0, ld_1, ld_2, ld_4, ld_5]
  refine (pay14_at _ _ _ _ r l _ (pay13_at _ r l)).trans ?_
  unfold Lines.features Lines.long
  simp only [pay7_at, row_self]

/-- The gates before their bias. -/
theorem pay25_at (r : Fin 256) (j : Fin 2048) :
    k0_pay25 x0 x1 x2 x3 x4 x5 x6 x7 x8 (ix2 r j)
      = ∑ p : Fin 512, Lines.features (fun s => rows x0 x1 x2 (row s)) (fun k l => x4 (ix2 k l)) (fun l => x5 (ix2 0 l)) r.val p * x6 (ix2 p j) := by
  refine Eq.trans ?_ (Finset.sum_congr rfl fun p _ => congrArg (· * x6 (ix2 p j)) (pay24_at x0 x1 x2 x3 x4 x5 x6 x7 x8 r p))
  unfold k0_pay25
  rw [pay15_at, ld_6]
  rfl

/-- A gate of the block's row `r`: column `j` of the wide product with its bias. -/
def pre (r : Fin 256) (j : Fin 2048) : EReal :=
  (∑ p : Fin 512, Lines.features (fun s => rows x0 x1 x2 (row s)) (fun k l => x4 (ix2 k l)) (fun l => x5 (ix2 0 l)) r.val p * x6 (ix2 p j)) + x7 (ix2 0 j)

theorem pay16_pre (r : Fin 256) (j : Fin 2048) :
    k0_pay16 (k0_pay25 x0 x1 x2 x3 x4 x5 x6 x7 x8) (View.ld x7 r0_8) (ix2 r j) = pre x0 x1 x2 x4 x5 x6 x7 r j := by
  rw [pay16_at, pay25_at, ld_7]
  rfl

theorem slab_one (r : Fin 256) (l : Fin 512) : r0_12.emb (ix3 0 r l) = ix3 1 r l :=
  funext fun | ⟨0, _⟩ => rfl | ⟨1, _⟩ => Fin.ext (by simp [r0_12]) | ⟨2, _⟩ => Fin.ext (by simp [r0_12])

theorem slab_zero (r : Fin 256) (l : Fin 512) : r0_10.emb (ix3 0 r l) = ix3 0 r l :=
  funext fun | ⟨0, _⟩ => rfl | ⟨1, _⟩ => Fin.ext (by simp [r0_10]) | ⟨2, _⟩ => Fin.ext (by simp [r0_10])

theorem slab_off (r : Fin 256) (l : Fin 512) : (ix3 0 r l : S2x256x512.Idx) ∉ r0_12.set := fun h => by
  have h0 := (Rect.mem_set_unit.mp h (0 : Fin 3)).1
  exact absurd (show 1 ≤ 0 from h0) (by decide)

/-- The decays of the two directions. -/
theorem out11_zero (r : Fin 256) (l : Fin 512) :
    out0_11 x0 x1 x2 x3 x4 x5 x6 x7 x8 (ix3 0 r l) = Lines.decay (Lines.sigmoid (pre x0 x1 x2 x4 x5 x6 x7 r ⟨l.val, by omega⟩)) (x8 (ix2 0 l)) := by
  unfold out0_11
  rw [View.canon_cons_of_not_mem ⟨r0_12, _⟩ _ (slab_off r l), ← slab_zero r l, View.canon_cons_emb, pay18_at, pay17_at, pay16_pre, ld_first]

theorem out11_one (r : Fin 256) (l : Fin 512) :
    out0_11 x0 x1 x2 x3 x4 x5 x6 x7 x8 (ix3 1 r l) = Lines.decay (Lines.sigmoid (pre x0 x1 x2 x4 x5 x6 x7 r ⟨1024 + l.val, by omega⟩)) (x8 (ix2 1 l)) := by
  unfold out0_11 k0_pay26 k0_pay27
  rw [← slab_one r l, View.canon_cons_emb, pay2_at, pay1_at, pay16_pre, ld_second]

/-- The inputs of the two directions. -/
theorem out12_zero (r : Fin 256) (l : Fin 512) :
    out0_12 x0 x1 x2 x3 x4 x5 x6 x7 x8 (ix3 0 r l)
      = Lines.input (Lines.decay (Lines.sigmoid (pre x0 x1 x2 x4 x5 x6 x7 r ⟨l.val, by omega⟩)) (x8 (ix2 0 l)))
          (Lines.sigmoid (pre x0 x1 x2 x4 x5 x6 x7 r ⟨512 + l.val, by omega⟩))
          (Lines.features (fun s => rows x0 x1 x2 (row s)) (fun k l => x4 (ix2 k l)) (fun l => x5 (ix2 0 l)) r.val l) := by
  unfold out0_12
  rw [View.canon_cons_of_not_mem ⟨r0_12, _⟩ _ (slab_off r l), ← slab_zero r l, View.canon_cons_emb, pay19_at, pay17_at, pay16_pre, pay16_pre, ld_first, pay24_at]

theorem out12_one (r : Fin 256) (l : Fin 512) :
    out0_12 x0 x1 x2 x3 x4 x5 x6 x7 x8 (ix3 1 r l)
      = Lines.input (Lines.decay (Lines.sigmoid (pre x0 x1 x2 x4 x5 x6 x7 r ⟨1024 + l.val, by omega⟩)) (x8 (ix2 1 l)))
          (Lines.sigmoid (pre x0 x1 x2 x4 x5 x6 x7 r ⟨1536 + l.val, by omega⟩))
          (Lines.features (fun s => rows x0 x1 x2 (row s)) (fun k l => x4 (ix2 k l)) (fun l => x5 (ix2 0 l)) r.val l) := by
  unfold out0_12 k0_pay26 k0_pay27
  rw [← slab_one r l, View.canon_cons_emb, pay3_at, pay1_at, pay16_pre, pay16_pre, ld_second, pay24_at]

end

end Cert.AbInIdeal.Rowwise
end
-- ==== Proof.AbInHost.lean ====
/- What the gate kernel's windows hold at a grid point, in terms of the call's arguments: the reshaped tokens, the
   head-wise matrices laid out as one block-diagonal matrix per gate, the biases side by side and the softplus of the
   recurrence's parameter. -/
module

public import proofs.«01_k».proof.Proof.AbInRows
public import proofs.«01_k».proof.Proof.Gen.AbInIdeal.Value
public import Idealize.ShloMosaic.Lib.Pipeline.ValueKit
public import Idealize.ShloMosaic.Lib.StableHlo.ReadAt

@[expose] public section

set_option maxRecDepth 16384

noncomputable section

namespace Cert.AbInIdeal.Rowwise

open Cert.AbInIdeal Cert.AbInIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The unit matrix of the heads, as the host computes it. -/
theorem bit_eye : ∀ a b : Fin 8, IntOp.cmpi .eq (IntOp.addi (BitVec.ofNat 32 a.val) 0#32) (BitVec.ofNat 32 b.val)
    = if a.val = b.val then 1#1 else 0#1 := by decide +kernel

theorem eye_at (a b : Fin 8) :
    (FloatOps.uitofp .f32 (IntOp.cmpi .eq (IntOp.addi (BitVec.ofNat 32 a.val) 0#32) (BitVec.ofNat 32 b.val)) : Ideal .f32)
      = if a.val = b.val then (1 : EReal) else 0 := by
  rw [bit_eye]
  by_cases h : a.val = b.val
  · rw [if_pos h, if_pos h]
    show ((((1#1 : BitVec 1).toNat : ℝ)) : EReal) = 1
    simp
  · rw [if_neg h, if_neg h]
    show ((((0#1 : BitVec 1).toNat : ℝ)) : EReal) = 0
    simp

/-- The tokens. -/
abbrev X (c : Dev nD) : Vec Ideal S8x4096x1024 .f32 := m ((c : Thread nD τ).loc main_arg0)

/-- The modulation vectors. -/
abbrev MD (c : Dev nD) : Vec Ideal S8x6x1024 .f32 := m ((c : Thread nD τ).loc main_arg1)

/-- The projection's matrix. -/
abbrev WP (c : Dev nD) : Vec Ideal S1024x2560 .f32 := m ((c : Thread nD τ).loc main_arg2)

/-- The short convolution's taps. -/
abbrev SW (c : Dev nD) : Vec Ideal S3x512 .f32 := m ((c : Thread nD τ).loc main_arg3)

/-- The long convolution's taps. -/
abbrev LW (c : Dev nD) : Vec Ideal S4x512 .f32 := m ((c : Thread nD τ).loc main_arg4)

/-- The long convolution's bias. -/
abbrev LB (c : Dev nD) : Vec Ideal S512 .f32 := m ((c : Thread nD τ).loc main_arg5)

/-- The decay gates' head matrices. -/
abbrev WA (c : Dev nD) : Vec Ideal S2x8x64x64 .f32 := m ((c : Thread nD τ).loc main_arg6)

/-- The decay gates' biases. -/
abbrev BA (c : Dev nD) : Vec Ideal S2x512 .f32 := m ((c : Thread nD τ).loc main_arg7)

/-- The input gates' head matrices. -/
abbrev WI (c : Dev nD) : Vec Ideal S2x8x64x64 .f32 := m ((c : Thread nD τ).loc main_arg8)

/-- The input gates' biases. -/
abbrev BI (c : Dev nD) : Vec Ideal S2x512 .f32 := m ((c : Thread nD τ).loc main_arg9)

/-- The recurrence's parameter. -/
abbrev LAM (c : Dev nD) : Vec Ideal S2x512 .f32 := m ((c : Thread nD τ).loc main_arg10)

/-- The flat tokens. -/
theorem host_x (c : Dev nD) (s : Fin 32768) (k : Fin 1024) :
    (V m c main_v64 : Vec Ideal S32768x1024 .f32) (ix2 s k) = X m c (ix3 ⟨s.val / 4096, by omega⟩ ⟨s.val % 4096, by omega⟩ k) := by
  unfold V
  simp only [hostOps0, hostOps0_1, List.flatten_cons, List.flatten_nil, List.append_nil, List.cons_append, List.nil_append]
  after_reads_at

/-- The projection's matrix, cast. -/
theorem host_w (c : Dev nD) (s : Fin 1024) (k : Fin 2560) : (V m c main_v65 : Vec Ideal S1024x2560 .bf16) (ix2 s k) = WP m c (ix2 s k) := by
  unfold V
  simp only [hostOps0, hostOps0_1, List.flatten_cons, List.flatten_nil, List.append_nil, List.cons_append, List.nil_append]
  after_reads_at

/-- The long convolution's bias as a row. -/
theorem host_lb (c : Dev nD) (k : Fin 512) : (V m c main_v66 : Vec Ideal S1x512 .f32) (ix2 0 k) = LB m c (ix1 k) := by
  unfold V
  simp only [hostOps0, hostOps0_1, List.flatten_cons, List.flatten_nil, List.append_nil, List.cons_append, List.nil_append]
  after_reads_at

/-- The block-diagonal matrix of the first direction's decay gate. -/
theorem host_wa0 (c : Dev nD) (p l : Fin 512) :
    (V m c main_v68 : Vec Ideal S512x2048 .bf16) (ix2 p ⟨l.val, by omega⟩)
      = WA m c (ix4 0 (Lines.head p) (Lines.place p) (Lines.place l)) * if (Lines.head p).val = (Lines.head l).val then (1 : EReal) else 0 := by
  unfold V
  simp only [hostOps0, hostOps0_1, List.flatten_cons, List.flatten_nil, List.append_nil, List.cons_append, List.nil_append]
  after_reads_at
  after_reads_at
  exact congrArg₂ (· * ·) rfl (eye_at (Lines.head p) (Lines.head l))

/-- The bias of the first direction's decay gate. -/
theorem host_ba0 (c : Dev nD) (l : Fin 512) :
    (V m c main_v70 : Vec Ideal S1x2048 .f32) (ix2 0 ⟨l.val, by omega⟩) = BA m c (ix2 0 l) := by
  unfold V
  simp only [hostOps0, hostOps0_1, List.flatten_cons, List.flatten_nil, List.append_nil, List.cons_append, List.nil_append]
  after_reads_at
  after_reads_at

/-- The block-diagonal matrix of the first direction's input gate. -/
theorem host_wi0 (c : Dev nD) (p l : Fin 512) :
    (V m c main_v68 : Vec Ideal S512x2048 .bf16) (ix2 p ⟨512 + l.val, by omega⟩)
      = WI m c (ix4 0 (Lines.head p) (Lines.place p) (Lines.place l)) * if (Lines.head p).val = (Lines.head l).val then (1 : EReal) else 0 := by
  unfold V
  simp only [hostOps0, hostOps0_1, List.flatten_cons, List.flatten_nil, List.append_nil, List.cons_append, List.nil_append]
  after_reads_at
  after_reads_at
  exact congrArg₂ (· * ·) rfl (eye_at (Lines.head p) (Lines.head l))

/-- The bias of the first direction's input gate. -/
theorem host_bi0 (c : Dev nD) (l : Fin 512) :
    (V m c main_v70 : Vec Ideal S1x2048 .f32) (ix2 0 ⟨512 + l.val, by omega⟩) = BI m c (ix2 0 l) := by
  unfold V
  simp only [hostOps0, hostOps0_1, List.flatten_cons, List.flatten_nil, List.append_nil, List.cons_append, List.nil_append]
  after_reads_at
  after_reads_at

/-- The block-diagonal matrix of the second direction's decay gate. -/
theorem host_wa1 (c : Dev nD) (p l : Fin 512) :
    (V m c main_v68 : Vec Ideal S512x2048 .bf16) (ix2 p ⟨1024 + l.val, by omega⟩)
      = WA m c (ix4 1 (Lines.head p) (Lines.place p) (Lines.place l)) * if (Lines.head p).val = (Lines.head l).val then (1 : EReal) else 0 := by
  unfold V
  simp only [hostOps0, hostOps0_1, List.flatten_cons, List.flatten_nil, List.append_nil, List.cons_append, List.nil_append]
  after_reads_at
  after_reads_at
  have e : 1024 + l.val - 512 - 512 = l.val := by omega
  rw [dif_neg (by omega), dif_neg (by omega), dif_pos (by omega)]
  simp only [e]
  exact congrArg₂ (· * ·) rfl (eye_at (Lines.head p) (Lines.head l))

/-- The bias of the second direction's decay gate. -/
theorem host_ba1 (c : Dev nD) (l : Fin 512) :
    (V m c main_v70 : Vec Ideal S1x2048 .f32) (ix2 0 ⟨1024 + l.val, by omega⟩) = BA m c (ix2 1 l) := by
  unfold V
  simp only [hostOps0, hostOps0_1, List.flatten_cons, List.flatten_nil, List.append_nil, List.cons_append, List.nil_append]
  after_reads_at
  after_reads_at
  rw [dif_neg (by omega), dif_neg (by omega), dif_pos (by omega)]
  have e : 1024 + l.val - 512 - 512 = l.val := by omega
  simp only [e]

/-- The block-diagonal matrix of the second direction's input gate. -/
theorem host_wi1 (c : Dev nD) (p l : Fin 512) :
    (V m c main_v68 : Vec Ideal S512x2048 .bf16) (ix2 p ⟨1536 + l.val, by omega⟩)
      = WI m c (ix4 1 (Lines.head p) (Lines.place p) (Lines.place l)) * if (Lines.head p).val = (Lines.head l).val then (1 : EReal) else 0 := by
  unfold V
  simp only [hostOps0, hostOps0_1, List.flatten_cons, List.flatten_nil, List.append_nil, List.cons_append, List.nil_append]
  after_reads_at
  after_reads_at
  have e : 1536 + l.val - 512 - 512 - 512 = l.val := by omega
  rw [dif_neg (by omega), dif_neg (by omega), dif_neg (by omega)]
  simp only [e]
  exact congrArg₂ (· * ·) rfl (eye_at (Lines.head p) (Lines.head l))

/-- The bias of the second direction's input gate. -/
theorem host_bi1 (c : Dev nD) (l : Fin 512) :
    (V m c main_v70 : Vec Ideal S1x2048 .f32) (ix2 0 ⟨1536 + l.val, by omega⟩) = BI m c (ix2 1 l) := by
  unfold V
  simp only [hostOps0, hostOps0_1, List.flatten_cons, List.flatten_nil, List.append_nil, List.cons_append, List.nil_append]
  after_reads_at
  after_reads_at
  rw [dif_neg (by omega), dif_neg (by omega), dif_neg (by omega)]
  have e : 1536 + l.val - 512 - 512 - 512 = l.val := by omega
  simp only [e]

/-- The softplus of the recurrence's negated parameter. -/
theorem host_sp (c : Dev nD) (d : Fin 2) (l : Fin 512) :
    (V m c main_v72 : Vec Ideal S2x512 .f32) (ix2 d l) = Lines.softplus (-(LAM m c (ix2 d l) : EReal)) := by
  unfold V
  simp only [hostOps0, hostOps0_1, List.flatten_cons, List.flatten_nil, List.append_nil, List.cons_append, List.nil_append]
  after_reads_at
  exact if_neg fun h => h rfl

/-- The windows' block indices at a grid point. -/
theorem idx : ∀ t : Fin cfg0.N, win0_0.index t = ![t.val, 0] ∧ win0_1.index t = ![t.val / 16, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![0, t.val, 0] ∧ win0_12.index t = ![0, t.val, 0] :=
  (by decide +kernel : ∀ t : Fin grid0.N, _)

/-- The flat row, the batch entry and the token that row `r` of point `t`'s block is. -/
abbrev flat (t : Fin cfg0.N) (r : Fin 256) : Fin 32768 := ⟨t.val * 256 + r.val, by have h : t.val < 128 := t.isLt; omega⟩
abbrev entry (t : Fin cfg0.N) : Fin 8 := ⟨t.val / 16, by have h : t.val < 128 := t.isLt; omega⟩
abbrev token (t : Fin cfg0.N) (r : Fin 256) : Fin 4096 := ⟨t.val % 16 * 256 + r.val, by omega⟩

theorem read0 (c : Dev nD) (t : Fin cfg0.N) (r : Fin 256) (k : Fin 1024) :
    iblk m c 0 t (ix2 r k) = X m c (ix3 (entry t) (token t r) k) := by
  have e : ((cfg0.win 0).blk t).view.emb (ix2 r k) = ix2 (flat t r) k := by blk_ext! [idx t]
  refine (congrArg (V m c main_v64) e).trans ((host_x m c (flat t r) k).trans ?_)
  have h : t.val < 128 := t.isLt
  have e0 : (⟨(flat t r).val / 4096, by omega⟩ : Fin 8) = entry t := Fin.ext (by show (t.val * 256 + r.val) / 4096 = t.val / 16; omega)
  have e1 : (⟨(flat t r).val % 4096, by omega⟩ : Fin 4096) = token t r := Fin.ext (by show (t.val * 256 + r.val) % 4096 = t.val % 16 * 256 + r.val; omega)
  rw [e0, e1]

theorem read1 (c : Dev nD) (t : Fin cfg0.N) (a : Fin 6) (k : Fin 1024) : iblk m c 1 t (ix3 0 a k) = MD m c (ix3 (entry t) a k) := by
  have e : ((cfg0.win 1).blk t).view.emb (ix3 0 a k) = ix3 (entry t) a k := by blk_ext! [idx t]
  exact (congrArg (V m c main_arg1) e).trans (congrFun (V_main_arg1 m c) _)

theorem read2 (c : Dev nD) (t : Fin cfg0.N) (q : Fin 1024) (k : Fin 2560) : iblk m c 2 t (ix2 q k) = WP m c (ix2 q k) := by
  have e : ((cfg0.win 2).blk t).view.emb (ix2 q k) = ix2 q k := by blk_ext! [idx t]
  exact (congrArg (V m c main_v65) e).trans (host_w m c q k)

theorem read3 (c : Dev nD) (t : Fin cfg0.N) (q : Fin 3) (k : Fin 512) : iblk m c 3 t (ix2 q k) = SW m c (ix2 q k) := by
  have e : ((cfg0.win 3).blk t).view.emb (ix2 q k) = ix2 q k := by blk_ext! [idx t]
  exact (congrArg (V m c main_arg3) e).trans (congrFun (V_main_arg3 m c) _)

theorem read4 (c : Dev nD) (t : Fin cfg0.N) (q : Fin 4) (k : Fin 512) : iblk m c 4 t (ix2 q k) = LW m c (ix2 q k) := by
  have e : ((cfg0.win 4).blk t).view.emb (ix2 q k) = ix2 q k := by blk_ext! [idx t]
  exact (congrArg (V m c main_arg4) e).trans (congrFun (V_main_arg4 m c) _)

theorem read5 (c : Dev nD) (t : Fin cfg0.N) (k : Fin 512) : iblk m c 5 t (ix2 0 k) = LB m c (ix1 k) := by
  have e : ((cfg0.win 5).blk t).view.emb (ix2 0 k) = ix2 0 k := by blk_ext! [idx t]
  exact (congrArg (V m c main_v66) e).trans (host_lb m c k)

theorem read6 (c : Dev nD) (t : Fin cfg0.N) (p : Fin 512) (j : Fin 2048) :
    iblk m c 6 t (ix2 p j) = (V m c main_v68 : Vec Ideal S512x2048 .bf16) (ix2 p j) := by
  have e : ((cfg0.win 6).blk t).view.emb (ix2 p j) = ix2 p j := by blk_ext! [idx t]
  exact congrArg (V m c main_v68) e

theorem read7 (c : Dev nD) (t : Fin cfg0.N) (j : Fin 2048) :
    iblk m c 7 t (ix2 0 j) = (V m c main_v70 : Vec Ideal S1x2048 .f32) (ix2 0 j) := by
  have e : ((cfg0.win 7).blk t).view.emb (ix2 0 j) = ix2 0 j := by blk_ext! [idx t]
  exact congrArg (V m c main_v70) e

theorem read8 (c : Dev nD) (t : Fin cfg0.N) (d : Fin 2) (k : Fin 512) : iblk m c 8 t (ix2 d k) = Lines.softplus (-(LAM m c (ix2 d k) : EReal)) := by
  have e : ((cfg0.win 8).blk t).view.emb (ix2 d k) = ix2 d k := by blk_ext! [idx t]
  exact (congrArg (V m c main_v72) e).trans (host_sp m c d k)

end Cert.AbInIdeal.Rowwise

end
-- ==== Proof.AbInValue.lean ====
/- The gate kernel's four result arrays, as functions of the call's arguments. -/
module

public import proofs.«01_k».proof.Proof.AbInResult
public import proofs.«01_k».proof.Proof.AbInBody
public import proofs.«01_k».proof.Proof.AbInHost

@[expose] public section

set_option maxRecDepth 16384

noncomputable section

namespace Cert.AbInIdeal.Rowwise

open Cert.Lines (row seq feats)
open Cert.AbInIdeal Cert.AbInIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD) (t : Fin cfg0.N)

/-- The block's projected rows are the sequence's. -/
theorem rows_at (r : Fin 256) (j : Fin 2560) :
    rows (iblk m c 0 t) (iblk m c 1 t) (iblk m c 2 t) r j = seq (X m c) (MD m c) (WP m c) (entry t) (t.val % 16 * 256 + r.val) j := by
  rw [Lines.seq_lt (X m c) (MD m c) (WP m c) (entry t) (t.val % 16 * 256 + r.val) (token t r).isLt j]
  unfold rows
  simp only [read0, read1, read2]

/-- The block's features are the sequence's. -/
theorem feats_at (r : Fin 256) (l : Fin 512) :
    Lines.features (fun s => rows (iblk m c 0 t) (iblk m c 1 t) (iblk m c 2 t) (row s)) (fun k l => iblk m c 4 t (ix2 k l)) (fun l => iblk m c 5 t (ix2 0 l)) r.val l
      = feats (X m c) (MD m c) (WP m c) (LW m c) (LB m c) (entry t) (t.val % 16 * 256 + r.val) l := by
  rw [Lines.features_block (rows (iblk m c 0 t) (iblk m c 1 t) (iblk m c 2 t)) (seq (X m c) (MD m c) (WP m c) (entry t)) _ _ (t.val % 16)
    (rows_at m c t) r l]
  unfold feats
  simp only [read4, read5]

/-- A gate of the block, from what its matrix's and bias's columns hold. -/
theorem gate_of (r : Fin 256) (l : Fin 512) (j : Fin 2048) (w : Fin 8 → Fin 64 → Fin 64 → EReal) (b : Fin 512 → EReal)
    (hw : ∀ p : Fin 512, (V m c main_v68 : Vec Ideal S512x2048 .bf16) (ix2 p j)
      = w (Lines.head p) (Lines.place p) (Lines.place l) * if (Lines.head p).val = (Lines.head l).val then (1 : EReal) else 0)
    (hb : (V m c main_v70 : Vec Ideal S1x2048 .f32) (ix2 0 j) = b l) :
    Lines.sigmoid (pre (iblk m c 0 t) (iblk m c 1 t) (iblk m c 2 t) (iblk m c 4 t) (iblk m c 5 t) (iblk m c 6 t) (iblk m c 7 t) r j)
      = Lines.gate (feats (X m c) (MD m c) (WP m c) (LW m c) (LB m c) (entry t) (t.val % 16 * 256 + r.val)) w b l := by
  unfold pre Lines.gate
  rw [read7, hb, ← Lines.sum_block]
  refine congrArg (fun z => Lines.sigmoid (z + b l)) (Finset.sum_congr rfl fun p _ => ?_)
  rw [feats_at, read6, hw]

/-- The decay gates and the input gates of the two directions. -/
theorem gate_a0 (r : Fin 256) (l : Fin 512) :
    Lines.sigmoid (pre (iblk m c 0 t) (iblk m c 1 t) (iblk m c 2 t) (iblk m c 4 t) (iblk m c 5 t) (iblk m c 6 t) (iblk m c 7 t) r ⟨l.val, by omega⟩)
      = Lines.gate (feats (X m c) (MD m c) (WP m c) (LW m c) (LB m c) (entry t) (t.val % 16 * 256 + r.val))
          (fun h i j => WA m c (ix4 0 h i j)) (fun l => BA m c (ix2 0 l)) l :=
  gate_of m c t r l ⟨l.val, by omega⟩ (fun h i j => WA m c (ix4 0 h i j)) (fun l => BA m c (ix2 0 l)) (fun p => host_wa0 m c p l) (host_ba0 m c l)

theorem gate_i0 (r : Fin 256) (l : Fin 512) :
    Lines.sigmoid (pre (iblk m c 0 t) (iblk m c 1 t) (iblk m c 2 t) (iblk m c 4 t) (iblk m c 5 t) (iblk m c 6 t) (iblk m c 7 t) r ⟨512 + l.val, by omega⟩)
      = Lines.gate (feats (X m c) (MD m c) (WP m c) (LW m c) (LB m c) (entry t) (t.val % 16 * 256 + r.val))
          (fun h i j => WI m c (ix4 0 h i j)) (fun l => BI m c (ix2 0 l)) l :=
  gate_of m c t r l ⟨512 + l.val, by omega⟩ (fun h i j => WI m c (ix4 0 h i j)) (fun l => BI m c (ix2 0 l)) (fun p => host_wi0 m c p l) (host_bi0 m c l)

theorem gate_a1 (r : Fin 256) (l : Fin 512) :
    Lines.sigmoid (pre (iblk m c 0 t) (iblk m c 1 t) (iblk m c 2 t) (iblk m c 4 t) (iblk m c 5 t) (iblk m c 6 t) (iblk m c 7 t) r ⟨1024 + l.val, by omega⟩)
      = Lines.gate (feats (X m c) (MD m c) (WP m c) (LW m c) (LB m c) (entry t) (t.val % 16 * 256 + r.val))
          (fun h i j => WA m c (ix4 1 h i j)) (fun l => BA m c (ix2 1 l)) l :=
  gate_of m c t r l ⟨1024 + l.val, by omega⟩ (fun h i j => WA m c (ix4 1 h i j)) (fun l => BA m c (ix2 1 l)) (fun p => host_wa1 m c p l) (host_ba1 m c l)

theorem gate_i1 (r : Fin 256) (l : Fin 512) :
    Lines.sigmoid (pre (iblk m c 0 t) (iblk m c 1 t) (iblk m c 2 t) (iblk m c 4 t) (iblk m c 5 t) (iblk m c 6 t) (iblk m c 7 t) r ⟨1536 + l.val, by omega⟩)
      = Lines.gate (feats (X m c) (MD m c) (WP m c) (LW m c) (LB m c) (entry t) (t.val % 16 * 256 + r.val))
          (fun h i j => WI m c (ix4 1 h i j)) (fun l => BI m c (ix2 1 l)) l :=
  gate_of m c t r l ⟨1536 + l.val, by omega⟩ (fun h i j => WI m c (ix4 1 h i j)) (fun l => BI m c (ix2 1 l)) (fun p => host_wi1 m c p l) (host_bi1 m c l)

/-- The flat row in terms of batch entry and token. -/
theorem flat_eq (r : Fin 256) : (flat t r).val = (entry t).val * 4096 + (t.val % 16 * 256 + r.val) := by
  show t.val * 256 + r.val = t.val / 16 * 4096 + (t.val % 16 * 256 + r.val)
  omega

/-- The gated short convolution of block `t`. -/
theorem conv_at (r : Fin 256) (l : Fin 512) :
    out0_9 (iblk m c 0 t) (iblk m c 1 t) (iblk m c 2 t) (iblk m c 3 t) (iblk m c 4 t) (iblk m c 5 t) (iblk m c 6 t) (iblk m c 7 t) (iblk m c 8 t) (ix2 r l)
      = Lines.convs (X m c) (MD m c) (WP m c) (SW m c) (ix2 (flat t r) l) := by
  rw [Lines.convs_at _ _ _ _ (flat t r) (entry t) _ l (token t r).isLt (flat_eq t r)]
  refine (out9_at _ _ _ _ _ _ _ _ _ r l).trans ?_
  rw [Lines.conv_block (rows (iblk m c 0 t) (iblk m c 1 t) (iblk m c 2 t)) (seq (X m c) (MD m c) (WP m c) (entry t)) _ (t.val % 16)
    (rows_at m c t) r l]
  simp only [read3]

/-- The gelu gate of block `t`. -/
theorem gelu_at (r : Fin 256) (l : Fin 512) :
    out0_10 (iblk m c 0 t) (iblk m c 1 t) (iblk m c 2 t) (iblk m c 3 t) (iblk m c 4 t) (iblk m c 5 t) (iblk m c 6 t) (iblk m c 7 t) (iblk m c 8 t) (ix2 r l)
      = Lines.gates (X m c) (MD m c) (WP m c) (ix2 (flat t r) l) := by
  rw [Lines.gates_at _ _ _ (flat t r) (entry t) _ l (token t r).isLt (flat_eq t r)]
  refine (out10_at _ _ _ _ _ _ _ _ _ r l).trans ?_
  rw [rows_at]

theorem final_convs : (dats m 0 c).arrAt 9 cfg0.N = Lines.convs (X m c) (MD m c) (WP m c) (SW m c) := by
  refine (dats m 0 c).arrAt_eq_of_covers 9 _ (by decide +kernel) fun t _ y => ?_
  blk_simp
  rw [after0_9, eq_ix2 y]
  have e0 : ((cfg0.win 9).blk t).view.emb (ix2 (y 0) (y 1)) = ix2 (flat t (y 0)) (y 1) := by blk_ext! [idx t]
  rw [e0]
  exact conv_at m c t (y 0) (y 1)

theorem final_gates : (dats m 0 c).arrAt 10 cfg0.N = Lines.gates (X m c) (MD m c) (WP m c) := by
  refine (dats m 0 c).arrAt_eq_of_covers 10 _ (by decide +kernel) fun t _ y => ?_
  blk_simp
  rw [after0_10, eq_ix2 y]
  have e0 : ((cfg0.win 10).blk t).view.emb (ix2 (y 0) (y 1)) = ix2 (flat t (y 0)) (y 1) := by blk_ext! [idx t]
  rw [e0]
  exact gelu_at m c t (y 0) (y 1)

/-- The decays of block `t` at a direction. -/
theorem decay_at (d : Fin 2) (r : Fin 256) (l : Fin 512) :
    out0_11 (iblk m c 0 t) (iblk m c 1 t) (iblk m c 2 t) (iblk m c 3 t) (iblk m c 4 t) (iblk m c 5 t) (iblk m c 6 t) (iblk m c 7 t) (iblk m c 8 t) (ix3 d r l)
      = Lines.rates (feats (X m c) (MD m c) (WP m c) (LW m c) (LB m c) (entry t) (t.val % 16 * 256 + r.val)) (fun h i j => WA m c (ix4 d h i j))
          (fun l => BA m c (ix2 d l)) (fun l => LAM m c (ix2 d l)) l := by
  unfold Lines.rates
  rcases (by omega : d.val = 0 ∨ d.val = 1) with h | h
  · obtain rfl : d = 0 := Fin.ext h
    rw [out11_zero, gate_a0, read8]
  · obtain rfl : d = 1 := Fin.ext h
    rw [out11_one, gate_a1, read8]

/-- The inputs of block `t` at a direction. -/
theorem input_at (d : Fin 2) (r : Fin 256) (l : Fin 512) :
    out0_12 (iblk m c 0 t) (iblk m c 1 t) (iblk m c 2 t) (iblk m c 3 t) (iblk m c 4 t) (iblk m c 5 t) (iblk m c 6 t) (iblk m c 7 t) (iblk m c 8 t) (ix3 d r l)
      = Lines.inputs (feats (X m c) (MD m c) (WP m c) (LW m c) (LB m c) (entry t) (t.val % 16 * 256 + r.val)) (fun h i j => WA m c (ix4 d h i j))
          (fun l => BA m c (ix2 d l)) (fun h i j => WI m c (ix4 d h i j)) (fun l => BI m c (ix2 d l)) (fun l => LAM m c (ix2 d l)) l := by
  unfold Lines.inputs Lines.rates
  rcases (by omega : d.val = 0 ∨ d.val = 1) with h | h
  · obtain rfl : d = 0 := Fin.ext h
    rw [out12_zero, gate_a0, gate_i0, read8, feats_at]
  · obtain rfl : d = 1 := Fin.ext h
    rw [out12_one, gate_a1, gate_i1, read8, feats_at]

theorem final_decays : (dats m 0 c).arrAt 11 cfg0.N = Lines.decays (X m c) (MD m c) (WP m c) (LW m c) (LB m c) (WA m c) (BA m c) (LAM m c) := by
  refine (dats m 0 c).arrAt_eq_of_covers 11 _ (by decide +kernel) fun t _ y => ?_
  blk_simp
  rw [after0_11, eq_ix3 y]
  have e0 : ((cfg0.win 11).blk t).view.emb (ix3 (y 0) (y 1) (y 2)) = ix3 (y 0) (flat t (y 1)) (y 2) := by blk_ext! [idx t]
  rw [e0]
  exact (decay_at m c t (y 0) (y 1) (y 2)).trans
    (Lines.decays_at _ _ _ _ _ _ _ _ (y 0) (flat t (y 1)) (entry t) _ (y 2) (token t (y 1)).isLt (flat_eq t (y 1))).symm

theorem final_entries : (dats m 0 c).arrAt 12 cfg0.N
    = Lines.entries (X m c) (MD m c) (WP m c) (LW m c) (LB m c) (WA m c) (BA m c) (WI m c) (BI m c) (LAM m c) := by
  refine (dats m 0 c).arrAt_eq_of_covers 12 _ (by decide +kernel) fun t _ y => ?_
  blk_simp
  rw [after0_12, eq_ix3 y]
  have e0 : ((cfg0.win 12).blk t).view.emb (ix3 (y 0) (y 1) (y 2)) = ix3 (y 0) (flat t (y 1)) (y 2) := by blk_ext! [idx t]
  rw [e0]
  exact (input_at m c t (y 0) (y 1) (y 2)).trans
    (Lines.entries_at _ _ _ _ _ _ _ _ _ _ (y 0) (flat t (y 1)) (entry t) _ (y 2) (token t (y 1)).isLt (flat_eq t (y 1))).symm

end Cert.AbInIdeal.Rowwise

end
-- ==== Proof.AbInRefConv.lean ====
/- The reference's projected tokens and its two short convolutions, index by index. -/
module

public import proofs.«01_k».proof.Proof.AbInResult
public import proofs.«01_k».proof.Proof.Gen.AbInRefIdeal.Read

@[expose] public section

set_option maxRecDepth 16384

noncomputable section

namespace Cert.AbInRefIdeal.Rowwise

open Cert.Lines (seq feats)
open Cert.AbInRefIdeal Cert.AbInRefIdeal.Gen Cert.AbInRefIdeal.Read Idealize.ShloMosaic
open scoped BigOperators

variable (X : FVec Ideal S8x4096x1024 .f32) (M : FVec Ideal S8x6x1024 .f32) (W : FVec Ideal S1024x2560 .f32) (w3 : FVec Ideal S3x512 .f32)
  (w4 : FVec Ideal S4x512 .f32) (lb : FVec Ideal S512 .f32) (WA : FVec Ideal S2x8x64x64 .f32) (BA : FVec Ideal S2x512 .f32)
  (WI : FVec Ideal S2x8x64x64 .f32) (BI : FVec Ideal S2x512 .f32) (LAM : FVec Ideal S2x512 .f32)

/-- The projected tokens. -/
theorem v12_at (n : Fin 8) (t : Fin 4096) (j : Fin 2560) : val_main_v12 (F := Ideal) X M W (ix3 n t j) = seq X M W n t.val j := by
  rw [Lines.seq_lt X M W n t.val t.isLt j]
  pointwise [val_main_v12, val_main_v11, val_main_v10, val_main_v9, val_main_v8, val_main_v7, val_main_v6, val_main_v5, val_main_v4, val_main_v3,
    val_main_v2, val_main_v1, val_main_v0, val_main_cst]
  rfl

theorem v13_at (n : Fin 8) (t : Fin 4096) (l : Fin 512) : val_main_v13 (F := Ideal) X M W (ix3 n t l) = seq X M W n t.val ⟨l.val, by omega⟩ := by
  refine Eq.trans ?_ (v12_at X M W n t ⟨l.val, by omega⟩)
  pointwise [val_main_v13]

theorem v16_at (n : Fin 8) (t : Fin 4096) (l : Fin 512) : val_main_v16 (F := Ideal) X M W (ix3 n t l) = seq X M W n t.val ⟨1536 + l.val, by omega⟩ := by
  refine Eq.trans ?_ (v12_at X M W n t ⟨1536 + l.val, by omega⟩)
  pointwise [val_main_v16]

theorem v17_at (n : Fin 8) (t : Fin 4096) (l : Fin 512) : val_main_v17 (F := Ideal) X M W (ix3 n t l) = seq X M W n t.val ⟨2048 + l.val, by omega⟩ := by
  refine Eq.trans ?_ (v12_at X M W n t ⟨2048 + l.val, by omega⟩)
  pointwise [val_main_v17]

theorem v18_at (n : Fin 8) (t : Fin 4096) (l : Fin 512) : val_main_v18 (F := Ideal) X M W (ix3 n t l)
    = seq X M W n t.val ⟨512 + l.val, by omega⟩ * seq X M W n t.val ⟨1024 + l.val, by omega⟩ := by
  refine Eq.trans ?_ (congrArg₂ (· * ·) (v12_at X M W n t ⟨512 + l.val, by omega⟩) (v12_at X M W n t ⟨1024 + l.val, by omega⟩))
  pointwise [val_main_v18, val_main_v15, val_main_v14]

/-- The padded sequences inside their range. -/
theorem v19_at (n : Fin 8) (s : Fin 4098) (l : Fin 512) (t : Fin 4096) (h : s.val = t.val + 1) : val_main_v19 (F := Ideal) X M W (ix3 n s l)
    = val_main_v18 (F := Ideal) X M W (ix3 n t l) := by
  pointwise [val_main_v19]
  rw [dif_pos (by omega)]
  congr 2
  exact Fin.ext (by show s.val - 1 = t.val; omega)

theorem v70_at (n : Fin 8) (s : Fin 4099) (l : Fin 512) (t : Fin 4096) (h : s.val = t.val + 2) : val_main_v70 (F := Ideal) X M W (ix3 n s l)
    = val_main_v17 (F := Ideal) X M W (ix3 n t l) := by
  pointwise [val_main_v70]
  rw [dif_pos (by omega)]
  congr 2
  exact Fin.ext (by show s.val - 2 = t.val; omega)

/-- The reference's masks: whether the neighbour `e` away lies in the same line. -/
def inLine (e : BitVec 32) (t : Fin 4096) : BitVec 1 :=
  IntOp.andi (IntOp.cmpi .sge (IntOp.addi (IntOp.remsi .host (BitVec.ofNat 32 t.val) 64#32) e) 0#32)
    (IntOp.cmpi .slt (IntOp.addi (IntOp.remsi .host (BitVec.ofNat 32 t.val) 64#32) e) 64#32)

theorem inLine_one : ∀ t : Fin 4096, inLine 4294967295#32 t = if 1 ≤ t.val % 64 then 1#1 else 0#1 := by decide +kernel
theorem inLine_two : ∀ t : Fin 4096, inLine 4294967294#32 t = if 2 ≤ t.val % 64 then 1#1 else 0#1 := by decide +kernel
theorem inLine_next : ∀ t : Fin 4096, inLine 1#32 t = if t.val % 64 < 63 then 1#1 else 0#1 := by decide +kernel

theorem v37_at (t : Fin 4096) : val_main_v37 (F := Ideal) (ix1 t) = inLine 4294967295#32 t := rfl
theorem v64_at (t : Fin 4096) : val_main_v64 (F := Ideal) (ix1 t) = inLine 1#32 t := rfl
theorem v88_at (t : Fin 4096) : val_main_v88 (F := Ideal) (ix1 t) = inLine 4294967294#32 t := rfl
theorem v108_at (t : Fin 4096) : val_main_v108 (F := Ideal) (ix1 t) = inLine 4294967295#32 t := rfl
theorem v134_at (t : Fin 4096) : val_main_v134 (F := Ideal) (ix1 t) = inLine 1#32 t := rfl

theorem v28_at (n : Fin 8) (t : Fin 4096) (l : Fin 512) :
    val_main_v28 (F := Ideal) X M W w3 (ix3 n t l) = val_main_v19 (F := Ideal) X M W (ix3 n ⟨t.val, by omega⟩ l) * w3 (ix2 0 l) := by
  pointwise [val_main_v28, val_main_v27, val_main_v26, val_main_v25, val_main_v24, val_main_v23]

theorem v48_at (n : Fin 8) (t : Fin 4096) (l : Fin 512) :
    val_main_v48 (F := Ideal) X M W w3 (ix3 n t l) = val_main_v19 (F := Ideal) X M W (ix3 n ⟨1 + t.val, by omega⟩ l) * w3 (ix2 1 l) := by
  pointwise [val_main_v48, val_main_v47, val_main_v46, val_main_v45, val_main_v44, val_main_v43]

theorem v55_at (n : Fin 8) (t : Fin 4096) (l : Fin 512) :
    val_main_v55 (F := Ideal) X M W w3 (ix3 n t l) = val_main_v19 (F := Ideal) X M W (ix3 n ⟨2 + t.val, by omega⟩ l) * w3 (ix2 2 l) := by
  pointwise [val_main_v55, val_main_v54, val_main_v53, val_main_v52, val_main_v51, val_main_v50]

/-- Selecting by a mask the product is masking the factor. -/
theorem masked (b : BitVec 1) (P : Prop) [Decidable P] (hb : b = if P then 1#1 else 0#1) (u v w : EReal) (h : P → u = v) :
    Scalar.select b (u * w) (0 : EReal) = (if P then v else 0) * w := by
  subst hb
  by_cases p : P
  · rw [if_pos p, if_pos p, h p]
    rfl
  · rw [if_neg p, if_neg p, zero_mul]
    rfl

/-- The short convolution's masked terms. -/
theorem v40_at (n : Fin 8) (t : Fin 4096) (l : Fin 512) :
    val_main_v40 (F := Ideal) X M W w3 (ix3 n t l)
      = Lines.before 1 (fun s => seq X M W n s ⟨512 + l.val, by omega⟩ * seq X M W n s ⟨1024 + l.val, by omega⟩) t.val * w3 (ix2 0 l) := by
  pointwise [val_main_v40, val_main_v39, val_main_v38, val_main_call1_v0, val_main_cst_5]
  rw [v28_at, v37_at]
  refine masked _ (1 ≤ t.val % 64) (inLine_one t) _ _ _ fun h => ?_
  rw [v19_at X M W n _ l ⟨t.val - 1, by omega⟩ (by show t.val = t.val - 1 + 1; omega), v18_at]

theorem v67_at (n : Fin 8) (t : Fin 4096) (l : Fin 512) :
    val_main_v67 (F := Ideal) X M W w3 (ix3 n t l)
      = Lines.after (fun s => seq X M W n s ⟨512 + l.val, by omega⟩ * seq X M W n s ⟨1024 + l.val, by omega⟩) t.val * w3 (ix2 2 l) := by
  pointwise [val_main_v67, val_main_v66, val_main_v65, val_main_call2_v0, val_main_cst_11]
  rw [v55_at, v64_at]
  refine masked _ (t.val % 64 < 63) (inLine_next t) _ _ _ fun h => ?_
  rw [v19_at X M W n _ l ⟨t.val + 1, by omega⟩ (by show 2 + t.val = t.val + 1 + 1; omega), v18_at]

/-- A sum and a product of values that are known. -/
theorem sum_of {a b c d : Ideal .f32} (h : a = c) (k : b = d) : FloatOps.addf a b = ((c : EReal) + d) := by
  subst h k
  rfl

theorem prod_of {a b c d : Ideal .f32} (h : a = c) (k : b = d) : FloatOps.mulf a b = ((c : EReal) * d) := by
  subst h k
  rfl

/-- The gated short convolution, term by term. -/
theorem v42_at (n : Fin 8) (t : Fin 4096) (l : Fin 512) :
    val_main_v42 (F := Ideal) X M W w3 (ix3 n t l) = val_main_v40 (F := Ideal) X M W w3 (ix3 n t l) := by
  have h : val_main_v41 (F := Ideal) (ix3 n t l) = (0 : EReal) := by
    pointwise [val_main_v41, val_main_cst_6]
  exact ((val_main_v42_apply (F := Ideal) X M W w3 (ix3 n t l)).trans (sum_of h rfl)).trans (zero_add _)

theorem v48_seq (n : Fin 8) (t : Fin 4096) (l : Fin 512) :
    val_main_v48 (F := Ideal) X M W w3 (ix3 n t l) = seq X M W n t.val ⟨512 + l.val, by omega⟩ * seq X M W n t.val ⟨1024 + l.val, by omega⟩ * w3 (ix2 1 l) := by
  rw [v48_at, v19_at X M W n _ l t (by show 1 + t.val = t.val + 1; omega), v18_at]

/-- The gated short convolution. -/
theorem v69_at (n : Fin 8) (t : Fin 4096) (l : Fin 512) :
    val_main_v69 (F := Ideal) X M W w3 (ix3 n t l) = Lines.conv (seq X M W n) (fun k l => w3 (ix2 k l)) t.val l := by
  have e49 := (val_main_v49_apply (F := Ideal) X M W w3 (ix3 n t l)).trans (sum_of ((v42_at X M W w3 n t l).trans (v40_at X M W w3 n t l)) (v48_seq X M W w3 n t l))
  have e68 := (val_main_v68_apply (F := Ideal) X M W w3 (ix3 n t l)).trans (sum_of e49 (v67_at X M W w3 n t l))
  have e69 := (val_main_v69_apply (F := Ideal) X M W w3 (ix3 n t l)).trans (prod_of (v13_at X M W n t l) e68)
  rw [e69]
  rfl

theorem v79_at (n : Fin 8) (t : Fin 4096) (l : Fin 512) :
    val_main_v79 (F := Ideal) X M W w4 (ix3 n t l) = val_main_v70 (F := Ideal) X M W (ix3 n ⟨t.val, by omega⟩ l) * w4 (ix2 0 l) := by
  pointwise [val_main_v79, val_main_v78, val_main_v77, val_main_v76, val_main_v75, val_main_v74]

theorem v99_at (n : Fin 8) (t : Fin 4096) (l : Fin 512) :
    val_main_v99 (F := Ideal) X M W w4 (ix3 n t l) = val_main_v70 (F := Ideal) X M W (ix3 n ⟨1 + t.val, by omega⟩ l) * w4 (ix2 1 l) := by
  pointwise [val_main_v99, val_main_v98, val_main_v97, val_main_v96, val_main_v95, val_main_v94]

theorem v118_at (n : Fin 8) (t : Fin 4096) (l : Fin 512) :
    val_main_v118 (F := Ideal) X M W w4 (ix3 n t l) = val_main_v70 (F := Ideal) X M W (ix3 n ⟨2 + t.val, by omega⟩ l) * w4 (ix2 2 l) := by
  pointwise [val_main_v118, val_main_v117, val_main_v116, val_main_v115, val_main_v114, val_main_v113]

theorem v125_at (n : Fin 8) (t : Fin 4096) (l : Fin 512) :
    val_main_v125 (F := Ideal) X M W w4 (ix3 n t l) = val_main_v70 (F := Ideal) X M W (ix3 n ⟨3 + t.val, by omega⟩ l) * w4 (ix2 3 l) := by
  pointwise [val_main_v125, val_main_v124, val_main_v123, val_main_v122, val_main_v121, val_main_v120]

/-- The long convolution's masked terms. -/
theorem v91_at (n : Fin 8) (t : Fin 4096) (l : Fin 512) :
    val_main_v91 (F := Ideal) X M W w4 (ix3 n t l) = Lines.before 2 (fun s => seq X M W n s ⟨2048 + l.val, by omega⟩) t.val * w4 (ix2 0 l) := by
  pointwise [val_main_v91, val_main_v90, val_main_v89, val_main_call4_v0, val_main_cst_18]
  rw [v79_at, v88_at]
  refine masked _ (2 ≤ t.val % 64) (inLine_two t) _ _ _ fun h => ?_
  rw [v70_at X M W n _ l ⟨t.val - 2, by omega⟩ (by show t.val = t.val - 2 + 2; omega), v17_at]

theorem v111_at (n : Fin 8) (t : Fin 4096) (l : Fin 512) :
    val_main_v111 (F := Ideal) X M W w4 (ix3 n t l) = Lines.before 1 (fun s => seq X M W n s ⟨2048 + l.val, by omega⟩) t.val * w4 (ix2 1 l) := by
  pointwise [val_main_v111, val_main_v110, val_main_v109, val_main_call5_v0, val_main_cst_24]
  rw [v99_at, v108_at]
  refine masked _ (1 ≤ t.val % 64) (inLine_one t) _ _ _ fun h => ?_
  rw [v70_at X M W n _ l ⟨t.val - 1, by omega⟩ (by show 1 + t.val = t.val - 1 + 2; omega), v17_at]

theorem v137_at (n : Fin 8) (t : Fin 4096) (l : Fin 512) :
    val_main_v137 (F := Ideal) X M W w4 (ix3 n t l) = Lines.after (fun s => seq X M W n s ⟨2048 + l.val, by omega⟩) t.val * w4 (ix2 3 l) := by
  pointwise [val_main_v137, val_main_v136, val_main_v135, val_main_call6_v0, val_main_cst_29]
  rw [v125_at, v134_at]
  refine masked _ (t.val % 64 < 63) (inLine_next t) _ _ _ fun h => ?_
  rw [v70_at X M W n _ l ⟨t.val + 1, by omega⟩ (by show 3 + t.val = t.val + 1 + 2; omega), v17_at]

/-- The recurrence's features, term by term. -/
theorem v93_at (n : Fin 8) (t : Fin 4096) (l : Fin 512) :
    val_main_v93 (F := Ideal) X M W w4 (ix3 n t l) = val_main_v91 (F := Ideal) X M W w4 (ix3 n t l) := by
  have h : val_main_v92 (F := Ideal) (ix3 n t l) = (0 : EReal) := by
    pointwise [val_main_v92, val_main_cst_19]
  exact ((val_main_v93_apply (F := Ideal) X M W w4 (ix3 n t l)).trans (sum_of h rfl)).trans (zero_add _)

theorem v118_seq (n : Fin 8) (t : Fin 4096) (l : Fin 512) :
    val_main_v118 (F := Ideal) X M W w4 (ix3 n t l) = seq X M W n t.val ⟨2048 + l.val, by omega⟩ * w4 (ix2 2 l) := by
  rw [v118_at, v70_at X M W n _ l t (by show 2 + t.val = t.val + 2; omega), v17_at]

theorem v140_at (n : Fin 8) (t : Fin 4096) (l : Fin 512) : val_main_v140 (F := Ideal) lb (ix3 n t l) = lb (ix1 l) := by
  pointwise [val_main_v140, val_main_v139]

/-- The recurrence's features. -/
theorem v141_at (n : Fin 8) (t : Fin 4096) (l : Fin 512) :
    val_main_v141 (F := Ideal) X M W w4 lb (ix3 n t l) = feats X M W w4 lb n t.val l := by
  have e112 := (val_main_v112_apply (F := Ideal) X M W w4 (ix3 n t l)).trans (sum_of ((v93_at X M W w4 n t l).trans (v91_at X M W w4 n t l)) (v111_at X M W w4 n t l))
  have e119 := (val_main_v119_apply (F := Ideal) X M W w4 (ix3 n t l)).trans (sum_of e112 (v118_seq X M W w4 n t l))
  have e138 := (val_main_v138_apply (F := Ideal) X M W w4 (ix3 n t l)).trans (sum_of e119 (v137_at X M W w4 n t l))
  have e141 := (val_main_v141_apply (F := Ideal) X M W w4 lb (ix3 n t l)).trans (sum_of e138 (v140_at lb n t l))
  rw [e141]
  rfl

end Cert.AbInRefIdeal.Rowwise

end
-- ==== Proof.AbInRefValue.lean ====
/- The reference's gates, decays and inputs, and its four results: the same functions of the arguments as the kernel's. -/
module

public import proofs.«01_k».proof.Proof.AbInRefConv
public import proofs.«01_k».proof.Proof.Gen.AbInRefIdeal.Read

@[expose] public section

set_option maxRecDepth 16384

noncomputable section

namespace Cert.AbInRefIdeal.Rowwise

open Cert.Lines (seq feats)
open Cert.AbInRefIdeal Cert.AbInRefIdeal.Gen Cert.AbInRefIdeal.Read Idealize.ShloMosaic
open scoped BigOperators

variable (X : FVec Ideal S8x4096x1024 .f32) (M : FVec Ideal S8x6x1024 .f32) (W : FVec Ideal S1024x2560 .f32) (w3 : FVec Ideal S3x512 .f32)
  (w4 : FVec Ideal S4x512 .f32) (lb : FVec Ideal S512 .f32) (WA : FVec Ideal S2x8x64x64 .f32) (BA : FVec Ideal S2x512 .f32)
  (WI : FVec Ideal S2x8x64x64 .f32) (BI : FVec Ideal S2x512 .f32) (LAM : FVec Ideal S2x512 .f32)

/-- The first direction's decay gate. -/
theorem v147_at (n : Fin 8) (t : Fin 4096) (l : Fin 512) :
    val_main_v147 (F := Ideal) X M W w4 lb WA (ix3 n t l)
      = ∑ i : Fin 64, feats X M W w4 lb n t.val (Lines.feature (Lines.head l) i) * WA (ix4 0 (Lines.head l) i (Lines.place l)) := by
  pointwise [val_main_v147, val_main_v146, val_main_v145, val_main_v144, val_main_v143, val_main_v142]
  refine Finset.sum_congr rfl fun i _ => ?_
  rw [mul_comm, v141_at]

theorem v158_at (n : Fin 8) (t : Fin 4096) (l : Fin 512) :
    val_main_v158 (F := Ideal) X M W w4 lb WA BA (ix3 n t l)
      = Lines.gate (feats X M W w4 lb n t.val) (fun h i j => WA (ix4 0 h i j)) (fun l => BA (ix2 0 l)) l := by
  pointwise [val_main_v158, val_main_v157, val_main_v156, val_main_v155, val_main_v154, val_main_v153, val_main_v152, val_main_v151, val_main_v150, val_main_v149, val_main_v148, val_main_cst_30, val_main_cst_31]
  rw [v147_at]
  rfl

/-- The first direction's input gate. -/
theorem v163_at (n : Fin 8) (t : Fin 4096) (l : Fin 512) :
    val_main_v163 (F := Ideal) X M W w4 lb WI (ix3 n t l)
      = ∑ i : Fin 64, feats X M W w4 lb n t.val (Lines.feature (Lines.head l) i) * WI (ix4 0 (Lines.head l) i (Lines.place l)) := by
  pointwise [val_main_v163, val_main_v162, val_main_v161, val_main_v160, val_main_v159, val_main_v142]
  refine Finset.sum_congr rfl fun i _ => ?_
  rw [mul_comm, v141_at]

theorem v174_at (n : Fin 8) (t : Fin 4096) (l : Fin 512) :
    val_main_v174 (F := Ideal) X M W w4 lb WI BI (ix3 n t l)
      = Lines.gate (feats X M W w4 lb n t.val) (fun h i j => WI (ix4 0 h i j)) (fun l => BI (ix2 0 l)) l := by
  pointwise [val_main_v174, val_main_v173, val_main_v172, val_main_v171, val_main_v170, val_main_v169, val_main_v168, val_main_v167, val_main_v166, val_main_v165, val_main_v164, val_main_cst_32, val_main_cst_33]
  rw [v163_at]
  rfl

/-- The second direction's decay gate. -/
theorem v196_at (n : Fin 8) (t : Fin 4096) (l : Fin 512) :
    val_main_v196 (F := Ideal) X M W w4 lb WA (ix3 n t l)
      = ∑ i : Fin 64, feats X M W w4 lb n t.val (Lines.feature (Lines.head l) i) * WA (ix4 1 (Lines.head l) i (Lines.place l)) := by
  pointwise [val_main_v196, val_main_v195, val_main_v194, val_main_v193, val_main_v192, val_main_v142]
  refine Finset.sum_congr rfl fun i _ => ?_
  rw [mul_comm, v141_at]

theorem v207_at (n : Fin 8) (t : Fin 4096) (l : Fin 512) :
    val_main_v207 (F := Ideal) X M W w4 lb WA BA (ix3 n t l)
      = Lines.gate (feats X M W w4 lb n t.val) (fun h i j => WA (ix4 1 h i j)) (fun l => BA (ix2 1 l)) l := by
  pointwise [val_main_v207, val_main_v206, val_main_v205, val_main_v204, val_main_v203, val_main_v202, val_main_v201, val_main_v200, val_main_v199, val_main_v198, val_main_v197, val_main_cst_36, val_main_cst_37]
  rw [v196_at]
  rfl

/-- The second direction's input gate. -/
theorem v212_at (n : Fin 8) (t : Fin 4096) (l : Fin 512) :
    val_main_v212 (F := Ideal) X M W w4 lb WI (ix3 n t l)
      = ∑ i : Fin 64, feats X M W w4 lb n t.val (Lines.feature (Lines.head l) i) * WI (ix4 1 (Lines.head l) i (Lines.place l)) := by
  pointwise [val_main_v212, val_main_v211, val_main_v210, val_main_v209, val_main_v208, val_main_v142]
  refine Finset.sum_congr rfl fun i _ => ?_
  rw [mul_comm, v141_at]

theorem v223_at (n : Fin 8) (t : Fin 4096) (l : Fin 512) :
    val_main_v223 (F := Ideal) X M W w4 lb WI BI (ix3 n t l)
      = Lines.gate (feats X M W w4 lb n t.val) (fun h i j => WI (ix4 1 h i j)) (fun l => BI (ix2 1 l)) l := by
  pointwise [val_main_v223, val_main_v222, val_main_v221, val_main_v220, val_main_v219, val_main_v218, val_main_v217, val_main_v216, val_main_v215, val_main_v214, val_main_v213, val_main_cst_38, val_main_cst_39]
  rw [v212_at]
  rfl

/-- The softplus of the parameter, for the two directions. -/
theorem v180_at (l : Fin 512) : val_main_v180 (F := Ideal) LAM (ix1 l) = Lines.softplus (-(LAM (ix2 0 l) : EReal)) := by
  pointwise [val_main_v180, val_main_call7_v11, val_main_call7_v10, val_main_call7_v9, val_main_call7_v8, val_main_call7_v7, val_main_call7_v6, val_main_call7_v5, val_main_call7_v4, val_main_call7_v3, val_main_call7_v2, val_main_call7_v1, val_main_call7_v0, val_main_call7_cst, val_main_v179, val_main_v178, val_main_v177]
  rw [if_neg (fun h => h rfl)]
  rfl

theorem v229_at (l : Fin 512) : val_main_v229 (F := Ideal) LAM (ix1 l) = Lines.softplus (-(LAM (ix2 1 l) : EReal)) := by
  pointwise [val_main_v229, val_main_call8_v11, val_main_call8_v10, val_main_call8_v9, val_main_call8_v8, val_main_call8_v7, val_main_call8_v6, val_main_call8_v5, val_main_call8_v4, val_main_call8_v3, val_main_call8_v2, val_main_call8_v1, val_main_call8_v0, val_main_call8_cst, val_main_v228, val_main_v227, val_main_v226]
  rw [if_neg (fun h => h rfl)]
  rfl

/-- The doubled logarithm's exponential is the square of the decay. -/
theorem exp_twice (z : EReal) : Ideal.exp (Ideal.ofBits .f32 1073741824#32 * z) = Ideal.exp z * Ideal.exp z := by
  have h2 : Ideal.ofBits .f32 1073741824#32 = ((2 : ℝ) : EReal) := by
    simp [Ideal.ofBits, Ideal.ieee, -EReal.coe_mul]; norm_num
  rw [h2]
  induction z with
  | bot =>
    rw [EReal.coe_mul_bot_of_pos (by norm_num)]
    show (0 : EReal) = 0 * 0
    rw [zero_mul]
  | top =>
    rw [EReal.coe_mul_top_of_pos (by norm_num)]
    show (⊤ : EReal) = ⊤ * ⊤
    rw [EReal.top_mul_top]
  | coe r =>
    show ((Real.exp (2 * r) : ℝ) : EReal) = (Real.exp r : ℝ) * (Real.exp r : ℝ)
    rw [two_mul, Real.exp_add, EReal.coe_mul]

/-- The reference's root of one minus the squared decay. -/
theorem root (z : EReal) : Ideal.sqrt (-(Ideal.exp (Ideal.ofBits .f32 1073741824#32 * z) - 1)) = Ideal.sqrt (1 - Ideal.exp z * Ideal.exp z) := by
  rw [exp_twice, EReal.neg_sub (Or.inr (by decide)) (Or.inr (by decide)), sub_eq_add_neg, add_comm]

/-- The decays and inputs of the two directions. -/
theorem v183_at (n : Fin 8) (t : Fin 4096) (l : Fin 512) :
    val_main_v183 (F := Ideal) X M W w4 lb WA BA LAM (ix3 n t l)
      = Lines.logDecay (Lines.gate (feats X M W w4 lb n t.val) (fun h i j => WA (ix4 0 h i j)) (fun l => BA (ix2 0 l)) l) (Lines.softplus (-(LAM (ix2 0 l) : EReal))) := by
  pointwise [val_main_v183, val_main_v182, val_main_v181, val_main_v176, val_main_v175, val_main_cst_34]
  rw [v158_at, v180_at]
  rfl

theorem v184_at (n : Fin 8) (t : Fin 4096) (l : Fin 512) :
    val_main_v184 (F := Ideal) X M W w4 lb WA BA LAM (ix3 n t l)
      = Lines.rates (feats X M W w4 lb n t.val) (fun h i j => WA (ix4 0 h i j)) (fun l => BA (ix2 0 l)) (fun l => LAM (ix2 0 l)) l := by
  pointwise [val_main_v184]
  rw [v183_at]
  rfl

theorem v191_at (n : Fin 8) (t : Fin 4096) (l : Fin 512) :
    val_main_v191 (F := Ideal) X M W w4 lb WA BA WI BI LAM (ix3 n t l)
      = Lines.inputs (feats X M W w4 lb n t.val) (fun h i j => WA (ix4 0 h i j)) (fun l => BA (ix2 0 l)) (fun h i j => WI (ix4 0 h i j))
          (fun l => BI (ix2 0 l)) (fun l => LAM (ix2 0 l)) l := by
  pointwise [val_main_v191, val_main_v190, val_main_v189, val_main_v188, val_main_v187, val_main_v186, val_main_v185, val_main_cst_35]
  rw [v174_at, v141_at, v183_at, root]
  rfl

theorem v232_at (n : Fin 8) (t : Fin 4096) (l : Fin 512) :
    val_main_v232 (F := Ideal) X M W w4 lb WA BA LAM (ix3 n t l)
      = Lines.logDecay (Lines.gate (feats X M W w4 lb n t.val) (fun h i j => WA (ix4 1 h i j)) (fun l => BA (ix2 1 l)) l) (Lines.softplus (-(LAM (ix2 1 l) : EReal))) := by
  pointwise [val_main_v232, val_main_v231, val_main_v230, val_main_v225, val_main_v224, val_main_cst_40]
  rw [v207_at, v229_at]
  rfl

theorem v233_at (n : Fin 8) (t : Fin 4096) (l : Fin 512) :
    val_main_v233 (F := Ideal) X M W w4 lb WA BA LAM (ix3 n t l)
      = Lines.rates (feats X M W w4 lb n t.val) (fun h i j => WA (ix4 1 h i j)) (fun l => BA (ix2 1 l)) (fun l => LAM (ix2 1 l)) l := by
  pointwise [val_main_v233]
  rw [v232_at]
  rfl

theorem v240_at (n : Fin 8) (t : Fin 4096) (l : Fin 512) :
    val_main_v240 (F := Ideal) X M W w4 lb WA BA WI BI LAM (ix3 n t l)
      = Lines.inputs (feats X M W w4 lb n t.val) (fun h i j => WA (ix4 1 h i j)) (fun l => BA (ix2 1 l)) (fun h i j => WI (ix4 1 h i j))
          (fun l => BI (ix2 1 l)) (fun l => LAM (ix2 1 l)) l := by
  pointwise [val_main_v240, val_main_v239, val_main_v238, val_main_v237, val_main_v236, val_main_v235, val_main_v234, val_main_cst_41]
  rw [v223_at, v141_at, v232_at, root]
  rfl

/-- The gelu gate. -/
theorem v254_at (n : Fin 8) (t : Fin 4096) (l : Fin 512) :
    val_main_v254 (F := Ideal) X M W (ix3 n t l) = Lines.gelu (seq X M W n t.val ⟨1536 + l.val, by omega⟩) := by
  pointwise [val_main_v254, val_main_v253, val_main_v252, val_main_v251, val_main_v250, val_main_v249, val_main_v248, val_main_v247, val_main_v246, val_main_v245, val_main_v244, val_main_v243, val_main_v242, val_main_cst_42, val_main_cst_43, val_main_cst_44, val_main_cst_45]
  rw [v16_at, ← mul_assoc, mul_comm (seq X M W n t.val ⟨1536 + l.val, _⟩) (Ideal.ofBits FTy.f32 1056964608#32)]
  rfl

/-- The four results. -/
theorem convs_eq : val_main_v241 (F := Ideal) X M W w3 = Lines.convs X M W w3 := by
  funext y
  obtain ⟨q, l, rfl⟩ : ∃ (q : Fin 32768) (l : Fin 512), y = ix2 q l := ⟨y 0, y 1, eq_ix2 y⟩
  pointwise [val_main_v241]
  rw [v69_at, Lines.convs_at X M W w3 q (Lines.part q) (q.val % 4096) l (Nat.mod_lt _ (by decide)) (by show q.val = q.val / 4096 * 4096 + q.val % 4096; omega)]

theorem gates_eq : val_main_v255 (F := Ideal) X M W = Lines.gates X M W := by
  funext y
  obtain ⟨q, l, rfl⟩ : ∃ (q : Fin 32768) (l : Fin 512), y = ix2 q l := ⟨y 0, y 1, eq_ix2 y⟩
  pointwise [val_main_v255]
  rw [v254_at, Lines.gates_at X M W q (Lines.part q) (q.val % 4096) l (Nat.mod_lt _ (by decide)) (by show q.val = q.val / 4096 * 4096 + q.val % 4096; omega)]

theorem decays_eq : val_main_v259 (F := Ideal) X M W w4 lb WA BA LAM = Lines.decays X M W w4 lb WA BA LAM := by
  funext y
  obtain ⟨d, q, l, rfl⟩ : ∃ (d : Fin 2) (q : Fin 32768) (l : Fin 512), y = ix3 d q l := ⟨y 0, y 1, y 2, eq_ix3 y⟩
  rw [Lines.decays_at X M W w4 lb WA BA LAM d q (Lines.part q) (q.val % 4096) l (Nat.mod_lt _ (by decide)) (by show q.val = q.val / 4096 * 4096 + q.val % 4096; omega)]
  pointwise [val_main_v259, val_main_v258, val_main_v257, val_main_v256]
  rcases (by omega : d.val = 0 ∨ d.val = 1) with h | h
  · obtain rfl : d = 0 := Fin.ext h
    exact (dif_pos (by decide)).trans (v184_at X M W w4 lb WA BA LAM (Lines.part q) ⟨q.val % 4096, Nat.mod_lt _ (by decide)⟩ l)
  · obtain rfl : d = 1 := Fin.ext h
    exact (dif_neg (by decide)).trans (v233_at X M W w4 lb WA BA LAM (Lines.part q) ⟨q.val % 4096, Nat.mod_lt _ (by decide)⟩ l)

theorem entries_eq : val_main_v263 (F := Ideal) X M W w4 lb WA BA WI BI LAM = Lines.entries X M W w4 lb WA BA WI BI LAM := by
  funext y
  obtain ⟨d, q, l, rfl⟩ : ∃ (d : Fin 2) (q : Fin 32768) (l : Fin 512), y = ix3 d q l := ⟨y 0, y 1, y 2, eq_ix3 y⟩
  rw [Lines.entries_at X M W w4 lb WA BA WI BI LAM d q (Lines.part q) (q.val % 4096) l (Nat.mod_lt _ (by decide)) (by show q.val = q.val / 4096 * 4096 + q.val % 4096; omega)]
  pointwise [val_main_v263, val_main_v262, val_main_v261, val_main_v260]
  rcases (by omega : d.val = 0 ∨ d.val = 1) with h | h
  · obtain rfl : d = 0 := Fin.ext h
    exact (dif_pos (by decide)).trans (v191_at X M W w4 lb WA BA WI BI LAM (Lines.part q) ⟨q.val % 4096, Nat.mod_lt _ (by decide)⟩ l)
  · obtain rfl : d = 1 := Fin.ext h
    exact (dif_neg (by decide)).trans (v240_at X M W w4 lb WA BA WI BI LAM (Lines.part q) ⟨q.val % 4096, Nat.mod_lt _ (by decide)⟩ l)

end Cert.AbInRefIdeal.Rowwise

end
-- ==== Proof.AbInClaim.lean ====
/- The claims of the even layers' first call. -/
module

public import proofs.«01_k».proof.Defs
public import proofs.«01_k».proof.Proof.Gen.AbInRefIdeal.Run
public import proofs.«01_k».proof.Proof.AbInValue
public import proofs.«01_k».proof.Proof.AbInRefValue
public import Idealize.ShloMosaic.Lib.Claim

@[expose] public section

set_option maxRecDepth 16384

noncomputable section

namespace Cert.AbInClaim

open Idealize.ShloMosaic Idealize.SL.Sem

theorem frame : Cert.quiescent_AbInRefIdeal := fun m ρ _ =>
  (θ_run Cert.AbInRefIdeal.defs _ _).mono (fun r h => ⟨fun c => (h c).2.2.2.2, sem_eq_zero_of_no_sems (by decide) r.2⟩)
    (Cert.AbInRefIdeal.Value.run (F := Ideal) m ρ)

theorem algebraic : Cert.algebraic_AbInIdeal_AbInRefIdeal := by
  intro m g m' g' _ hagree
  refine ⟨_, _, _, _, Cert.AbInIdeal.Value.run_blocks (F := Ideal) m g, ?_⟩
  refine (θ_run Cert.AbInRefIdeal.defs _ _).mono (fun _ h c => ?_) (Cert.AbInRefIdeal.Value.run (F := Ideal) m' g')
  obtain ⟨a0, a1, a2, a3, a4, a5, a6, a7, a8, a9, a10⟩ := hagree c
  obtain ⟨h1, h2, h3, h4, h5⟩ := h c
  have b0 : StableHlo.launchContents m' c (Proc.tc.devRef Cert.AbInRefIdeal.main_arg0) = Cert.AbInIdeal.Rowwise.X m c := a0
  have b1 : StableHlo.launchContents m' c (Proc.tc.devRef Cert.AbInRefIdeal.main_arg1) = Cert.AbInIdeal.Rowwise.MD m c := a1
  have b2 : StableHlo.launchContents m' c (Proc.tc.devRef Cert.AbInRefIdeal.main_arg2) = Cert.AbInIdeal.Rowwise.WP m c := a2
  have b3 : StableHlo.launchContents m' c (Proc.tc.devRef Cert.AbInRefIdeal.main_arg3) = Cert.AbInIdeal.Rowwise.SW m c := a3
  have b4 : StableHlo.launchContents m' c (Proc.tc.devRef Cert.AbInRefIdeal.main_arg4) = Cert.AbInIdeal.Rowwise.LW m c := a4
  have b5 : StableHlo.launchContents m' c (Proc.tc.devRef Cert.AbInRefIdeal.main_arg5) = Cert.AbInIdeal.Rowwise.LB m c := a5
  have b6 : StableHlo.launchContents m' c (Proc.tc.devRef Cert.AbInRefIdeal.main_arg6) = Cert.AbInIdeal.Rowwise.WA m c := a6
  have b7 : StableHlo.launchContents m' c (Proc.tc.devRef Cert.AbInRefIdeal.main_arg7) = Cert.AbInIdeal.Rowwise.BA m c := a7
  have b8 : StableHlo.launchContents m' c (Proc.tc.devRef Cert.AbInRefIdeal.main_arg8) = Cert.AbInIdeal.Rowwise.WI m c := a8
  have b9 : StableHlo.launchContents m' c (Proc.tc.devRef Cert.AbInRefIdeal.main_arg9) = Cert.AbInIdeal.Rowwise.BI m c := a9
  have b10 : StableHlo.launchContents m' c (Proc.tc.devRef Cert.AbInRefIdeal.main_arg10) = Cert.AbInIdeal.Rowwise.LAM m c := a10
  refine ⟨h1.trans ?_, h2.trans ?_, h3.trans ?_, h4.trans ?_, h5⟩
  · rw [Cert.AbInIdeal.Rowwise.final_convs]
    refine (Cert.AbInRefIdeal.Read.val_main_v241_eq (F := Ideal) (StableHlo.launchContents m' c)).trans ((Cert.AbInRefIdeal.Rowwise.convs_eq _ _ _ _).trans ?_)
    rw [b0, b1, b2, b3]
  · rw [Cert.AbInIdeal.Rowwise.final_gates]
    refine (Cert.AbInRefIdeal.Read.val_main_v255_eq (F := Ideal) (StableHlo.launchContents m' c)).trans ((Cert.AbInRefIdeal.Rowwise.gates_eq _ _ _).trans ?_)
    rw [b0, b1, b2]
  · rw [Cert.AbInIdeal.Rowwise.final_decays]
    refine (Cert.AbInRefIdeal.Read.val_main_v259_eq (F := Ideal) (StableHlo.launchContents m' c)).trans ((Cert.AbInRefIdeal.Rowwise.decays_eq _ _ _ _ _ _ _ _).trans ?_)
    rw [b0, b1, b2, b4, b5, b6, b7, b10]
  · rw [Cert.AbInIdeal.Rowwise.final_entries]
    refine (Cert.AbInRefIdeal.Read.val_main_v263_eq (F := Ideal) (StableHlo.launchContents m' c)).trans ((Cert.AbInRefIdeal.Rowwise.entries_eq _ _ _ _ _ _ _ _ _ _).trans ?_)
    rw [b0, b1, b2, b4, b5, b6, b7, b8, b9, b10]

end Cert.AbInClaim

end
-- ==== Proof.CdInResult.lean ====
/- What a run of the feature kernel of an odd layer leaves in its eleven result arrays. -/
module

public import proofs.«01_k».proof.Proof.CdInRun
public import Idealize.ShloMosaic.Lib.Pipeline.ValueKit
public import Idealize.ShloMosaic.Lib.KernelVsHost

@[expose] public section

set_option maxRecDepth 16384

noncomputable section

namespace Cert.CdInIdeal.Rowwise

open Cert.CdInIdeal Cert.CdInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

set_option maxHeartbeats 1600000 in
/-- After a run each result array holds what the pipeline's blocks put there, and the arguments are unchanged. -/
theorem run_blocks : θ_run defs (onTc (τ := τ) (main (F := Ideal))) ⟨m, fun _ => 0, ρ⟩ fun r => ∀ c : Dev nD,
      r.2.mem ((c : Thread nD τ).loc main_v49_0) = (dats m 0 c).arrAt 13 cfg0.N
      ∧ r.2.mem ((c : Thread nD τ).loc main_v49_1) = (dats m 0 c).arrAt 14 cfg0.N
      ∧ r.2.mem ((c : Thread nD τ).loc main_v49_2) = (dats m 0 c).arrAt 15 cfg0.N
      ∧ r.2.mem ((c : Thread nD τ).loc main_v49_3) = (dats m 0 c).arrAt 16 cfg0.N
      ∧ r.2.mem ((c : Thread nD τ).loc main_v49_4) = (dats m 0 c).arrAt 17 cfg0.N
      ∧ r.2.mem ((c : Thread nD τ).loc main_v49_5) = (dats m 0 c).arrAt 18 cfg0.N
      ∧ r.2.mem ((c : Thread nD τ).loc main_v49_6) = (dats m 0 c).arrAt 19 cfg0.N
      ∧ r.2.mem ((c : Thread nD τ).loc main_v49_7) = (dats m 0 c).arrAt 20 cfg0.N
      ∧ r.2.mem ((c : Thread nD τ).loc main_v49_8) = (dats m 0 c).arrAt 21 cfg0.N
      ∧ r.2.mem ((c : Thread nD τ).loc main_v49_9) = (dats m 0 c).arrAt 22 cfg0.N
      ∧ r.2.mem ((c : Thread nD τ).loc main_v49_10) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h.1 c).1 13, (h.1 c).1 14, (h.1 c).1 15, (h.1 c).1 16, (h.1 c).1 17, (h.1 c).1 18, (h.1 c).1 19, (h.1 c).1 20, (h.1 c).1 21, (h.1 c).1 22, (h.1 c).1 23, h.2 c⟩) (θ_run_and (run_main m ρ) (unchanged m ρ))

end Cert.CdInIdeal.Rowwise

end
-- ==== Proof.CdInRows.lean ====
/- What the feature kernel of an odd layer computes for one token, as plain functions over the extended reals: the
   three convolved features of the long filter, the four features mixed with their neighbours, the low-rank decays and
   gates, the normalised removal keys and the bonus. Also which of these values are real numbers. -/
module

public import proofs.«01_k».proof.Proof.AbInRows
public import Idealize.ShloMosaic.Lib.ValueIdx
public import Idealize.ShloMosaic.Lib.Pointwise

@[expose] public section

noncomputable section

namespace Cert.Mixed

open Cert.Lines
open Idealize.ShloMosaic
open scoped BigOperators

/-- One half, and the constant under the root, as the programs write them. -/
abbrev half : EReal := Ideal.ofBits .f32 1056964608#32
abbrev eps : EReal := Ideal.ofBits .f32 730643660#32

/-- Half the sum of a token's two neighbours in its line. -/
def around (v : ℕ → EReal) (t : ℕ) : EReal := half * (before 1 v t + after v t)

/-- A value moved towards its neighbours by the share `mu`. -/
def mix (v : ℕ → EReal) (mu : EReal) (t : ℕ) : EReal := v t + (around v t - v t) * mu

/-- The projection of the modulated token `x`. -/
def project (x sh sc : Rows.Row) (w : Fin 1024 → Fin 3584 → EReal) (j : Fin 3584) : EReal := ∑ k, Rows.modulate x sh sc k * w k j

/-- A low-rank map: down to 64 values, through `f`, up to 512 values, plus an offset. -/
def lowRank (f : EReal → EReal) (x : Fin 1024 → EReal) (w1 : Fin 1024 → Fin 64 → EReal) (w2 : Fin 64 → Fin 512 → EReal) (w0 : Fin 512 → EReal)
    (l : Fin 512) : EReal :=
  w0 l + ∑ i : Fin 64, f (∑ k, x k * w1 k i) * w2 i l

/-- The decay of a state from its raw value. -/
def fade (z : EReal) : EReal := Ideal.exp (-(Ideal.exp (-(softplus (-z)) - half)))

/-- The key that is written, from the key `k`, the gate `a` and the share `ka`. -/
def written (k a ka : EReal) : EReal := k * (1 + (a - 1) * ka)

/-- The removal key: the scaled key over the root of its head's sum of squares. -/
def removal (k p : Fin 512 → EReal) (l : Fin 512) : EReal :=
  k l * p l * Ideal.rsqrt ((∑ i : Fin 64, k (feature (head l) i) * p (feature (head l) i) * (k (feature (head l) i) * p (feature (head l) i))) + eps)

/-- One direction's part of the bonus. -/
def part1 (r k q : Fin 512 → EReal) (v : EReal) (l : Fin 512) : EReal :=
  (∑ i : Fin 64, r (feature (head l) i) * k (feature (head l) i) * q (feature (head l) i)) * v

/-- The arguments of the call. -/
structure Args where
  x : Fin 8 → Fin 4096 → Fin 1024 → EReal
  md : Fin 8 → Fin 6 → Fin 1024 → EReal
  w : Fin 1024 → Fin 3584 → EReal
  hy : Fin 3 → Fin 1536 → EReal
  mu : Fin 4 → Fin 512 → EReal
  mux : Fin 2 → Fin 1024 → EReal
  w0 : Fin 2 → Fin 512 → EReal
  w1 : Fin 2 → Fin 1024 → Fin 64 → EReal
  w2 : Fin 2 → Fin 64 → Fin 512 → EReal
  a0 : Fin 2 → Fin 512 → EReal
  a1 : Fin 2 → Fin 1024 → Fin 64 → EReal
  a2 : Fin 2 → Fin 64 → Fin 512 → EReal
  kkp : Fin 512 → EReal
  ka : Fin 512 → EReal
  rk : Fin 8 → Fin 64 → EReal

/-- The arguments as arrays. -/
def ofArrays (X : (⟨3, ![8, 4096, 1024]⟩ : Shape).Idx → EReal) (M : (⟨3, ![8, 6, 1024]⟩ : Shape).Idx → EReal) (W : (⟨2, ![1024, 3584]⟩ : Shape).Idx → EReal)
    (HY : (⟨2, ![3, 1536]⟩ : Shape).Idx → EReal) (MU : (⟨2, ![4, 512]⟩ : Shape).Idx → EReal) (MX : (⟨2, ![2, 1024]⟩ : Shape).Idx → EReal)
    (W0 : (⟨2, ![2, 512]⟩ : Shape).Idx → EReal) (W1 : (⟨3, ![2, 1024, 64]⟩ : Shape).Idx → EReal) (W2 : (⟨3, ![2, 64, 512]⟩ : Shape).Idx → EReal)
    (A0 : (⟨2, ![2, 512]⟩ : Shape).Idx → EReal) (A1 : (⟨3, ![2, 1024, 64]⟩ : Shape).Idx → EReal) (A2 : (⟨3, ![2, 64, 512]⟩ : Shape).Idx → EReal)
    (KK : (⟨1, ![512]⟩ : Shape).Idx → EReal) (KA : (⟨1, ![512]⟩ : Shape).Idx → EReal) (RK : (⟨2, ![8, 64]⟩ : Shape).Idx → EReal) : Args :=
  ⟨fun n t k => X (ix3 n t k), fun n a k => M (ix3 n a k), fun q j => W (ix2 q j), fun k j => HY (ix2 k j), fun c l => MU (ix2 c l), fun d k => MX (ix2 d k),
    fun d l => W0 (ix2 d l), fun d k i => W1 (ix3 d k i), fun d i l => W2 (ix3 d i l), fun d l => A0 (ix2 d l), fun d k i => A1 (ix3 d k i),
    fun d i l => A2 (ix3 d i l), fun l => KK (ix1 l), fun l => KA (ix1 l), fun h i => RK (ix2 h i)⟩

variable (A : Args)

/-- The modulated tokens of batch entry `n`. -/
def modul (n : Fin 8) (t : ℕ) (k : Fin 1024) : EReal :=
  Rows.modulate (A.x n ⟨t % 4096, Nat.mod_lt _ (by decide)⟩) (A.md n 0) (A.md n 1) k

/-- The projected tokens of batch entry `n`. -/
def seq (n : Fin 8) (t : ℕ) (j : Fin 3584) : EReal :=
  project (A.x n ⟨t % 4096, Nat.mod_lt _ (by decide)⟩) (A.md n 0) (A.md n 1) A.w j

/-- The convolved features. -/
def conv (n : Fin 8) (t : ℕ) (j : Fin 1536) : EReal := short (fun s => seq A n s ⟨j.val, by omega⟩) (fun k => A.hy k j) t

/-- The four features mixed with their neighbours. -/
def rcp (n : Fin 8) (t : ℕ) (l : Fin 512) : EReal := mix (fun s => seq A n s ⟨1536 + l.val, by omega⟩) (A.mu 0 l) t
def key (n : Fin 8) (t : ℕ) (l : Fin 512) : EReal := mix (fun s => seq A n s ⟨2048 + l.val, by omega⟩) (A.mu 1 l) t
def val (n : Fin 8) (t : ℕ) (l : Fin 512) : EReal := mix (fun s => seq A n s ⟨2560 + l.val, by omega⟩) (A.mu 2 l) t
def gat (n : Fin 8) (t : ℕ) (l : Fin 512) : EReal := mix (fun s => seq A n s ⟨3072 + l.val, by omega⟩) (A.mu 3 l) t

/-- The modulated features mixed with their neighbours. -/
def feat (e : Fin 2) (n : Fin 8) (t : ℕ) (k : Fin 1024) : EReal := mix (fun s => modul A n s k) (A.mux e k) t

/-- The raw decay and the raw gate of a direction. -/
def rawDecay (d : Fin 2) (n : Fin 8) (t : ℕ) (l : Fin 512) : EReal := lowRank Ideal.tanh (feat A 0 n t) (A.w1 d) (A.w2 d) (A.w0 d) l
def rawGate (d : Fin 2) (n : Fin 8) (t : ℕ) (l : Fin 512) : EReal := lowRank (fun z => z) (feat A 1 n t) (A.a1 d) (A.a2 d) (A.a0 d) l

/-- The decays, the gates, the written keys and the removal keys of a direction. -/
def decays (d : Fin 2) (n : Fin 8) (t : ℕ) (l : Fin 512) : EReal := fade (rawDecay A d n t l)
def gates (d : Fin 2) (n : Fin 8) (t : ℕ) (l : Fin 512) : EReal := sigmoid (rawGate A d n t l)
def keys (d : Fin 2) (n : Fin 8) (t : ℕ) (l : Fin 512) : EReal := written (key A n t l) (gates A d n t l) (A.ka l)
def unit (n : Fin 8) (t : ℕ) (l : Fin 512) : EReal := removal (key A n t) A.kkp l
def removals (d : Fin 2) (n : Fin 8) (t : ℕ) (l : Fin 512) : EReal := unit A n t l * gates A d n t l

/-- The bonus. -/
def bonus (n : Fin 8) (t : ℕ) (l : Fin 512) : EReal :=
  part1 (rcp A n t) (keys A 0 n t) (fun p => A.rk (head p) (place p)) (val A n t l) l
    + part1 (rcp A n t) (keys A 1 n t) (fun p => A.rk (head p) (place p)) (val A n t l) l

/-- The output gate. -/
def outGate (n : Fin 8) (t : ℕ) (l : Fin 512) : EReal := sigmoid (gat A n t l)

/-- An array over the flat rows from a function of batch entry, token and feature. -/
abbrev entry (q : Fin 32768) : Fin 8 := ⟨q.val / 4096, by omega⟩
def at2 (f : Fin 8 → ℕ → Fin 512 → EReal) : (⟨2, ![32768, 512]⟩ : Shape).Idx → EReal := fun y => f (entry (y 0)) ((y 0).val % 4096) (y 1)
def at3 (f : Fin 2 → Fin 8 → ℕ → Fin 512 → EReal) : (⟨3, ![2, 32768, 512]⟩ : Shape).Idx → EReal :=
  fun y => f (y 0) (entry (y 1)) ((y 1).val % 4096) (y 2)

theorem at2_at (f : Fin 8 → ℕ → Fin 512 → EReal) (q : Fin 32768) (n : Fin 8) (t : ℕ) (l : Fin 512) (ht : t < 4096) (h : q.val = n.val * 4096 + t) :
    at2 f (ix2 q l) = f n t l := by
  have e0 : entry q = n := Fin.ext (by show q.val / 4096 = n.val; omega)
  have e1 : q.val % 4096 = t := by omega
  show f (entry q) (q.val % 4096) l = _
  rw [e0, e1]

theorem at3_at (f : Fin 2 → Fin 8 → ℕ → Fin 512 → EReal) (d : Fin 2) (q : Fin 32768) (n : Fin 8) (t : ℕ) (l : Fin 512) (ht : t < 4096)
    (h : q.val = n.val * 4096 + t) : at3 f (ix3 d q l) = f d n t l := by
  have e0 : entry q = n := Fin.ext (by show q.val / 4096 = n.val; omega)
  have e1 : q.val % 4096 = t := by omega
  show f d (entry q) (q.val % 4096) l = _
  rw [e0, e1]

/-- A token number below 4096 is its own remainder. -/
theorem seq_lt (n : Fin 8) (t : ℕ) (ht : t < 4096) (j : Fin 3584) : seq A n t j = project (A.x n ⟨t, ht⟩) (A.md n 0) (A.md n 1) A.w j := by
  have e : (⟨t % 4096, Nat.mod_lt _ (by decide)⟩ : Fin 4096) = ⟨t, ht⟩ := Fin.ext (Nat.mod_eq_of_lt ht)
  unfold seq
  rw [e]

theorem modul_lt (n : Fin 8) (t : ℕ) (ht : t < 4096) (k : Fin 1024) : modul A n t k = Rows.modulate (A.x n ⟨t, ht⟩) (A.md n 0) (A.md n 1) k := by
  have e : (⟨t % 4096, Nat.mod_lt _ (by decide)⟩ : Fin 4096) = ⟨t, ht⟩ := Fin.ext (Nat.mod_eq_of_lt ht)
  unfold modul
  rw [e]

/-- The convolution and the mixing of a block of whole lines are those of the sequence it is cut from. -/
theorem short_block (f : Fin 256 → EReal) (g : ℕ → EReal) (w : Fin 3 → EReal) (T : ℕ) (h : ∀ r : Fin 256, f r = g (T * 256 + r.val)) (r : Fin 256) :
    short (fun s => f (row s)) w r.val = short g w (T * 256 + r.val) := by
  unfold short
  rw [before_block f g T 1 h r, after_block f g T h r]
  beta_reduce
  rw [here_block f g T h r]

theorem mix_block (f : Fin 256 → EReal) (g : ℕ → EReal) (mu : EReal) (T : ℕ) (h : ∀ r : Fin 256, f r = g (T * 256 + r.val)) (r : Fin 256) :
    mix (fun s => f (row s)) mu r.val = mix g mu (T * 256 + r.val) := by
  unfold mix around
  rw [before_block f g T 1 h r, after_block f g T h r]
  beta_reduce
  rw [here_block f g T h r]

/-- One half is a real number. -/
theorem half_eq : half = ((1 / 2 : ℝ) : EReal) := by
  simp [half, Ideal.ofBits, Ideal.ieee, -EReal.coe_mul]; norm_num

/-- Three taps one half, zero, one half are half the neighbours' sum. -/
theorem taps (a x b : EReal) : a * half + x * 0 + b * half = half * (a + b) := by
  rw [half_eq, mul_zero, add_zero, mul_comm a, mul_comm b,
    EReal.left_distrib_of_nonneg_of_ne_top (EReal.coe_nonneg.2 (by norm_num)) (EReal.coe_ne_top _)]

/-- A sum over 128 splits in the middle. -/
theorem sum_halves (f : Fin 128 → EReal) : ∑ q, f q = (∑ i : Fin 64, f ⟨i.val, by omega⟩) + ∑ i : Fin 64, f ⟨64 + i.val, by omega⟩ :=
  Fin.sum_univ_add (a := 64) (b := 64) f

/-- Being a real number. -/
def IsReal (x : EReal) : Prop := ∃ r : ℝ, x = r

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem isReal_zero : IsReal 0 := ⟨0, rfl⟩
theorem isReal_one : IsReal 1 := ⟨1, rfl⟩
theorem isReal_half : IsReal half := ⟨_, half_eq⟩

theorem isReal_sum {ι : Type} (s : Finset ι) (f : ι → EReal) (h : ∀ i, IsReal (f i)) : IsReal (∑ i ∈ s, f i) := by
  classical
  induction s using Finset.induction_on with
  | empty => exact isReal_zero
  | insert a s ha ih =>
    rw [Finset.sum_insert ha]
    exact (h a).add ih

/-- A value that lies below infinity in absolute value is real. -/
theorem isReal_of_abs (x : EReal) (h : max x (-x) < ⊤) : IsReal x := by
  induction x with
  | bot => exact absurd h (by simp)
  | top => exact absurd h (by simp)
  | coe r => exact ⟨r, rfl⟩

/-- The logistic function's values are real everywhere. -/
theorem isReal_sigmoid (x : EReal) : IsReal (sigmoid x) := by
  unfold sigmoid
  induction x with
  | bot =>
    refine ⟨0, ?_⟩
    show Ideal.div 1 (1 + Ideal.exp (-⊥)) = 0
    rw [EReal.neg_bot]
    show Ideal.div 1 (1 + (⊤ : EReal)) = 0
    rw [EReal.add_top_of_ne_bot (by decide)]
    unfold Ideal.div
    rw [if_neg EReal.top_ne_zero, EReal.inv_top, mul_zero]
  | top =>
    refine ⟨1, ?_⟩
    rw [EReal.neg_top]
    show Ideal.div 1 (1 + (0 : EReal)) = 1
    rw [add_zero]
    unfold Ideal.div
    rw [if_neg one_ne_zero]
    show (1 : EReal) * ((1 : ℝ) : EReal)⁻¹ = 1
    rw [← EReal.coe_inv, inv_one]
    exact one_mul _
  | coe r =>
    have hp : (0 : ℝ) < 1 + Real.exp (-r) := by positivity
    have e : (1 : EReal) + Ideal.exp (-(r : EReal)) = ((1 + Real.exp (-r) : ℝ) : EReal) := by
      rw [← EReal.coe_neg, EReal.coe_add]
      rfl
    rw [e]
    refine ⟨1 * (1 + Real.exp (-r))⁻¹, ?_⟩
    unfold Ideal.div
    rw [if_neg (by exact_mod_cast hp.ne'), EReal.coe_mul, EReal.coe_inv]
    rfl

theorem isReal_before (v : ℕ → EReal) (h : ∀ s, IsReal (v s)) (d t : ℕ) : IsReal (before d v t) := by
  unfold before
  split
  · exact h _
  · exact isReal_zero

theorem isReal_after (v : ℕ → EReal) (h : ∀ s, IsReal (v s)) (t : ℕ) : IsReal (after v t) := by
  unfold after
  split
  · exact h _
  · exact isReal_zero

theorem isReal_mix (v : ℕ → EReal) (mu : EReal) (t : ℕ) (h : ∀ s, IsReal (v s)) (hm : IsReal mu) : IsReal (mix v mu t) :=
  (h t).add (((isReal_half.mul ((isReal_before v h 1 t).add (isReal_after v h t))).sub (h t)).mul hm)

/-- What the precondition says of the arguments. -/
structure Finite : Prop where
  x : ∀ n t k, IsReal (A.x n t k)
  md : ∀ n a k, IsReal (A.md n a k)
  w : ∀ q j, IsReal (A.w q j)
  mu : ∀ c l, IsReal (A.mu c l)
  kkp : ∀ l, IsReal (A.kkp l)
  ka : ∀ l, IsReal (A.ka l)
  rk : ∀ h i, IsReal (A.rk h i)

variable {A}

theorem Finite.seq (F : Finite A) (n : Fin 8) (t : ℕ) (j : Fin 3584) : IsReal (seq A n t j) := by
  unfold Mixed.seq project Rows.modulate
  exact isReal_sum _ _ fun k => (((F.x n _ k).mul (isReal_one.add (F.md n 1 k))).add (F.md n 0 k)).mul (F.w k j)

theorem Finite.rcp (F : Finite A) (n : Fin 8) (t : ℕ) (l : Fin 512) : IsReal (rcp A n t l) := isReal_mix _ _ _ (fun _ => F.seq n _ _) (F.mu _ _)
theorem Finite.key (F : Finite A) (n : Fin 8) (t : ℕ) (l : Fin 512) : IsReal (key A n t l) := isReal_mix _ _ _ (fun _ => F.seq n _ _) (F.mu _ _)
theorem Finite.val (F : Finite A) (n : Fin 8) (t : ℕ) (l : Fin 512) : IsReal (val A n t l) := isReal_mix _ _ _ (fun _ => F.seq n _ _) (F.mu _ _)

theorem Finite.keys (F : Finite A) (d : Fin 2) (n : Fin 8) (t : ℕ) (l : Fin 512) : IsReal (keys A d n t l) :=
  (F.key n t l).mul (isReal_one.add (((isReal_sigmoid _).sub isReal_one).mul (F.ka l)))

/-- The two-part sum over a head, which the kernel takes against the matrix of ones: the values, and what a rounding
    would have left of them. -/
def grouped (x : Fin 512 → EReal) (o : Fin 512 → Fin 512 → EReal) (l : Fin 512) : EReal := (∑ p, x p * o p l) + ∑ p, (x p - x p) * o p l

/-- Of real values, it is the head's sum. -/
theorem grouped_eq (x : Fin 512 → EReal) (o : Fin 512 → Fin 512 → EReal) (l : Fin 512) (h : ∀ p, IsReal (x p))
    (ho : ∀ p, o p l = 1 * if (head p).val = (head l).val then (1 : EReal) else 0) : grouped x o l = ∑ i : Fin 64, x (feature (head l) i) := by
  have h0 : ∀ p, x p - x p = 0 := fun p => by
    obtain ⟨a, ha⟩ := h p
    rw [ha, ← EReal.coe_sub, sub_self]
    rfl
  unfold grouped
  simp only [h0, zero_mul, Finset.sum_const_zero, add_zero, ho]
  rw [sum_block x (fun _ _ _ => 1) l]
  simp only [mul_one]

/-- The sum of the two directions' parts taken at once. -/
theorem parts_sum (r k0 k1 q : Fin 64 → EReal) (v : EReal) (hr : ∀ i, IsReal (r i)) (h0 : ∀ i, IsReal (k0 i)) (h1 : ∀ i, IsReal (k1 i))
    (hq : ∀ i, IsReal (q i)) (hv : IsReal v) :
    (∑ i, r i * (k0 i + k1 i) * q i) * v = (∑ i, r i * k0 i * q i) * v + (∑ i, r i * k1 i * q i) * v := by
  have e : ∑ i, r i * (k0 i + k1 i) * q i = (∑ i, r i * k0 i * q i) + ∑ i, r i * k1 i * q i := by
    rw [← Finset.sum_add_distrib]
    refine Finset.sum_congr rfl fun i _ => ?_
    obtain ⟨a, ha⟩ := hr i
    obtain ⟨b, hb⟩ := h0 i
    obtain ⟨c, hc⟩ := h1 i
    obtain ⟨d, hd⟩ := hq i
    rw [ha, hb, hc, hd]
    norm_cast
    ring
  rw [e]
  obtain ⟨a, ha⟩ := isReal_sum Finset.univ (fun i => r i * k0 i * q i) fun i => ((hr i).mul (h0 i)).mul (hq i)
  obtain ⟨b, hb⟩ := isReal_sum Finset.univ (fun i => r i * k1 i * q i) fun i => ((hr i).mul (h1 i)).mul (hq i)
  obtain ⟨c, rfl⟩ := hv
  rw [ha, hb]
  norm_cast
  ring

end Cert.Mixed

end
-- ==== Proof.CdInShift.lean ====
/- The masked rotations of the feature kernel of an odd layer: inside a block of 256 rows they are shifts inside a line
   of 64 rows. From them, the mixing of a block with its neighbours and the three taps of a block. -/
module

public import proofs.«01_k».proof.Proof.CdInRows
public import proofs.«01_k».proof.Proof.CdInRun
public import Idealize.ShloMosaic.Lib.Pipeline.ValueKit
public import Idealize.ShloMosaic.Lib.KernelVsHost

@[expose] public section

set_option maxRecDepth 16384

noncomputable section

namespace Cert.CdInIdeal.Rowwise

open Cert.Lines (row)
open Cert.CdInIdeal Cert.CdInIdeal.Gen Idealize.ShloMosaic Idealize.ShloMosaic.TcCoe Idealize.SL.Sem
open Idealize.ShloMosaic.Pipeline (Dat)
open scoped BigOperators

/-- A row has a row one before it in its line exactly where the masked counter says so. -/
theorem bit_one : ∀ r : Fin 256, IntOp.cmpi .sge (IntOp.addi (IntOp.andi (BitVec.ofNat 32 r.val) 63#32) 4294967295#32) 0#32
    = if 1 ≤ r.val % 64 then 1#1 else 0#1 := by decide +kernel

/-- The same for the row after. -/
theorem bit_next : ∀ r : Fin 256, IntOp.cmpi .slt (IntOp.addi (IntOp.andi (BitVec.ofNat 32 r.val) 63#32) 1#32) 64#32
    = if r.val % 64 < 63 then 1#1 else 0#1 := by decide +kernel

theorem row_self (r : Fin 256) : row r.val = r := Fin.ext (Nat.mod_eq_of_lt r.isLt)

/-- A rotation of the block's 256 rows by `k`, with 512 features. -/
theorem rotated_512 (y : FVec Ideal S256x512 .f32) (b : BitVec 32) (k : ℕ) (hb : b.toNat = k) (hk : k < 256) (r : Fin 256) (l : Fin 512) :
    dynamicRotate 0 b none y rotates_S256x512_d0 (ix2 r l) = y (ix2 (row (r.val + 256 - k)) l) := by
  subst hb
  pointwise []
  have e : (⟨(r.val + 256 - b.toNat % 256) % 256, Nat.mod_lt _ (by decide)⟩ : Fin 256) = row (r.val + 256 - b.toNat) :=
    Fin.ext (by show (r.val + 256 - b.toNat % 256) % 256 = (r.val + 256 - b.toNat) % 256; rw [Nat.mod_eq_of_lt hk])
  rw [← e]

/-- The counter of the rows. -/
theorem iota_512 (r : Fin 256) (l : Fin 512) : iota .tc S256x512 32 [0] iota_S256x512_d0_w32 (ix2 r l) = BitVec.ofNat 32 r.val := by
  pointwise []

/-- The rotation towards later rows under its mask. -/
theorem shift_before_512 (y : FVec Ideal S256x512 .f32) (r : Fin 256) (l : Fin 512) :
    select (cmpi .sge (addi (andi (iota .tc S256x512 32 [0] iota_S256x512_d0_w32) (broadcast S256x512 63#32)) (broadcast S256x512 4294967295#32))
        (broadcast S256x512 0#32))
      (dynamicRotate 0 1#32 none y rotates_S256x512_d0) (broadcast S256x512 (Scalar.ofBits .f32 0x00000000#32)) (ix2 r l)
      = Lines.before 1 (fun s => y (ix2 (row s) l)) r.val := by
  show Scalar.select (IntOp.cmpi .sge (IntOp.addi (IntOp.andi (iota .tc S256x512 32 [0] iota_S256x512_d0_w32 (ix2 r l)) 63#32) 4294967295#32) 0#32) _ _ = _
  rw [iota_512, bit_one, rotated_512 y 1#32 1 (by decide) (by decide)]
  unfold Lines.before
  by_cases h : 1 ≤ r.val % 64
  · rw [if_pos h, if_pos h]
    show y _ = y _
    have e : row (r.val + 256 - 1) = row (r.val - 1) := Fin.ext (by show (r.val + 256 - 1) % 256 = (r.val - 1) % 256; omega)
    rw [e]
  · rw [if_neg h, if_neg h]
    exact Ideal.ofBits_zero_f32

/-- The rotation towards earlier rows under its mask. -/
theorem shift_after_512 (y : FVec Ideal S256x512 .f32) (r : Fin 256) (l : Fin 512) :
    select (cmpi .slt (addi (andi (iota .tc S256x512 32 [0] iota_S256x512_d0_w32) (broadcast S256x512 63#32)) (broadcast S256x512 1#32))
        (broadcast S256x512 64#32))
      (dynamicRotate 0 255#32 none y rotates_S256x512_d0) (broadcast S256x512 (Scalar.ofBits .f32 0x00000000#32)) (ix2 r l)
      = Lines.after (fun s => y (ix2 (row s) l)) r.val := by
  show Scalar.select (IntOp.cmpi .slt (IntOp.addi (IntOp.andi (iota .tc S256x512 32 [0] iota_S256x512_d0_w32 (ix2 r l)) 63#32) 1#32) 64#32) _ _ = _
  rw [iota_512, bit_next, rotated_512 y 255#32 255 (by decide) (by decide)]
  unfold Lines.after
  by_cases h : r.val % 64 < 63
  · rw [if_pos h, if_pos h]
    show y _ = y _
    have e : row (r.val + 256 - 255) = row (r.val + 1) := Fin.ext (by show (r.val + 256 - 255) % 256 = (r.val + 1) % 256; omega)
    rw [e]
  · rw [if_neg h, if_neg h]
    exact Ideal.ofBits_zero_f32

/-- The mixing, element by element. -/
theorem combine_512 (v h b a w : FVec Ideal S256x512 .f32) (i : S256x512.Idx) (B A W : EReal) (hb : b i = B) (ha : a i = A) (hw : w i = W) (hh : h i = Mixed.half) :
    addf v (mulf (subf (mulf h (addf b a)) v) w) i = v i + (Mixed.half * (B + A) - v i) * W := by
  subst hb ha hw
  rw [← hh]
  rfl

/-- A block mixed with its neighbours. -/
theorem mixed_512 (v : FVec Ideal S256x512 .f32) (mu : Vec Ideal S1x512 .f32) (r : Fin 256) (l : Fin 512) :
    addf v (mulf (subf (mulf (broadcast S256x512 (Scalar.ofBits .f32 0x3F000000#32)) (addf
      (select (cmpi .sge (addi (andi (iota .tc S256x512 32 [0] iota_S256x512_d0_w32) (broadcast S256x512 63#32)) (broadcast S256x512 4294967295#32))
          (broadcast S256x512 0#32))
        (dynamicRotate 0 1#32 none v rotates_S256x512_d0) (broadcast S256x512 (Scalar.ofBits .f32 0x00000000#32)))
      (select (cmpi .slt (addi (andi (iota .tc S256x512 32 [0] iota_S256x512_d0_w32) (broadcast S256x512 63#32)) (broadcast S256x512 1#32))
          (broadcast S256x512 64#32))
        (dynamicRotate 0 255#32 none v rotates_S256x512_d0) (broadcast S256x512 (Scalar.ofBits .f32 0x00000000#32))))) v)
      (broadcastTo S256x512 mu broadcasts_S1x512_S256x512)) (ix2 r l)
      = Mixed.mix (fun s => v (ix2 (row s) l)) (mu (ix2 0 l)) r.val := by
  have hm : broadcastTo S256x512 mu broadcasts_S1x512_S256x512 (ix2 r l) = mu (ix2 0 l) := by pointwise []
  refine (combine_512 v _ _ _ _ (ix2 r l) _ _ _ (shift_before_512 v r l) (shift_after_512 v r l) hm rfl).trans ?_
  unfold Mixed.mix Mixed.around
  beta_reduce
  rw [row_self]

/-- A rotation of the block's 256 rows by `k`, with 1024 features. -/
theorem rotated_1024 (y : FVec Ideal S256x1024 .f32) (b : BitVec 32) (k : ℕ) (hb : b.toNat = k) (hk : k < 256) (r : Fin 256) (l : Fin 1024) :
    dynamicRotate 0 b none y rotates_S256x1024_d0 (ix2 r l) = y (ix2 (row (r.val + 256 - k)) l) := by
  subst hb
  pointwise []
  have e : (⟨(r.val + 256 - b.toNat % 256) % 256, Nat.mod_lt _ (by decide)⟩ : Fin 256) = row (r.val + 256 - b.toNat) :=
    Fin.ext (by show (r.val + 256 - b.toNat % 256) % 256 = (r.val + 256 - b.toNat) % 256; rw [Nat.mod_eq_of_lt hk])
  rw [← e]

/-- The counter of the rows. -/
theorem iota_1024 (r : Fin 256) (l : Fin 1024) : iota .tc S256x1024 32 [0] iota_S256x1024_d0_w32 (ix2 r l) = BitVec.ofNat 32 r.val := by
  pointwise []

/-- The rotation towards later rows under its mask. -/
theorem shift_before_1024 (y : FVec Ideal S256x1024 .f32) (r : Fin 256) (l : Fin 1024) :
    select (cmpi .sge (addi (andi (iota .tc S256x1024 32 [0] iota_S256x1024_d0_w32) (broadcast S256x1024 63#32)) (broadcast S256x1024 4294967295#32))
        (broadcast S256x1024 0#32))
      (dynamicRotate 0 1#32 none y rotates_S256x1024_d0) (broadcast S256x1024 (Scalar.ofBits .f32 0x00000000#32)) (ix2 r l)
      = Lines.before 1 (fun s => y (ix2 (row s) l)) r.val := by
  show Scalar.select (IntOp.cmpi .sge (IntOp.addi (IntOp.andi (iota .tc S256x1024 32 [0] iota_S256x1024_d0_w32 (ix2 r l)) 63#32) 4294967295#32) 0#32) _ _ = _
  rw [iota_1024, bit_one, rotated_1024 y 1#32 1 (by decide) (by decide)]
  unfold Lines.before
  by_cases h : 1 ≤ r.val % 64
  · rw [if_pos h, if_pos h]
    show y _ = y _
    have e : row (r.val + 256 - 1) = row (r.val - 1) := Fin.ext (by show (r.val + 256 - 1) % 256 = (r.val - 1) % 256; omega)
    rw [e]
  · rw [if_neg h, if_neg h]
    exact Ideal.ofBits_zero_f32

/-- The rotation towards earlier rows under its mask. -/
theorem shift_after_1024 (y : FVec Ideal S256x1024 .f32) (r : Fin 256) (l : Fin 1024) :
    select (cmpi .slt (addi (andi (iota .tc S256x1024 32 [0] iota_S256x1024_d0_w32) (broadcast S256x1024 63#32)) (broadcast S256x1024 1#32))
        (broadcast S256x1024 64#32))
      (dynamicRotate 0 255#32 none y rotates_S256x1024_d0) (broadcast S256x1024 (Scalar.ofBits .f32 0x00000000#32)) (ix2 r l)
      = Lines.after (fun s => y (ix2 (row s) l)) r.val := by
  show Scalar.select (IntOp.cmpi .slt (IntOp.addi (IntOp.andi (iota .tc S256x1024 32 [0] iota_S256x1024_d0_w32 (ix2 r l)) 63#32) 1#32) 64#32) _ _ = _
  rw [iota_1024, bit_next, rotated_1024 y 255#32 255 (by decide) (by decide)]
  unfold Lines.after
  by_cases h : r.val % 64 < 63
  · rw [if_pos h, if_pos h]
    show y _ = y _
    have e : row (r.val + 256 - 255) = row (r.val + 1) := Fin.ext (by show (r.val + 256 - 255) % 256 = (r.val + 1) % 256; omega)
    rw [e]
  · rw [if_neg h, if_neg h]
    exact Ideal.ofBits_zero_f32

/-- The mixing, element by element. -/
theorem combine_1024 (v h b a w : FVec Ideal S256x1024 .f32) (i : S256x1024.Idx) (B A W : EReal) (hb : b i = B) (ha : a i = A) (hw : w i = W) (hh : h i = Mixed.half) :
    addf v (mulf (subf (mulf h (addf b a)) v) w) i = v i + (Mixed.half * (B + A) - v i) * W := by
  subst hb ha hw
  rw [← hh]
  rfl

/-- A block mixed with its neighbours. -/
theorem mixed_1024 (v : FVec Ideal S256x1024 .f32) (mu : Vec Ideal S1x1024 .f32) (r : Fin 256) (l : Fin 1024) :
    addf v (mulf (subf (mulf (broadcast S256x1024 (Scalar.ofBits .f32 0x3F000000#32)) (addf
      (select (cmpi .sge (addi (andi (iota .tc S256x1024 32 [0] iota_S256x1024_d0_w32) (broadcast S256x1024 63#32)) (broadcast S256x1024 4294967295#32))
          (broadcast S256x1024 0#32))
        (dynamicRotate 0 1#32 none v rotates_S256x1024_d0) (broadcast S256x1024 (Scalar.ofBits .f32 0x00000000#32)))
      (select (cmpi .slt (addi (andi (iota .tc S256x1024 32 [0] iota_S256x1024_d0_w32) (broadcast S256x1024 63#32)) (broadcast S256x1024 1#32))
          (broadcast S256x1024 64#32))
        (dynamicRotate 0 255#32 none v rotates_S256x1024_d0) (broadcast S256x1024 (Scalar.ofBits .f32 0x00000000#32))))) v)
      (broadcastTo S256x1024 mu broadcasts_S1x1024_S256x1024)) (ix2 r l)
      = Mixed.mix (fun s => v (ix2 (row s) l)) (mu (ix2 0 l)) r.val := by
  have hm : broadcastTo S256x1024 mu broadcasts_S1x1024_S256x1024 (ix2 r l) = mu (ix2 0 l) := by pointwise []
  refine (combine_1024 v _ _ _ _ (ix2 r l) _ _ _ (shift_before_1024 v r l) (shift_after_1024 v r l) hm rfl).trans ?_
  unfold Mixed.mix Mixed.around
  beta_reduce
  rw [row_self]

/-- A rotation of the block's 256 rows by `k`, with 1536 features. -/
theorem rotated_1536 (y : FVec Ideal S256x1536 .f32) (b : BitVec 32) (k : ℕ) (hb : b.toNat = k) (hk : k < 256) (r : Fin 256) (l : Fin 1536) :
    dynamicRotate 0 b none y rotates_S256x1536_d0 (ix2 r l) = y (ix2 (row (r.val + 256 - k)) l) := by
  subst hb
  pointwise []
  have e : (⟨(r.val + 256 - b.toNat % 256) % 256, Nat.mod_lt _ (by decide)⟩ : Fin 256) = row (r.val + 256 - b.toNat) :=
    Fin.ext (by show (r.val + 256 - b.toNat % 256) % 256 = (r.val + 256 - b.toNat) % 256; rw [Nat.mod_eq_of_lt hk])
  rw [← e]

/-- The counter of the rows. -/
theorem iota_1536 (r : Fin 256) (l : Fin 1536) : iota .tc S256x1536 32 [0] iota_S256x1536_d0_w32 (ix2 r l) = BitVec.ofNat 32 r.val := by
  pointwise []

/-- The rotation towards later rows under its mask. -/
theorem shift_before_1536 (y : FVec Ideal S256x1536 .f32) (r : Fin 256) (l : Fin 1536) :
    select (cmpi .sge (addi (andi (iota .tc S256x1536 32 [0] iota_S256x1536_d0_w32) (broadcast S256x1536 63#32)) (broadcast S256x1536 4294967295#32))
        (broadcast S256x1536 0#32))
      (dynamicRotate 0 1#32 none y rotates_S256x1536_d0) (broadcast S256x1536 (Scalar.ofBits .f32 0x00000000#32)) (ix2 r l)
      = Lines.before 1 (fun s => y (ix2 (row s) l)) r.val := by
  show Scalar.select (IntOp.cmpi .sge (IntOp.addi (IntOp.andi (iota .tc S256x1536 32 [0] iota_S256x1536_d0_w32 (ix2 r l)) 63#32) 4294967295#32) 0#32) _ _ = _
  rw [iota_1536, bit_one, rotated_1536 y 1#32 1 (by decide) (by decide)]
  unfold Lines.before
  by_cases h : 1 ≤ r.val % 64
  · rw [if_pos h, if_pos h]
    show y _ = y _
    have e : row (r.val + 256 - 1) = row (r.val - 1) := Fin.ext (by show (r.val + 256 - 1) % 256 = (r.val - 1) % 256; omega)
    rw [e]
  · rw [if_neg h, if_neg h]
    exact Ideal.ofBits_zero_f32

/-- The rotation towards earlier rows under its mask. -/
theorem shift_after_1536 (y : FVec Ideal S256x1536 .f32) (r : Fin 256) (l : Fin 1536) :
    select (cmpi .slt (addi (andi (iota .tc S256x1536 32 [0] iota_S256x1536_d0_w32) (broadcast S256x1536 63#32)) (broadcast S256x1536 1#32))
        (broadcast S256x1536 64#32))
      (dynamicRotate 0 255#32 none y rotates_S256x1536_d0) (broadcast S256x1536 (Scalar.ofBits .f32 0x00000000#32)) (ix2 r l)
      = Lines.after (fun s => y (ix2 (row s) l)) r.val := by
  show Scalar.select (IntOp.cmpi .slt (IntOp.addi (IntOp.andi (iota .tc S256x1536 32 [0] iota_S256x1536_d0_w32 (ix2 r l)) 63#32) 1#32) 64#32) _ _ = _
  rw [iota_1536, bit_next, rotated_1536 y 255#32 255 (by decide) (by decide)]
  unfold Lines.after
  by_cases h : r.val % 64 < 63
  · rw [if_pos h, if_pos h]
    show y _ = y _
    have e : row (r.val + 256 - 255) = row (r.val + 1) := Fin.ext (by show (r.val + 256 - 255) % 256 = (r.val + 1) % 256; omega)
    rw [e]
  · rw [if_neg h, if_neg h]
    exact Ideal.ofBits_zero_f32

/-- Three taps, element by element. -/
theorem three_taps (a b c : FVec Ideal S256x1536 .f32) (p q s : FVec Ideal S256x1536 .f32) (i : S256x1536.Idx) (A B C P Q S : EReal)
    (ha : a i = A) (hb : b i = B) (hc : c i = C) (hp : p i = P) (hq : q i = Q) (hs : s i = S) :
    addf (addf (mulf a p) (mulf b q)) (mulf c s) i = A * P + B * Q + C * S := by
  subst ha hb hc hp hq hs
  rfl

/-- The three taps of a block. -/
theorem conv_gen (v : FVec Ideal S256x1536 .f32) (w : Vec Ideal S3x1536 .f32) (r : Fin 256) (l : Fin 1536) :
    addf (addf
      (mulf (select (cmpi .sge (addi (andi (iota .tc S256x1536 32 [0] iota_S256x1536_d0_w32) (broadcast S256x1536 63#32)) (broadcast S256x1536 4294967295#32))
          (broadcast S256x1536 0#32))
        (dynamicRotate 0 1#32 none v rotates_S256x1536_d0) (broadcast S256x1536 (Scalar.ofBits .f32 0x00000000#32)))
        (broadcastTo S256x1536 (extractStridedSlice S1x1536 ![0, 0] w slices_S3x1536_o0_0_S1x1536) broadcasts_S1x1536_S256x1536))
      (mulf v (broadcastTo S256x1536 (extractStridedSlice S1x1536 ![1, 0] w slices_S3x1536_o1_0_S1x1536) broadcasts_S1x1536_S256x1536)))
      (mulf (select (cmpi .slt (addi (andi (iota .tc S256x1536 32 [0] iota_S256x1536_d0_w32) (broadcast S256x1536 63#32)) (broadcast S256x1536 1#32))
          (broadcast S256x1536 64#32))
        (dynamicRotate 0 255#32 none v rotates_S256x1536_d0) (broadcast S256x1536 (Scalar.ofBits .f32 0x00000000#32)))
        (broadcastTo S256x1536 (extractStridedSlice S1x1536 ![2, 0] w slices_S3x1536_o2_0_S1x1536) broadcasts_S1x1536_S256x1536)) (ix2 r l)
      = Lines.short (fun s => v (ix2 (row s) l)) (fun k => w (ix2 k l)) r.val := by
  have h0 : broadcastTo S256x1536 (extractStridedSlice S1x1536 ![0, 0] w slices_S3x1536_o0_0_S1x1536) broadcasts_S1x1536_S256x1536 (ix2 r l) = w (ix2 0 l) := by pointwise []
  have h1 : broadcastTo S256x1536 (extractStridedSlice S1x1536 ![1, 0] w slices_S3x1536_o1_0_S1x1536) broadcasts_S1x1536_S256x1536 (ix2 r l) = w (ix2 1 l) := by pointwise []
  have h2 : broadcastTo S256x1536 (extractStridedSlice S1x1536 ![2, 0] w slices_S3x1536_o2_0_S1x1536) broadcasts_S1x1536_S256x1536 (ix2 r l) = w (ix2 2 l) := by pointwise []
  refine (three_taps _ _ _ _ _ _ (ix2 r l) _ _ _ _ _ _ (shift_before_1536 v r l) rfl (shift_after_1536 v r l) h0 h1 h2).trans ?_
  unfold Lines.short
  beta_reduce
  rw [row_self]

end Cert.CdInIdeal.Rowwise

end
-- ==== Proof.CdInPay.lean ====
/- What the statements of the feature kernel of an odd layer compute, element by element, for any operands. -/
module

public import proofs.«01_k».proof.Proof.CdInShift

@[expose] public section

set_option maxRecDepth 16384

noncomputable section

namespace Cert.CdInIdeal.Rowwise

open Cert.Lines (row)
open Cert.CdInIdeal Cert.CdInIdeal.Gen Idealize.ShloMosaic Idealize.ShloMosaic.TcCoe Idealize.SL.Sem
open scoped BigOperators

/-- A difference from zero is the negative. -/
theorem zero_sub' (x : EReal) : 0 - x = -x := zero_sub x

/-- The modulated row. -/
theorem pay3_at (x : Vec Ideal S256x1024 .f32) (md : Vec Ideal S1x6x1024 .f32) (r : Fin 256) (k : Fin 1024) :
    k0_pay3 x md (ix2 r k) = Rows.modulate (fun k => x (ix2 r k)) (fun k => md (ix3 0 0 k)) (fun k => md (ix3 0 1 k)) k := by
  unfold k0_pay3
  pointwise []
  rfl

/-- The projection of the modulated row. -/
theorem pay4_at (x : Vec Ideal S256x1024 .f32) (md : Vec Ideal S1x6x1024 .f32) (w : Vec Ideal S1024x3584 .bf16) (r : Fin 256) (j : Fin 3584) :
    k0_pay4 x md w (ix2 r j)
      = Mixed.project (fun k => x (ix2 r k)) (fun k => md (ix3 0 0 k)) (fun k => md (ix3 0 1 k)) (fun q k => w (ix2 q k)) j := by
  refine Eq.trans ?_ (Finset.sum_congr rfl fun k _ => congrArg (· * w (ix2 k j)) (pay3_at x md r k))
  unfold k0_pay4
  pointwise [dot_S256x1024_S1024x3584_S256x3584_1_0_0_1_n_n, k0_pay3]

section
variable (v : FVec Ideal S256x3584 .f32) (r : Fin 256) (l : Fin 512)

theorem pay14_at : k0_pay14 v (ix2 r l) = v (ix2 r ⟨1536 + l.val, by omega⟩) := by
  unfold k0_pay14
  pointwise []

theorem slice_key : extractStridedSlice S256x512 ![0, 2048] v slices_S256x3584_o0_2048_S256x512 (ix2 r l) = v (ix2 r ⟨2048 + l.val, by omega⟩) := by
  pointwise []

theorem pay19_at : k0_pay19 v (ix2 r l) = v (ix2 r ⟨2560 + l.val, by omega⟩) := by
  unfold k0_pay19
  pointwise []

theorem pay23_at : k0_pay23 v (ix2 r l) = v (ix2 r ⟨3072 + l.val, by omega⟩) := by
  unfold k0_pay23
  pointwise []

variable (mu : Vec Ideal S1x512 .f32)

/-- The four mixed features. -/
theorem pay17_at : k0_pay17 (k0_pay14 v) (k0_pay15 v) (k0_pay16 (F := Ideal)) mu (ix2 r l)
    = Mixed.mix (fun s => v (ix2 (row s) ⟨1536 + l.val, by omega⟩)) (mu (ix2 0 l)) r.val := by
  refine (mixed_512 (k0_pay14 v) mu r l).trans ?_
  simp only [pay14_at]

theorem pay18_at : k0_pay18 v mu (ix2 r l) = Mixed.mix (fun s => v (ix2 (row s) ⟨2048 + l.val, by omega⟩)) (mu (ix2 0 l)) r.val := by
  refine (mixed_512 (extractStridedSlice S256x512 ![0, 2048] v slices_S256x3584_o0_2048_S256x512) mu r l).trans ?_
  simp only [slice_key]

theorem pay22_at : k0_pay22 (k0_pay19 v) (k0_pay20 v) k0_pay21 mu (ix2 r l)
    = Mixed.mix (fun s => v (ix2 (row s) ⟨2560 + l.val, by omega⟩)) (mu (ix2 0 l)) r.val := by
  refine (mixed_512 (k0_pay19 v) mu r l).trans ?_
  simp only [pay19_at]

theorem pay27_at : k0_pay27 (k0_pay23 v) (k0_pay24 v) (k0_pay25 v) k0_pay26 mu (ix2 r l)
    = Mixed.mix (fun s => v (ix2 (row s) ⟨3072 + l.val, by omega⟩)) (mu (ix2 0 l)) r.val := by
  refine (mixed_512 (k0_pay23 v) mu r l).trans ?_
  simp only [pay23_at]

end

/-- The three taps over the first 1536 columns. -/
theorem pay10_at (x : Vec Ideal S256x1024 .f32) (md : Vec Ideal S1x6x1024 .f32) (w : Vec Ideal S1024x3584 .bf16) (h : Vec Ideal S3x1536 .f32)
    (r : Fin 256) (j : Fin 1536) :
    k0_pay10 h (k0_pay6 x md w h) (k0_pay7 x md w) k0_pay8 k0_pay9 (ix2 r j)
      = Lines.short (fun s => k0_pay4 x md w (ix2 (row s) ⟨j.val, by omega⟩)) (fun k => h (ix2 k j)) r.val := by
  have e : ∀ s : Fin 256, k0_pay5 x md w (ix2 s j) = k0_pay4 x md w (ix2 s ⟨j.val, by omega⟩) := fun s => by
    unfold k0_pay5
    pointwise []
  refine (conv_gen (k0_pay5 x md w) h r j).trans ?_
  simp only [e]

section
variable (h : Vec Ideal S3x1536 .f32) (a b : FVec Ideal S256x1536 .f32) (i j : IVec S256x1536 32) (r : Fin 256) (l : Fin 512)

theorem pay11_at : k0_pay11 h a b i j (ix2 r l) = k0_pay10 h a b i j (ix2 r ⟨l.val, by omega⟩) := by
  unfold k0_pay11
  pointwise []
theorem pay12_at : k0_pay12 h a b i j (ix2 r l) = k0_pay10 h a b i j (ix2 r ⟨512 + l.val, by omega⟩) := by
  unfold k0_pay12
  pointwise []
theorem pay13_at : k0_pay13 h a b i j (ix2 r l) = k0_pay10 h a b i j (ix2 r ⟨1024 + l.val, by omega⟩) := by
  unfold k0_pay13
  pointwise []
end

section
variable (v : FVec Ideal S256x1024 .f32) (mu : Vec Ideal S1x1024 .f32) (w1 : Vec Ideal S1024x128 .bf16) (w2 : Vec Ideal S128x1024 .bf16)
  (w0 : Vec Ideal S1x1024 .f32) (r : Fin 256)

/-- The mixed features of the low-rank maps. -/
theorem pay29_at (k : Fin 1024) : k0_pay29 v mu (ix2 r k) = Mixed.mix (fun s => v (ix2 (row s) k)) (mu (ix2 0 k)) r.val := mixed_1024 v mu r k

theorem pay30_at (k : Fin 1024) : addf v (k0_pay30 v mu) (ix2 r k) = Mixed.mix (fun s => v (ix2 (row s) k)) (mu (ix2 0 k)) r.val := mixed_1024 v mu r k

/-- The two low-rank maps, both directions at once. -/
theorem pay31_at (j : Fin 1024) : k0_pay31 v w1 w2 w0 (ix2 r j)
    = (∑ q : Fin 128, Ideal.tanh (∑ k : Fin 1024, v (ix2 r k) * w1 (ix2 k q)) * w2 (ix2 q j)) + w0 (ix2 0 j) := by
  unfold k0_pay31
  pointwise [dot_S256x1024_S1024x128_S256x128_1_0_0_1_n_n, dot_S256x128_S128x1024_S256x1024_1_0_0_1_n_n]
  try rfl

theorem pay32_at (u : FVec Ideal S256x1024 .f32) (j : Fin 1024) : k0_pay32 v u w1 w2 w0 (ix2 r j)
    = (∑ q : Fin 128, (∑ k : Fin 1024, addf v u (ix2 r k) * w1 (ix2 k q)) * w2 (ix2 q j)) + w0 (ix2 0 j) := by
  unfold k0_pay32
  pointwise [dot_S256x1024_S1024x128_S256x128_1_0_0_1_n_n, dot_S256x128_S128x1024_S256x1024_1_0_0_1_n_n]
  try rfl
end

section
variable (k : FVec Ideal S256x512 .f32) (o : Vec Ideal S512x512 .bf16) (p q : Vec Ideal S1x512 .f32) (z : FVec Ideal S256x1024 .f32) (r : Fin 256) (l : Fin 512)

/-- The normalised removal key. -/
theorem pay39_at : k0_pay39 (k0_pay33 o) (k0_pay34 k p) (k0_pay37 k p) (k0_pay38 k o p) (constant S256x512 .f32 0x00000000#32) (ix2 r l)
    = k (ix2 r l) * p (ix2 0 l) * Ideal.rsqrt (Mixed.grouped (fun i => k (ix2 r i) * p (ix2 0 i) * (k (ix2 r i) * p (ix2 0 i))) (fun i l => o (ix2 i l)) l + Mixed.eps) := by
  unfold k0_pay39 k0_pay38 k0_pay37 k0_pay36 k0_pay35 k0_pay34 k0_pay33
  pointwise [dot_S256x512_S512x512_S256x512_1_0_0_1_n_n]
  try rfl

/-- The decays. -/
theorem pay40_at : k0_pay40 z (ix3 0 r l) = Mixed.fade (z (ix2 r ⟨l.val, by omega⟩)) := by
  unfold k0_pay40
  pointwise []
  simp only [zero_sub']
  rfl

theorem pay47_at : k0_pay47 (k0_pay46 z) (ix3 0 r l) = Mixed.fade (z (ix2 r ⟨512 + l.val, by omega⟩)) := by
  unfold k0_pay47 k0_pay46
  pointwise []
  simp only [zero_sub']
  rfl

/-- The gates. -/
theorem pay42_at : k0_pay42 (k0_pay41 z) (Scalar.ofBits .f32 0x3F800000#32) (ix2 r l) = Lines.sigmoid (z (ix2 r ⟨l.val, by omega⟩)) := by
  unfold k0_pay42 k0_pay41
  pointwise []
  simp only [zero_sub']
  rfl

theorem pay48_at : k0_pay48 z (ix2 r l) = Lines.sigmoid (z (ix2 r ⟨512 + l.val, by omega⟩)) := by
  unfold k0_pay48
  pointwise []
  simp only [zero_sub']
  rfl

/-- The written keys. -/
theorem pay43_at (c : Ideal .f32) (u : FVec Ideal S256x512 .f32) : k0_pay43 k u c p (ix2 r l) = Mixed.written (k (ix2 r l)) (k0_pay42 u c (ix2 r l)) (p (ix2 0 l)) := by
  unfold k0_pay43
  pointwise []
  rfl

theorem pay44_at (c : Ideal .f32) (u : FVec Ideal S256x512 .f32) : k0_pay44 k u c p (ix3 0 r l) = k0_pay43 k u c p (ix2 r l) := by
  unfold k0_pay44
  pointwise []

theorem pay49_at : k0_pay49 k z p (ix2 r l) = Mixed.written (k (ix2 r l)) (k0_pay48 z (ix2 r l)) (p (ix2 0 l)) := by
  unfold k0_pay49
  pointwise []
  rfl

theorem pay50_at : k0_pay50 k z p (ix3 0 r l) = k0_pay49 k z p (ix2 r l) := by
  unfold k0_pay50
  pointwise []

/-- The removal keys times the gates. -/
theorem pay45_at (c : Ideal .f32) (u : FVec Ideal S256x512 .f32) : k0_pay45 k u c (ix3 0 r l) = k (ix2 r l) * k0_pay42 u c (ix2 r l) := by
  unfold k0_pay45
  pointwise []

theorem pay51_at : k0_pay51 z k (ix3 0 r l) = k (ix2 r l) * k0_pay48 z (ix2 r l) := by
  unfold k0_pay51
  pointwise []

/-- The products that the bonus sums. -/
theorem pay52_at (rc d : FVec Ideal S256x512 .f32) : k0_pay52 rc k z d p q (ix2 r l)
    = rc (ix2 r l) * (d (ix2 r l) + k0_pay49 k z p (ix2 r l)) * q (ix2 0 l) := by
  unfold k0_pay52
  pointwise []

/-- The bonus. -/
theorem pay1_at (vv rc d : FVec Ideal S256x512 .f32) :
    k0_pay1 vv (k0_pay33 o) (k0_pay53 rc k z d p q) (k0_pay54 rc k z d p q) (constant S256x512 .f32 0x00000000#32) (ix2 r l)
      = Mixed.grouped (fun i => k0_pay52 rc k z d p q (ix2 r i)) (fun i l => o (ix2 i l)) l * vv (ix2 r l) := by
  unfold k0_pay1 k0_pay54 k0_pay53 k0_pay33
  pointwise [dot_S256x512_S512x512_S256x512_1_0_0_1_n_n]
  try rfl

/-- The output gate. -/
theorem pay2_at : k0_pay2 k (ix2 r l) = Lines.sigmoid (k (ix2 r l)) := by
  unfold k0_pay2
  pointwise []
  simp only [zero_sub']
  rfl
end

end Cert.CdInIdeal.Rowwise

end
-- ==== Proof.CdInBody.lean ====
/- The eleven blocks that the feature kernel of an odd layer stores, as functions of the blocks it reads. -/
module

public import proofs.«01_k».proof.Proof.CdInPay

@[expose] public section

set_option maxRecDepth 16384

noncomputable section

namespace Cert.CdInIdeal.Rowwise

open Cert.Lines (row)
open Cert.CdInIdeal Cert.CdInIdeal.Gen Idealize.ShloMosaic Idealize.ShloMosaic.TcCoe Idealize.SL.Sem
open Idealize.ShloMosaic.Pipeline (Dat)
open scoped BigOperators

variable (x0 : Vec Ideal S256x1024 .f32) (x1 : Vec Ideal S1x6x1024 .f32) (x2 : Vec Ideal S1024x3584 .bf16) (x3 : Vec Ideal S3x1536 .f32)
  (x4 : Vec Ideal S4x512 .f32) (x5 : Vec Ideal S2x1024 .f32) (x6 : Vec Ideal S1024x256 .bf16) (x7 : Vec Ideal S256x1024 .bf16)
  (x8 : Vec Ideal S2x1024 .f32) (x9 : Vec Ideal S1x512 .f32) (x10 : Vec Ideal S1x512 .f32) (x11 : Vec Ideal S1x512 .f32) (x12 : Vec Ideal S512x512 .bf16)

theorem ld_0 : View.ld x0 r0_0 = x0 := View.ld_unit_lit _ _ (by decide)
theorem ld_1 : View.ld x1 r0_1 = x1 := View.ld_unit_lit _ _ (by decide)
theorem ld_2 : View.ld x2 r0_2 = x2 := View.ld_unit_lit _ _ (by decide)
theorem ld_3 : View.ld x3 r0_3 = x3 := View.ld_unit_lit _ _ (by decide)
theorem ld_row (x : Vec Ideal S1x512 .f32) : View.ld x r0_16 = x := View.ld_unit_lit _ _ (by decide)
theorem ld_12 : View.ld x12 r0_15 = x12 := View.ld_unit_lit _ _ (by decide)

theorem ld_mu0 (l : Fin 512) : View.ld x4 r0_5 (ix2 0 l) = x4 (ix2 0 l) :=
  View.ld_unit_apply_of _ _ _ _ _ _ fun | ⟨0, _⟩ => rfl | ⟨1, _⟩ => (Nat.zero_add _).symm
theorem ld_mu1 (l : Fin 512) : View.ld x4 r0_6 (ix2 0 l) = x4 (ix2 1 l) :=
  View.ld_unit_apply_of _ _ _ _ _ _ fun | ⟨0, _⟩ => rfl | ⟨1, _⟩ => (Nat.zero_add _).symm
theorem ld_mu2 (l : Fin 512) : View.ld x4 r0_7 (ix2 0 l) = x4 (ix2 2 l) :=
  View.ld_unit_apply_of _ _ _ _ _ _ fun | ⟨0, _⟩ => rfl | ⟨1, _⟩ => (Nat.zero_add _).symm
theorem ld_mu3 (l : Fin 512) : View.ld x4 r0_8 (ix2 0 l) = x4 (ix2 3 l) :=
  View.ld_unit_apply_of _ _ _ _ _ _ fun | ⟨0, _⟩ => rfl | ⟨1, _⟩ => (Nat.zero_add _).symm
theorem ld_first (x : Vec Ideal S2x1024 .f32) (k : Fin 1024) : View.ld x r0_9 (ix2 0 k) = x (ix2 0 k) :=
  View.ld_unit_apply_of _ _ _ _ _ _ fun | ⟨0, _⟩ => rfl | ⟨1, _⟩ => (Nat.zero_add _).symm
theorem ld_second (x : Vec Ideal S2x1024 .f32) (k : Fin 1024) : View.ld x r0_10 (ix2 0 k) = x (ix2 1 k) :=
  View.ld_unit_apply_of _ _ _ _ _ _ fun | ⟨0, _⟩ => rfl | ⟨1, _⟩ => (Nat.zero_add _).symm
theorem ld_left (k : Fin 1024) (q : Fin 128) : View.ld x6 r0_11 (ix2 k q) = x6 (ix2 k ⟨q.val, by omega⟩) :=
  View.ld_unit_apply_of _ _ _ _ _ _ fun | ⟨0, _⟩ => (Nat.zero_add _).symm | ⟨1, _⟩ => (Nat.zero_add _).symm
theorem ld_right (k : Fin 1024) (q : Fin 128) : View.ld x6 r0_12 (ix2 k q) = x6 (ix2 k ⟨128 + q.val, by omega⟩) :=
  View.ld_unit_apply_of _ _ _ _ _ _ fun | ⟨0, _⟩ => (Nat.zero_add _).symm | ⟨1, _⟩ => rfl
theorem ld_up (q : Fin 128) (k : Fin 1024) : View.ld x7 r0_13 (ix2 q k) = x7 (ix2 ⟨q.val, by omega⟩ k) :=
  View.ld_unit_apply_of _ _ _ _ _ _ fun | ⟨0, _⟩ => (Nat.zero_add _).symm | ⟨1, _⟩ => (Nat.zero_add _).symm
theorem ld_down (q : Fin 128) (k : Fin 1024) : View.ld x7 r0_14 (ix2 q k) = x7 (ix2 ⟨128 + q.val, by omega⟩ k) :=
  View.ld_unit_apply_of _ _ _ _ _ _ fun | ⟨0, _⟩ => rfl | ⟨1, _⟩ => (Nat.zero_add _).symm

/-- The block's modulated and projected rows. -/
def mods (r : Fin 256) : Fin 1024 → EReal := Rows.modulate (fun k => x0 (ix2 r k)) (fun k => x1 (ix3 0 0 k)) (fun k => x1 (ix3 0 1 k))
def rows (r : Fin 256) : Fin 3584 → EReal :=
  Mixed.project (fun k => x0 (ix2 r k)) (fun k => x1 (ix3 0 0 k)) (fun k => x1 (ix3 0 1 k)) (fun q k => x2 (ix2 q k))

/-- The block's four mixed features, and those of the low-rank maps. -/
def bR (r : Fin 256) (l : Fin 512) : EReal := Mixed.mix (fun s => rows x0 x1 x2 (row s) ⟨1536 + l.val, by omega⟩) (x4 (ix2 0 l)) r.val
def bK (r : Fin 256) (l : Fin 512) : EReal := Mixed.mix (fun s => rows x0 x1 x2 (row s) ⟨2048 + l.val, by omega⟩) (x4 (ix2 1 l)) r.val
def bV (r : Fin 256) (l : Fin 512) : EReal := Mixed.mix (fun s => rows x0 x1 x2 (row s) ⟨2560 + l.val, by omega⟩) (x4 (ix2 2 l)) r.val
def bG (r : Fin 256) (l : Fin 512) : EReal := Mixed.mix (fun s => rows x0 x1 x2 (row s) ⟨3072 + l.val, by omega⟩) (x4 (ix2 3 l)) r.val
def bF (e : Fin 2) (r : Fin 256) (k : Fin 1024) : EReal := Mixed.mix (fun s => mods x0 x1 (row s) k) (x5 (ix2 e k)) r.val

/-- The block's raw decays and raw gates, both directions side by side. -/
def bW (r : Fin 256) (j : Fin 1024) : EReal :=
  (∑ q : Fin 128, Ideal.tanh (∑ k : Fin 1024, bF x0 x1 x5 0 r k * x6 (ix2 k ⟨q.val, by omega⟩)) * x7 (ix2 ⟨q.val, by omega⟩ j)) + x8 (ix2 0 j)
def bA (r : Fin 256) (j : Fin 1024) : EReal :=
  (∑ q : Fin 128, (∑ k : Fin 1024, bF x0 x1 x5 1 r k * x6 (ix2 k ⟨128 + q.val, by omega⟩)) * x7 (ix2 ⟨128 + q.val, by omega⟩ j)) + x8 (ix2 1 j)

/-- The block's normalised removal keys, and its written keys. -/
def bU (r : Fin 256) (l : Fin 512) : EReal :=
  bK x0 x1 x2 x4 r l * x9 (ix2 0 l) * Ideal.rsqrt (Mixed.grouped (fun i => bK x0 x1 x2 x4 r i * x9 (ix2 0 i) * (bK x0 x1 x2 x4 r i * x9 (ix2 0 i)))
    (fun i l => x12 (ix2 i l)) l + Mixed.eps)
def bD (r : Fin 256) (l : Fin 512) (j : Fin 1024) : EReal := Mixed.written (bK x0 x1 x2 x4 r l) (Lines.sigmoid (bA x0 x1 x5 x6 x7 x8 r j)) (x10 (ix2 0 l))

theorem pay55_at (r : Fin 256) (k : Fin 1024) : k0_pay55 x0 x1 x2 x3 x4 x5 x6 x7 x8 x9 x10 x11 x12 (ix2 r k) = mods x0 x1 r k := by
  unfold k0_pay55
  rw [ld_0, ld_1, pay3_at]
  rfl

theorem pay56_at (r : Fin 256) (j : Fin 3584) : k0_pay56 x0 x1 x2 x3 x4 x5 x6 x7 x8 x9 x10 x11 x12 (ix2 r j) = rows x0 x1 x2 r j := by
  unfold k0_pay56
  rw [ld_0, ld_1, ld_2, pay4_at]
  rfl

theorem pay61_at (r : Fin 256) (l : Fin 512) : k0_pay61 x0 x1 x2 x3 x4 x5 x6 x7 x8 x9 x10 x11 x12 (ix2 r l) = bR x0 x1 x2 x4 r l := by
  unfold k0_pay61 bR
  rw [pay17_at, ld_mu0]
  simp only [pay56_at]

theorem pay62_at (r : Fin 256) (l : Fin 512) : k0_pay62 x0 x1 x2 x3 x4 x5 x6 x7 x8 x9 x10 x11 x12 (ix2 r l) = bK x0 x1 x2 x4 r l := by
  unfold k0_pay62 bK
  rw [pay18_at, ld_mu1]
  simp only [pay56_at]

theorem pay63_at (r : Fin 256) (l : Fin 512) : k0_pay63 x0 x1 x2 x3 x4 x5 x6 x7 x8 x9 x10 x11 x12 (ix2 r l) = bV x0 x1 x2 x4 r l := by
  unfold k0_pay63 bV
  rw [pay22_at, ld_mu2]
  simp only [pay56_at]

theorem pay65_at (r : Fin 256) (j : Fin 1024) : k0_pay65 x0 x1 x2 x3 x4 x5 x6 x7 x8 x9 x10 x11 x12 (ix2 r j) = bW x0 x1 x5 x6 x7 x8 r j := by
  unfold k0_pay65 bW bF
  rw [pay31_at, ld_first]
  simp only [pay29_at, pay55_at]
  exact congrArg (· + x8 (ix2 0 j)) (Finset.sum_congr rfl fun q _ => congrArg₂ (fun a b => Ideal.tanh a * b)
    (Finset.sum_congr rfl fun k _ => congrArg₂ (fun a b => Mixed.mix (fun s => mods x0 x1 (row s) k) a r.val * b) (ld_first x5 k) (ld_left x6 k q))
    (ld_up x7 q j))

theorem pay66_at (r : Fin 256) (j : Fin 1024) : k0_pay66 x0 x1 x2 x3 x4 x5 x6 x7 x8 x9 x10 x11 x12 (ix2 r j) = bA x0 x1 x5 x6 x7 x8 r j := by
  unfold k0_pay66 bA bF
  rw [pay32_at, ld_second]
  simp only [pay30_at, pay55_at]
  exact congrArg (· + x8 (ix2 1 j)) (Finset.sum_congr rfl fun q _ => congrArg₂ (fun a b => a * b)
    (Finset.sum_congr rfl fun k _ => congrArg₂ (fun a b => Mixed.mix (fun s => mods x0 x1 (row s) k) a r.val * b) (ld_second x5 k) (ld_right x6 k q))
    (ld_down x7 q j))

theorem pay71_at (r : Fin 256) (l : Fin 512) : k0_pay39 (k0_pay67 x0 x1 x2 x3 x4 x5 x6 x7 x8 x9 x10 x11 x12) (k0_pay68 x0 x1 x2 x3 x4 x5 x6 x7 x8 x9 x10 x11 x12)
    (k0_pay69 x0 x1 x2 x3 x4 x5 x6 x7 x8 x9 x10 x11 x12) (k0_pay70 x0 x1 x2 x3 x4 x5 x6 x7 x8 x9 x10 x11 x12) (k0_pay64 x0 x1 x2 x3 x4 x5 x6 x7 x8 x9 x10 x11 x12) (ix2 r l)
      = bU x0 x1 x2 x4 x9 x12 r l := by
  unfold k0_pay67 k0_pay68 k0_pay69 k0_pay70 k0_pay64 bU
  rw [ld_row x9, ld_12, pay39_at]
  simp only [pay62_at]

theorem pay42_zero (r : Fin 256) (l : Fin 512) : k0_pay42 (k0_pay72 x0 x1 x2 x3 x4 x5 x6 x7 x8 x9 x10 x11 x12) (Scalar.ofBits .f32 0x3F800000#32) (ix2 r l)
    = Lines.sigmoid (bA x0 x1 x5 x6 x7 x8 r ⟨l.val, by omega⟩) := by
  unfold k0_pay72
  rw [pay42_at, pay66_at]

theorem pay73_at (r : Fin 256) (l : Fin 512) : k0_pay43 (k0_pay62 x0 x1 x2 x3 x4 x5 x6 x7 x8 x9 x10 x11 x12) (k0_pay72 x0 x1 x2 x3 x4 x5 x6 x7 x8 x9 x10 x11 x12)
    (Scalar.ofBits .f32 0x3F800000#32) (View.ld x10 r0_16) (ix2 r l) = bD x0 x1 x2 x4 x5 x6 x7 x8 x10 r l ⟨l.val, by omega⟩ := by
  rw [pay43_at, pay42_zero, pay62_at, ld_row]
  rfl

theorem pay49_one (r : Fin 256) (l : Fin 512) : k0_pay49 (k0_pay62 x0 x1 x2 x3 x4 x5 x6 x7 x8 x9 x10 x11 x12) (k0_pay66 x0 x1 x2 x3 x4 x5 x6 x7 x8 x9 x10 x11 x12)
    (View.ld x10 r0_16) (ix2 r l) = bD x0 x1 x2 x4 x5 x6 x7 x8 x10 r l ⟨512 + l.val, by omega⟩ := by
  rw [pay49_at, pay48_at, pay66_at, pay62_at, ld_row]
  rfl

/-- The three convolved features. -/
theorem conv_at (r : Fin 256) (j : Fin 1536) :
    k0_pay10 (View.ld x3 r0_3) (k0_pay57 x0 x1 x2 x3 x4 x5 x6 x7 x8 x9 x10 x11 x12) (k0_pay58 x0 x1 x2 x3 x4 x5 x6 x7 x8 x9 x10 x11 x12)
      (k0_pay59 x0 x1 x2 x3 x4 x5 x6 x7 x8 x9 x10 x11 x12) (k0_pay60 x0 x1 x2 x3 x4 x5 x6 x7 x8 x9 x10 x11 x12) (ix2 r j)
      = Lines.short (fun s => rows x0 x1 x2 (row s) ⟨j.val, by omega⟩) (fun k => x3 (ix2 k j)) r.val := by
  unfold k0_pay57 k0_pay58 k0_pay59 k0_pay60
  rw [pay10_at, ld_0, ld_1, ld_2, ld_3]
  simp only [pay4_at]
  rfl

theorem out13_at (r : Fin 256) (l : Fin 512) : out0_13 x0 x1 x2 x3 x4 x5 x6 x7 x8 x9 x10 x11 x12 (ix2 r l)
    = Lines.short (fun s => rows x0 x1 x2 (row s) ⟨l.val, by omega⟩) (fun k => x3 (ix2 k ⟨l.val, by omega⟩)) r.val := by
  unfold out0_13
  rw [View.canon_unit_zero (by decide), pay11_at, conv_at]

theorem out14_at (r : Fin 256) (l : Fin 512) : out0_14 x0 x1 x2 x3 x4 x5 x6 x7 x8 x9 x10 x11 x12 (ix2 r l)
    = Lines.short (fun s => rows x0 x1 x2 (row s) ⟨512 + l.val, by omega⟩) (fun k => x3 (ix2 k ⟨512 + l.val, by omega⟩)) r.val := by
  unfold out0_14
  rw [View.canon_unit_zero (by decide), pay12_at, conv_at]

theorem out15_at (r : Fin 256) (l : Fin 512) : out0_15 x0 x1 x2 x3 x4 x5 x6 x7 x8 x9 x10 x11 x12 (ix2 r l)
    = Lines.short (fun s => rows x0 x1 x2 (row s) ⟨1024 + l.val, by omega⟩) (fun k => x3 (ix2 k ⟨1024 + l.val, by omega⟩)) r.val := by
  unfold out0_15
  rw [View.canon_unit_zero (by decide), pay13_at, conv_at]

/-- The receptance, the values and the removal keys. -/
theorem out16_at (r : Fin 256) (l : Fin 512) : out0_16 x0 x1 x2 x3 x4 x5 x6 x7 x8 x9 x10 x11 x12 (ix2 r l) = bR x0 x1 x2 x4 r l := by
  unfold out0_16
  rw [View.canon_unit_zero (by decide), pay61_at]

theorem out17_at (r : Fin 256) (l : Fin 512) : out0_17 x0 x1 x2 x3 x4 x5 x6 x7 x8 x9 x10 x11 x12 (ix2 r l) = bV x0 x1 x2 x4 r l := by
  unfold out0_17
  rw [View.canon_unit_zero (by decide), pay63_at]

theorem out18_at (r : Fin 256) (l : Fin 512) : out0_18 x0 x1 x2 x3 x4 x5 x6 x7 x8 x9 x10 x11 x12 (ix2 r l) = bU x0 x1 x2 x4 x9 x12 r l := by
  unfold out0_18
  rw [View.canon_unit_zero (by decide), pay71_at]

theorem slab_one (r : Fin 256) (l : Fin 512) : r0_18.emb (ix3 0 r l) = ix3 1 r l :=
  funext fun | ⟨0, _⟩ => rfl | ⟨1, _⟩ => Fin.ext (by simp [r0_18]) | ⟨2, _⟩ => Fin.ext (by simp [r0_18])

theorem slab_zero (r : Fin 256) (l : Fin 512) : r0_17.emb (ix3 0 r l) = ix3 0 r l :=
  funext fun | ⟨0, _⟩ => rfl | ⟨1, _⟩ => Fin.ext (by simp [r0_17]) | ⟨2, _⟩ => Fin.ext (by simp [r0_17])

theorem slab_off (r : Fin 256) (l : Fin 512) : (ix3 0 r l : S2x256x512.Idx) ∉ r0_18.set := fun h => by
  have h0 := (Rect.mem_set_unit.mp h (0 : Fin 3)).1
  exact absurd (show 1 ≤ 0 from h0) (by decide)

/-- The decays of the two directions. -/
theorem out19_zero (r : Fin 256) (l : Fin 512) : out0_19 x0 x1 x2 x3 x4 x5 x6 x7 x8 x9 x10 x11 x12 (ix3 0 r l)
    = Mixed.fade (bW x0 x1 x5 x6 x7 x8 r ⟨l.val, by omega⟩) := by
  unfold out0_19
  rw [View.canon_cons_of_not_mem ⟨r0_18, _⟩ _ (slab_off r l), ← slab_zero r l, View.canon_cons_emb, pay40_at, pay65_at]

theorem out19_one (r : Fin 256) (l : Fin 512) : out0_19 x0 x1 x2 x3 x4 x5 x6 x7 x8 x9 x10 x11 x12 (ix3 1 r l)
    = Mixed.fade (bW x0 x1 x5 x6 x7 x8 r ⟨512 + l.val, by omega⟩) := by
  unfold out0_19
  rw [← slab_one r l, View.canon_cons_emb, pay47_at, pay65_at]

/-- The written keys of the two directions. -/
theorem out20_zero (r : Fin 256) (l : Fin 512) : out0_20 x0 x1 x2 x3 x4 x5 x6 x7 x8 x9 x10 x11 x12 (ix3 0 r l)
    = bD x0 x1 x2 x4 x5 x6 x7 x8 x10 r l ⟨l.val, by omega⟩ := by
  unfold out0_20
  rw [View.canon_cons_of_not_mem ⟨r0_18, _⟩ _ (slab_off r l), ← slab_zero r l, View.canon_cons_emb, pay44_at, pay73_at]

theorem out20_one (r : Fin 256) (l : Fin 512) : out0_20 x0 x1 x2 x3 x4 x5 x6 x7 x8 x9 x10 x11 x12 (ix3 1 r l)
    = bD x0 x1 x2 x4 x5 x6 x7 x8 x10 r l ⟨512 + l.val, by omega⟩ := by
  unfold out0_20
  rw [← slab_one r l, View.canon_cons_emb, pay50_at, pay49_one]

/-- The removal keys times the gates of the two directions. -/
theorem out21_zero (r : Fin 256) (l : Fin 512) : out0_21 x0 x1 x2 x3 x4 x5 x6 x7 x8 x9 x10 x11 x12 (ix3 0 r l)
    = bU x0 x1 x2 x4 x9 x12 r l * Lines.sigmoid (bA x0 x1 x5 x6 x7 x8 r ⟨l.val, by omega⟩) := by
  unfold out0_21
  rw [View.canon_cons_of_not_mem ⟨r0_18, _⟩ _ (slab_off r l), ← slab_zero r l, View.canon_cons_emb, pay45_at, pay42_zero]
  unfold k0_pay71
  rw [pay71_at]

theorem out21_one (r : Fin 256) (l : Fin 512) : out0_21 x0 x1 x2 x3 x4 x5 x6 x7 x8 x9 x10 x11 x12 (ix3 1 r l)
    = bU x0 x1 x2 x4 x9 x12 r l * Lines.sigmoid (bA x0 x1 x5 x6 x7 x8 r ⟨512 + l.val, by omega⟩) := by
  unfold out0_21
  rw [← slab_one r l, View.canon_cons_emb, pay51_at, pay48_at, pay66_at]
  unfold k0_pay71
  rw [pay71_at]

/-- The bonus. -/
theorem out22_at (r : Fin 256) (l : Fin 512) : out0_22 x0 x1 x2 x3 x4 x5 x6 x7 x8 x9 x10 x11 x12 (ix2 r l)
    = Mixed.grouped (fun i => bR x0 x1 x2 x4 r i * (bD x0 x1 x2 x4 x5 x6 x7 x8 x10 r i ⟨i.val, by omega⟩ + bD x0 x1 x2 x4 x5 x6 x7 x8 x10 r i ⟨512 + i.val, by omega⟩)
        * x11 (ix2 0 i)) (fun i l => x12 (ix2 i l)) l * bV x0 x1 x2 x4 r l := by
  unfold out0_22 k0_pay67
  rw [View.canon_unit_zero (by decide), ld_12, ld_row x11, pay1_at, pay63_at]
  unfold k0_pay73
  simp only [pay52_at, pay61_at, pay73_at, pay49_one]

/-- The output gate. -/
theorem out23_at (r : Fin 256) (l : Fin 512) : out0_23 x0 x1 x2 x3 x4 x5 x6 x7 x8 x9 x10 x11 x12 (ix2 r l) = Lines.sigmoid (bG x0 x1 x2 x4 r l) := by
  unfold out0_23 bG
  rw [View.canon_unit_zero (by decide), pay2_at, pay27_at, ld_mu3]
  simp only [pay56_at]

end Cert.CdInIdeal.Rowwise

end
-- ==== Proof.CdInHost.lean ====
/- What the windows of the feature kernel of an odd layer hold at a grid point, in terms of the call's arguments: the
   reshaped tokens, the low-rank matrices side by side, and the matrix of ones that sums over a head. -/
module

public import proofs.«01_k».proof.Proof.CdInRows
public import proofs.«01_k».proof.Proof.CdInRun
public import Idealize.ShloMosaic.Lib.Pipeline.ValueKit
public import Idealize.ShloMosaic.Lib.StableHlo.ReadAt

@[expose] public section

set_option maxRecDepth 16384

noncomputable section

namespace Cert.CdInIdeal.Rowwise

open Cert.CdInIdeal Cert.CdInIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The unit matrix of the heads, as the host computes it. -/
theorem bit_eye : ∀ a b : Fin 8, IntOp.cmpi .eq (IntOp.addi (BitVec.ofNat 32 a.val) 0#32) (BitVec.ofNat 32 b.val)
    = if a.val = b.val then 1#1 else 0#1 := by decide +kernel

theorem eye_at (a b : Fin 8) :
    (FloatOps.uitofp .f32 (IntOp.cmpi .eq (IntOp.addi (BitVec.ofNat 32 a.val) 0#32) (BitVec.ofNat 32 b.val)) : Ideal .f32)
      = if a.val = b.val then (1 : EReal) else 0 := by
  rw [bit_eye]
  by_cases h : a.val = b.val
  · rw [if_pos h, if_pos h]
    show ((((1#1 : BitVec 1).toNat : ℝ)) : EReal) = 1
    simp
  · rw [if_neg h, if_neg h]
    show ((((0#1 : BitVec 1).toNat : ℝ)) : EReal) = 0
    simp

/-- The arguments as arrays. -/
abbrev X (c : Dev nD) : Vec Ideal S8x4096x1024 .f32 := m ((c : Thread nD τ).loc main_arg0)
abbrev MD (c : Dev nD) : Vec Ideal S8x6x1024 .f32 := m ((c : Thread nD τ).loc main_arg1)
abbrev WP (c : Dev nD) : Vec Ideal S1024x3584 .f32 := m ((c : Thread nD τ).loc main_arg2)
abbrev HY (c : Dev nD) : Vec Ideal S3x1536 .f32 := m ((c : Thread nD τ).loc main_arg3)
abbrev MU (c : Dev nD) : Vec Ideal S4x512 .f32 := m ((c : Thread nD τ).loc main_arg4)
abbrev MX (c : Dev nD) : Vec Ideal S2x1024 .f32 := m ((c : Thread nD τ).loc main_arg5)
abbrev W0 (c : Dev nD) : Vec Ideal S2x512 .f32 := m ((c : Thread nD τ).loc main_arg6)
abbrev W1 (c : Dev nD) : Vec Ideal S2x1024x64 .f32 := m ((c : Thread nD τ).loc main_arg7)
abbrev W2 (c : Dev nD) : Vec Ideal S2x64x512 .f32 := m ((c : Thread nD τ).loc main_arg8)
abbrev A0 (c : Dev nD) : Vec Ideal S2x512 .f32 := m ((c : Thread nD τ).loc main_arg9)
abbrev A1 (c : Dev nD) : Vec Ideal S2x1024x64 .f32 := m ((c : Thread nD τ).loc main_arg10)
abbrev A2 (c : Dev nD) : Vec Ideal S2x64x512 .f32 := m ((c : Thread nD τ).loc main_arg11)
abbrev KP (c : Dev nD) : Vec Ideal S512 .f32 := m ((c : Thread nD τ).loc main_arg12)
abbrev KA (c : Dev nD) : Vec Ideal S512 .f32 := m ((c : Thread nD τ).loc main_arg13)
abbrev RK (c : Dev nD) : Vec Ideal S8x64 .f32 := m ((c : Thread nD τ).loc main_arg14)

/-- The arguments of the call. -/
def args (c : Dev nD) : Mixed.Args :=
  Mixed.ofArrays (X m c) (MD m c) (WP m c) (HY m c) (MU m c) (MX m c) (W0 m c) (W1 m c) (W2 m c) (A0 m c) (A1 m c) (A2 m c) (KP m c) (KA m c) (RK m c)

/-- The flat tokens. -/
theorem host_x (c : Dev nD) (s : Fin 32768) (k : Fin 1024) :
    (V m c main_v28 : Vec Ideal S32768x1024 .f32) (ix2 s k) = X m c (ix3 ⟨s.val / 4096, by omega⟩ ⟨s.val % 4096, by omega⟩ k) := by
  unfold V
  simp only [hostOps0]
  after_reads_at

/-- The projection's matrix, cast. -/
theorem host_w (c : Dev nD) (s : Fin 1024) (k : Fin 3584) :
    (V m c main_v29 : Vec Ideal S1024x3584 .bf16) (ix2 s k) = WP m c (ix2 s k) := by
  unfold V
  simp only [hostOps0]
  after_reads_at

/-- The scale of the removal keys as a row. -/
theorem host_kp (c : Dev nD) (k : Fin 512) :
    (V m c main_v32 : Vec Ideal S1x512 .f32) (ix2 0 k) = KP m c (ix1 k) := by
  unfold V
  simp only [hostOps0]
  after_reads_at

/-- The share of the gates as a row. -/
theorem host_ka (c : Dev nD) (k : Fin 512) :
    (V m c main_v33 : Vec Ideal S1x512 .f32) (ix2 0 k) = KA m c (ix1 k) := by
  unfold V
  simp only [hostOps0]
  after_reads_at

/-- The weights of the bonus as a row. -/
theorem host_rk (c : Dev nD) (k : Fin 512) :
    (V m c main_v34 : Vec Ideal S1x512 .f32) (ix2 0 k) = RK m c (ix2 (Lines.head k) (Lines.place k)) := by
  unfold V
  simp only [hostOps0]
  after_reads_at

/-- The matrix of ones that sums over a head. -/
theorem host_ones (c : Dev nD) (p l : Fin 512) :
    (V m c main_v48 : Vec Ideal S512x512 .bf16) (ix2 p l) = 1 * if (Lines.head p).val = (Lines.head l).val then (1 : EReal) else 0 := by
  unfold V
  simp only [hostOps0]
  after_reads_at
  exact eye_at (Lines.head p) (Lines.head l)

/-- A block of columns of the low-rank matrices that lead down. -/
theorem host_w1_0 (c : Dev nD) (k : Fin 1024) (i : Fin 64) :
    (V m c main_v30 : Vec Ideal S1024x256 .bf16) (ix2 k ⟨i.val, by omega⟩) = W1 m c (ix3 0 k i) := by
  unfold V
  simp only [hostOps0]
  after_reads_at
  after_reads_at

/-- A block of columns of the low-rank matrices that lead down. -/
theorem host_w1_1 (c : Dev nD) (k : Fin 1024) (i : Fin 64) :
    (V m c main_v30 : Vec Ideal S1024x256 .bf16) (ix2 k ⟨64 + i.val, by omega⟩) = W1 m c (ix3 1 k i) := by
  unfold V
  simp only [hostOps0]
  after_reads_at
  after_reads_at

/-- A block of columns of the low-rank matrices that lead down. -/
theorem host_a1_0 (c : Dev nD) (k : Fin 1024) (i : Fin 64) :
    (V m c main_v30 : Vec Ideal S1024x256 .bf16) (ix2 k ⟨128 + i.val, by omega⟩) = A1 m c (ix3 0 k i) := by
  unfold V
  simp only [hostOps0]
  after_reads_at
  after_reads_at
  rw [dif_neg (by omega), dif_neg (by omega), dif_pos (by omega)]
  exact congrArg (fun z => m (c, Proc.tc.devRef main_arg10) (ix3 0 k z)) (Fin.ext (by show 128 + i.val - 64 - 64 = i.val; omega))

/-- A block of columns of the low-rank matrices that lead down. -/
theorem host_a1_1 (c : Dev nD) (k : Fin 1024) (i : Fin 64) :
    (V m c main_v30 : Vec Ideal S1024x256 .bf16) (ix2 k ⟨192 + i.val, by omega⟩) = A1 m c (ix3 1 k i) := by
  unfold V
  simp only [hostOps0]
  after_reads_at
  after_reads_at
  rw [dif_neg (by omega), dif_neg (by omega), dif_neg (by omega)]
  exact congrArg (fun z => m (c, Proc.tc.devRef main_arg10) (ix3 1 k z)) (Fin.ext (by show 192 + i.val - 64 - 64 - 64 = i.val; omega))

/-- A block of the low-rank matrices that lead up. -/
theorem host_w2_00 (c : Dev nD) (i : Fin 64) (l : Fin 512) :
    (V m c main_v31 : Vec Ideal S256x1024 .bf16) (ix2 ⟨i.val, by omega⟩ ⟨l.val, by omega⟩) = W2 m c (ix3 0 i l) := by
  unfold V
  simp only [hostOps0]
  after_reads_at
  after_reads_at

/-- A block of the low-rank matrices that lead up. -/
theorem host_w2_01 (c : Dev nD) (i : Fin 64) (l : Fin 512) :
    (V m c main_v31 : Vec Ideal S256x1024 .bf16) (ix2 ⟨i.val, by omega⟩ ⟨512 + l.val, by omega⟩) = (0 : EReal) := by
  unfold V
  simp only [hostOps0]
  after_reads_at
  after_reads_at

/-- A block of the low-rank matrices that lead up. -/
theorem host_w2_10 (c : Dev nD) (i : Fin 64) (l : Fin 512) :
    (V m c main_v31 : Vec Ideal S256x1024 .bf16) (ix2 ⟨64 + i.val, by omega⟩ ⟨l.val, by omega⟩) = (0 : EReal) := by
  unfold V
  simp only [hostOps0]
  after_reads_at
  after_reads_at

/-- A block of the low-rank matrices that lead up. -/
theorem host_w2_11 (c : Dev nD) (i : Fin 64) (l : Fin 512) :
    (V m c main_v31 : Vec Ideal S256x1024 .bf16) (ix2 ⟨64 + i.val, by omega⟩ ⟨512 + l.val, by omega⟩) = W2 m c (ix3 1 i l) := by
  unfold V
  simp only [hostOps0]
  after_reads_at
  after_reads_at

/-- A block of the low-rank matrices that lead up. -/
theorem host_a2_00 (c : Dev nD) (i : Fin 64) (l : Fin 512) :
    (V m c main_v31 : Vec Ideal S256x1024 .bf16) (ix2 ⟨128 + i.val, by omega⟩ ⟨l.val, by omega⟩) = A2 m c (ix3 0 i l) := by
  unfold V
  simp only [hostOps0]
  after_reads_at
  after_reads_at
  rw [dif_neg (by omega), dif_neg (by omega), dif_pos (by omega)]
  exact congrArg (fun z => m (c, Proc.tc.devRef main_arg11) (ix3 0 z l)) (Fin.ext (by show 128 + i.val - 64 - 64 = i.val; omega))

/-- A block of the low-rank matrices that lead up. -/
theorem host_a2_01 (c : Dev nD) (i : Fin 64) (l : Fin 512) :
    (V m c main_v31 : Vec Ideal S256x1024 .bf16) (ix2 ⟨128 + i.val, by omega⟩ ⟨512 + l.val, by omega⟩) = (0 : EReal) := by
  unfold V
  simp only [hostOps0]
  after_reads_at
  after_reads_at
  rw [dif_neg (by omega), dif_neg (by omega), dif_pos (by omega)]

/-- A block of the low-rank matrices that lead up. -/
theorem host_a2_10 (c : Dev nD) (i : Fin 64) (l : Fin 512) :
    (V m c main_v31 : Vec Ideal S256x1024 .bf16) (ix2 ⟨192 + i.val, by omega⟩ ⟨l.val, by omega⟩) = (0 : EReal) := by
  unfold V
  simp only [hostOps0]
  after_reads_at
  after_reads_at
  rw [dif_neg (by omega), dif_neg (by omega), dif_neg (by omega)]

/-- A block of the low-rank matrices that lead up. -/
theorem host_a2_11 (c : Dev nD) (i : Fin 64) (l : Fin 512) :
    (V m c main_v31 : Vec Ideal S256x1024 .bf16) (ix2 ⟨192 + i.val, by omega⟩ ⟨512 + l.val, by omega⟩) = A2 m c (ix3 1 i l) := by
  unfold V
  simp only [hostOps0]
  after_reads_at
  after_reads_at
  rw [dif_neg (by omega), dif_neg (by omega), dif_neg (by omega)]
  exact congrArg (fun z => m (c, Proc.tc.devRef main_arg11) (ix3 1 z l)) (Fin.ext (by show 192 + i.val - 64 - 64 - 64 = i.val; omega))

/-- The offsets of the low-rank maps. -/
theorem host_w0_0 (c : Dev nD) (l : Fin 512) :
    (V m c main_v27 : Vec Ideal S2x1024 .f32) (ix2 0 ⟨l.val, by omega⟩) = W0 m c (ix2 0 l) := by
  unfold V
  simp only [hostOps0]
  after_reads_at
  exact congrArg₂ (fun a b => m (c, Proc.tc.devRef main_arg6) (ix2 a b)) (Fin.ext (by show (l.val) / 512 = 0; omega))
    (Fin.ext (by show (l.val) % 512 = l.val; omega))

/-- The offsets of the low-rank maps. -/
theorem host_w0_1 (c : Dev nD) (l : Fin 512) :
    (V m c main_v27 : Vec Ideal S2x1024 .f32) (ix2 0 ⟨512 + l.val, by omega⟩) = W0 m c (ix2 1 l) := by
  unfold V
  simp only [hostOps0]
  after_reads_at
  exact congrArg₂ (fun a b => m (c, Proc.tc.devRef main_arg6) (ix2 a b)) (Fin.ext (by show (512 + l.val) / 512 = 1; omega))
    (Fin.ext (by show (512 + l.val) % 512 = l.val; omega))

/-- The offsets of the low-rank maps. -/
theorem host_a0_0 (c : Dev nD) (l : Fin 512) :
    (V m c main_v27 : Vec Ideal S2x1024 .f32) (ix2 1 ⟨l.val, by omega⟩) = A0 m c (ix2 0 l) := by
  unfold V
  simp only [hostOps0]
  after_reads_at
  exact congrArg₂ (fun a b => m (c, Proc.tc.devRef main_arg9) (ix2 a b)) (Fin.ext (by show (l.val) / 512 = 0; omega))
    (Fin.ext (by show (l.val) % 512 = l.val; omega))

/-- The offsets of the low-rank maps. -/
theorem host_a0_1 (c : Dev nD) (l : Fin 512) :
    (V m c main_v27 : Vec Ideal S2x1024 .f32) (ix2 1 ⟨512 + l.val, by omega⟩) = A0 m c (ix2 1 l) := by
  unfold V
  simp only [hostOps0]
  after_reads_at
  exact congrArg₂ (fun a b => m (c, Proc.tc.devRef main_arg9) (ix2 a b)) (Fin.ext (by show (512 + l.val) / 512 = 1; omega))
    (Fin.ext (by show (512 + l.val) % 512 = l.val; omega))

/-- The windows' block indices at a grid point. -/
theorem idx : ∀ t : Fin cfg0.N, win0_0.index t = ![t.val, 0] ∧ win0_1.index t = ![t.val / 16, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![0, t.val, 0] ∧ win0_20.index t = ![0, t.val, 0] ∧ win0_21.index t = ![0, t.val, 0]
    ∧ win0_22.index t = ![t.val, 0] ∧ win0_23.index t = ![t.val, 0] :=
  (by decide +kernel : ∀ t : Fin grid0.N, _)

/-- The flat row, the batch entry and the token that row `r` of point `t`'s block is. -/
abbrev flat (t : Fin cfg0.N) (r : Fin 256) : Fin 32768 := ⟨t.val * 256 + r.val, by have h : t.val < 128 := t.isLt; omega⟩
abbrev entry (t : Fin cfg0.N) : Fin 8 := ⟨t.val / 16, by have h : t.val < 128 := t.isLt; omega⟩
abbrev token (t : Fin cfg0.N) (r : Fin 256) : Fin 4096 := ⟨t.val % 16 * 256 + r.val, by omega⟩

theorem read0 (c : Dev nD) (t : Fin cfg0.N) (r : Fin 256) (k : Fin 1024) :
    iblk m c 0 t (ix2 r k) = X m c (ix3 (entry t) (token t r) k) := by
  have e : ((cfg0.win 0).blk t).view.emb (ix2 r k) = ix2 (flat t r) k := by blk_ext! [idx t]
  refine (congrArg (V m c main_v28) e).trans ((host_x m c (flat t r) k).trans ?_)
  have h : t.val < 128 := t.isLt
  have e0 : (⟨(flat t r).val / 4096, by omega⟩ : Fin 8) = entry t := Fin.ext (by show (t.val * 256 + r.val) / 4096 = t.val / 16; omega)
  have e1 : (⟨(flat t r).val % 4096, by omega⟩ : Fin 4096) = token t r := Fin.ext (by show (t.val * 256 + r.val) % 4096 = t.val % 16 * 256 + r.val; omega)
  rw [e0, e1]

theorem read1 (c : Dev nD) (t : Fin cfg0.N) (a : Fin 6) (k : Fin 1024) : iblk m c 1 t (ix3 0 a k) = MD m c (ix3 (entry t) a k) := by
  have e : ((cfg0.win 1).blk t).view.emb (ix3 0 a k) = ix3 (entry t) a k := by blk_ext! [idx t]
  exact (congrArg (V m c main_arg1) e).trans (congrFun (V_main_arg1 m c) _)

theorem read3 (c : Dev nD) (t : Fin cfg0.N) (q : Fin 3) (k : Fin 1536) : iblk m c 3 t (ix2 q k) = HY m c (ix2 q k) := by
  have e : ((cfg0.win 3).blk t).view.emb (ix2 q k) = ix2 q k := by blk_ext! [idx t]
  exact (congrArg (V m c main_arg3) e).trans (congrFun (V_main_arg3 m c) _)

theorem read4 (c : Dev nD) (t : Fin cfg0.N) (q : Fin 4) (k : Fin 512) : iblk m c 4 t (ix2 q k) = MU m c (ix2 q k) := by
  have e : ((cfg0.win 4).blk t).view.emb (ix2 q k) = ix2 q k := by blk_ext! [idx t]
  exact (congrArg (V m c main_arg4) e).trans (congrFun (V_main_arg4 m c) _)

theorem read5 (c : Dev nD) (t : Fin cfg0.N) (q : Fin 2) (k : Fin 1024) : iblk m c 5 t (ix2 q k) = MX m c (ix2 q k) := by
  have e : ((cfg0.win 5).blk t).view.emb (ix2 q k) = ix2 q k := by blk_ext! [idx t]
  exact (congrArg (V m c main_arg5) e).trans (congrFun (V_main_arg5 m c) _)

theorem read2 (c : Dev nD) (t : Fin cfg0.N) (q : Fin 1024) (k : Fin 3584) : iblk m c 2 t (ix2 q k) = WP m c (ix2 q k) := by
  have e : ((cfg0.win 2).blk t).view.emb (ix2 q k) = ix2 q k := by blk_ext! [idx t]
  exact (congrArg (V m c main_v29) e).trans (host_w m c q k)

theorem read6 (c : Dev nD) (t : Fin cfg0.N) (q : Fin 1024) (k : Fin 256) : iblk m c 6 t (ix2 q k) = (V m c main_v30 : Vec Ideal S1024x256 .bf16) (ix2 q k) := by
  have e : ((cfg0.win 6).blk t).view.emb (ix2 q k) = ix2 q k := by blk_ext! [idx t]
  exact congrArg (V m c main_v30) e

theorem read7 (c : Dev nD) (t : Fin cfg0.N) (q : Fin 256) (k : Fin 1024) : iblk m c 7 t (ix2 q k) = (V m c main_v31 : Vec Ideal S256x1024 .bf16) (ix2 q k) := by
  have e : ((cfg0.win 7).blk t).view.emb (ix2 q k) = ix2 q k := by blk_ext! [idx t]
  exact congrArg (V m c main_v31) e

theorem read8 (c : Dev nD) (t : Fin cfg0.N) (q : Fin 2) (k : Fin 1024) : iblk m c 8 t (ix2 q k) = (V m c main_v27 : Vec Ideal S2x1024 .f32) (ix2 q k) := by
  have e : ((cfg0.win 8).blk t).view.emb (ix2 q k) = ix2 q k := by blk_ext! [idx t]
  exact congrArg (V m c main_v27) e

theorem read9 (c : Dev nD) (t : Fin cfg0.N) (k : Fin 512) : iblk m c 9 t (ix2 0 k) = KP m c (ix1 k) := by
  have e : ((cfg0.win 9).blk t).view.emb (ix2 0 k) = ix2 0 k := by blk_ext! [idx t]
  exact (congrArg (V m c main_v32) e).trans (host_kp m c k)

theorem read10 (c : Dev nD) (t : Fin cfg0.N) (k : Fin 512) : iblk m c 10 t (ix2 0 k) = KA m c (ix1 k) := by
  have e : ((cfg0.win 10).blk t).view.emb (ix2 0 k) = ix2 0 k := by blk_ext! [idx t]
  exact (congrArg (V m c main_v33) e).trans (host_ka m c k)

theorem read11 (c : Dev nD) (t : Fin cfg0.N) (k : Fin 512) : iblk m c 11 t (ix2 0 k) = RK m c (ix2 (Lines.head k) (Lines.place k)) := by
  have e : ((cfg0.win 11).blk t).view.emb (ix2 0 k) = ix2 0 k := by blk_ext! [idx t]
  exact (congrArg (V m c main_v34) e).trans (host_rk m c k)

theorem read12 (c : Dev nD) (t : Fin cfg0.N) (q : Fin 512) (k : Fin 512) : iblk m c 12 t (ix2 q k) = 1 * if (Lines.head q).val = (Lines.head k).val then (1 : EReal) else 0 := by
  have e : ((cfg0.win 12).blk t).view.emb (ix2 q k) = ix2 q k := by blk_ext! [idx t]
  exact (congrArg (V m c main_v48) e).trans (host_ones m c q k)

end Cert.CdInIdeal.Rowwise

end
-- ==== Proof.CdInValue.lean ====
/- The feature kernel's eleven result arrays, as functions of the call's arguments. -/
module

public import proofs.«01_k».proof.Proof.CdInResult
public import proofs.«01_k».proof.Proof.CdInBody
public import proofs.«01_k».proof.Proof.CdInHost

@[expose] public section

set_option maxRecDepth 16384
set_option maxHeartbeats 800000

noncomputable section

namespace Cert.CdInIdeal.Rowwise

open Cert.Lines (row)
open Cert.CdInIdeal Cert.CdInIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD) (t : Fin cfg0.N)

/-- The block's projected and modulated rows are the sequence's. -/
theorem rows_at (r : Fin 256) (j : Fin 3584) : rows (iblk m c 0 t) (iblk m c 1 t) (iblk m c 2 t) r j = Mixed.seq (args m c) (entry t) (t.val % 16 * 256 + r.val) j := by
  rw [Mixed.seq_lt (args m c) (entry t) (t.val % 16 * 256 + r.val) (token t r).isLt j]
  unfold rows
  simp only [read0, read1, read2]
  rfl

theorem mods_at (r : Fin 256) (k : Fin 1024) : mods (iblk m c 0 t) (iblk m c 1 t) r k = Mixed.modul (args m c) (entry t) (t.val % 16 * 256 + r.val) k := by
  rw [Mixed.modul_lt (args m c) (entry t) (t.val % 16 * 256 + r.val) (token t r).isLt k]
  unfold mods
  simp only [read0, read1]
  rfl

/-- The block's convolved features. -/
theorem conv_row (r : Fin 256) (j : Fin 1536) :
    Lines.short (fun s => rows (iblk m c 0 t) (iblk m c 1 t) (iblk m c 2 t) (row s) ⟨j.val, by omega⟩) (fun k => iblk m c 3 t (ix2 k j)) r.val = Mixed.conv (args m c) (entry t) (t.val % 16 * 256 + r.val) j := by
  refine (Mixed.short_block (fun s => rows (iblk m c 0 t) (iblk m c 1 t) (iblk m c 2 t) s ⟨j.val, by omega⟩) (fun s => Mixed.seq (args m c) (entry t) s ⟨j.val, by omega⟩) _ (t.val % 16)
    (fun r => rows_at m c t r _) r).trans ?_
  simp only [read3]
  rfl

/-- The block's mixed features. -/
theorem bR_at (r : Fin 256) (l : Fin 512) : bR (iblk m c 0 t) (iblk m c 1 t) (iblk m c 2 t) (iblk m c 4 t) r l = Mixed.rcp (args m c) (entry t) (t.val % 16 * 256 + r.val) l := by
  unfold bR
  refine (Mixed.mix_block (fun s => rows (iblk m c 0 t) (iblk m c 1 t) (iblk m c 2 t) s ⟨1536 + l.val, by omega⟩) (fun s => Mixed.seq (args m c) (entry t) s ⟨1536 + l.val, by omega⟩) _ (t.val % 16)
    (fun r => rows_at m c t r _) r).trans ?_
  rw [read4]
  rfl

theorem bK_at (r : Fin 256) (l : Fin 512) : bK (iblk m c 0 t) (iblk m c 1 t) (iblk m c 2 t) (iblk m c 4 t) r l = Mixed.key (args m c) (entry t) (t.val % 16 * 256 + r.val) l := by
  unfold bK
  refine (Mixed.mix_block (fun s => rows (iblk m c 0 t) (iblk m c 1 t) (iblk m c 2 t) s ⟨2048 + l.val, by omega⟩) (fun s => Mixed.seq (args m c) (entry t) s ⟨2048 + l.val, by omega⟩) _ (t.val % 16)
    (fun r => rows_at m c t r _) r).trans ?_
  rw [read4]
  rfl

theorem bV_at (r : Fin 256) (l : Fin 512) : bV (iblk m c 0 t) (iblk m c 1 t) (iblk m c 2 t) (iblk m c 4 t) r l = Mixed.val (args m c) (entry t) (t.val % 16 * 256 + r.val) l := by
  unfold bV
  refine (Mixed.mix_block (fun s => rows (iblk m c 0 t) (iblk m c 1 t) (iblk m c 2 t) s ⟨2560 + l.val, by omega⟩) (fun s => Mixed.seq (args m c) (entry t) s ⟨2560 + l.val, by omega⟩) _ (t.val % 16)
    (fun r => rows_at m c t r _) r).trans ?_
  rw [read4]
  rfl

theorem bG_at (r : Fin 256) (l : Fin 512) : bG (iblk m c 0 t) (iblk m c 1 t) (iblk m c 2 t) (iblk m c 4 t) r l = Mixed.gat (args m c) (entry t) (t.val % 16 * 256 + r.val) l := by
  unfold bG
  refine (Mixed.mix_block (fun s => rows (iblk m c 0 t) (iblk m c 1 t) (iblk m c 2 t) s ⟨3072 + l.val, by omega⟩) (fun s => Mixed.seq (args m c) (entry t) s ⟨3072 + l.val, by omega⟩) _ (t.val % 16)
    (fun r => rows_at m c t r _) r).trans ?_
  rw [read4]
  rfl

theorem bF_at (e : Fin 2) (r : Fin 256) (k : Fin 1024) : bF (iblk m c 0 t) (iblk m c 1 t) (iblk m c 5 t) e r k = Mixed.feat (args m c) e (entry t) (t.val % 16 * 256 + r.val) k := by
  unfold bF
  refine (Mixed.mix_block (fun s => mods (iblk m c 0 t) (iblk m c 1 t) s k) (fun s => Mixed.modul (args m c) (entry t) s k) _ (t.val % 16)
    (fun r => mods_at m c t r _) r).trans ?_
  rw [read5]
  rfl

/-- The raw decays and the raw gates: the other direction's rows of the second matrix are zero. -/
theorem shifted (i : Fin 64) (h : 128 + (64 + i.val) < 256) : (⟨128 + (64 + i.val), h⟩ : Fin 256) = ⟨192 + i.val, by omega⟩ := Fin.ext (by show 128 + (64 + i.val) = 192 + i.val; omega)

theorem fold_left (s w : EReal) : s + 0 + w = w + s := by rw [add_zero, add_comm]

theorem fold_right (s w : EReal) : 0 + s + w = w + s := by rw [zero_add, add_comm]

theorem bW_zero (r : Fin 256) (l : Fin 512) :
    bW (iblk m c 0 t) (iblk m c 1 t) (iblk m c 5 t) (iblk m c 6 t) (iblk m c 7 t) (iblk m c 8 t) r ⟨l.val, by omega⟩ = Mixed.rawDecay (args m c) 0 (entry t) (t.val % 16 * 256 + r.val) l := by
  unfold bW Mixed.rawDecay Mixed.lowRank
  rw [Mixed.sum_halves]
  simp only [read6, read7, read8, bF_at, shifted]
  exact (congrArg₂ (fun a b : EReal => a + b) (congrArg₂ (fun a b : EReal => a + b)
    (Finset.sum_congr rfl fun i _ => congrArg₂ (fun a b : EReal => Ideal.tanh (a) * b) (Finset.sum_congr rfl fun k _ => congrArg (fun z : EReal => Mixed.feat (args m c) 0 (entry t) (t.val % 16 * 256 + r.val) k * z) (host_w1_0 m c k i)) (host_w2_00 m c i l))
    ((Finset.sum_congr rfl fun i _ => (congrArg (fun z : EReal => _ * z) (host_w2_10 m c i l)).trans (mul_zero _)).trans Finset.sum_const_zero)) (host_w0_0 m c l)).trans (fold_left _ _)

theorem bW_one (r : Fin 256) (l : Fin 512) :
    bW (iblk m c 0 t) (iblk m c 1 t) (iblk m c 5 t) (iblk m c 6 t) (iblk m c 7 t) (iblk m c 8 t) r ⟨512 + l.val, by omega⟩ = Mixed.rawDecay (args m c) 1 (entry t) (t.val % 16 * 256 + r.val) l := by
  unfold bW Mixed.rawDecay Mixed.lowRank
  rw [Mixed.sum_halves]
  simp only [read6, read7, read8, bF_at, shifted]
  exact (congrArg₂ (fun a b : EReal => a + b) (congrArg₂ (fun a b : EReal => a + b)
    ((Finset.sum_congr rfl fun i _ => (congrArg (fun z : EReal => _ * z) (host_w2_01 m c i l)).trans (mul_zero _)).trans Finset.sum_const_zero)
    (Finset.sum_congr rfl fun i _ => congrArg₂ (fun a b : EReal => Ideal.tanh (a) * b) (Finset.sum_congr rfl fun k _ => congrArg (fun z : EReal => Mixed.feat (args m c) 0 (entry t) (t.val % 16 * 256 + r.val) k * z) (host_w1_1 m c k i)) (host_w2_11 m c i l))) (host_w0_1 m c l)).trans (fold_right _ _)

theorem bA_zero (r : Fin 256) (l : Fin 512) :
    bA (iblk m c 0 t) (iblk m c 1 t) (iblk m c 5 t) (iblk m c 6 t) (iblk m c 7 t) (iblk m c 8 t) r ⟨l.val, by omega⟩ = Mixed.rawGate (args m c) 0 (entry t) (t.val % 16 * 256 + r.val) l := by
  unfold bA Mixed.rawGate Mixed.lowRank
  rw [Mixed.sum_halves]
  simp only [read6, read7, read8, bF_at, shifted]
  exact (congrArg₂ (fun a b : EReal => a + b) (congrArg₂ (fun a b : EReal => a + b)
    (Finset.sum_congr rfl fun i _ => congrArg₂ (fun a b : EReal => (a) * b) (Finset.sum_congr rfl fun k _ => congrArg (fun z : EReal => Mixed.feat (args m c) 1 (entry t) (t.val % 16 * 256 + r.val) k * z) (host_a1_0 m c k i)) (host_a2_00 m c i l))
    ((Finset.sum_congr rfl fun i _ => (congrArg (fun z : EReal => _ * z) (host_a2_10 m c i l)).trans (mul_zero _)).trans Finset.sum_const_zero)) (host_a0_0 m c l)).trans (fold_left _ _)

theorem bA_one (r : Fin 256) (l : Fin 512) :
    bA (iblk m c 0 t) (iblk m c 1 t) (iblk m c 5 t) (iblk m c 6 t) (iblk m c 7 t) (iblk m c 8 t) r ⟨512 + l.val, by omega⟩ = Mixed.rawGate (args m c) 1 (entry t) (t.val % 16 * 256 + r.val) l := by
  unfold bA Mixed.rawGate Mixed.lowRank
  rw [Mixed.sum_halves]
  simp only [read6, read7, read8, bF_at, shifted]
  exact (congrArg₂ (fun a b : EReal => a + b) (congrArg₂ (fun a b : EReal => a + b)
    ((Finset.sum_congr rfl fun i _ => (congrArg (fun z : EReal => _ * z) (host_a2_01 m c i l)).trans (mul_zero _)).trans Finset.sum_const_zero)
    (Finset.sum_congr rfl fun i _ => congrArg₂ (fun a b : EReal => (a) * b) (Finset.sum_congr rfl fun k _ => congrArg (fun z : EReal => Mixed.feat (args m c) 1 (entry t) (t.val % 16 * 256 + r.val) k * z) (host_a1_1 m c k i)) (host_a2_11 m c i l))) (host_a0_1 m c l)).trans (fold_right _ _)

/-- The written keys. -/
theorem written_of {k k' a a' p p' : EReal} (h : k = k') (i : a = a') (j : p = p') :
    Mixed.written k (Lines.sigmoid a) p = Mixed.written k' (Lines.sigmoid a') p' := by
  rw [h, i, j]

theorem bD_zero (r : Fin 256) (l : Fin 512) : bD (iblk m c 0 t) (iblk m c 1 t) (iblk m c 2 t) (iblk m c 4 t) (iblk m c 5 t) (iblk m c 6 t) (iblk m c 7 t) (iblk m c 8 t) (iblk m c 10 t) r l ⟨l.val, by omega⟩ = Mixed.keys (args m c) 0 (entry t) (t.val % 16 * 256 + r.val) l :=
  written_of (bK_at m c t r l) (bA_zero m c t r l) (read10 m c t l)

theorem bD_one (r : Fin 256) (l : Fin 512) : bD (iblk m c 0 t) (iblk m c 1 t) (iblk m c 2 t) (iblk m c 4 t) (iblk m c 5 t) (iblk m c 6 t) (iblk m c 7 t) (iblk m c 8 t) (iblk m c 10 t) r l ⟨512 + l.val, by omega⟩ = Mixed.keys (args m c) 1 (entry t) (t.val % 16 * 256 + r.val) l :=
  written_of (bK_at m c t r l) (bA_one m c t r l) (read10 m c t l)

/-- The normalised removal keys of real arguments. -/
theorem bU_at (F : Mixed.Finite (args m c)) (r : Fin 256) (l : Fin 512) : bU (iblk m c 0 t) (iblk m c 1 t) (iblk m c 2 t) (iblk m c 4 t) (iblk m c 9 t) (iblk m c 12 t) r l = Mixed.unit (args m c) (entry t) (t.val % 16 * 256 + r.val) l := by
  unfold bU
  rw [Mixed.grouped_eq _ _ l (fun p => by
    rw [bK_at, read9]
    exact ((F.key _ _ _).mul (F.kkp _)).mul ((F.key _ _ _).mul (F.kkp _))) (fun p => read12 m c t p l)]
  simp only [bK_at, read9]
  rfl

/-- The bonus of real arguments. -/
theorem weighed {r r' k k' d d' q q' : EReal} (h : r = r') (i : k = k') (j : d = d') (e : q = q') : r * (k + d) * q = r' * (k' + d') * q' := by
  rw [h, i, j, e]

theorem bB_at (F : Mixed.Finite (args m c)) (r : Fin 256) (l : Fin 512) :
    Mixed.grouped (fun i => bR (iblk m c 0 t) (iblk m c 1 t) (iblk m c 2 t) (iblk m c 4 t) r i * (bD (iblk m c 0 t) (iblk m c 1 t) (iblk m c 2 t) (iblk m c 4 t) (iblk m c 5 t) (iblk m c 6 t) (iblk m c 7 t) (iblk m c 8 t) (iblk m c 10 t) r i ⟨i.val, by omega⟩ + bD (iblk m c 0 t) (iblk m c 1 t) (iblk m c 2 t) (iblk m c 4 t) (iblk m c 5 t) (iblk m c 6 t) (iblk m c 7 t) (iblk m c 8 t) (iblk m c 10 t) r i ⟨512 + i.val, by omega⟩) * iblk m c 11 t (ix2 0 i))
      (fun i l => iblk m c 12 t (ix2 i l)) l * bV (iblk m c 0 t) (iblk m c 1 t) (iblk m c 2 t) (iblk m c 4 t) r l = Mixed.bonus (args m c) (entry t) (t.val % 16 * 256 + r.val) l := by
  have e := funext fun i => weighed (bR_at m c t r i) (bD_zero m c t r i) (bD_one m c t r i) (read11 m c t i)
  refine (congrArg₂ (fun a b : EReal => a * b) ((congrArg (fun f => Mixed.grouped f (fun i l => iblk m c 12 t (ix2 i l)) l) e).trans
    (Mixed.grouped_eq _ _ l (fun p => ((F.rcp _ _ _).mul ((F.keys _ _ _ _).add (F.keys _ _ _ _))).mul (F.rk (Lines.head p) (Lines.place p)))
      (fun p => read12 m c t p l))) (bV_at m c t r l)).trans ?_
  exact Mixed.parts_sum _ _ _ _ _ (fun _ => F.rcp _ _ _) (fun _ => F.keys _ _ _ _) (fun _ => F.keys _ _ _ _) (fun i => F.rk (Lines.head _) (Lines.place _)) (F.val _ _ _)

/-- The flat row in terms of batch entry and token. -/
theorem flat_eq (r : Fin 256) : (flat t r).val = (entry t).val * 4096 + (t.val % 16 * 256 + r.val) := by
  show t.val * 256 + r.val = t.val / 16 * 4096 + (t.val % 16 * 256 + r.val)
  omega

/-- What block `t` of each result holds. -/
theorem block_13 (r : Fin 256) (l : Fin 512) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r l)
    = Mixed.at2 (fun n t l => Mixed.conv (args m c) n t ⟨l.val, by omega⟩) (ix2 (flat t r) l) :=
  (out13_at _ _ _ _ _ _ _ _ _ _ _ _ _ r l).trans ((conv_row m c t r ⟨l.val, by omega⟩).trans (Mixed.at2_at (fun n t l => Mixed.conv (args m c) n t ⟨l.val, by omega⟩) (flat t r) (entry t) (t.val % 16 * 256 + r.val) l (token t r).isLt (flat_eq t r)).symm)

theorem final_13 : (dats m 0 c).arrAt 13 cfg0.N = Mixed.at2 (fun n t l => Mixed.conv (args m c) n t ⟨l.val, by omega⟩) := by
  refine (dats m 0 c).arrAt_eq_of_covers 13 _ (by decide +kernel) fun t _ y => ?_
  blk_simp
  rw [after0_13, eq_ix2 y]
  have e0 : ((cfg0.win 13).blk t).view.emb (ix2 (y 0) (y 1)) = ix2 (flat t (y 0)) (y 1) := by blk_ext! [idx t]
  rw [e0]
  exact block_13 m c t (y 0) (y 1)

theorem block_14 (r : Fin 256) (l : Fin 512) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r l)
    = Mixed.at2 (fun n t l => Mixed.conv (args m c) n t ⟨512 + l.val, by omega⟩) (ix2 (flat t r) l) :=
  (out14_at _ _ _ _ _ _ _ _ _ _ _ _ _ r l).trans ((conv_row m c t r ⟨512 + l.val, by omega⟩).trans (Mixed.at2_at (fun n t l => Mixed.conv (args m c) n t ⟨512 + l.val, by omega⟩) (flat t r) (entry t) (t.val % 16 * 256 + r.val) l (token t r).isLt (flat_eq t r)).symm)

theorem final_14 : (dats m 0 c).arrAt 14 cfg0.N = Mixed.at2 (fun n t l => Mixed.conv (args m c) n t ⟨512 + l.val, by omega⟩) := by
  refine (dats m 0 c).arrAt_eq_of_covers 14 _ (by decide +kernel) fun t _ y => ?_
  blk_simp
  rw [after0_14, eq_ix2 y]
  have e0 : ((cfg0.win 14).blk t).view.emb (ix2 (y 0) (y 1)) = ix2 (flat t (y 0)) (y 1) := by blk_ext! [idx t]
  rw [e0]
  exact block_14 m c t (y 0) (y 1)

theorem block_15 (r : Fin 256) (l : Fin 512) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r l)
    = Mixed.at2 (fun n t l => Mixed.conv (args m c) n t ⟨1024 + l.val, by omega⟩) (ix2 (flat t r) l) :=
  (out15_at _ _ _ _ _ _ _ _ _ _ _ _ _ r l).trans ((conv_row m c t r ⟨1024 + l.val, by omega⟩).trans (Mixed.at2_at (fun n t l => Mixed.conv (args m c) n t ⟨1024 + l.val, by omega⟩) (flat t r) (entry t) (t.val % 16 * 256 + r.val) l (token t r).isLt (flat_eq t r)).symm)

theorem final_15 : (dats m 0 c).arrAt 15 cfg0.N = Mixed.at2 (fun n t l => Mixed.conv (args m c) n t ⟨1024 + l.val, by omega⟩) := by
  refine (dats m 0 c).arrAt_eq_of_covers 15 _ (by decide +kernel) fun t _ y => ?_
  blk_simp
  rw [after0_15, eq_ix2 y]
  have e0 : ((cfg0.win 15).blk t).view.emb (ix2 (y 0) (y 1)) = ix2 (flat t (y 0)) (y 1) := by blk_ext! [idx t]
  rw [e0]
  exact block_15 m c t (y 0) (y 1)

theorem block_16 (r : Fin 256) (l : Fin 512) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r l)
    = Mixed.at2 (Mixed.rcp (args m c)) (ix2 (flat t r) l) :=
  (out16_at _ _ _ _ _ _ _ _ _ _ _ _ _ r l).trans ((bR_at m c t r l).trans (Mixed.at2_at (Mixed.rcp (args m c)) (flat t r) (entry t) (t.val % 16 * 256 + r.val) l (token t r).isLt (flat_eq t r)).symm)

theorem final_16 : (dats m 0 c).arrAt 16 cfg0.N = Mixed.at2 (Mixed.rcp (args m c)) := by
  refine (dats m 0 c).arrAt_eq_of_covers 16 _ (by decide +kernel) fun t _ y => ?_
  blk_simp
  rw [after0_16, eq_ix2 y]
  have e0 : ((cfg0.win 16).blk t).view.emb (ix2 (y 0) (y 1)) = ix2 (flat t (y 0)) (y 1) := by blk_ext! [idx t]
  rw [e0]
  exact block_16 m c t (y 0) (y 1)

theorem block_17 (r : Fin 256) (l : Fin 512) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r l)
    = Mixed.at2 (Mixed.val (args m c)) (ix2 (flat t r) l) :=
  (out17_at _ _ _ _ _ _ _ _ _ _ _ _ _ r l).trans ((bV_at m c t r l).trans (Mixed.at2_at (Mixed.val (args m c)) (flat t r) (entry t) (t.val % 16 * 256 + r.val) l (token t r).isLt (flat_eq t r)).symm)

theorem final_17 : (dats m 0 c).arrAt 17 cfg0.N = Mixed.at2 (Mixed.val (args m c)) := by
  refine (dats m 0 c).arrAt_eq_of_covers 17 _ (by decide +kernel) fun t _ y => ?_
  blk_simp
  rw [after0_17, eq_ix2 y]
  have e0 : ((cfg0.win 17).blk t).view.emb (ix2 (y 0) (y 1)) = ix2 (flat t (y 0)) (y 1) := by blk_ext! [idx t]
  rw [e0]
  exact block_17 m c t (y 0) (y 1)

theorem block_18 (F : Mixed.Finite (args m c)) (r : Fin 256) (l : Fin 512) : out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r l)
    = Mixed.at2 (Mixed.unit (args m c)) (ix2 (flat t r) l) :=
  (out18_at _ _ _ _ _ _ _ _ _ _ _ _ _ r l).trans ((bU_at m c t F r l).trans (Mixed.at2_at (Mixed.unit (args m c)) (flat t r) (entry t) (t.val % 16 * 256 + r.val) l (token t r).isLt (flat_eq t r)).symm)

theorem final_18 (F : Mixed.Finite (args m c)) : (dats m 0 c).arrAt 18 cfg0.N = Mixed.at2 (Mixed.unit (args m c)) := by
  refine (dats m 0 c).arrAt_eq_of_covers 18 _ (by decide +kernel) fun t _ y => ?_
  blk_simp
  rw [after0_18, eq_ix2 y]
  have e0 : ((cfg0.win 18).blk t).view.emb (ix2 (y 0) (y 1)) = ix2 (flat t (y 0)) (y 1) := by blk_ext! [idx t]
  rw [e0]
  exact block_18 m c t F (y 0) (y 1)

theorem block_19 (d : Fin 2) (r : Fin 256) (l : Fin 512) : out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 d r l)
    = Mixed.at3 (Mixed.decays (args m c)) (ix3 d (flat t r) l) := by
  refine Eq.trans ?_ (Mixed.at3_at (Mixed.decays (args m c)) d (flat t r) (entry t) (t.val % 16 * 256 + r.val) l (token t r).isLt (flat_eq t r)).symm
  rcases (by omega : d.val = 0 ∨ d.val = 1) with h | h
  · obtain rfl : d = 0 := Fin.ext h
    exact (out19_zero _ _ _ _ _ _ _ _ _ _ _ _ _ r l).trans (congrArg Mixed.fade (bW_zero m c t r l))
  · obtain rfl : d = 1 := Fin.ext h
    exact (out19_one _ _ _ _ _ _ _ _ _ _ _ _ _ r l).trans (congrArg Mixed.fade (bW_one m c t r l))

theorem final_19 : (dats m 0 c).arrAt 19 cfg0.N = Mixed.at3 (Mixed.decays (args m c)) := by
  refine (dats m 0 c).arrAt_eq_of_covers 19 _ (by decide +kernel) fun t _ y => ?_
  blk_simp
  rw [after0_19, eq_ix3 y]
  have e0 : ((cfg0.win 19).blk t).view.emb (ix3 (y 0) (y 1) (y 2)) = ix3 (y 0) (flat t (y 1)) (y 2) := by blk_ext! [idx t]
  rw [e0]
  exact block_19 m c t (y 0) (y 1) (y 2)

theorem block_20 (d : Fin 2) (r : Fin 256) (l : Fin 512) : out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 d r l)
    = Mixed.at3 (Mixed.keys (args m c)) (ix3 d (flat t r) l) := by
  refine Eq.trans ?_ (Mixed.at3_at (Mixed.keys (args m c)) d (flat t r) (entry t) (t.val % 16 * 256 + r.val) l (token t r).isLt (flat_eq t r)).symm
  rcases (by omega : d.val = 0 ∨ d.val = 1) with h | h
  · obtain rfl : d = 0 := Fin.ext h
    exact (out20_zero _ _ _ _ _ _ _ _ _ _ _ _ _ r l).trans (bD_zero m c t r l)
  · obtain rfl : d = 1 := Fin.ext h
    exact (out20_one _ _ _ _ _ _ _ _ _ _ _ _ _ r l).trans (bD_one m c t r l)

theorem final_20 : (dats m 0 c).arrAt 20 cfg0.N = Mixed.at3 (Mixed.keys (args m c)) := by
  refine (dats m 0 c).arrAt_eq_of_covers 20 _ (by decide +kernel) fun t _ y => ?_
  blk_simp
  rw [after0_20, eq_ix3 y]
  have e0 : ((cfg0.win 20).blk t).view.emb (ix3 (y 0) (y 1) (y 2)) = ix3 (y 0) (flat t (y 1)) (y 2) := by blk_ext! [idx t]
  rw [e0]
  exact block_20 m c t (y 0) (y 1) (y 2)

theorem block_21 (F : Mixed.Finite (args m c)) (d : Fin 2) (r : Fin 256) (l : Fin 512) : out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 d r l)
    = Mixed.at3 (Mixed.removals (args m c)) (ix3 d (flat t r) l) := by
  refine Eq.trans ?_ (Mixed.at3_at (Mixed.removals (args m c)) d (flat t r) (entry t) (t.val % 16 * 256 + r.val) l (token t r).isLt (flat_eq t r)).symm
  rcases (by omega : d.val = 0 ∨ d.val = 1) with h | h
  · obtain rfl : d = 0 := Fin.ext h
    exact (out21_zero _ _ _ _ _ _ _ _ _ _ _ _ _ r l).trans (congrArg₂ (fun a b => a * Lines.sigmoid b) (bU_at m c t F r l) (bA_zero m c t r l))
  · obtain rfl : d = 1 := Fin.ext h
    exact (out21_one _ _ _ _ _ _ _ _ _ _ _ _ _ r l).trans (congrArg₂ (fun a b => a * Lines.sigmoid b) (bU_at m c t F r l) (bA_one m c t r l))

theorem final_21 (F : Mixed.Finite (args m c)) : (dats m 0 c).arrAt 21 cfg0.N = Mixed.at3 (Mixed.removals (args m c)) := by
  refine (dats m 0 c).arrAt_eq_of_covers 21 _ (by decide +kernel) fun t _ y => ?_
  blk_simp
  rw [after0_21, eq_ix3 y]
  have e0 : ((cfg0.win 21).blk t).view.emb (ix3 (y 0) (y 1) (y 2)) = ix3 (y 0) (flat t (y 1)) (y 2) := by blk_ext! [idx t]
  rw [e0]
  exact block_21 m c t F (y 0) (y 1) (y 2)

theorem block_22 (F : Mixed.Finite (args m c)) (r : Fin 256) (l : Fin 512) : out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r l)
    = Mixed.at2 (Mixed.bonus (args m c)) (ix2 (flat t r) l) :=
  (out22_at _ _ _ _ _ _ _ _ _ _ _ _ _ r l).trans ((bB_at m c t F r l).trans (Mixed.at2_at (Mixed.bonus (args m c)) (flat t r) (entry t) (t.val % 16 * 256 + r.val) l (token t r).isLt (flat_eq t r)).symm)

theorem final_22 (F : Mixed.Finite (args m c)) : (dats m 0 c).arrAt 22 cfg0.N = Mixed.at2 (Mixed.bonus (args m c)) := by
  refine (dats m 0 c).arrAt_eq_of_covers 22 _ (by decide +kernel) fun t _ y => ?_
  blk_simp
  rw [after0_22, eq_ix2 y]
  have e0 : ((cfg0.win 22).blk t).view.emb (ix2 (y 0) (y 1)) = ix2 (flat t (y 0)) (y 1) := by blk_ext! [idx t]
  rw [e0]
  exact block_22 m c t F (y 0) (y 1)

theorem block_23 (r : Fin 256) (l : Fin 512) : out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r l)
    = Mixed.at2 (Mixed.outGate (args m c)) (ix2 (flat t r) l) :=
  (out23_at _ _ _ _ _ _ _ _ _ _ _ _ _ r l).trans ((congrArg Lines.sigmoid (bG_at m c t r l)).trans (Mixed.at2_at (Mixed.outGate (args m c)) (flat t r) (entry t) (t.val % 16 * 256 + r.val) l (token t r).isLt (flat_eq t r)).symm)

theorem final_23 : (dats m 0 c).arrAt 23 cfg0.N = Mixed.at2 (Mixed.outGate (args m c)) := by
  refine (dats m 0 c).arrAt_eq_of_covers 23 _ (by decide +kernel) fun t _ y => ?_
  blk_simp
  rw [after0_23, eq_ix2 y]
  have e0 : ((cfg0.win 23).blk t).view.emb (ix2 (y 0) (y 1)) = ix2 (flat t (y 0)) (y 1) := by blk_ext! [idx t]
  rw [e0]
  exact block_23 m c t (y 0) (y 1)

end Cert.CdInIdeal.Rowwise

end
-- ==== Proof.CdInRefConv.lean ====
/- The reference's projected tokens, its short convolution and its mixed features, index by index. -/
module

public import proofs.«01_k».proof.Proof.CdInRows
public import proofs.«01_k».proof.Proof.AbInRefConv
public import proofs.«01_k».proof.Proof.Gen.CdInRefIdeal.Read

@[expose] public section

set_option maxRecDepth 16384

noncomputable section

namespace Cert.CdInRefIdeal.Rowwise

open Cert.AbInRefIdeal.Rowwise (inLine inLine_one inLine_next masked sum_of prod_of)
open Cert.CdInRefIdeal Cert.CdInRefIdeal.Gen Cert.CdInRefIdeal.Read Idealize.ShloMosaic
open scoped BigOperators

variable (X : FVec Ideal S8x4096x1024 .f32) (M : FVec Ideal S8x6x1024 .f32) (W : FVec Ideal S1024x3584 .f32) (HY : FVec Ideal S3x1536 .f32)
  (MU : FVec Ideal S4x512 .f32) (MX : FVec Ideal S2x1024 .f32) (W0 : FVec Ideal S2x512 .f32) (W1 : FVec Ideal S2x1024x64 .f32)
  (W2 : FVec Ideal S2x64x512 .f32) (A0 : FVec Ideal S2x512 .f32) (A1 : FVec Ideal S2x1024x64 .f32) (A2 : FVec Ideal S2x64x512 .f32)
  (KP : FVec Ideal S512 .f32) (KA : FVec Ideal S512 .f32) (RK : FVec Ideal S8x64 .f32)

/-- The arguments as the plain functions take them. -/
abbrev all : Mixed.Args := Mixed.ofArrays X M W HY MU MX W0 W1 W2 A0 A1 A2 KP KA RK

/-- The modulated and the projected tokens. -/
theorem v11_at (n : Fin 8) (t : Fin 4096) (k : Fin 1024) : val_main_v11 (F := Ideal) X M (ix3 n t k) = Mixed.modul (all X M W HY MU MX W0 W1 W2 A0 A1 A2 KP KA RK) n t.val k := by
  rw [Mixed.modul_lt (all X M W HY MU MX W0 W1 W2 A0 A1 A2 KP KA RK) n t.val t.isLt k]
  pointwise [val_main_v11, val_main_v10, val_main_v9, val_main_v8, val_main_v7, val_main_v6, val_main_v5, val_main_v4, val_main_v3, val_main_v2, val_main_v1, val_main_v0, val_main_cst]
  rfl

theorem v12_at (n : Fin 8) (t : Fin 4096) (j : Fin 3584) : val_main_v12 (F := Ideal) X M W (ix3 n t j) = Mixed.seq (all X M W HY MU MX W0 W1 W2 A0 A1 A2 KP KA RK) n t.val j := by
  rw [Mixed.seq_lt (all X M W HY MU MX W0 W1 W2 A0 A1 A2 KP KA RK) n t.val t.isLt j]
  pointwise [val_main_v12, val_main_v11, val_main_v10, val_main_v9, val_main_v8, val_main_v7, val_main_v6, val_main_v5, val_main_v4, val_main_v3, val_main_v2, val_main_v1, val_main_v0, val_main_cst]
  rfl

theorem v13_at (n : Fin 8) (t : Fin 4096) (l : Fin 1536) : val_main_v13 (F := Ideal) X M W (ix3 n t l) = Mixed.seq (all X M W HY MU MX W0 W1 W2 A0 A1 A2 KP KA RK) n t.val ⟨l.val, by omega⟩ := by
  refine Eq.trans ?_ (v12_at X M W HY MU MX W0 W1 W2 A0 A1 A2 KP KA RK n t ⟨l.val, by omega⟩)
  pointwise [val_main_v13]

theorem v67_at (n : Fin 8) (t : Fin 4096) (l : Fin 2048) : val_main_v67 (F := Ideal) X M W (ix3 n t l) = Mixed.seq (all X M W HY MU MX W0 W1 W2 A0 A1 A2 KP KA RK) n t.val ⟨1536 + l.val, by omega⟩ := by
  refine Eq.trans ?_ (v12_at X M W HY MU MX W0 W1 W2 A0 A1 A2 KP KA RK n t ⟨1536 + l.val, by omega⟩)
  pointwise [val_main_v67]

theorem v68_at (n : Fin 8) (t : Fin 4096) (l : Fin 512) : val_main_v68 (F := Ideal) X M W (ix3 n t l) = Mixed.seq (all X M W HY MU MX W0 W1 W2 A0 A1 A2 KP KA RK) n t.val ⟨1536 + l.val, by omega⟩ := by
  have e : val_main_v68 (F := Ideal) X M W (ix3 n t l) = val_main_v67 (F := Ideal) X M W (ix3 n t ⟨l.val, by omega⟩) := by
    pointwise [val_main_v68]
  exact e.trans ((v67_at X M W HY MU MX W0 W1 W2 A0 A1 A2 KP KA RK n t _).trans (congrArg (fun z => Mixed.seq (all X M W HY MU MX W0 W1 W2 A0 A1 A2 KP KA RK) n t.val z) (Fin.ext (by show 1536 + (l.val) = 1536 + l.val; omega))))

theorem v69_at (n : Fin 8) (t : Fin 4096) (l : Fin 512) : val_main_v69 (F := Ideal) X M W (ix3 n t l) = Mixed.seq (all X M W HY MU MX W0 W1 W2 A0 A1 A2 KP KA RK) n t.val ⟨2048 + l.val, by omega⟩ := by
  have e : val_main_v69 (F := Ideal) X M W (ix3 n t l) = val_main_v67 (F := Ideal) X M W (ix3 n t ⟨512 + l.val, by omega⟩) := by
    pointwise [val_main_v69]
  exact e.trans ((v67_at X M W HY MU MX W0 W1 W2 A0 A1 A2 KP KA RK n t _).trans (congrArg (fun z => Mixed.seq (all X M W HY MU MX W0 W1 W2 A0 A1 A2 KP KA RK) n t.val z) (Fin.ext (by show 1536 + (512 + l.val) = 2048 + l.val; omega))))

theorem v70_at (n : Fin 8) (t : Fin 4096) (l : Fin 512) : val_main_v70 (F := Ideal) X M W (ix3 n t l) = Mixed.seq (all X M W HY MU MX W0 W1 W2 A0 A1 A2 KP KA RK) n t.val ⟨2560 + l.val, by omega⟩ := by
  have e : val_main_v70 (F := Ideal) X M W (ix3 n t l) = val_main_v67 (F := Ideal) X M W (ix3 n t ⟨1024 + l.val, by omega⟩) := by
    pointwise [val_main_v70]
  exact e.trans ((v67_at X M W HY MU MX W0 W1 W2 A0 A1 A2 KP KA RK n t _).trans (congrArg (fun z => Mixed.seq (all X M W HY MU MX W0 W1 W2 A0 A1 A2 KP KA RK) n t.val z) (Fin.ext (by show 1536 + (1024 + l.val) = 2560 + l.val; omega))))

theorem v71_at (n : Fin 8) (t : Fin 4096) (l : Fin 512) : val_main_v71 (F := Ideal) X M W (ix3 n t l) = Mixed.seq (all X M W HY MU MX W0 W1 W2 A0 A1 A2 KP KA RK) n t.val ⟨3072 + l.val, by omega⟩ := by
  have e : val_main_v71 (F := Ideal) X M W (ix3 n t l) = val_main_v67 (F := Ideal) X M W (ix3 n t ⟨1536 + l.val, by omega⟩) := by
    pointwise [val_main_v71]
  exact e.trans ((v67_at X M W HY MU MX W0 W1 W2 A0 A1 A2 KP KA RK n t _).trans (congrArg (fun z => Mixed.seq (all X M W HY MU MX W0 W1 W2 A0 A1 A2 KP KA RK) n t.val z) (Fin.ext (by show 1536 + (1536 + l.val) = 3072 + l.val; omega))))

/-- The padded sequences inside their range. -/
theorem v14_at (n : Fin 8) (s : Fin 4098) (l : Fin 1536) (t : Fin 4096) (h : s.val = t.val + 1) : val_main_v14 (F := Ideal) X M W (ix3 n s l) = val_main_v13 (F := Ideal) X M W (ix3 n t l) := by
  pointwise [val_main_v14]
  rw [dif_pos (by omega)]
  congr 2
  exact Fin.ext (by show s.val - 1 = t.val; omega)

theorem v72_at (n : Fin 8) (s : Fin 4098) (l : Fin 2048) (t : Fin 4096) (h : s.val = t.val + 1) : val_main_v72 (F := Ideal) X M W (ix3 n s l) = val_main_v67 (F := Ideal) X M W (ix3 n t l) := by
  pointwise [val_main_v72]
  rw [dif_pos (by omega)]
  congr 2
  exact Fin.ext (by show s.val - 1 = t.val; omega)

theorem v145_at (n : Fin 8) (s : Fin 4098) (l : Fin 1024) (t : Fin 4096) (h : s.val = t.val + 1) : val_main_v145 (F := Ideal) X M (ix3 n s l) = val_main_v11 (F := Ideal) X M (ix3 n t l) := by
  pointwise [val_main_v145]
  rw [dif_pos (by omega)]
  congr 2
  exact Fin.ext (by show s.val - 1 = t.val; omega)

/-- The masks. -/
theorem v32_at (t : Fin 4096) : val_main_v32 (F := Ideal) (ix1 t) = inLine 4294967295#32 t := rfl
theorem v59_at (t : Fin 4096) : val_main_v59 (F := Ideal) (ix1 t) = inLine 1#32 t := rfl
theorem v87_at (t : Fin 4096) : val_main_v87 (F := Ideal) (ix1 t) = inLine 4294967295#32 t := rfl
theorem v108_at (t : Fin 4096) : val_main_v108 (F := Ideal) (ix1 t) = inLine 1#32 t := rfl
theorem v160_at (t : Fin 4096) : val_main_v160 (F := Ideal) (ix1 t) = inLine 4294967295#32 t := rfl
theorem v181_at (t : Fin 4096) : val_main_v181 (F := Ideal) (ix1 t) = inLine 1#32 t := rfl

/-- The three taps. -/
theorem v23_at (n : Fin 8) (t : Fin 4096) (l : Fin 1536) : val_main_v23 (F := Ideal) X M W HY (ix3 n t l) = val_main_v14 (F := Ideal) X M W (ix3 n ⟨t.val, by omega⟩ l) * HY (ix2 0 l) := by
  pointwise [val_main_v23, val_main_v22, val_main_v21, val_main_v20, val_main_v19, val_main_v18]

theorem v43_at (n : Fin 8) (t : Fin 4096) (l : Fin 1536) : val_main_v43 (F := Ideal) X M W HY (ix3 n t l) = val_main_v14 (F := Ideal) X M W (ix3 n ⟨1 + t.val, by omega⟩ l) * HY (ix2 1 l) := by
  pointwise [val_main_v43, val_main_v42, val_main_v41, val_main_v40, val_main_v39, val_main_v38]

theorem v50_at (n : Fin 8) (t : Fin 4096) (l : Fin 1536) : val_main_v50 (F := Ideal) X M W HY (ix3 n t l) = val_main_v14 (F := Ideal) X M W (ix3 n ⟨2 + t.val, by omega⟩ l) * HY (ix2 2 l) := by
  pointwise [val_main_v50, val_main_v49, val_main_v48, val_main_v47, val_main_v46, val_main_v45]

theorem v35_at (n : Fin 8) (t : Fin 4096) (l : Fin 1536) : val_main_v35 (F := Ideal) X M W HY (ix3 n t l) = Lines.before 1 (fun s => Mixed.seq (all X M W HY MU MX W0 W1 W2 A0 A1 A2 KP KA RK) n s ⟨l.val, by omega⟩) t.val * HY (ix2 0 l) := by
  pointwise [val_main_v35, val_main_v34, val_main_v33, val_main_call1_v0, val_main_cst_5]
  rw [v23_at, v32_at]
  refine masked _ (1 ≤ t.val % 64) (inLine_one t) _ _ _ fun h => ?_
  rw [v14_at X M W n _ l ⟨t.val - 1, by omega⟩ (by show t.val = t.val - 1 + 1; omega), v13_at X M W HY MU MX W0 W1 W2 A0 A1 A2 KP KA RK]

theorem v62_at (n : Fin 8) (t : Fin 4096) (l : Fin 1536) : val_main_v62 (F := Ideal) X M W HY (ix3 n t l) = Lines.after (fun s => Mixed.seq (all X M W HY MU MX W0 W1 W2 A0 A1 A2 KP KA RK) n s ⟨l.val, by omega⟩) t.val * HY (ix2 2 l) := by
  pointwise [val_main_v62, val_main_v61, val_main_v60, val_main_call2_v0, val_main_cst_11]
  rw [v50_at, v59_at]
  refine masked _ (t.val % 64 < 63) (inLine_next t) _ _ _ fun h => ?_
  rw [v14_at X M W n _ l ⟨t.val + 1, by omega⟩ (by show 2 + t.val = t.val + 1 + 1; omega), v13_at X M W HY MU MX W0 W1 W2 A0 A1 A2 KP KA RK]

theorem v37_at (n : Fin 8) (t : Fin 4096) (l : Fin 1536) : val_main_v37 (F := Ideal) X M W HY (ix3 n t l) = val_main_v35 (F := Ideal) X M W HY (ix3 n t l) := by
  have h : val_main_v36 (F := Ideal) (ix3 n t l) = (0 : EReal) := by
    pointwise [val_main_v36, val_main_cst_6]
  exact ((val_main_v37_apply (F := Ideal) X M W HY (ix3 n t l)).trans (sum_of h rfl)).trans (zero_add _)

theorem v43_seq (n : Fin 8) (t : Fin 4096) (l : Fin 1536) : val_main_v43 (F := Ideal) X M W HY (ix3 n t l) = Mixed.seq (all X M W HY MU MX W0 W1 W2 A0 A1 A2 KP KA RK) n t.val ⟨l.val, by omega⟩ * HY (ix2 1 l) := by
  rw [v43_at, v14_at X M W n _ l t (by show 1 + t.val = t.val + 1; omega), v13_at X M W HY MU MX W0 W1 W2 A0 A1 A2 KP KA RK]

/-- The short convolution. -/
theorem v63_at (n : Fin 8) (t : Fin 4096) (l : Fin 1536) : val_main_v63 (F := Ideal) X M W HY (ix3 n t l) = Mixed.conv (all X M W HY MU MX W0 W1 W2 A0 A1 A2 KP KA RK) n t.val l := by
  have e44 := (val_main_v44_apply (F := Ideal) X M W HY (ix3 n t l)).trans (sum_of ((v37_at X M W HY n t l).trans (v35_at X M W HY MU MX W0 W1 W2 A0 A1 A2 KP KA RK n t l)) (v43_seq X M W HY MU MX W0 W1 W2 A0 A1 A2 KP KA RK n t l))
  have e63 := (val_main_v63_apply (F := Ideal) X M W HY (ix3 n t l)).trans (sum_of e44 (v62_at X M W HY MU MX W0 W1 W2 A0 A1 A2 KP KA RK n t l))
  rw [e63]
  rfl

/-- Half of the two neighbours. -/
theorem v90_at (n : Fin 8) (t : Fin 4096) (l : Fin 2048) : val_main_v90 (F := Ideal) X M W (ix3 n t l) = Lines.before 1 (fun s => Mixed.seq (all X M W HY MU MX W0 W1 W2 A0 A1 A2 KP KA RK) n s ⟨1536 + l.val, by omega⟩) t.val * Mixed.half := by
  have e : val_main_v78 (F := Ideal) X M W (ix3 n t l) = val_main_v72 (F := Ideal) X M W (ix3 n ⟨t.val, by omega⟩ l) * Mixed.half := by
    pointwise [val_main_v78, val_main_v77, val_main_v76, val_main_cst_14]
  pointwise [val_main_v90, val_main_v89, val_main_v88, val_main_call4_v0, val_main_cst_19]
  rw [e, v87_at]
  refine masked _ (1 ≤ t.val % 64) (inLine_one t) _ _ _ fun h => ?_
  rw [v72_at X M W n _ l ⟨t.val - 1, by omega⟩ (by show t.val = t.val - 1 + 1; omega), v67_at X M W HY MU MX W0 W1 W2 A0 A1 A2 KP KA RK]

theorem v111_at (n : Fin 8) (t : Fin 4096) (l : Fin 2048) : val_main_v111 (F := Ideal) X M W (ix3 n t l) = Lines.after (fun s => Mixed.seq (all X M W HY MU MX W0 W1 W2 A0 A1 A2 KP KA RK) n s ⟨1536 + l.val, by omega⟩) t.val * Mixed.half := by
  have e : val_main_v99 (F := Ideal) X M W (ix3 n t l) = val_main_v72 (F := Ideal) X M W (ix3 n ⟨2 + t.val, by omega⟩ l) * Mixed.half := by
    pointwise [val_main_v99, val_main_v98, val_main_v97, val_main_cst_22]
  pointwise [val_main_v111, val_main_v110, val_main_v109, val_main_call5_v0, val_main_cst_27]
  rw [e, v108_at]
  refine masked _ (t.val % 64 < 63) (inLine_next t) _ _ _ fun h => ?_
  rw [v72_at X M W n _ l ⟨t.val + 1, by omega⟩ (by show 2 + t.val = t.val + 1 + 1; omega), v67_at X M W HY MU MX W0 W1 W2 A0 A1 A2 KP KA RK]

theorem v92_at (n : Fin 8) (t : Fin 4096) (l : Fin 2048) : val_main_v92 (F := Ideal) X M W (ix3 n t l) = val_main_v90 (F := Ideal) X M W (ix3 n t l) := by
  have h : val_main_v91 (F := Ideal) (ix3 n t l) = (0 : EReal) := by
    pointwise [val_main_v91, val_main_cst_20]
  exact ((val_main_v92_apply (F := Ideal) X M W (ix3 n t l)).trans (sum_of h rfl)).trans (zero_add _)

theorem v95_at (n : Fin 8) (t : Fin 4096) (l : Fin 2048) : val_main_v95 (F := Ideal) X M W (ix3 n t l) = val_main_v93 (F := Ideal) X M W (ix3 n t l) * (0 : EReal) := by
  pointwise [val_main_v95, val_main_v94, val_main_cst_21]

theorem v112_at (n : Fin 8) (t : Fin 4096) (l : Fin 2048) : val_main_v112 (F := Ideal) X M W (ix3 n t l) = Mixed.around (fun s => Mixed.seq (all X M W HY MU MX W0 W1 W2 A0 A1 A2 KP KA RK) n s ⟨1536 + l.val, by omega⟩) t.val := by
  have e1 := (val_main_v96_apply (F := Ideal) X M W (ix3 n t l)).trans (sum_of ((v92_at X M W n t l).trans (v90_at X M W HY MU MX W0 W1 W2 A0 A1 A2 KP KA RK n t l)) (v95_at X M W n t l))
  have e2 := (val_main_v112_apply (F := Ideal) X M W (ix3 n t l)).trans (sum_of e1 (v111_at X M W HY MU MX W0 W1 W2 A0 A1 A2 KP KA RK n t l))
  exact e2.trans (Mixed.taps _ _ _)

/-- Half of the two neighbours. -/
theorem v163_at (n : Fin 8) (t : Fin 4096) (l : Fin 1024) : val_main_v163 (F := Ideal) X M (ix3 n t l) = Lines.before 1 (fun s => Mixed.modul (all X M W HY MU MX W0 W1 W2 A0 A1 A2 KP KA RK) n s l) t.val * Mixed.half := by
  have e : val_main_v151 (F := Ideal) X M (ix3 n t l) = val_main_v145 (F := Ideal) X M (ix3 n ⟨t.val, by omega⟩ l) * Mixed.half := by
    pointwise [val_main_v151, val_main_v150, val_main_v149, val_main_cst_30]
  pointwise [val_main_v163, val_main_v162, val_main_v161, val_main_call7_v0, val_main_cst_35]
  rw [e, v160_at]
  refine masked _ (1 ≤ t.val % 64) (inLine_one t) _ _ _ fun h => ?_
  rw [v145_at X M n _ l ⟨t.val - 1, by omega⟩ (by show t.val = t.val - 1 + 1; omega), v11_at X M W HY MU MX W0 W1 W2 A0 A1 A2 KP KA RK]

theorem v184_at (n : Fin 8) (t : Fin 4096) (l : Fin 1024) : val_main_v184 (F := Ideal) X M (ix3 n t l) = Lines.after (fun s => Mixed.modul (all X M W HY MU MX W0 W1 W2 A0 A1 A2 KP KA RK) n s l) t.val * Mixed.half := by
  have e : val_main_v172 (F := Ideal) X M (ix3 n t l) = val_main_v145 (F := Ideal) X M (ix3 n ⟨2 + t.val, by omega⟩ l) * Mixed.half := by
    pointwise [val_main_v172, val_main_v171, val_main_v170, val_main_cst_38]
  pointwise [val_main_v184, val_main_v183, val_main_v182, val_main_call8_v0, val_main_cst_43]
  rw [e, v181_at]
  refine masked _ (t.val % 64 < 63) (inLine_next t) _ _ _ fun h => ?_
  rw [v145_at X M n _ l ⟨t.val + 1, by omega⟩ (by show 2 + t.val = t.val + 1 + 1; omega), v11_at X M W HY MU MX W0 W1 W2 A0 A1 A2 KP KA RK]

theorem v165_at (n : Fin 8) (t : Fin 4096) (l : Fin 1024) : val_main_v165 (F := Ideal) X M (ix3 n t l) = val_main_v163 (F := Ideal) X M (ix3 n t l) := by
  have h : val_main_v164 (F := Ideal) (ix3 n t l) = (0 : EReal) := by
    pointwise [val_main_v164, val_main_cst_36]
  exact ((val_main_v165_apply (F := Ideal) X M (ix3 n t l)).trans (sum_of h rfl)).trans (zero_add _)

theorem v168_at (n : Fin 8) (t : Fin 4096) (l : Fin 1024) : val_main_v168 (F := Ideal) X M (ix3 n t l) = val_main_v166 (F := Ideal) X M (ix3 n t l) * (0 : EReal) := by
  pointwise [val_main_v168, val_main_v167, val_main_cst_37]

theorem v185_at (n : Fin 8) (t : Fin 4096) (l : Fin 1024) : val_main_v185 (F := Ideal) X M (ix3 n t l) = Mixed.around (fun s => Mixed.modul (all X M W HY MU MX W0 W1 W2 A0 A1 A2 KP KA RK) n s l) t.val := by
  have e1 := (val_main_v169_apply (F := Ideal) X M (ix3 n t l)).trans (sum_of ((v165_at X M n t l).trans (v163_at X M W HY MU MX W0 W1 W2 A0 A1 A2 KP KA RK n t l)) (v168_at X M n t l))
  have e2 := (val_main_v185_apply (F := Ideal) X M (ix3 n t l)).trans (sum_of e1 (v184_at X M W HY MU MX W0 W1 W2 A0 A1 A2 KP KA RK n t l))
  exact e2.trans (Mixed.taps _ _ _)

theorem v113_at (n : Fin 8) (t : Fin 4096) (l : Fin 512) : val_main_v113 (F := Ideal) X M W (ix3 n t l) = Mixed.around (fun s => Mixed.seq (all X M W HY MU MX W0 W1 W2 A0 A1 A2 KP KA RK) n s ⟨1536 + l.val, by omega⟩) t.val := by
  have e : val_main_v113 (F := Ideal) X M W (ix3 n t l) = val_main_v112 (F := Ideal) X M W (ix3 n t ⟨l.val, by omega⟩) := by
    pointwise [val_main_v113]
  exact e.trans ((v112_at X M W HY MU MX W0 W1 W2 A0 A1 A2 KP KA RK n t _).trans (congrArg (fun z => Mixed.around (fun s => Mixed.seq (all X M W HY MU MX W0 W1 W2 A0 A1 A2 KP KA RK) n s z) t.val) (Fin.ext (by show 1536 + (l.val) = 1536 + l.val; omega))))

theorem v114_at (n : Fin 8) (t : Fin 4096) (l : Fin 512) : val_main_v114 (F := Ideal) X M W (ix3 n t l) = Mixed.around (fun s => Mixed.seq (all X M W HY MU MX W0 W1 W2 A0 A1 A2 KP KA RK) n s ⟨2048 + l.val, by omega⟩) t.val := by
  have e : val_main_v114 (F := Ideal) X M W (ix3 n t l) = val_main_v112 (F := Ideal) X M W (ix3 n t ⟨512 + l.val, by omega⟩) := by
    pointwise [val_main_v114]
  exact e.trans ((v112_at X M W HY MU MX W0 W1 W2 A0 A1 A2 KP KA RK n t _).trans (congrArg (fun z => Mixed.around (fun s => Mixed.seq (all X M W HY MU MX W0 W1 W2 A0 A1 A2 KP KA RK) n s z) t.val) (Fin.ext (by show 1536 + (512 + l.val) = 2048 + l.val; omega))))

theorem v115_at (n : Fin 8) (t : Fin 4096) (l : Fin 512) : val_main_v115 (F := Ideal) X M W (ix3 n t l) = Mixed.around (fun s => Mixed.seq (all X M W HY MU MX W0 W1 W2 A0 A1 A2 KP KA RK) n s ⟨2560 + l.val, by omega⟩) t.val := by
  have e : val_main_v115 (F := Ideal) X M W (ix3 n t l) = val_main_v112 (F := Ideal) X M W (ix3 n t ⟨1024 + l.val, by omega⟩) := by
    pointwise [val_main_v115]
  exact e.trans ((v112_at X M W HY MU MX W0 W1 W2 A0 A1 A2 KP KA RK n t _).trans (congrArg (fun z => Mixed.around (fun s => Mixed.seq (all X M W HY MU MX W0 W1 W2 A0 A1 A2 KP KA RK) n s z) t.val) (Fin.ext (by show 1536 + (1024 + l.val) = 2560 + l.val; omega))))

theorem v116_at (n : Fin 8) (t : Fin 4096) (l : Fin 512) : val_main_v116 (F := Ideal) X M W (ix3 n t l) = Mixed.around (fun s => Mixed.seq (all X M W HY MU MX W0 W1 W2 A0 A1 A2 KP KA RK) n s ⟨3072 + l.val, by omega⟩) t.val := by
  have e : val_main_v116 (F := Ideal) X M W (ix3 n t l) = val_main_v112 (F := Ideal) X M W (ix3 n t ⟨1536 + l.val, by omega⟩) := by
    pointwise [val_main_v116]
  exact e.trans ((v112_at X M W HY MU MX W0 W1 W2 A0 A1 A2 KP KA RK n t _).trans (congrArg (fun z => Mixed.around (fun s => Mixed.seq (all X M W HY MU MX W0 W1 W2 A0 A1 A2 KP KA RK) n s z) t.val) (Fin.ext (by show 1536 + (1536 + l.val) = 3072 + l.val; omega))))

/-- A difference of values that are known. -/
theorem sub_of {a b c d : Ideal .f32} (h : a = c) (k : b = d) : FloatOps.subf a b = ((c : EReal) - d) := by
  subst h k
  rfl

theorem v121_at (n : Fin 8) (t : Fin 4096) (l : Fin 512) : val_main_v121 (F := Ideal) MU (ix3 n t l) = MU (ix2 0 l) := by
  pointwise [val_main_v121, val_main_v120, val_main_v119, val_main_v118]

theorem v123_at (n : Fin 8) (t : Fin 4096) (l : Fin 512) : val_main_v123 (F := Ideal) X M W MU (ix3 n t l) = Mixed.rcp (all X M W HY MU MX W0 W1 W2 A0 A1 A2 KP KA RK) n t.val l := by
  have e1 := (val_main_v117_apply (F := Ideal) X M W (ix3 n t l)).trans (sub_of (v113_at X M W HY MU MX W0 W1 W2 A0 A1 A2 KP KA RK n t l) (v68_at X M W HY MU MX W0 W1 W2 A0 A1 A2 KP KA RK n t l))
  have e2 := (val_main_v122_apply (F := Ideal) X M W MU (ix3 n t l)).trans (prod_of e1 (v121_at MU n t l))
  have e3 := (val_main_v123_apply (F := Ideal) X M W MU (ix3 n t l)).trans (sum_of (v68_at X M W HY MU MX W0 W1 W2 A0 A1 A2 KP KA RK n t l) e2)
  rw [e3]
  rfl

theorem v128_at (n : Fin 8) (t : Fin 4096) (l : Fin 512) : val_main_v128 (F := Ideal) MU (ix3 n t l) = MU (ix2 1 l) := by
  pointwise [val_main_v128, val_main_v127, val_main_v126, val_main_v125]

theorem v130_at (n : Fin 8) (t : Fin 4096) (l : Fin 512) : val_main_v130 (F := Ideal) X M W MU (ix3 n t l) = Mixed.key (all X M W HY MU MX W0 W1 W2 A0 A1 A2 KP KA RK) n t.val l := by
  have e1 := (val_main_v124_apply (F := Ideal) X M W (ix3 n t l)).trans (sub_of (v114_at X M W HY MU MX W0 W1 W2 A0 A1 A2 KP KA RK n t l) (v69_at X M W HY MU MX W0 W1 W2 A0 A1 A2 KP KA RK n t l))
  have e2 := (val_main_v129_apply (F := Ideal) X M W MU (ix3 n t l)).trans (prod_of e1 (v128_at MU n t l))
  have e3 := (val_main_v130_apply (F := Ideal) X M W MU (ix3 n t l)).trans (sum_of (v69_at X M W HY MU MX W0 W1 W2 A0 A1 A2 KP KA RK n t l) e2)
  rw [e3]
  rfl

theorem v135_at (n : Fin 8) (t : Fin 4096) (l : Fin 512) : val_main_v135 (F := Ideal) MU (ix3 n t l) = MU (ix2 2 l) := by
  pointwise [val_main_v135, val_main_v134, val_main_v133, val_main_v132]

theorem v137_at (n : Fin 8) (t : Fin 4096) (l : Fin 512) : val_main_v137 (F := Ideal) X M W MU (ix3 n t l) = Mixed.val (all X M W HY MU MX W0 W1 W2 A0 A1 A2 KP KA RK) n t.val l := by
  have e1 := (val_main_v131_apply (F := Ideal) X M W (ix3 n t l)).trans (sub_of (v115_at X M W HY MU MX W0 W1 W2 A0 A1 A2 KP KA RK n t l) (v70_at X M W HY MU MX W0 W1 W2 A0 A1 A2 KP KA RK n t l))
  have e2 := (val_main_v136_apply (F := Ideal) X M W MU (ix3 n t l)).trans (prod_of e1 (v135_at MU n t l))
  have e3 := (val_main_v137_apply (F := Ideal) X M W MU (ix3 n t l)).trans (sum_of (v70_at X M W HY MU MX W0 W1 W2 A0 A1 A2 KP KA RK n t l) e2)
  rw [e3]
  rfl

theorem v142_at (n : Fin 8) (t : Fin 4096) (l : Fin 512) : val_main_v142 (F := Ideal) MU (ix3 n t l) = MU (ix2 3 l) := by
  pointwise [val_main_v142, val_main_v141, val_main_v140, val_main_v139]

theorem v144_at (n : Fin 8) (t : Fin 4096) (l : Fin 512) : val_main_v144 (F := Ideal) X M W MU (ix3 n t l) = Mixed.gat (all X M W HY MU MX W0 W1 W2 A0 A1 A2 KP KA RK) n t.val l := by
  have e1 := (val_main_v138_apply (F := Ideal) X M W (ix3 n t l)).trans (sub_of (v116_at X M W HY MU MX W0 W1 W2 A0 A1 A2 KP KA RK n t l) (v71_at X M W HY MU MX W0 W1 W2 A0 A1 A2 KP KA RK n t l))
  have e2 := (val_main_v143_apply (F := Ideal) X M W MU (ix3 n t l)).trans (prod_of e1 (v142_at MU n t l))
  have e3 := (val_main_v144_apply (F := Ideal) X M W MU (ix3 n t l)).trans (sum_of (v71_at X M W HY MU MX W0 W1 W2 A0 A1 A2 KP KA RK n t l) e2)
  rw [e3]
  rfl

theorem v186_at (n : Fin 8) (t : Fin 4096) (k : Fin 1024) : val_main_v186 (F := Ideal) X M (ix3 n t k) = Mixed.around (fun s => Mixed.modul (all X M W HY MU MX W0 W1 W2 A0 A1 A2 KP KA RK) n s k) t.val - Mixed.modul (all X M W HY MU MX W0 W1 W2 A0 A1 A2 KP KA RK) n t.val k :=
  (val_main_v186_apply (F := Ideal) X M (ix3 n t k)).trans (sub_of (v185_at X M W HY MU MX W0 W1 W2 A0 A1 A2 KP KA RK n t k) (v11_at X M W HY MU MX W0 W1 W2 A0 A1 A2 KP KA RK n t k))

theorem v190_at (n : Fin 8) (t : Fin 4096) (k : Fin 1024) : val_main_v190 (F := Ideal) MX (ix3 n t k) = MX (ix2 0 k) := by
  pointwise [val_main_v190, val_main_v189, val_main_v188, val_main_v187]

theorem v192_at (n : Fin 8) (t : Fin 4096) (k : Fin 1024) : val_main_v192 (F := Ideal) X M MX (ix3 n t k) = Mixed.feat (all X M W HY MU MX W0 W1 W2 A0 A1 A2 KP KA RK) 0 n t.val k := by
  have e2 := (val_main_v191_apply (F := Ideal) X M MX (ix3 n t k)).trans (prod_of (v186_at X M W HY MU MX W0 W1 W2 A0 A1 A2 KP KA RK n t k) (v190_at MX n t k))
  have e3 := (val_main_v192_apply (F := Ideal) X M MX (ix3 n t k)).trans (sum_of (v11_at X M W HY MU MX W0 W1 W2 A0 A1 A2 KP KA RK n t k) e2)
  rw [e3]
  rfl

theorem v196_at (n : Fin 8) (t : Fin 4096) (k : Fin 1024) : val_main_v196 (F := Ideal) MX (ix3 n t k) = MX (ix2 1 k) := by
  pointwise [val_main_v196, val_main_v195, val_main_v194, val_main_v193]

theorem v198_at (n : Fin 8) (t : Fin 4096) (k : Fin 1024) : val_main_v198 (F := Ideal) X M MX (ix3 n t k) = Mixed.feat (all X M W HY MU MX W0 W1 W2 A0 A1 A2 KP KA RK) 1 n t.val k := by
  have e2 := (val_main_v197_apply (F := Ideal) X M MX (ix3 n t k)).trans (prod_of (v186_at X M W HY MU MX W0 W1 W2 A0 A1 A2 KP KA RK n t k) (v196_at MX n t k))
  have e3 := (val_main_v198_apply (F := Ideal) X M MX (ix3 n t k)).trans (sum_of (v11_at X M W HY MU MX W0 W1 W2 A0 A1 A2 KP KA RK n t k) e2)
  rw [e3]
  rfl

end Cert.CdInRefIdeal.Rowwise

end
-- ==== Proof.CdInRefValue.lean ====
/- The reference's decays, gates, keys and bonus, and its eleven results: the same functions of the arguments as the kernel's. -/
module

public import proofs.«01_k».proof.Proof.CdInRefConv
public import proofs.«01_k».proof.Proof.Gen.CdInRefIdeal.Read

@[expose] public section

set_option maxHeartbeats 1600000
set_option maxRecDepth 16384

noncomputable section

namespace Cert.CdInRefIdeal.Rowwise

open Cert.AbInRefIdeal.Rowwise (inLine inLine_one inLine_next masked sum_of prod_of)
open Cert.CdInRefIdeal Cert.CdInRefIdeal.Gen Cert.CdInRefIdeal.Read Idealize.ShloMosaic
open scoped BigOperators

variable (X : FVec Ideal S8x4096x1024 .f32) (M : FVec Ideal S8x6x1024 .f32) (W : FVec Ideal S1024x3584 .f32) (HY : FVec Ideal S3x1536 .f32)
  (MU : FVec Ideal S4x512 .f32) (MX : FVec Ideal S2x1024 .f32) (W0 : FVec Ideal S2x512 .f32) (W1 : FVec Ideal S2x1024x64 .f32)
  (W2 : FVec Ideal S2x64x512 .f32) (A0 : FVec Ideal S2x512 .f32) (A1 : FVec Ideal S2x1024x64 .f32) (A2 : FVec Ideal S2x64x512 .f32)
  (KP : FVec Ideal S512 .f32) (KA : FVec Ideal S512 .f32) (RK : FVec Ideal S8x64 .f32)

/-- The low-rank maps. -/
theorem v217_at (n : Fin 8) (t : Fin 4096) (i : Fin 64) : val_main_v217 (F := Ideal) X M MX W1 (ix3 n t i) = ∑ k, Mixed.feat (all X M W HY MU MX W0 W1 W2 A0 A1 A2 KP KA RK) 0 n t.val k * W1 (ix3 0 k i) := by
  pointwise [val_main_v217, val_main_v216, val_main_v215]
  refine Finset.sum_congr rfl fun k _ => ?_
  rw [v192_at X M W HY MU MX W0 W1 W2 A0 A1 A2 KP KA RK]

theorem v221_at (n : Fin 8) (t : Fin 4096) (l : Fin 512) : val_main_v221 (F := Ideal) X M MX W1 W2 (ix3 n t l) = ∑ i : Fin 64, Ideal.tanh (∑ k, Mixed.feat (all X M W HY MU MX W0 W1 W2 A0 A1 A2 KP KA RK) 0 n t.val k * W1 (ix3 0 k i)) * W2 (ix3 0 i l) := by
  pointwise [val_main_v221, val_main_v220, val_main_v219, val_main_v218]
  refine Finset.sum_congr rfl fun i _ => ?_
  rw [v217_at X M W HY MU MX W0 W1 W2 A0 A1 A2 KP KA RK]
  try rfl

theorem v224_at (n : Fin 8) (t : Fin 4096) (l : Fin 512) : val_main_v224 (F := Ideal) X M MX W0 W1 W2 (ix3 n t l) = Mixed.rawDecay (all X M W HY MU MX W0 W1 W2 A0 A1 A2 KP KA RK) 0 n t.val l := by
  pointwise [val_main_v224, val_main_v223, val_main_v222, val_main_v214, val_main_v213]
  rw [v221_at X M W HY MU MX W0 W1 W2 A0 A1 A2 KP KA RK]
  rfl

theorem v234_at (n : Fin 8) (t : Fin 4096) (i : Fin 64) : val_main_v234 (F := Ideal) X M MX A1 (ix3 n t i) = ∑ k, Mixed.feat (all X M W HY MU MX W0 W1 W2 A0 A1 A2 KP KA RK) 1 n t.val k * A1 (ix3 0 k i) := by
  pointwise [val_main_v234, val_main_v233, val_main_v232]
  refine Finset.sum_congr rfl fun k _ => ?_
  rw [v198_at X M W HY MU MX W0 W1 W2 A0 A1 A2 KP KA RK]

theorem v237_at (n : Fin 8) (t : Fin 4096) (l : Fin 512) : val_main_v237 (F := Ideal) X M MX A1 A2 (ix3 n t l) = ∑ i : Fin 64, (∑ k, Mixed.feat (all X M W HY MU MX W0 W1 W2 A0 A1 A2 KP KA RK) 1 n t.val k * A1 (ix3 0 k i)) * A2 (ix3 0 i l) := by
  pointwise [val_main_v237, val_main_v236, val_main_v235]
  refine Finset.sum_congr rfl fun i _ => ?_
  rw [v234_at X M W HY MU MX W0 W1 W2 A0 A1 A2 KP KA RK]
  try rfl

theorem v240_at (n : Fin 8) (t : Fin 4096) (l : Fin 512) : val_main_v240 (F := Ideal) X M MX A0 A1 A2 (ix3 n t l) = Mixed.rawGate (all X M W HY MU MX W0 W1 W2 A0 A1 A2 KP KA RK) 0 n t.val l := by
  pointwise [val_main_v240, val_main_v239, val_main_v238, val_main_v231, val_main_v230]
  rw [v237_at X M W HY MU MX W0 W1 W2 A0 A1 A2 KP KA RK]
  rfl

theorem v275_at (n : Fin 8) (t : Fin 4096) (i : Fin 64) : val_main_v275 (F := Ideal) X M MX W1 (ix3 n t i) = ∑ k, Mixed.feat (all X M W HY MU MX W0 W1 W2 A0 A1 A2 KP KA RK) 0 n t.val k * W1 (ix3 1 k i) := by
  pointwise [val_main_v275, val_main_v274, val_main_v273]
  refine Finset.sum_congr rfl fun k _ => ?_
  rw [v192_at X M W HY MU MX W0 W1 W2 A0 A1 A2 KP KA RK]

theorem v279_at (n : Fin 8) (t : Fin 4096) (l : Fin 512) : val_main_v279 (F := Ideal) X M MX W1 W2 (ix3 n t l) = ∑ i : Fin 64, Ideal.tanh (∑ k, Mixed.feat (all X M W HY MU MX W0 W1 W2 A0 A1 A2 KP KA RK) 0 n t.val k * W1 (ix3 1 k i)) * W2 (ix3 1 i l) := by
  pointwise [val_main_v279, val_main_v278, val_main_v277, val_main_v276]
  refine Finset.sum_congr rfl fun i _ => ?_
  rw [v275_at X M W HY MU MX W0 W1 W2 A0 A1 A2 KP KA RK]
  try rfl

theorem v282_at (n : Fin 8) (t : Fin 4096) (l : Fin 512) : val_main_v282 (F := Ideal) X M MX W0 W1 W2 (ix3 n t l) = Mixed.rawDecay (all X M W HY MU MX W0 W1 W2 A0 A1 A2 KP KA RK) 1 n t.val l := by
  pointwise [val_main_v282, val_main_v281, val_main_v280, val_main_v272, val_main_v271]
  rw [v279_at X M W HY MU MX W0 W1 W2 A0 A1 A2 KP KA RK]
  rfl

theorem v292_at (n : Fin 8) (t : Fin 4096) (i : Fin 64) : val_main_v292 (F := Ideal) X M MX A1 (ix3 n t i) = ∑ k, Mixed.feat (all X M W HY MU MX W0 W1 W2 A0 A1 A2 KP KA RK) 1 n t.val k * A1 (ix3 1 k i) := by
  pointwise [val_main_v292, val_main_v291, val_main_v290]
  refine Finset.sum_congr rfl fun k _ => ?_
  rw [v198_at X M W HY MU MX W0 W1 W2 A0 A1 A2 KP KA RK]

theorem v295_at (n : Fin 8) (t : Fin 4096) (l : Fin 512) : val_main_v295 (F := Ideal) X M MX A1 A2 (ix3 n t l) = ∑ i : Fin 64, (∑ k, Mixed.feat (all X M W HY MU MX W0 W1 W2 A0 A1 A2 KP KA RK) 1 n t.val k * A1 (ix3 1 k i)) * A2 (ix3 1 i l) := by
  pointwise [val_main_v295, val_main_v294, val_main_v293]
  refine Finset.sum_congr rfl fun i _ => ?_
  rw [v292_at X M W HY MU MX W0 W1 W2 A0 A1 A2 KP KA RK]
  try rfl

theorem v298_at (n : Fin 8) (t : Fin 4096) (l : Fin 512) : val_main_v298 (F := Ideal) X M MX A0 A1 A2 (ix3 n t l) = Mixed.rawGate (all X M W HY MU MX W0 W1 W2 A0 A1 A2 KP KA RK) 1 n t.val l := by
  pointwise [val_main_v298, val_main_v297, val_main_v296, val_main_v289, val_main_v288]
  rw [v295_at X M W HY MU MX W0 W1 W2 A0 A1 A2 KP KA RK]
  rfl

theorem v226_at (n : Fin 8) (t : Fin 4096) (l : Fin 512) : val_main_v226 (F := Ideal) X M MX W0 W1 W2 (ix3 n t l) = Lines.softplus (-(Mixed.rawDecay (all X M W HY MU MX W0 W1 W2 A0 A1 A2 KP KA RK) 0 n t.val l)) := by
  pointwise [val_main_v226, val_main_call9_v11, val_main_call9_v10, val_main_call9_v9, val_main_call9_v8, val_main_call9_v7, val_main_call9_v6, val_main_call9_v5, val_main_call9_v4, val_main_call9_v3, val_main_call9_v2, val_main_call9_v1, val_main_call9_v0, val_main_call9_cst, val_main_v225]
  rw [if_neg (fun h => h rfl), v224_at X M W HY MU MX W0 W1 W2 A0 A1 A2 KP KA RK]
  rfl

theorem v268_at (n : Fin 8) (t : Fin 4096) (l : Fin 512) : val_main_v268 (F := Ideal) X M MX W0 W1 W2 (ix3 n t l) = Mixed.decays (all X M W HY MU MX W0 W1 W2 A0 A1 A2 KP KA RK) 0 n t.val l := by
  pointwise [val_main_v268, val_main_v267, val_main_v266, val_main_v229, val_main_v228, val_main_v227, val_main_cst_46]
  rw [v226_at X M W HY MU MX W0 W1 W2 A0 A1 A2 KP KA RK]
  rfl

theorem v284_at (n : Fin 8) (t : Fin 4096) (l : Fin 512) : val_main_v284 (F := Ideal) X M MX W0 W1 W2 (ix3 n t l) = Lines.softplus (-(Mixed.rawDecay (all X M W HY MU MX W0 W1 W2 A0 A1 A2 KP KA RK) 1 n t.val l)) := by
  pointwise [val_main_v284, val_main_call10_v11, val_main_call10_v10, val_main_call10_v9, val_main_call10_v8, val_main_call10_v7, val_main_call10_v6, val_main_call10_v5, val_main_call10_v4, val_main_call10_v3, val_main_call10_v2, val_main_call10_v1, val_main_call10_v0, val_main_call10_cst, val_main_v283]
  rw [if_neg (fun h => h rfl), v282_at X M W HY MU MX W0 W1 W2 A0 A1 A2 KP KA RK]
  rfl

theorem v325_at (n : Fin 8) (t : Fin 4096) (l : Fin 512) : val_main_v325 (F := Ideal) X M MX W0 W1 W2 (ix3 n t l) = Mixed.decays (all X M W HY MU MX W0 W1 W2 A0 A1 A2 KP KA RK) 1 n t.val l := by
  pointwise [val_main_v325, val_main_v324, val_main_v323, val_main_v287, val_main_v286, val_main_v285, val_main_cst_53]
  rw [v284_at X M W HY MU MX W0 W1 W2 A0 A1 A2 KP KA RK]
  rfl

theorem v246_at (n : Fin 8) (t : Fin 4096) (l : Fin 512) : val_main_v246 (F := Ideal) X M MX A0 A1 A2 (ix3 n t l) = Mixed.gates (all X M W HY MU MX W0 W1 W2 A0 A1 A2 KP KA RK) 0 n t.val l := by
  pointwise [val_main_v246, val_main_v245, val_main_v244, val_main_v243, val_main_v242, val_main_v241, val_main_cst_47, val_main_cst_48]
  rw [v240_at X M W HY MU MX W0 W1 W2 A0 A1 A2 KP KA RK]
  rfl

theorem v254_at (n : Fin 8) (t : Fin 4096) (l : Fin 512) : val_main_v254 (F := Ideal) X M W MU MX A0 A1 A2 KA (ix3 n t l) = Mixed.keys (all X M W HY MU MX W0 W1 W2 A0 A1 A2 KP KA RK) 0 n t.val l := by
  pointwise [val_main_v254, val_main_v253, val_main_v252, val_main_v251, val_main_v250, val_main_v249, val_main_v248, val_main_v247, val_main_cst_49, val_main_cst_50]
  rw [v130_at X M W HY MU MX W0 W1 W2 A0 A1 A2 KP KA RK, v246_at X M W HY MU MX W0 W1 W2 A0 A1 A2 KP KA RK]
  rfl

theorem v304_at (n : Fin 8) (t : Fin 4096) (l : Fin 512) : val_main_v304 (F := Ideal) X M MX A0 A1 A2 (ix3 n t l) = Mixed.gates (all X M W HY MU MX W0 W1 W2 A0 A1 A2 KP KA RK) 1 n t.val l := by
  pointwise [val_main_v304, val_main_v303, val_main_v302, val_main_v301, val_main_v300, val_main_v299, val_main_cst_54, val_main_cst_55]
  rw [v298_at X M W HY MU MX W0 W1 W2 A0 A1 A2 KP KA RK]
  rfl

theorem v312_at (n : Fin 8) (t : Fin 4096) (l : Fin 512) : val_main_v312 (F := Ideal) X M W MU MX A0 A1 A2 KA (ix3 n t l) = Mixed.keys (all X M W HY MU MX W0 W1 W2 A0 A1 A2 KP KA RK) 1 n t.val l := by
  pointwise [val_main_v312, val_main_v311, val_main_v310, val_main_v309, val_main_v308, val_main_v307, val_main_v306, val_main_v305, val_main_cst_56, val_main_cst_57]
  rw [v130_at X M W HY MU MX W0 W1 W2 A0 A1 A2 KP KA RK, v304_at X M W HY MU MX W0 W1 W2 A0 A1 A2 KP KA RK]
  rfl

/-- The arrays by heads. -/
theorem v204_at (n : Fin 8) (t : Fin 4096) (h : Fin 8) (i : Fin 64) : val_main_v204 (F := Ideal) X M W MU KP (ix4 n t h i) = Mixed.key (all X M W HY MU MX W0 W1 W2 A0 A1 A2 KP KA RK) n t.val (Lines.feature h i) * KP (ix1 (Lines.feature h i)) := by
  pointwise [val_main_v204, val_main_v203, val_main_v202, val_main_v201]
  exact congrArg (· * KP (ix1 (Lines.feature h i))) (v130_at X M W HY MU MX W0 W1 W2 A0 A1 A2 KP KA RK n t (Lines.feature h i))

theorem v206_at (n : Fin 8) (t : Fin 4096) (h : Fin 8) : val_main_v206 (F := Ideal) X M W MU KP (ix3 n t h) = ∑ j : Fin 64, Mixed.key (all X M W HY MU MX W0 W1 W2 A0 A1 A2 KP KA RK) n t.val (Lines.feature h j) * KP (ix1 (Lines.feature h j)) * (Mixed.key (all X M W HY MU MX W0 W1 W2 A0 A1 A2 KP KA RK) n t.val (Lines.feature h j) * KP (ix1 (Lines.feature h j))) := by
  pointwise [val_main_v206, val_main_v205, val_main_cst_44]
  refine Finset.sum_congr rfl fun j _ => ?_
  rw [v204_at X M W HY MU MX W0 W1 W2 A0 A1 A2 KP KA RK]

theorem v212_at (n : Fin 8) (t : Fin 4096) (h : Fin 8) (i : Fin 64) : val_main_v212 (F := Ideal) X M W MU KP (ix4 n t h i)
    = Mixed.key (all X M W HY MU MX W0 W1 W2 A0 A1 A2 KP KA RK) n t.val (Lines.feature h i) * KP (ix1 (Lines.feature h i)) * Ideal.rsqrt ((∑ j : Fin 64, Mixed.key (all X M W HY MU MX W0 W1 W2 A0 A1 A2 KP KA RK) n t.val (Lines.feature h j) * KP (ix1 (Lines.feature h j)) * (Mixed.key (all X M W HY MU MX W0 W1 W2 A0 A1 A2 KP KA RK) n t.val (Lines.feature h j) * KP (ix1 (Lines.feature h j)))) + Mixed.eps) := by
  pointwise [val_main_v212, val_main_v211, val_main_v210, val_main_v209, val_main_v208, val_main_v207, val_main_cst_45]
  rw [v204_at X M W HY MU MX W0 W1 W2 A0 A1 A2 KP KA RK, v206_at X M W HY MU MX W0 W1 W2 A0 A1 A2 KP KA RK]

theorem v199_at (n : Fin 8) (t : Fin 4096) (h : Fin 8) (i : Fin 64) : val_main_v199 (F := Ideal) X M W MU (ix4 n t h i) = Mixed.rcp (all X M W HY MU MX W0 W1 W2 A0 A1 A2 KP KA RK) n t.val (Lines.feature h i) := by
  pointwise [val_main_v199]
  exact v123_at X M W HY MU MX W0 W1 W2 A0 A1 A2 KP KA RK n t (Lines.feature h i)

theorem v200_at (n : Fin 8) (t : Fin 4096) (h : Fin 8) (i : Fin 64) : val_main_v200 (F := Ideal) X M W MU (ix4 n t h i) = Mixed.val (all X M W HY MU MX W0 W1 W2 A0 A1 A2 KP KA RK) n t.val (Lines.feature h i) := by
  pointwise [val_main_v200]
  exact v137_at X M W HY MU MX W0 W1 W2 A0 A1 A2 KP KA RK n t (Lines.feature h i)

theorem v255_at (n : Fin 8) (t : Fin 4096) (h : Fin 8) (i : Fin 64) : val_main_v255 (F := Ideal) X M W MU MX A0 A1 A2 KA (ix4 n t h i) = Mixed.keys (all X M W HY MU MX W0 W1 W2 A0 A1 A2 KP KA RK) 0 n t.val (Lines.feature h i) := by
  pointwise [val_main_v255]
  exact v254_at X M W HY MU MX W0 W1 W2 A0 A1 A2 KP KA RK n t (Lines.feature h i)

theorem v269_at (n : Fin 8) (t : Fin 4096) (h : Fin 8) (i : Fin 64) : val_main_v269 (F := Ideal) X M MX A0 A1 A2 (ix4 n t h i) = Mixed.gates (all X M W HY MU MX W0 W1 W2 A0 A1 A2 KP KA RK) 0 n t.val (Lines.feature h i) := by
  pointwise [val_main_v269]
  exact v246_at X M W HY MU MX W0 W1 W2 A0 A1 A2 KP KA RK n t (Lines.feature h i)

theorem v260_at (n : Fin 8) (t : Fin 4096) (h : Fin 8) : val_main_v260 (F := Ideal) X M W MU MX A0 A1 A2 KA RK (ix3 n t h) = ∑ j : Fin 64, Mixed.rcp (all X M W HY MU MX W0 W1 W2 A0 A1 A2 KP KA RK) n t.val (Lines.feature h j) * Mixed.keys (all X M W HY MU MX W0 W1 W2 A0 A1 A2 KP KA RK) 0 n t.val (Lines.feature h j) * RK (ix2 h j) := by
  pointwise [val_main_v260, val_main_v259, val_main_v258, val_main_v257, val_main_v256, val_main_cst_51]
  refine Finset.sum_congr rfl fun j _ => ?_
  rw [v199_at X M W HY MU MX W0 W1 W2 A0 A1 A2 KP KA RK, v255_at X M W HY MU MX W0 W1 W2 A0 A1 A2 KP KA RK]

theorem v263_at (n : Fin 8) (t : Fin 4096) (h : Fin 8) (i : Fin 64) : val_main_v263 (F := Ideal) X M W MU MX A0 A1 A2 KA RK (ix4 n t h i)
    = (∑ j : Fin 64, Mixed.rcp (all X M W HY MU MX W0 W1 W2 A0 A1 A2 KP KA RK) n t.val (Lines.feature h j) * Mixed.keys (all X M W HY MU MX W0 W1 W2 A0 A1 A2 KP KA RK) 0 n t.val (Lines.feature h j) * RK (ix2 h j)) * Mixed.val (all X M W HY MU MX W0 W1 W2 A0 A1 A2 KP KA RK) n t.val (Lines.feature h i) := by
  pointwise [val_main_v263, val_main_v262, val_main_v261]
  rw [v260_at X M W HY MU MX W0 W1 W2 A0 A1 A2 KP KA RK, v200_at X M W HY MU MX W0 W1 W2 A0 A1 A2 KP KA RK]

theorem v270_at (n : Fin 8) (t : Fin 4096) (h : Fin 8) (i : Fin 64) : val_main_v270 (F := Ideal) X M W MU MX A0 A1 A2 KP (ix4 n t h i) = val_main_v212 (F := Ideal) X M W MU KP (ix4 n t h i) * Mixed.gates (all X M W HY MU MX W0 W1 W2 A0 A1 A2 KP KA RK) 0 n t.val (Lines.feature h i) := by
  pointwise [val_main_v270]
  rw [v269_at X M W HY MU MX W0 W1 W2 A0 A1 A2 KP KA RK]

theorem v313_at (n : Fin 8) (t : Fin 4096) (h : Fin 8) (i : Fin 64) : val_main_v313 (F := Ideal) X M W MU MX A0 A1 A2 KA (ix4 n t h i) = Mixed.keys (all X M W HY MU MX W0 W1 W2 A0 A1 A2 KP KA RK) 1 n t.val (Lines.feature h i) := by
  pointwise [val_main_v313]
  exact v312_at X M W HY MU MX W0 W1 W2 A0 A1 A2 KP KA RK n t (Lines.feature h i)

theorem v326_at (n : Fin 8) (t : Fin 4096) (h : Fin 8) (i : Fin 64) : val_main_v326 (F := Ideal) X M MX A0 A1 A2 (ix4 n t h i) = Mixed.gates (all X M W HY MU MX W0 W1 W2 A0 A1 A2 KP KA RK) 1 n t.val (Lines.feature h i) := by
  pointwise [val_main_v326]
  exact v304_at X M W HY MU MX W0 W1 W2 A0 A1 A2 KP KA RK n t (Lines.feature h i)

theorem v318_at (n : Fin 8) (t : Fin 4096) (h : Fin 8) : val_main_v318 (F := Ideal) X M W MU MX A0 A1 A2 KA RK (ix3 n t h) = ∑ j : Fin 64, Mixed.rcp (all X M W HY MU MX W0 W1 W2 A0 A1 A2 KP KA RK) n t.val (Lines.feature h j) * Mixed.keys (all X M W HY MU MX W0 W1 W2 A0 A1 A2 KP KA RK) 1 n t.val (Lines.feature h j) * RK (ix2 h j) := by
  pointwise [val_main_v318, val_main_v317, val_main_v316, val_main_v315, val_main_v314, val_main_cst_58]
  refine Finset.sum_congr rfl fun j _ => ?_
  rw [v199_at X M W HY MU MX W0 W1 W2 A0 A1 A2 KP KA RK, v313_at X M W HY MU MX W0 W1 W2 A0 A1 A2 KP KA RK]

theorem v321_at (n : Fin 8) (t : Fin 4096) (h : Fin 8) (i : Fin 64) : val_main_v321 (F := Ideal) X M W MU MX A0 A1 A2 KA RK (ix4 n t h i)
    = (∑ j : Fin 64, Mixed.rcp (all X M W HY MU MX W0 W1 W2 A0 A1 A2 KP KA RK) n t.val (Lines.feature h j) * Mixed.keys (all X M W HY MU MX W0 W1 W2 A0 A1 A2 KP KA RK) 1 n t.val (Lines.feature h j) * RK (ix2 h j)) * Mixed.val (all X M W HY MU MX W0 W1 W2 A0 A1 A2 KP KA RK) n t.val (Lines.feature h i) := by
  pointwise [val_main_v321, val_main_v320, val_main_v319]
  rw [v318_at X M W HY MU MX W0 W1 W2 A0 A1 A2 KP KA RK, v200_at X M W HY MU MX W0 W1 W2 A0 A1 A2 KP KA RK]

theorem v327_at (n : Fin 8) (t : Fin 4096) (h : Fin 8) (i : Fin 64) : val_main_v327 (F := Ideal) X M W MU MX A0 A1 A2 KP (ix4 n t h i) = val_main_v212 (F := Ideal) X M W MU KP (ix4 n t h i) * Mixed.gates (all X M W HY MU MX W0 W1 W2 A0 A1 A2 KP KA RK) 1 n t.val (Lines.feature h i) := by
  pointwise [val_main_v327]
  rw [v326_at X M W HY MU MX W0 W1 W2 A0 A1 A2 KP KA RK]

/-- A feature is its place in its head. -/
theorem own (l : Fin 512) : Lines.feature (Lines.head l) (Lines.place l) = l := Fin.ext (by show l.val / 64 * 64 + l.val % 64 = l.val; omega)
theorem head_own (h : Fin 8) (j : Fin 64) : Lines.head (Lines.feature h j) = h := Fin.ext (by show (h.val * 64 + j.val) / 64 = h.val; omega)
theorem place_own (h : Fin 8) (j : Fin 64) : Lines.place (Lines.feature h j) = j := Fin.ext (by show (h.val * 64 + j.val) % 64 = j.val; omega)

theorem v212_own (n : Fin 8) (t : Fin 4096) (l : Fin 512) : val_main_v212 (F := Ideal) X M W MU KP (ix4 n t (Lines.head l) (Lines.place l)) = Mixed.unit (all X M W HY MU MX W0 W1 W2 A0 A1 A2 KP KA RK) n t.val l := by
  rw [v212_at X M W HY MU MX W0 W1 W2 A0 A1 A2 KP KA RK, own]
  rfl

theorem part_own (d : Fin 2) (n : Fin 8) (t : Fin 4096) (l : Fin 512) :
    (∑ j : Fin 64, Mixed.rcp (all X M W HY MU MX W0 W1 W2 A0 A1 A2 KP KA RK) n t.val (Lines.feature (Lines.head l) j) * Mixed.keys (all X M W HY MU MX W0 W1 W2 A0 A1 A2 KP KA RK) d n t.val (Lines.feature (Lines.head l) j) * RK (ix2 (Lines.head l) j))
        * Mixed.val (all X M W HY MU MX W0 W1 W2 A0 A1 A2 KP KA RK) n t.val (Lines.feature (Lines.head l) (Lines.place l))
      = Mixed.part1 (Mixed.rcp (all X M W HY MU MX W0 W1 W2 A0 A1 A2 KP KA RK) n t.val) (Mixed.keys (all X M W HY MU MX W0 W1 W2 A0 A1 A2 KP KA RK) d n t.val) (fun p => (all X M W HY MU MX W0 W1 W2 A0 A1 A2 KP KA RK).rk (Lines.head p) (Lines.place p)) (Mixed.val (all X M W HY MU MX W0 W1 W2 A0 A1 A2 KP KA RK) n t.val l) l := by
  unfold Mixed.part1
  rw [own]
  refine congrArg (· * Mixed.val (all X M W HY MU MX W0 W1 W2 A0 A1 A2 KP KA RK) n t.val l) (Finset.sum_congr rfl fun j _ => ?_)
  exact congrArg (Mixed.rcp (all X M W HY MU MX W0 W1 W2 A0 A1 A2 KP KA RK) n t.val (Lines.feature (Lines.head l) j) * Mixed.keys (all X M W HY MU MX W0 W1 W2 A0 A1 A2 KP KA RK) d n t.val (Lines.feature (Lines.head l) j) * ·)
    (congrArg₂ (fun a b => RK (ix2 a b)) (head_own (Lines.head l) j) (place_own (Lines.head l) j)).symm

theorem v322_own (n : Fin 8) (t : Fin 4096) (l : Fin 512) : val_main_v322 (F := Ideal) X M W MU MX A0 A1 A2 KA RK (ix4 n t (Lines.head l) (Lines.place l)) = Mixed.bonus (all X M W HY MU MX W0 W1 W2 A0 A1 A2 KP KA RK) n t.val l := by
  have h : val_main_v264 (F := Ideal) (ix4 n t (Lines.head l) (Lines.place l)) = (0 : EReal) := by
    pointwise [val_main_v264, val_main_cst_52]
  have e265 := ((val_main_v265_apply (F := Ideal) X M W MU MX A0 A1 A2 KA RK (ix4 n t (Lines.head l) (Lines.place l))).trans
    (sum_of h ((v263_at X M W HY MU MX W0 W1 W2 A0 A1 A2 KP KA RK n t (Lines.head l) (Lines.place l)).trans (part_own X M W HY MU MX W0 W1 W2 A0 A1 A2 KP KA RK 0 n t l)))).trans (zero_add _)
  exact (val_main_v322_apply (F := Ideal) X M W MU MX A0 A1 A2 KA RK (ix4 n t (Lines.head l) (Lines.place l))).trans
    (sum_of e265 ((v321_at X M W HY MU MX W0 W1 W2 A0 A1 A2 KP KA RK n t (Lines.head l) (Lines.place l)).trans (part_own X M W HY MU MX W0 W1 W2 A0 A1 A2 KP KA RK 1 n t l)))

/-- A flat row's token. -/
abbrev tok (q : Fin 32768) : Fin 4096 := ⟨q.val % 4096, Nat.mod_lt _ (by decide)⟩

/-- The eleven results. -/
theorem res328 : val_main_v328 (F := Ideal) X M W HY = Mixed.at2 (fun n t l => Mixed.conv (all X M W HY MU MX W0 W1 W2 A0 A1 A2 KP KA RK) n t ⟨l.val, by omega⟩) := by
  funext y
  obtain ⟨q, l, rfl⟩ : ∃ (q : Fin 32768) (l : Fin 512), y = ix2 q l := ⟨y 0, y 1, eq_ix2 y⟩
  rw [Mixed.at2_at (fun n t l => Mixed.conv (all X M W HY MU MX W0 W1 W2 A0 A1 A2 KP KA RK) n t ⟨l.val, by omega⟩) q (Mixed.entry q) (q.val % 4096) l (Nat.mod_lt _ (by decide)) (by show q.val = q.val / 4096 * 4096 + q.val % 4096; omega)]
  pointwise [val_main_v328, val_main_v64]
  exact v63_at X M W HY MU MX W0 W1 W2 A0 A1 A2 KP KA RK (Mixed.entry q) (tok q) _

theorem res329 : val_main_v329 (F := Ideal) X M W HY = Mixed.at2 (fun n t l => Mixed.conv (all X M W HY MU MX W0 W1 W2 A0 A1 A2 KP KA RK) n t ⟨512 + l.val, by omega⟩) := by
  funext y
  obtain ⟨q, l, rfl⟩ : ∃ (q : Fin 32768) (l : Fin 512), y = ix2 q l := ⟨y 0, y 1, eq_ix2 y⟩
  rw [Mixed.at2_at (fun n t l => Mixed.conv (all X M W HY MU MX W0 W1 W2 A0 A1 A2 KP KA RK) n t ⟨512 + l.val, by omega⟩) q (Mixed.entry q) (q.val % 4096) l (Nat.mod_lt _ (by decide)) (by show q.val = q.val / 4096 * 4096 + q.val % 4096; omega)]
  pointwise [val_main_v329, val_main_v65]
  exact v63_at X M W HY MU MX W0 W1 W2 A0 A1 A2 KP KA RK (Mixed.entry q) (tok q) _

theorem res330 : val_main_v330 (F := Ideal) X M W HY = Mixed.at2 (fun n t l => Mixed.conv (all X M W HY MU MX W0 W1 W2 A0 A1 A2 KP KA RK) n t ⟨1024 + l.val, by omega⟩) := by
  funext y
  obtain ⟨q, l, rfl⟩ : ∃ (q : Fin 32768) (l : Fin 512), y = ix2 q l := ⟨y 0, y 1, eq_ix2 y⟩
  rw [Mixed.at2_at (fun n t l => Mixed.conv (all X M W HY MU MX W0 W1 W2 A0 A1 A2 KP KA RK) n t ⟨1024 + l.val, by omega⟩) q (Mixed.entry q) (q.val % 4096) l (Nat.mod_lt _ (by decide)) (by show q.val = q.val / 4096 * 4096 + q.val % 4096; omega)]
  pointwise [val_main_v330, val_main_v66]
  exact v63_at X M W HY MU MX W0 W1 W2 A0 A1 A2 KP KA RK (Mixed.entry q) (tok q) _

theorem res331 : val_main_v331 (F := Ideal) X M W MU = Mixed.at2 (Mixed.rcp (all X M W HY MU MX W0 W1 W2 A0 A1 A2 KP KA RK)) := by
  funext y
  obtain ⟨q, l, rfl⟩ : ∃ (q : Fin 32768) (l : Fin 512), y = ix2 q l := ⟨y 0, y 1, eq_ix2 y⟩
  rw [Mixed.at2_at (Mixed.rcp (all X M W HY MU MX W0 W1 W2 A0 A1 A2 KP KA RK)) q (Mixed.entry q) (q.val % 4096) l (Nat.mod_lt _ (by decide)) (by show q.val = q.val / 4096 * 4096 + q.val % 4096; omega)]
  pointwise [val_main_v331]
  exact v123_at X M W HY MU MX W0 W1 W2 A0 A1 A2 KP KA RK (Mixed.entry q) (tok q) l

theorem res332 : val_main_v332 (F := Ideal) X M W MU = Mixed.at2 (Mixed.val (all X M W HY MU MX W0 W1 W2 A0 A1 A2 KP KA RK)) := by
  funext y
  obtain ⟨q, l, rfl⟩ : ∃ (q : Fin 32768) (l : Fin 512), y = ix2 q l := ⟨y 0, y 1, eq_ix2 y⟩
  rw [Mixed.at2_at (Mixed.val (all X M W HY MU MX W0 W1 W2 A0 A1 A2 KP KA RK)) q (Mixed.entry q) (q.val % 4096) l (Nat.mod_lt _ (by decide)) (by show q.val = q.val / 4096 * 4096 + q.val % 4096; omega)]
  pointwise [val_main_v332]
  exact v137_at X M W HY MU MX W0 W1 W2 A0 A1 A2 KP KA RK (Mixed.entry q) (tok q) l

theorem res333 : val_main_v333 (F := Ideal) X M W MU KP = Mixed.at2 (Mixed.unit (all X M W HY MU MX W0 W1 W2 A0 A1 A2 KP KA RK)) := by
  funext y
  obtain ⟨q, l, rfl⟩ : ∃ (q : Fin 32768) (l : Fin 512), y = ix2 q l := ⟨y 0, y 1, eq_ix2 y⟩
  rw [Mixed.at2_at (Mixed.unit (all X M W HY MU MX W0 W1 W2 A0 A1 A2 KP KA RK)) q (Mixed.entry q) (q.val % 4096) l (Nat.mod_lt _ (by decide)) (by show q.val = q.val / 4096 * 4096 + q.val % 4096; omega)]
  pointwise [val_main_v333]
  exact v212_own X M W HY MU MX W0 W1 W2 A0 A1 A2 KP KA RK (Mixed.entry q) (tok q) l

theorem res346 : val_main_v346 (F := Ideal) X M W MU MX A0 A1 A2 KA RK = Mixed.at2 (Mixed.bonus (all X M W HY MU MX W0 W1 W2 A0 A1 A2 KP KA RK)) := by
  funext y
  obtain ⟨q, l, rfl⟩ : ∃ (q : Fin 32768) (l : Fin 512), y = ix2 q l := ⟨y 0, y 1, eq_ix2 y⟩
  rw [Mixed.at2_at (Mixed.bonus (all X M W HY MU MX W0 W1 W2 A0 A1 A2 KP KA RK)) q (Mixed.entry q) (q.val % 4096) l (Nat.mod_lt _ (by decide)) (by show q.val = q.val / 4096 * 4096 + q.val % 4096; omega)]
  pointwise [val_main_v346]
  exact v322_own X M W HY MU MX W0 W1 W2 A0 A1 A2 KP KA RK (Mixed.entry q) (tok q) l

theorem res353 : val_main_v353 (F := Ideal) X M W MU = Mixed.at2 (Mixed.outGate (all X M W HY MU MX W0 W1 W2 A0 A1 A2 KP KA RK)) := by
  funext y
  obtain ⟨q, l, rfl⟩ : ∃ (q : Fin 32768) (l : Fin 512), y = ix2 q l := ⟨y 0, y 1, eq_ix2 y⟩
  rw [Mixed.at2_at (Mixed.outGate (all X M W HY MU MX W0 W1 W2 A0 A1 A2 KP KA RK)) q (Mixed.entry q) (q.val % 4096) l (Nat.mod_lt _ (by decide)) (by show q.val = q.val / 4096 * 4096 + q.val % 4096; omega)]
  pointwise [val_main_v353, val_main_v352, val_main_v351, val_main_v350, val_main_v349, val_main_v348, val_main_v347, val_main_cst_59, val_main_cst_60]
  exact congrArg Lines.sigmoid (v144_at X M W HY MU MX W0 W1 W2 A0 A1 A2 KP KA RK (Mixed.entry q) (tok q) l)

theorem gate_own (d : Fin 2) (n : Fin 8) (t : Fin 4096) (l : Fin 512) :
    val_main_v212 (F := Ideal) X M W MU KP (ix4 n t (Lines.head l) (Lines.place l)) * Mixed.gates (all X M W HY MU MX W0 W1 W2 A0 A1 A2 KP KA RK) d n t.val (Lines.feature (Lines.head l) (Lines.place l)) = Mixed.removals (all X M W HY MU MX W0 W1 W2 A0 A1 A2 KP KA RK) d n t.val l := by
  rw [v212_own X M W HY MU MX W0 W1 W2 A0 A1 A2 KP KA RK, own]
  rfl

theorem res337 : val_main_v337 (F := Ideal) X M MX W0 W1 W2 = Mixed.at3 (Mixed.decays (all X M W HY MU MX W0 W1 W2 A0 A1 A2 KP KA RK)) := by
  funext y
  obtain ⟨d, q, l, rfl⟩ : ∃ (d : Fin 2) (q : Fin 32768) (l : Fin 512), y = ix3 d q l := ⟨y 0, y 1, y 2, eq_ix3 y⟩
  rw [Mixed.at3_at (Mixed.decays (all X M W HY MU MX W0 W1 W2 A0 A1 A2 KP KA RK)) d q (Mixed.entry q) (q.val % 4096) l (Nat.mod_lt _ (by decide)) (by show q.val = q.val / 4096 * 4096 + q.val % 4096; omega)]
  pointwise [val_main_v337, val_main_v336, val_main_v335, val_main_v334]
  rcases (by omega : d.val = 0 ∨ d.val = 1) with h | h
  · obtain rfl : d = 0 := Fin.ext h
    exact (dif_pos (by decide)).trans (v268_at X M W HY MU MX W0 W1 W2 A0 A1 A2 KP KA RK (Mixed.entry q) (tok q) l)
  · obtain rfl : d = 1 := Fin.ext h
    exact (dif_neg (by decide)).trans (v325_at X M W HY MU MX W0 W1 W2 A0 A1 A2 KP KA RK (Mixed.entry q) (tok q) l)

theorem res341 : val_main_v341 (F := Ideal) X M W MU MX A0 A1 A2 KA = Mixed.at3 (Mixed.keys (all X M W HY MU MX W0 W1 W2 A0 A1 A2 KP KA RK)) := by
  funext y
  obtain ⟨d, q, l, rfl⟩ : ∃ (d : Fin 2) (q : Fin 32768) (l : Fin 512), y = ix3 d q l := ⟨y 0, y 1, y 2, eq_ix3 y⟩
  rw [Mixed.at3_at (Mixed.keys (all X M W HY MU MX W0 W1 W2 A0 A1 A2 KP KA RK)) d q (Mixed.entry q) (q.val % 4096) l (Nat.mod_lt _ (by decide)) (by show q.val = q.val / 4096 * 4096 + q.val % 4096; omega)]
  pointwise [val_main_v341, val_main_v340, val_main_v339, val_main_v338]
  rcases (by omega : d.val = 0 ∨ d.val = 1) with h | h
  · obtain rfl : d = 0 := Fin.ext h
    exact (dif_pos (by decide)).trans (v254_at X M W HY MU MX W0 W1 W2 A0 A1 A2 KP KA RK (Mixed.entry q) (tok q) l)
  · obtain rfl : d = 1 := Fin.ext h
    exact (dif_neg (by decide)).trans (v312_at X M W HY MU MX W0 W1 W2 A0 A1 A2 KP KA RK (Mixed.entry q) (tok q) l)

theorem res345 : val_main_v345 (F := Ideal) X M W MU MX A0 A1 A2 KP = Mixed.at3 (Mixed.removals (all X M W HY MU MX W0 W1 W2 A0 A1 A2 KP KA RK)) := by
  funext y
  obtain ⟨d, q, l, rfl⟩ : ∃ (d : Fin 2) (q : Fin 32768) (l : Fin 512), y = ix3 d q l := ⟨y 0, y 1, y 2, eq_ix3 y⟩
  rw [Mixed.at3_at (Mixed.removals (all X M W HY MU MX W0 W1 W2 A0 A1 A2 KP KA RK)) d q (Mixed.entry q) (q.val % 4096) l (Nat.mod_lt _ (by decide)) (by show q.val = q.val / 4096 * 4096 + q.val % 4096; omega)]
  pointwise [val_main_v345, val_main_v344, val_main_v343, val_main_v342]
  rcases (by omega : d.val = 0 ∨ d.val = 1) with h | h
  · obtain rfl : d = 0 := Fin.ext h
    exact (dif_pos (by decide)).trans ((v270_at X M W HY MU MX W0 W1 W2 A0 A1 A2 KP KA RK (Mixed.entry q) (tok q) (Lines.head l) (Lines.place l)).trans (gate_own X M W HY MU MX W0 W1 W2 A0 A1 A2 KP KA RK 0 (Mixed.entry q) (tok q) l))
  · obtain rfl : d = 1 := Fin.ext h
    exact (dif_neg (by decide)).trans ((v327_at X M W HY MU MX W0 W1 W2 A0 A1 A2 KP KA RK (Mixed.entry q) (tok q) (Lines.head l) (Lines.place l)).trans (gate_own X M W HY MU MX W0 W1 W2 A0 A1 A2 KP KA RK 1 (Mixed.entry q) (tok q) l))

end Cert.CdInRefIdeal.Rowwise

end
-- ==== Proof.CdInClaim.lean ====
/- The claims of the odd layers' first call. -/
module

public import proofs.«01_k».proof.Defs
public import proofs.«01_k».proof.Proof.Gen.Pre_inputs_finite
public import proofs.«01_k».proof.Proof.Gen.CdInRefIdeal.Run
public import proofs.«01_k».proof.Proof.CdInResult
public import proofs.«01_k».proof.Proof.CdInValue
public import proofs.«01_k».proof.Proof.CdInRefValue
public import Idealize.ShloMosaic.Lib.Claim

@[expose] public section

set_option maxRecDepth 16384
set_option maxHeartbeats 1600000

noncomputable section

namespace Cert.CdInClaim

open Idealize.ShloMosaic Idealize.SL.Sem Cert.CdInIdeal.Rowwise

/-- The reference runs, ends quiescent and leaves its arguments as they were. -/
theorem frame : Cert.quiescent_CdInRefIdeal := fun m ρ _ =>
  (θ_run Cert.CdInRefIdeal.defs _ _).mono (fun r h => ⟨fun c => (h c).2.2.2.2.2.2.2.2.2.2.2, sem_eq_zero_of_no_sems (by decide) r.2⟩)
    (Cert.CdInRefIdeal.Value.run (F := Ideal) m ρ)

/-- Where the comparison with infinity holds, the values are real. -/
theorem below {s : Shape} (a : FVec Ideal s .f32) (hb : (⟨0, ![]⟩ : Shape).BroadcastsInDim s (![] : Fin 0 → Fin s.rank))
    (h : cmpf .olt (Host.absf a) (broadcastInDim s ![] hb (constant (F := Ideal) (⟨0, ![]⟩ : Shape) .f32 0x7F800000#32)) = fun _ => 1#1) (i : s.Idx) : Mixed.IsReal (a i) := by
  have e := congrFun h i
  change Ideal.cmp .olt (max (a i : EReal) (-(a i : EReal))) (Ideal.ofBits .f32 0x7F800000#32) = 1#1 at e
  have htop : Ideal.ofBits .f32 0x7F800000#32 = ⊤ := by simp [Ideal.ofBits, Ideal.ieee]
  rw [htop] at e
  refine Mixed.isReal_of_abs _ ?_
  by_contra hn
  simp [Ideal.cmp, hn] at e

/-- The precondition, of the arguments. -/
theorem finite_of (m : (ℓ : Loc Cert.CdInIdeal.nD Cert.CdInIdeal.τ Cert.CdInIdeal.sig) → Buf (Elt Ideal) ℓ) (h : Cert.Pre_CdInIdeal_inputs_finite m)
    (c : Dev Cert.CdInIdeal.nD) : Mixed.Finite (args m c) := by
  obtain ⟨h0, h1, h2, h3, h4, h5, h6⟩ := h c
  exact ⟨fun n t k => below (X m c) Cert.Pre_inputs_finite.Gen.bcast_S_S8x4096x1024 h0 (ix3 n t k),
    fun n a k => below (MD m c) Cert.Pre_inputs_finite.Gen.bcast_S_S8x6x1024 h1 (ix3 n a k),
    fun q j => below (WP m c) Cert.Pre_inputs_finite.Gen.bcast_S_S1024x3584 h2 (ix2 q j),
    fun q l => below (MU m c) Cert.Pre_inputs_finite.Gen.bcast_S_S4x512 h3 (ix2 q l),
    fun l => below (KP m c) Cert.Pre_inputs_finite.Gen.bcast_S_S512 h4 (ix1 l),
    fun l => below (KA m c) Cert.Pre_inputs_finite.Gen.bcast_S_S512 h5 (ix1 l),
    fun q i => below (RK m c) Cert.Pre_inputs_finite.Gen.bcast_S_S8x64 h6 (ix2 q i)⟩

/-- Kernel and reference end at the same contents. -/
theorem algebraic : Cert.algebraic_CdInIdeal_CdInRefIdeal_pre_inputs_finite := by
  intro m g m' g' hPre hagree
  refine ⟨_, _, _, _, _, _, _, _, _, _, _, Cert.CdInIdeal.Rowwise.run_blocks m g, ?_⟩
  refine (θ_run Cert.CdInRefIdeal.defs _ _).mono (fun _ h c => ?_) (Cert.CdInRefIdeal.Value.run (F := Ideal) m' g')
  have fin := finite_of m hPre c
  obtain ⟨a0, a1, a2, a3, a4, a5, a6, a7, a8, a9, a10, a11, a12, a13, a14⟩ := hagree c
  obtain ⟨h1, h2, h3, h4, h5, h6, h7, h8, h9, h10, h11, h12⟩ := h c
  have b0 : StableHlo.launchContents m' c (Proc.tc.devRef Cert.CdInRefIdeal.main_arg0) = X m c := a0
  have b1 : StableHlo.launchContents m' c (Proc.tc.devRef Cert.CdInRefIdeal.main_arg1) = MD m c := a1
  have b2 : StableHlo.launchContents m' c (Proc.tc.devRef Cert.CdInRefIdeal.main_arg2) = WP m c := a2
  have b3 : StableHlo.launchContents m' c (Proc.tc.devRef Cert.CdInRefIdeal.main_arg3) = HY m c := a3
  have b4 : StableHlo.launchContents m' c (Proc.tc.devRef Cert.CdInRefIdeal.main_arg4) = MU m c := a4
  have b5 : StableHlo.launchContents m' c (Proc.tc.devRef Cert.CdInRefIdeal.main_arg5) = MX m c := a5
  have b6 : StableHlo.launchContents m' c (Proc.tc.devRef Cert.CdInRefIdeal.main_arg6) = W0 m c := a6
  have b7 : StableHlo.launchContents m' c (Proc.tc.devRef Cert.CdInRefIdeal.main_arg7) = W1 m c := a7
  have b8 : StableHlo.launchContents m' c (Proc.tc.devRef Cert.CdInRefIdeal.main_arg8) = W2 m c := a8
  have b9 : StableHlo.launchContents m' c (Proc.tc.devRef Cert.CdInRefIdeal.main_arg9) = A0 m c := a9
  have b10 : StableHlo.launchContents m' c (Proc.tc.devRef Cert.CdInRefIdeal.main_arg10) = A1 m c := a10
  have b11 : StableHlo.launchContents m' c (Proc.tc.devRef Cert.CdInRefIdeal.main_arg11) = A2 m c := a11
  have b12 : StableHlo.launchContents m' c (Proc.tc.devRef Cert.CdInRefIdeal.main_arg12) = KP m c := a12
  have b13 : StableHlo.launchContents m' c (Proc.tc.devRef Cert.CdInRefIdeal.main_arg13) = KA m c := a13
  have b14 : StableHlo.launchContents m' c (Proc.tc.devRef Cert.CdInRefIdeal.main_arg14) = RK m c := a14
  refine ⟨h1.trans ?_, h2.trans ?_, h3.trans ?_, h4.trans ?_, h5.trans ?_, h6.trans ?_, h7.trans ?_, h8.trans ?_, h9.trans ?_, h10.trans ?_, h11.trans ?_, h12⟩
  · rw [final_13]
    refine (Cert.CdInRefIdeal.Read.val_main_v328_eq (F := Ideal) (StableHlo.launchContents m' c)).trans ((Cert.CdInRefIdeal.Rowwise.res328 _ _ _ _ (MU m c) (MX m c) (W0 m c) (W1 m c) (W2 m c) (A0 m c) (A1 m c) (A2 m c) (KP m c) (KA m c) (RK m c)).trans ?_)
    rw [b0, b1, b2, b3] <;> rfl
  · rw [final_14]
    refine (Cert.CdInRefIdeal.Read.val_main_v329_eq (F := Ideal) (StableHlo.launchContents m' c)).trans ((Cert.CdInRefIdeal.Rowwise.res329 _ _ _ _ (MU m c) (MX m c) (W0 m c) (W1 m c) (W2 m c) (A0 m c) (A1 m c) (A2 m c) (KP m c) (KA m c) (RK m c)).trans ?_)
    rw [b0, b1, b2, b3] <;> rfl
  · rw [final_15]
    refine (Cert.CdInRefIdeal.Read.val_main_v330_eq (F := Ideal) (StableHlo.launchContents m' c)).trans ((Cert.CdInRefIdeal.Rowwise.res330 _ _ _ _ (MU m c) (MX m c) (W0 m c) (W1 m c) (W2 m c) (A0 m c) (A1 m c) (A2 m c) (KP m c) (KA m c) (RK m c)).trans ?_)
    rw [b0, b1, b2, b3] <;> rfl
  · rw [final_16]
    refine (Cert.CdInRefIdeal.Read.val_main_v331_eq (F := Ideal) (StableHlo.launchContents m' c)).trans ((Cert.CdInRefIdeal.Rowwise.res331 _ _ _ (HY m c) _ (MX m c) (W0 m c) (W1 m c) (W2 m c) (A0 m c) (A1 m c) (A2 m c) (KP m c) (KA m c) (RK m c)).trans ?_)
    rw [b0, b1, b2, b4] <;> rfl
  · rw [final_17]
    refine (Cert.CdInRefIdeal.Read.val_main_v332_eq (F := Ideal) (StableHlo.launchContents m' c)).trans ((Cert.CdInRefIdeal.Rowwise.res332 _ _ _ (HY m c) _ (MX m c) (W0 m c) (W1 m c) (W2 m c) (A0 m c) (A1 m c) (A2 m c) (KP m c) (KA m c) (RK m c)).trans ?_)
    rw [b0, b1, b2, b4] <;> rfl
  · rw [final_18 m c fin]
    refine (Cert.CdInRefIdeal.Read.val_main_v333_eq (F := Ideal) (StableHlo.launchContents m' c)).trans ((Cert.CdInRefIdeal.Rowwise.res333 _ _ _ (HY m c) _ (MX m c) (W0 m c) (W1 m c) (W2 m c) (A0 m c) (A1 m c) (A2 m c) _ (KA m c) (RK m c)).trans ?_)
    rw [b0, b1, b2, b4, b12] <;> rfl
  · rw [final_19]
    refine (Cert.CdInRefIdeal.Read.val_main_v337_eq (F := Ideal) (StableHlo.launchContents m' c)).trans ((Cert.CdInRefIdeal.Rowwise.res337 _ _ (WP m c) (HY m c) (MU m c) _ _ _ _ (A0 m c) (A1 m c) (A2 m c) (KP m c) (KA m c) (RK m c)).trans ?_)
    rw [b0, b1, b5, b6, b7, b8] <;> rfl
  · rw [final_20]
    refine (Cert.CdInRefIdeal.Read.val_main_v341_eq (F := Ideal) (StableHlo.launchContents m' c)).trans ((Cert.CdInRefIdeal.Rowwise.res341 _ _ _ (HY m c) _ _ (W0 m c) (W1 m c) (W2 m c) _ _ _ (KP m c) _ (RK m c)).trans ?_)
    rw [b0, b1, b2, b4, b5, b9, b10, b11, b13] <;> rfl
  · rw [final_21 m c fin]
    refine (Cert.CdInRefIdeal.Read.val_main_v345_eq (F := Ideal) (StableHlo.launchContents m' c)).trans ((Cert.CdInRefIdeal.Rowwise.res345 _ _ _ (HY m c) _ _ (W0 m c) (W1 m c) (W2 m c) _ _ _ _ (KA m c) (RK m c)).trans ?_)
    rw [b0, b1, b2, b4, b5, b9, b10, b11, b12] <;> rfl
  · rw [final_22 m c fin]
    refine (Cert.CdInRefIdeal.Read.val_main_v346_eq (F := Ideal) (StableHlo.launchContents m' c)).trans ((Cert.CdInRefIdeal.Rowwise.res346 _ _ _ (HY m c) _ _ (W0 m c) (W1 m c) (W2 m c) _ _ _ (KP m c) _ _).trans ?_)
    rw [b0, b1, b2, b4, b5, b9, b10, b11, b13, b14] <;> rfl
  · rw [final_23]
    refine (Cert.CdInRefIdeal.Read.val_main_v353_eq (F := Ideal) (StableHlo.launchContents m' c)).trans ((Cert.CdInRefIdeal.Rowwise.res353 _ _ _ (HY m c) _ (MX m c) (W0 m c) (W1 m c) (W2 m c) (A0 m c) (A1 m c) (A2 m c) (KP m c) (KA m c) (RK m c)).trans ?_)
    rw [b0, b1, b2, b4] <;> rfl

end Cert.CdInClaim

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.AbOut
public import proofs.«01_k».proof.Proof.Gen.AbOut.Skeleton
public import proofs.«01_k».proof.Proof.Gen.AbOut.Launch
public import proofs.«01_k».proof.Proof.Gen.AbOut.Points
public import proofs.«01_k».proof.Proof.Gen.AbOut.Frame
public import proofs.«01_k».proof.Proof.Gen.AbOutIdeal
public import proofs.«01_k».proof.Proof.Gen.AbOutIdeal.Skeleton
public import proofs.«01_k».proof.Proof.Gen.AbOutIdeal.Launch
public import proofs.«01_k».proof.Proof.Gen.AbOutIdeal.Points
public import proofs.«01_k».proof.Proof.Gen.AbOutIdeal.Frame
public import proofs.«01_k».proof.Proof.Gen.AbOutIdeal.Value
public import proofs.«01_k».proof.Proof.Gen.AbOutRefIdeal
public import proofs.«01_k».proof.Proof.Gen.AbOutRefIdeal.Run
public import proofs.«01_k».proof.Proof.Gen.AbOutRefIdeal.Read
public import proofs.«01_k».proof.Proof.Gen.Lru
public import proofs.«01_k».proof.Proof.Gen.Lru.Skeleton
public import proofs.«01_k».proof.Proof.Gen.Lru.Launch
public import proofs.«01_k».proof.Proof.Gen.Lru.Points
public import proofs.«01_k».proof.Proof.Gen.Lru.Frame
public import proofs.«01_k».proof.Proof.Gen.Lru.Loops
public import proofs.«01_k».proof.Proof.Gen.LruIdeal
public import proofs.«01_k».proof.Proof.Gen.LruIdeal.Skeleton
public import proofs.«01_k».proof.Proof.Gen.LruIdeal.Launch
public import proofs.«01_k».proof.Proof.Gen.LruIdeal.Points
public import proofs.«01_k».proof.Proof.Gen.LruIdeal.Frame
public import proofs.«01_k».proof.Proof.Gen.LruIdeal.Loops
public import proofs.«01_k».proof.Proof.Gen.LruRefIdeal
public import proofs.«01_k».proof.Proof.Gen.LruRefIdeal.Run
public import proofs.«01_k».proof.Proof.Gen.LruRefIdeal.Step
public import proofs.«01_k».proof.Proof.Gen.AbIn
public import proofs.«01_k».proof.Proof.Gen.AbIn.Skeleton
public import proofs.«01_k».proof.Proof.Gen.AbIn.Launch
public import proofs.«01_k».proof.Proof.Gen.AbIn.Points
public import proofs.«01_k».proof.Proof.Gen.AbIn.Frame
public import proofs.«01_k».proof.Proof.Gen.AbInIdeal
public import proofs.«01_k».proof.Proof.Gen.AbInIdeal.Skeleton
public import proofs.«01_k».proof.Proof.Gen.AbInIdeal.Launch
public import proofs.«01_k».proof.Proof.Gen.AbInIdeal.Points
public import proofs.«01_k».proof.Proof.Gen.AbInIdeal.Frame
public import proofs.«01_k».proof.Proof.Gen.AbInIdeal.Value
public import proofs.«01_k».proof.Proof.Gen.AbInRefIdeal
public import proofs.«01_k».proof.Proof.Gen.AbInRefIdeal.Run
public import proofs.«01_k».proof.Proof.Gen.AbInRefIdeal.Read
public import proofs.«01_k».proof.Proof.Gen.CdIn
public import proofs.«01_k».proof.Proof.Gen.CdIn.Skeleton
public import proofs.«01_k».proof.Proof.Gen.CdIn.Launch
public import proofs.«01_k».proof.Proof.Gen.CdIn.Points
public import proofs.«01_k».proof.Proof.Gen.CdInIdeal
public import proofs.«01_k».proof.Proof.Gen.CdInIdeal.Skeleton
public import proofs.«01_k».proof.Proof.Gen.CdInIdeal.Launch
public import proofs.«01_k».proof.Proof.Gen.CdInIdeal.Points
public import proofs.«01_k».proof.Proof.Gen.CdInRefIdeal
public import proofs.«01_k».proof.Proof.Gen.CdInRefIdeal.Run
public import proofs.«01_k».proof.Proof.Gen.CdInRefIdeal.Read
public import proofs.«01_k».proof.Proof.Gen.Pre_inputs_finite
public import proofs.«01_k».proof.Proof.CdInKernelRun
public import proofs.«01_k».proof.Proof.CdInRun
public import proofs.«01_k».proof.Proof.MlpClaim
public import proofs.«01_k».proof.Proof.AbOutClaim
public import proofs.«01_k».proof.Proof.LruClaim
public import proofs.«01_k».proof.Proof.AbInClaim
public import proofs.«01_k».proof.Proof.CdInClaim
public import Idealize.ShloMosaic.Adequacy
public import Idealize.ShloMosaic.Init

@[expose] public section

noncomputable section

namespace Cert.Proof

open Idealize.ShloMosaic Idealize.SL.Sem

/-- All the claims, each from its call's own module: what the programs state, that every program runs through, ends
    quiescent and leaves its arguments as they were, and that kernel and reference end at the same contents. -/
theorem claim : Cert.Claim := ⟨
  Cert.Mlp.Gen.facts, Cert.MlpIdeal.Gen.facts, Cert.MlpRefIdeal.Gen.facts, Cert.AbOut.Gen.facts, Cert.AbOutIdeal.Gen.facts, Cert.AbOutRefIdeal.Gen.facts, Cert.Lru.Gen.facts, Cert.LruIdeal.Gen.facts, Cert.LruRefIdeal.Gen.facts, Cert.AbIn.Gen.facts, Cert.AbInIdeal.Gen.facts, Cert.AbInRefIdeal.Gen.facts, Cert.CdIn.Gen.facts, Cert.CdInIdeal.Gen.facts, Cert.CdInRefIdeal.Gen.facts, Cert.Pre_inputs_finite.Gen.facts,
  fun m ρ _ => Cert.Mlp.Gen.frame m ρ,
  fun m ρ _ => Cert.MlpIdeal.Gen.frame m ρ,
  Cert.MlpClaim.frame,
  fun m ρ _ => Cert.AbOut.Gen.frame m ρ,
  fun m ρ _ => Cert.AbOutIdeal.Gen.frame m ρ,
  Cert.AbOutClaim.frame,
  Cert.LruClaim.frameKernel,
  Cert.LruClaim.frameIdeal,
  Cert.LruClaim.frame,
  fun m ρ _ => Cert.AbIn.Gen.frame m ρ,
  fun m ρ _ => Cert.AbInIdeal.Gen.frame m ρ,
  Cert.AbInClaim.frame,
  fun m ρ _ => Cert.CdIn.Gen.frame m ρ,
  fun m ρ _ => Cert.CdInIdeal.Gen.frame m ρ,
  fun m ρ _ => Cert.CdInIdeal.Gen.frame m ρ,
  Cert.CdInClaim.frame,
  fun m ρ _ => Cert.CdInClaim.frame m ρ trivial,
  trivial, Cert.MlpClaim.algebraic, trivial, Cert.AbOutClaim.algebraic, trivial, Cert.LruClaim.algebraic, trivial, Cert.AbInClaim.algebraic, trivial, Cert.CdInClaim.algebraic⟩

end Cert.Proof

end
